-- ==== Defs.lean ====
def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_SeqBwd (m : (ℓ : Loc Cert.SeqBwd.nD Cert.SeqBwd.τ Cert.SeqBwd.sig) → Buf (Elt Bits) ℓ) : Prop :=
  True

def Pre_SeqBwdIdeal (m : (ℓ : Loc Cert.SeqBwdIdeal.nD Cert.SeqBwdIdeal.τ Cert.SeqBwdIdeal.sig) → Buf (Elt Ideal) ℓ) : Prop :=
  True

def Pre_SeqBwdIdeal_finite [hPre_finite : Cert.Pre_finite.Facts] (m : (ℓ : Loc Cert.SeqBwdIdeal.nD Cert.SeqBwdIdeal.τ Cert.SeqBwdIdeal.sig) → Buf (Elt Ideal) ℓ) : Prop :=
  ∀ c : Dev Cert.SeqBwdIdeal.nD,
    (Cert.Pre_finite.fn (F := Ideal) (m ((c.tc : Thread Cert.SeqBwdIdeal.nD Cert.SeqBwdIdeal.τ).loc Cert.SeqBwdIdeal.main_arg0)) (m ((c.tc : Thread Cert.SeqBwdIdeal.nD Cert.SeqBwdIdeal.τ).loc Cert.SeqBwdIdeal.main_arg1)) (m ((c.tc : Thread Cert.SeqBwdIdeal.nD Cert.SeqBwdIdeal.τ).loc Cert.SeqBwdIdeal.main_arg2)) (m ((c.tc : Thread Cert.SeqBwdIdeal.nD Cert.SeqBwdIdeal.τ).loc Cert.SeqBwdIdeal.main_arg3)) (m ((c.tc : Thread Cert.SeqBwdIdeal.nD Cert.SeqBwdIdeal.τ).loc Cert.SeqBwdIdeal.main_arg4)) (m ((c.tc : Thread Cert.SeqBwdIdeal.nD Cert.SeqBwdIdeal.τ).loc Cert.SeqBwdIdeal.main_arg5)) (m ((c.tc : Thread Cert.SeqBwdIdeal.nD Cert.SeqBwdIdeal.τ).loc Cert.SeqBwdIdeal.main_arg6)) (m ((c.tc : Thread Cert.SeqBwdIdeal.nD Cert.SeqBwdIdeal.τ).loc Cert.SeqBwdIdeal.main_arg7))) = (fun _ => 1#1)

def Pre_SeqBwdRefIdeal (m : (ℓ : Loc Cert.SeqBwdRefIdeal.nD Cert.SeqBwdRefIdeal.τ Cert.SeqBwdRefIdeal.sig) → Buf (Elt Ideal) ℓ) : Prop :=
  True

def Pre_SeqBwdRefIdeal_finite [hPre_finite : Cert.Pre_finite.Facts] (m : (ℓ : Loc Cert.SeqBwdRefIdeal.nD Cert.SeqBwdRefIdeal.τ Cert.SeqBwdRefIdeal.sig) → Buf (Elt Ideal) ℓ) : Prop :=
  ∀ c : Dev Cert.SeqBwdRefIdeal.nD,
    (Cert.Pre_finite.fn (F := Ideal) (m ((c.tc : Thread Cert.SeqBwdRefIdeal.nD Cert.SeqBwdRefIdeal.τ).loc Cert.SeqBwdRefIdeal.main_arg0)) (m ((c.tc : Thread Cert.SeqBwdRefIdeal.nD Cert.SeqBwdRefIdeal.τ).loc Cert.SeqBwdRefIdeal.main_arg1)) (m ((c.tc : Thread Cert.SeqBwdRefIdeal.nD Cert.SeqBwdRefIdeal.τ).loc Cert.SeqBwdRefIdeal.main_arg2)) (m ((c.tc : Thread Cert.SeqBwdRefIdeal.nD Cert.SeqBwdRefIdeal.τ).loc Cert.SeqBwdRefIdeal.main_arg3)) (m ((c.tc : Thread Cert.SeqBwdRefIdeal.nD Cert.SeqBwdRefIdeal.τ).loc Cert.SeqBwdRefIdeal.main_arg4)) (m ((c.tc : Thread Cert.SeqBwdRefIdeal.nD Cert.SeqBwdRefIdeal.τ).loc Cert.SeqBwdRefIdeal.main_arg5)) (m ((c.tc : Thread Cert.SeqBwdRefIdeal.nD Cert.SeqBwdRefIdeal.τ).loc Cert.SeqBwdRefIdeal.main_arg6)) (m ((c.tc : Thread Cert.SeqBwdRefIdeal.nD Cert.SeqBwdRefIdeal.τ).loc Cert.SeqBwdRefIdeal.main_arg7))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_SqDw (m : (ℓ : Loc Cert.SqDw.nD Cert.SqDw.τ Cert.SqDw.sig) → Buf (Elt Bits) ℓ) : Prop :=
  True

def Pre_SqDwIdeal (m : (ℓ : Loc Cert.SqDwIdeal.nD Cert.SqDwIdeal.τ Cert.SqDwIdeal.sig) → Buf (Elt Ideal) ℓ) : Prop :=
  True

def Pre_SqDwRefIdeal (m : (ℓ : Loc Cert.SqDwRefIdeal.nD Cert.SqDwRefIdeal.τ Cert.SqDwRefIdeal.sig) → Buf (Elt Ideal) ℓ) : Prop :=
  True

def Pre_UpDxNorm (m : (ℓ : Loc Cert.UpDxNorm.nD Cert.UpDxNorm.τ Cert.UpDxNorm.sig) → Buf (Elt Bits) ℓ) : Prop :=
  True

def Pre_UpDxNormIdeal (m : (ℓ : Loc Cert.UpDxNormIdeal.nD Cert.UpDxNormIdeal.τ Cert.UpDxNormIdeal.sig) → Buf (Elt Ideal) ℓ) : Prop :=
  True

def Pre_UpDxNormRefIdeal (m : (ℓ : Loc Cert.UpDxNormRefIdeal.nD Cert.UpDxNormRefIdeal.τ Cert.UpDxNormRefIdeal.sig) → Buf (Elt Ideal) ℓ) : Prop :=
  True

def Pre_BatDw (m : (ℓ : Loc Cert.BatDw.nD Cert.BatDw.τ Cert.BatDw.sig) → Buf (Elt Bits) ℓ) : Prop :=
  True

def Pre_BatDwIdeal (m : (ℓ : Loc Cert.BatDwIdeal.nD Cert.BatDwIdeal.τ Cert.BatDwIdeal.sig) → Buf (Elt Ideal) ℓ) : Prop :=
  True

def Pre_BatDwRefIdeal (m : (ℓ : Loc Cert.BatDwRefIdeal.nD Cert.BatDwRefIdeal.τ Cert.BatDwRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_BatMerge (m : (ℓ : Loc Cert.BatMerge.nD Cert.BatMerge.τ Cert.BatMerge.sig) → Buf (Elt Bits) ℓ) : Prop :=
  True

def Pre_BatMergeIdeal (m : (ℓ : Loc Cert.BatMergeIdeal.nD Cert.BatMergeIdeal.τ Cert.BatMergeIdeal.sig) → Buf (Elt Ideal) ℓ) : Prop :=
  True

def Pre_BatMergeRefIdeal (m : (ℓ : Loc Cert.BatMergeRefIdeal.nD Cert.BatMergeRefIdeal.τ Cert.BatMergeRefIdeal.sig) → Buf (Elt Ideal) ℓ) : Prop :=
  True

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1))
      ∧ r.2.sem = fun _ => 0)

def quiescent_SeqBwd [hSeqBwd : Cert.SeqBwd.Facts] : Prop :=
  ∀ (m : (ℓ : Loc Cert.SeqBwd.nD Cert.SeqBwd.τ Cert.SeqBwd.sig) → Buf (Elt Bits) ℓ) (g : Dev Cert.SeqBwd.nD → PrngReg), Pre_SeqBwd m →
    θ_run (Cert.SeqBwd.defs (F := Bits)) (onTc (τ := Cert.SeqBwd.τ) (Cert.SeqBwd.main (F := Bits))) ⟨m, fun _ => 0, g⟩ (fun r => (∀ c : Dev Cert.SeqBwd.nD,
      r.2.mem ((c.tc : Thread Cert.SeqBwd.nD Cert.SeqBwd.τ).loc Cert.SeqBwd.main_arg0) = m ((c.tc : Thread Cert.SeqBwd.nD Cert.SeqBwd.τ).loc Cert.SeqBwd.main_arg0)
      ∧ r.2.mem ((c.tc : Thread Cert.SeqBwd.nD Cert.SeqBwd.τ).loc Cert.SeqBwd.main_arg1) = m ((c.tc : Thread Cert.SeqBwd.nD Cert.SeqBwd.τ).loc Cert.SeqBwd.main_arg1)
      ∧ r.2.mem ((c.tc : Thread Cert.SeqBwd.nD Cert.SeqBwd.τ).loc Cert.SeqBwd.main_arg2) = m ((c.tc : Thread Cert.SeqBwd.nD Cert.SeqBwd.τ).loc Cert.SeqBwd.main_arg2)
      ∧ r.2.mem ((c.tc : Thread Cert.SeqBwd.nD Cert.SeqBwd.τ).loc Cert.SeqBwd.main_arg3) = m ((c.tc : Thread Cert.SeqBwd.nD Cert.SeqBwd.τ).loc Cert.SeqBwd.main_arg3)
      ∧ r.2.mem ((c.tc : Thread Cert.SeqBwd.nD Cert.SeqBwd.τ).loc Cert.SeqBwd.main_arg4) = m ((c.tc : Thread Cert.SeqBwd.nD Cert.SeqBwd.τ).loc Cert.SeqBwd.main_arg4)
      ∧ r.2.mem ((c.tc : Thread Cert.SeqBwd.nD Cert.SeqBwd.τ).loc Cert.SeqBwd.main_arg5) = m ((c.tc : Thread Cert.SeqBwd.nD Cert.SeqBwd.τ).loc Cert.SeqBwd.main_arg5)
      ∧ r.2.mem ((c.tc : Thread Cert.SeqBwd.nD Cert.SeqBwd.τ).loc Cert.SeqBwd.main_arg6) = m ((c.tc : Thread Cert.SeqBwd.nD Cert.SeqBwd.τ).loc Cert.SeqBwd.main_arg6)
      ∧ r.2.mem ((c.tc : Thread Cert.SeqBwd.nD Cert.SeqBwd.τ).loc Cert.SeqBwd.main_arg7) = m ((c.tc : Thread Cert.SeqBwd.nD Cert.SeqBwd.τ).loc Cert.SeqBwd.main_arg7))
      ∧ r.2.sem = fun _ => 0)

def quiescent_SeqBwdIdeal [hSeqBwdIdeal : Cert.SeqBwdIdeal.Facts] : Prop :=
  ∀ (m : (ℓ : Loc Cert.SeqBwdIdeal.nD Cert.SeqBwdIdeal.τ Cert.SeqBwdIdeal.sig) → Buf (Elt Ideal) ℓ) (g : Dev Cert.SeqBwdIdeal.nD → PrngReg), Pre_SeqBwdIdeal m →
    θ_run (Cert.SeqBwdIdeal.defs (F := Ideal)) (onTc (τ := Cert.SeqBwdIdeal.τ) (Cert.SeqBwdIdeal.main (F := Ideal))) ⟨m, fun _ => 0, g⟩ (fun r => (∀ c : Dev Cert.SeqBwdIdeal.nD,
      r.2.mem ((c.tc : Thread Cert.SeqBwdIdeal.nD Cert.SeqBwdIdeal.τ).loc Cert.SeqBwdIdeal.main_arg0) = m ((c.tc : Thread Cert.SeqBwdIdeal.nD Cert.SeqBwdIdeal.τ).loc Cert.SeqBwdIdeal.main_arg0)
      ∧ r.2.mem ((c.tc : Thread Cert.SeqBwdIdeal.nD Cert.SeqBwdIdeal.τ).loc Cert.SeqBwdIdeal.main_arg1) = m ((c.tc : Thread Cert.SeqBwdIdeal.nD Cert.SeqBwdIdeal.τ).loc Cert.SeqBwdIdeal.main_arg1)
      ∧ r.2.mem ((c.tc : Thread Cert.SeqBwdIdeal.nD Cert.SeqBwdIdeal.τ).loc Cert.SeqBwdIdeal.main_arg2) = m ((c.tc : Thread Cert.SeqBwdIdeal.nD Cert.SeqBwdIdeal.τ).loc Cert.SeqBwdIdeal.main_arg2)
      ∧ r.2.mem ((c.tc : Thread Cert.SeqBwdIdeal.nD Cert.SeqBwdIdeal.τ).loc Cert.SeqBwdIdeal.main_arg3) = m ((c.tc : Thread Cert.SeqBwdIdeal.nD Cert.SeqBwdIdeal.τ).loc Cert.SeqBwdIdeal.main_arg3)
      ∧ r.2.mem ((c.tc : Thread Cert.SeqBwdIdeal.nD Cert.SeqBwdIdeal.τ).loc Cert.SeqBwdIdeal.main_arg4) = m ((c.tc : Thread Cert.SeqBwdIdeal.nD Cert.SeqBwdIdeal.τ).loc Cert.SeqBwdIdeal.main_arg4)
      ∧ r.2.mem ((c.tc : Thread Cert.SeqBwdIdeal.nD Cert.SeqBwdIdeal.τ).loc Cert.SeqBwdIdeal.main_arg5) = m ((c.tc : Thread Cert.SeqBwdIdeal.nD Cert.SeqBwdIdeal.τ).loc Cert.SeqBwdIdeal.main_arg5)
      ∧ r.2.mem ((c.tc : Thread Cert.SeqBwdIdeal.nD Cert.SeqBwdIdeal.τ).loc Cert.SeqBwdIdeal.main_arg6) = m ((c.tc : Thread Cert.SeqBwdIdeal.nD Cert.SeqBwdIdeal.τ).loc Cert.SeqBwdIdeal.main_arg6)
      ∧ r.2.mem ((c.tc : Thread Cert.SeqBwdIdeal.nD Cert.SeqBwdIdeal.τ).loc Cert.SeqBwdIdeal.main_arg7) = m ((c.tc : Thread Cert.SeqBwdIdeal.nD Cert.SeqBwdIdeal.τ).loc Cert.SeqBwdIdeal.main_arg7))
      ∧ r.2.sem = fun _ => 0)

def quiescent_SeqBwdIdeal_pre_finite [hSeqBwdIdeal : Cert.SeqBwdIdeal.Facts] [hPre_finite : Cert.Pre_finite.Facts] : Prop :=
  ∀ (m : (ℓ : Loc Cert.SeqBwdIdeal.nD Cert.SeqBwdIdeal.τ Cert.SeqBwdIdeal.sig) → Buf (Elt Ideal) ℓ) (g : Dev Cert.SeqBwdIdeal.nD → PrngReg), Pre_SeqBwdIdeal_finite m →
    θ_run (Cert.SeqBwdIdeal.defs (F := Ideal)) (onTc (τ := Cert.SeqBwdIdeal.τ) (Cert.SeqBwdIdeal.main (F := Ideal))) ⟨m, fun _ => 0, g⟩ (fun r => (∀ c : Dev Cert.SeqBwdIdeal.nD,
      r.2.mem ((c.tc : Thread Cert.SeqBwdIdeal.nD Cert.SeqBwdIdeal.τ).loc Cert.SeqBwdIdeal.main_arg0) = m ((c.tc : Thread Cert.SeqBwdIdeal.nD Cert.SeqBwdIdeal.τ).loc Cert.SeqBwdIdeal.main_arg0)
      ∧ r.2.mem ((c.tc : Thread Cert.SeqBwdIdeal.nD Cert.SeqBwdIdeal.τ).loc Cert.SeqBwdIdeal.main_arg1) = m ((c.tc : Thread Cert.SeqBwdIdeal.nD Cert.SeqBwdIdeal.τ).loc Cert.SeqBwdIdeal.main_arg1)
      ∧ r.2.mem ((c.tc : Thread Cert.SeqBwdIdeal.nD Cert.SeqBwdIdeal.τ).loc Cert.SeqBwdIdeal.main_arg2) = m ((c.tc : Thread Cert.SeqBwdIdeal.nD Cert.SeqBwdIdeal.τ).loc Cert.SeqBwdIdeal.main_arg2)
      ∧ r.2.mem ((c.tc : Thread Cert.SeqBwdIdeal.nD Cert.SeqBwdIdeal.τ).loc Cert.SeqBwdIdeal.main_arg3) = m ((c.tc : Thread Cert.SeqBwdIdeal.nD Cert.SeqBwdIdeal.τ).loc Cert.SeqBwdIdeal.main_arg3)
      ∧ r.2.mem ((c.tc : Thread Cert.SeqBwdIdeal.nD Cert.SeqBwdIdeal.τ).loc Cert.SeqBwdIdeal.main_arg4) = m ((c.tc : Thread Cert.SeqBwdIdeal.nD Cert.SeqBwdIdeal.τ).loc Cert.SeqBwdIdeal.main_arg4)
      ∧ r.2.mem ((c.tc : Thread Cert.SeqBwdIdeal.nD Cert.SeqBwdIdeal.τ).loc Cert.SeqBwdIdeal.main_arg5) = m ((c.tc : Thread Cert.SeqBwdIdeal.nD Cert.SeqBwdIdeal.τ).loc Cert.SeqBwdIdeal.main_arg5)
      ∧ r.2.mem ((c.tc : Thread Cert.SeqBwdIdeal.nD Cert.SeqBwdIdeal.τ).loc Cert.SeqBwdIdeal.main_arg6) = m ((c.tc : Thread Cert.SeqBwdIdeal.nD Cert.SeqBwdIdeal.τ).loc Cert.SeqBwdIdeal.main_arg6)
      ∧ r.2.mem ((c.tc : Thread Cert.SeqBwdIdeal.nD Cert.SeqBwdIdeal.τ).loc Cert.SeqBwdIdeal.main_arg7) = m ((c.tc : Thread Cert.SeqBwdIdeal.nD Cert.SeqBwdIdeal.τ).loc Cert.SeqBwdIdeal.main_arg7))
      ∧ r.2.sem = fun _ => 0)

def quiescent_SeqBwdRefIdeal [hSeqBwdRefIdeal : Cert.SeqBwdRefIdeal.Facts] : Prop :=
  ∀ (m : (ℓ : Loc Cert.SeqBwdRefIdeal.nD Cert.SeqBwdRefIdeal.τ Cert.SeqBwdRefIdeal.sig) → Buf (Elt Ideal) ℓ) (g : Dev Cert.SeqBwdRefIdeal.nD → PrngReg), Pre_SeqBwdRefIdeal m →
    θ_run (Cert.SeqBwdRefIdeal.defs (F := Ideal)) (onTc (τ := Cert.SeqBwdRefIdeal.τ) (Cert.SeqBwdRefIdeal.main (F := Ideal))) ⟨m, fun _ => 0, g⟩ (fun r => (∀ c : Dev Cert.SeqBwdRefIdeal.nD,
      r.2.mem ((c.tc : Thread Cert.SeqBwdRefIdeal.nD Cert.SeqBwdRefIdeal.τ).loc Cert.SeqBwdRefIdeal.main_arg0) = m ((c.tc : Thread Cert.SeqBwdRefIdeal.nD Cert.SeqBwdRefIdeal.τ).loc Cert.SeqBwdRefIdeal.main_arg0)
      ∧ r.2.mem ((c.tc : Thread Cert.SeqBwdRefIdeal.nD Cert.SeqBwdRefIdeal.τ).loc Cert.SeqBwdRefIdeal.main_arg1) = m ((c.tc : Thread Cert.SeqBwdRefIdeal.nD Cert.SeqBwdRefIdeal.τ).loc Cert.SeqBwdRefIdeal.main_arg1)
      ∧ r.2.mem ((c.tc : Thread Cert.SeqBwdRefIdeal.nD Cert.SeqBwdRefIdeal.τ).loc Cert.SeqBwdRefIdeal.main_arg2) = m ((c.tc : Thread Cert.SeqBwdRefIdeal.nD Cert.SeqBwdRefIdeal.τ).loc Cert.SeqBwdRefIdeal.main_arg2)
      ∧ r.2.mem ((c.tc : Thread Cert.SeqBwdRefIdeal.nD Cert.SeqBwdRefIdeal.τ).loc Cert.SeqBwdRefIdeal.main_arg3) = m ((c.tc : Thread Cert.SeqBwdRefIdeal.nD Cert.SeqBwdRefIdeal.τ).loc Cert.SeqBwdRefIdeal.main_arg3)
      ∧ r.2.mem ((c.tc : Thread Cert.SeqBwdRefIdeal.nD Cert.SeqBwdRefIdeal.τ).loc Cert.SeqBwdRefIdeal.main_arg4) = m ((c.tc : Thread Cert.SeqBwdRefIdeal.nD Cert.SeqBwdRefIdeal.τ).loc Cert.SeqBwdRefIdeal.main_arg4)
      ∧ r.2.mem ((c.tc : Thread Cert.SeqBwdRefIdeal.nD Cert.SeqBwdRefIdeal.τ).loc Cert.SeqBwdRefIdeal.main_arg5) = m ((c.tc : Thread Cert.SeqBwdRefIdeal.nD Cert.SeqBwdRefIdeal.τ).loc Cert.SeqBwdRefIdeal.main_arg5)
      ∧ r.2.mem ((c.tc : Thread Cert.SeqBwdRefIdeal.nD Cert.SeqBwdRefIdeal.τ).loc Cert.SeqBwdRefIdeal.main_arg6) = m ((c.tc : Thread Cert.SeqBwdRefIdeal.nD Cert.SeqBwdRefIdeal.τ).loc Cert.SeqBwdRefIdeal.main_arg6)
      ∧ r.2.mem ((c.tc : Thread Cert.SeqBwdRefIdeal.nD Cert.SeqBwdRefIdeal.τ).loc Cert.SeqBwdRefIdeal.main_arg7) = m ((c.tc : Thread Cert.SeqBwdRefIdeal.nD Cert.SeqBwdRefIdeal.τ).loc Cert.SeqBwdRefIdeal.main_arg7))
      ∧ r.2.sem = fun _ => 0)

def quiescent_SeqBwdRefIdeal_pre_finite [hSeqBwdRefIdeal : Cert.SeqBwdRefIdeal.Facts] [hPre_finite : Cert.Pre_finite.Facts] : Prop :=
  ∀ (m : (ℓ : Loc Cert.SeqBwdRefIdeal.nD Cert.SeqBwdRefIdeal.τ Cert.SeqBwdRefIdeal.sig) → Buf (Elt Ideal) ℓ) (g : Dev Cert.SeqBwdRefIdeal.nD → PrngReg), Pre_SeqBwdRefIdeal_finite m →
    θ_run (Cert.SeqBwdRefIdeal.defs (F := Ideal)) (onTc (τ := Cert.SeqBwdRefIdeal.τ) (Cert.SeqBwdRefIdeal.main (F := Ideal))) ⟨m, fun _ => 0, g⟩ (fun r => (∀ c : Dev Cert.SeqBwdRefIdeal.nD,
      r.2.mem ((c.tc : Thread Cert.SeqBwdRefIdeal.nD Cert.SeqBwdRefIdeal.τ).loc Cert.SeqBwdRefIdeal.main_arg0) = m ((c.tc : Thread Cert.SeqBwdRefIdeal.nD Cert.SeqBwdRefIdeal.τ).loc Cert.SeqBwdRefIdeal.main_arg0)
      ∧ r.2.mem ((c.tc : Thread Cert.SeqBwdRefIdeal.nD Cert.SeqBwdRefIdeal.τ).loc Cert.SeqBwdRefIdeal.main_arg1) = m ((c.tc : Thread Cert.SeqBwdRefIdeal.nD Cert.SeqBwdRefIdeal.τ).loc Cert.SeqBwdRefIdeal.main_arg1)
      ∧ r.2.mem ((c.tc : Thread Cert.SeqBwdRefIdeal.nD Cert.SeqBwdRefIdeal.τ).loc Cert.SeqBwdRefIdeal.main_arg2) = m ((c.tc : Thread Cert.SeqBwdRefIdeal.nD Cert.SeqBwdRefIdeal.τ).loc Cert.SeqBwdRefIdeal.main_arg2)
      ∧ r.2.mem ((c.tc : Thread Cert.SeqBwdRefIdeal.nD Cert.SeqBwdRefIdeal.τ).loc Cert.SeqBwdRefIdeal.main_arg3) = m ((c.tc : Thread Cert.SeqBwdRefIdeal.nD Cert.SeqBwdRefIdeal.τ).loc Cert.SeqBwdRefIdeal.main_arg3)
      ∧ r.2.mem ((c.tc : Thread Cert.SeqBwdRefIdeal.nD Cert.SeqBwdRefIdeal.τ).loc Cert.SeqBwdRefIdeal.main_arg4) = m ((c.tc : Thread Cert.SeqBwdRefIdeal.nD Cert.SeqBwdRefIdeal.τ).loc Cert.SeqBwdRefIdeal.main_arg4)
      ∧ r.2.mem ((c.tc : Thread Cert.SeqBwdRefIdeal.nD Cert.SeqBwdRefIdeal.τ).loc Cert.SeqBwdRefIdeal.main_arg5) = m ((c.tc : Thread Cert.SeqBwdRefIdeal.nD Cert.SeqBwdRefIdeal.τ).loc Cert.SeqBwdRefIdeal.main_arg5)
      ∧ r.2.mem ((c.tc : Thread Cert.SeqBwdRefIdeal.nD Cert.SeqBwdRefIdeal.τ).loc Cert.SeqBwdRefIdeal.main_arg6) = m ((c.tc : Thread Cert.SeqBwdRefIdeal.nD Cert.SeqBwdRefIdeal.τ).loc Cert.SeqBwdRefIdeal.main_arg6)
      ∧ r.2.mem ((c.tc : Thread Cert.SeqBwdRefIdeal.nD Cert.SeqBwdRefIdeal.τ).loc Cert.SeqBwdRefIdeal.main_arg7) = m ((c.tc : Thread Cert.SeqBwdRefIdeal.nD Cert.SeqBwdRefIdeal.τ).loc Cert.SeqBwdRefIdeal.main_arg7))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_SqDw [hSqDw : Cert.SqDw.Facts] : Prop :=
  ∀ (m : (ℓ : Loc Cert.SqDw.nD Cert.SqDw.τ Cert.SqDw.sig) → Buf (Elt Bits) ℓ) (g : Dev Cert.SqDw.nD → PrngReg), Pre_SqDw m →
    θ_run (Cert.SqDw.defs (F := Bits)) (onTc (τ := Cert.SqDw.τ) (Cert.SqDw.main (F := Bits))) ⟨m, fun _ => 0, g⟩ (fun r => (∀ c : Dev Cert.SqDw.nD,
      r.2.mem ((c.tc : Thread Cert.SqDw.nD Cert.SqDw.τ).loc Cert.SqDw.main_arg0) = m ((c.tc : Thread Cert.SqDw.nD Cert.SqDw.τ).loc Cert.SqDw.main_arg0)
      ∧ r.2.mem ((c.tc : Thread Cert.SqDw.nD Cert.SqDw.τ).loc Cert.SqDw.main_arg1) = m ((c.tc : Thread Cert.SqDw.nD Cert.SqDw.τ).loc Cert.SqDw.main_arg1))
      ∧ r.2.sem = fun _ => 0)

def quiescent_SqDwIdeal [hSqDwIdeal : Cert.SqDwIdeal.Facts] : Prop :=
  ∀ (m : (ℓ : Loc Cert.SqDwIdeal.nD Cert.SqDwIdeal.τ Cert.SqDwIdeal.sig) → Buf (Elt Ideal) ℓ) (g : Dev Cert.SqDwIdeal.nD → PrngReg), Pre_SqDwIdeal m →
    θ_run (Cert.SqDwIdeal.defs (F := Ideal)) (onTc (τ := Cert.SqDwIdeal.τ) (Cert.SqDwIdeal.main (F := Ideal))) ⟨m, fun _ => 0, g⟩ (fun r => (∀ c : Dev Cert.SqDwIdeal.nD,
      r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
      ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ r.2.sem = fun _ => 0)

def quiescent_SqDwRefIdeal [hSqDwRefIdeal : Cert.SqDwRefIdeal.Facts] : Prop :=
  ∀ (m : (ℓ : Loc Cert.SqDwRefIdeal.nD Cert.SqDwRefIdeal.τ Cert.SqDwRefIdeal.sig) → Buf (Elt Ideal) ℓ) (g : Dev Cert.SqDwRefIdeal.nD → PrngReg), Pre_SqDwRefIdeal m →
    θ_run (Cert.SqDwRefIdeal.defs (F := Ideal)) (onTc (τ := Cert.SqDwRefIdeal.τ) (Cert.SqDwRefIdeal.main (F := Ideal))) ⟨m, fun _ => 0, g⟩ (fun r => (∀ c : Dev Cert.SqDwRefIdeal.nD,
      r.2.mem ((c.tc : Thread Cert.SqDwRefIdeal.nD Cert.SqDwRefIdeal.τ).loc Cert.SqDwRefIdeal.main_arg0) = m ((c.tc : Thread Cert.SqDwRefIdeal.nD Cert.SqDwRefIdeal.τ).loc Cert.SqDwRefIdeal.main_arg0)
      ∧ r.2.mem ((c.tc : Thread Cert.SqDwRefIdeal.nD Cert.SqDwRefIdeal.τ).loc Cert.SqDwRefIdeal.main_arg1) = m ((c.tc : Thread Cert.SqDwRefIdeal.nD Cert.SqDwRefIdeal.τ).loc Cert.SqDwRefIdeal.main_arg1))
      ∧ r.2.sem = fun _ => 0)

def quiescent_UpDxNorm [hUpDxNorm : Cert.UpDxNorm.Facts] : Prop :=
  ∀ (m : (ℓ : Loc Cert.UpDxNorm.nD Cert.UpDxNorm.τ Cert.UpDxNorm.sig) → Buf (Elt Bits) ℓ) (g : Dev Cert.UpDxNorm.nD → PrngReg), Pre_UpDxNorm m →
    θ_run (Cert.UpDxNorm.defs (F := Bits)) (onTc (τ := Cert.UpDxNorm.τ) (Cert.UpDxNorm.main (F := Bits))) ⟨m, fun _ => 0, g⟩ (fun r => (∀ c : Dev Cert.UpDxNorm.nD,
      r.2.mem ((c.tc : Thread Cert.UpDxNorm.nD Cert.UpDxNorm.τ).loc Cert.UpDxNorm.main_arg0) = m ((c.tc : Thread Cert.UpDxNorm.nD Cert.UpDxNorm.τ).loc Cert.UpDxNorm.main_arg0)
      ∧ r.2.mem ((c.tc : Thread Cert.UpDxNorm.nD Cert.UpDxNorm.τ).loc Cert.UpDxNorm.main_arg1) = m ((c.tc : Thread Cert.UpDxNorm.nD Cert.UpDxNorm.τ).loc Cert.UpDxNorm.main_arg1)
      ∧ r.2.mem ((c.tc : Thread Cert.UpDxNorm.nD Cert.UpDxNorm.τ).loc Cert.UpDxNorm.main_arg2) = m ((c.tc : Thread Cert.UpDxNorm.nD Cert.UpDxNorm.τ).loc Cert.UpDxNorm.main_arg2)
      ∧ r.2.mem ((c.tc : Thread Cert.UpDxNorm.nD Cert.UpDxNorm.τ).loc Cert.UpDxNorm.main_arg3) = m ((c.tc : Thread Cert.UpDxNorm.nD Cert.UpDxNorm.τ).loc Cert.UpDxNorm.main_arg3)
      ∧ r.2.mem ((c.tc : Thread Cert.UpDxNorm.nD Cert.UpDxNorm.τ).loc Cert.UpDxNorm.main_arg4) = m ((c.tc : Thread Cert.UpDxNorm.nD Cert.UpDxNorm.τ).loc Cert.UpDxNorm.main_arg4)
      ∧ r.2.mem ((c.tc : Thread Cert.UpDxNorm.nD Cert.UpDxNorm.τ).loc Cert.UpDxNorm.main_arg5) = m ((c.tc : Thread Cert.UpDxNorm.nD Cert.UpDxNorm.τ).loc Cert.UpDxNorm.main_arg5)
      ∧ r.2.mem ((c.tc : Thread Cert.UpDxNorm.nD Cert.UpDxNorm.τ).loc Cert.UpDxNorm.main_arg6) = m ((c.tc : Thread Cert.UpDxNorm.nD Cert.UpDxNorm.τ).loc Cert.UpDxNorm.main_arg6)
      ∧ r.2.mem ((c.tc : Thread Cert.UpDxNorm.nD Cert.UpDxNorm.τ).loc Cert.UpDxNorm.main_arg7) = m ((c.tc : Thread Cert.UpDxNorm.nD Cert.UpDxNorm.τ).loc Cert.UpDxNorm.main_arg7))
      ∧ r.2.sem = fun _ => 0)

def quiescent_UpDxNormIdeal [hUpDxNormIdeal : Cert.UpDxNormIdeal.Facts] : Prop :=
  ∀ (m : (ℓ : Loc Cert.UpDxNormIdeal.nD Cert.UpDxNormIdeal.τ Cert.UpDxNormIdeal.sig) → Buf (Elt Ideal) ℓ) (g : Dev Cert.UpDxNormIdeal.nD → PrngReg), Pre_UpDxNormIdeal m →
    θ_run (Cert.UpDxNormIdeal.defs (F := Ideal)) (onTc (τ := Cert.UpDxNormIdeal.τ) (Cert.UpDxNormIdeal.main (F := Ideal))) ⟨m, fun _ => 0, g⟩ (fun r => (∀ c : Dev Cert.UpDxNormIdeal.nD,
      r.2.mem ((c.tc : Thread Cert.UpDxNormIdeal.nD Cert.UpDxNormIdeal.τ).loc Cert.UpDxNormIdeal.main_arg0) = m ((c.tc : Thread Cert.UpDxNormIdeal.nD Cert.UpDxNormIdeal.τ).loc Cert.UpDxNormIdeal.main_arg0)
      ∧ r.2.mem ((c.tc : Thread Cert.UpDxNormIdeal.nD Cert.UpDxNormIdeal.τ).loc Cert.UpDxNormIdeal.main_arg1) = m ((c.tc : Thread Cert.UpDxNormIdeal.nD Cert.UpDxNormIdeal.τ).loc Cert.UpDxNormIdeal.main_arg1)
      ∧ r.2.mem ((c.tc : Thread Cert.UpDxNormIdeal.nD Cert.UpDxNormIdeal.τ).loc Cert.UpDxNormIdeal.main_arg2) = m ((c.tc : Thread Cert.UpDxNormIdeal.nD Cert.UpDxNormIdeal.τ).loc Cert.UpDxNormIdeal.main_arg2)
      ∧ r.2.mem ((c.tc : Thread Cert.UpDxNormIdeal.nD Cert.UpDxNormIdeal.τ).loc Cert.UpDxNormIdeal.main_arg3) = m ((c.tc : Thread Cert.UpDxNormIdeal.nD Cert.UpDxNormIdeal.τ).loc Cert.UpDxNormIdeal.main_arg3)
      ∧ r.2.mem ((c.tc : Thread Cert.UpDxNormIdeal.nD Cert.UpDxNormIdeal.τ).loc Cert.UpDxNormIdeal.main_arg4) = m ((c.tc : Thread Cert.UpDxNormIdeal.nD Cert.UpDxNormIdeal.τ).loc Cert.UpDxNormIdeal.main_arg4)
      ∧ r.2.mem ((c.tc : Thread Cert.UpDxNormIdeal.nD Cert.UpDxNormIdeal.τ).loc Cert.UpDxNormIdeal.main_arg5) = m ((c.tc : Thread Cert.UpDxNormIdeal.nD Cert.UpDxNormIdeal.τ).loc Cert.UpDxNormIdeal.main_arg5)
      ∧ r.2.mem ((c.tc : Thread Cert.UpDxNormIdeal.nD Cert.UpDxNormIdeal.τ).loc Cert.UpDxNormIdeal.main_arg6) = m ((c.tc : Thread Cert.UpDxNormIdeal.nD Cert.UpDxNormIdeal.τ).loc Cert.UpDxNormIdeal.main_arg6)
      ∧ r.2.mem ((c.tc : Thread Cert.UpDxNormIdeal.nD Cert.UpDxNormIdeal.τ).loc Cert.UpDxNormIdeal.main_arg7) = m ((c.tc : Thread Cert.UpDxNormIdeal.nD Cert.UpDxNormIdeal.τ).loc Cert.UpDxNormIdeal.main_arg7))
      ∧ r.2.sem = fun _ => 0)

def quiescent_UpDxNormRefIdeal [hUpDxNormRefIdeal : Cert.UpDxNormRefIdeal.Facts] : Prop :=
  ∀ (m : (ℓ : Loc Cert.UpDxNormRefIdeal.nD Cert.UpDxNormRefIdeal.τ Cert.UpDxNormRefIdeal.sig) → Buf (Elt Ideal) ℓ) (g : Dev Cert.UpDxNormRefIdeal.nD → PrngReg), Pre_UpDxNormRefIdeal m →
    θ_run (Cert.UpDxNormRefIdeal.defs (F := Ideal)) (onTc (τ := Cert.UpDxNormRefIdeal.τ) (Cert.UpDxNormRefIdeal.main (F := Ideal))) ⟨m, fun _ => 0, g⟩ (fun r => (∀ c : Dev Cert.UpDxNormRefIdeal.nD,
      r.2.mem ((c.tc : Thread Cert.UpDxNormRefIdeal.nD Cert.UpDxNormRefIdeal.τ).loc Cert.UpDxNormRefIdeal.main_arg0) = m ((c.tc : Thread Cert.UpDxNormRefIdeal.nD Cert.UpDxNormRefIdeal.τ).loc Cert.UpDxNormRefIdeal.main_arg0)
      ∧ r.2.mem ((c.tc : Thread Cert.UpDxNormRefIdeal.nD Cert.UpDxNormRefIdeal.τ).loc Cert.UpDxNormRefIdeal.main_arg1) = m ((c.tc : Thread Cert.UpDxNormRefIdeal.nD Cert.UpDxNormRefIdeal.τ).loc Cert.UpDxNormRefIdeal.main_arg1)
      ∧ r.2.mem ((c.tc : Thread Cert.UpDxNormRefIdeal.nD Cert.UpDxNormRefIdeal.τ).loc Cert.UpDxNormRefIdeal.main_arg2) = m ((c.tc : Thread Cert.UpDxNormRefIdeal.nD Cert.UpDxNormRefIdeal.τ).loc Cert.UpDxNormRefIdeal.main_arg2)
      ∧ r.2.mem ((c.tc : Thread Cert.UpDxNormRefIdeal.nD Cert.UpDxNormRefIdeal.τ).loc Cert.UpDxNormRefIdeal.main_arg3) = m ((c.tc : Thread Cert.UpDxNormRefIdeal.nD Cert.UpDxNormRefIdeal.τ).loc Cert.UpDxNormRefIdeal.main_arg3)
      ∧ r.2.mem ((c.tc : Thread Cert.UpDxNormRefIdeal.nD Cert.UpDxNormRefIdeal.τ).loc Cert.UpDxNormRefIdeal.main_arg4) = m ((c.tc : Thread Cert.UpDxNormRefIdeal.nD Cert.UpDxNormRefIdeal.τ).loc Cert.UpDxNormRefIdeal.main_arg4)
      ∧ r.2.mem ((c.tc : Thread Cert.UpDxNormRefIdeal.nD Cert.UpDxNormRefIdeal.τ).loc Cert.UpDxNormRefIdeal.main_arg5) = m ((c.tc : Thread Cert.UpDxNormRefIdeal.nD Cert.UpDxNormRefIdeal.τ).loc Cert.UpDxNormRefIdeal.main_arg5)
      ∧ r.2.mem ((c.tc : Thread Cert.UpDxNormRefIdeal.nD Cert.UpDxNormRefIdeal.τ).loc Cert.UpDxNormRefIdeal.main_arg6) = m ((c.tc : Thread Cert.UpDxNormRefIdeal.nD Cert.UpDxNormRefIdeal.τ).loc Cert.UpDxNormRefIdeal.main_arg6)
      ∧ r.2.mem ((c.tc : Thread Cert.UpDxNormRefIdeal.nD Cert.UpDxNormRefIdeal.τ).loc Cert.UpDxNormRefIdeal.main_arg7) = m ((c.tc : Thread Cert.UpDxNormRefIdeal.nD Cert.UpDxNormRefIdeal.τ).loc Cert.UpDxNormRefIdeal.main_arg7))
      ∧ r.2.sem = fun _ => 0)

def quiescent_BatDw [hBatDw : Cert.BatDw.Facts] : Prop :=
  ∀ (m : (ℓ : Loc Cert.BatDw.nD Cert.BatDw.τ Cert.BatDw.sig) → Buf (Elt Bits) ℓ) (g : Dev Cert.BatDw.nD → PrngReg), Pre_BatDw m →
    θ_run (Cert.BatDw.defs (F := Bits)) (onTc (τ := Cert.BatDw.τ) (Cert.BatDw.main (F := Bits))) ⟨m, fun _ => 0, g⟩ (fun r => (∀ c : Dev Cert.BatDw.nD,
      r.2.mem ((c.tc : Thread Cert.BatDw.nD Cert.BatDw.τ).loc Cert.BatDw.main_arg0) = m ((c.tc : Thread Cert.BatDw.nD Cert.BatDw.τ).loc Cert.BatDw.main_arg0)
      ∧ r.2.mem ((c.tc : Thread Cert.BatDw.nD Cert.BatDw.τ).loc Cert.BatDw.main_arg1) = m ((c.tc : Thread Cert.BatDw.nD Cert.BatDw.τ).loc Cert.BatDw.main_arg1))
      ∧ r.2.sem = fun _ => 0)

def quiescent_BatDwIdeal [hBatDwIdeal : Cert.BatDwIdeal.Facts] : Prop :=
  ∀ (m : (ℓ : Loc Cert.BatDwIdeal.nD Cert.BatDwIdeal.τ Cert.BatDwIdeal.sig) → Buf (Elt Ideal) ℓ) (g : Dev Cert.BatDwIdeal.nD → PrngReg), Pre_BatDwIdeal m →
    θ_run (Cert.BatDwIdeal.defs (F := Ideal)) (onTc (τ := Cert.BatDwIdeal.τ) (Cert.BatDwIdeal.main (F := Ideal))) ⟨m, fun _ => 0, g⟩ (fun r => (∀ c : Dev Cert.BatDwIdeal.nD,
      r.2.mem ((c.tc : Thread Cert.BatDwIdeal.nD Cert.BatDwIdeal.τ).loc Cert.BatDwIdeal.main_arg0) = m ((c.tc : Thread Cert.BatDwIdeal.nD Cert.BatDwIdeal.τ).loc Cert.BatDwIdeal.main_arg0)
      ∧ r.2.mem ((c.tc : Thread Cert.BatDwIdeal.nD Cert.BatDwIdeal.τ).loc Cert.BatDwIdeal.main_arg1) = m ((c.tc : Thread Cert.BatDwIdeal.nD Cert.BatDwIdeal.τ).loc Cert.BatDwIdeal.main_arg1))
      ∧ r.2.sem = fun _ => 0)

def quiescent_BatDwRefIdeal [hBatDwRefIdeal : Cert.BatDwRefIdeal.Facts] : Prop :=
  ∀ (m : (ℓ : Loc Cert.BatDwRefIdeal.nD Cert.BatDwRefIdeal.τ Cert.BatDwRefIdeal.sig) → Buf (Elt Ideal) ℓ) (g : Dev Cert.BatDwRefIdeal.nD → PrngReg), Pre_BatDwRefIdeal m →
    θ_run (Cert.BatDwRefIdeal.defs (F := Ideal)) (onTc (τ := Cert.BatDwRefIdeal.τ) (Cert.BatDwRefIdeal.main (F := Ideal))) ⟨m, fun _ => 0, g⟩ (fun r => (∀ c : Dev Cert.BatDwRefIdeal.nD,
      r.2.mem ((c.tc : Thread Cert.BatDwRefIdeal.nD Cert.BatDwRefIdeal.τ).loc Cert.BatDwRefIdeal.main_arg0) = m ((c.tc : Thread Cert.BatDwRefIdeal.nD Cert.BatDwRefIdeal.τ).loc Cert.BatDwRefIdeal.main_arg0)
      ∧ r.2.mem ((c.tc : Thread Cert.BatDwRefIdeal.nD Cert.BatDwRefIdeal.τ).loc Cert.BatDwRefIdeal.main_arg1) = m ((c.tc : Thread Cert.BatDwRefIdeal.nD Cert.BatDwRefIdeal.τ).loc Cert.BatDwRefIdeal.main_arg1))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_BatMerge [hBatMerge : Cert.BatMerge.Facts] : Prop :=
  ∀ (m : (ℓ : Loc Cert.BatMerge.nD Cert.BatMerge.τ Cert.BatMerge.sig) → Buf (Elt Bits) ℓ) (g : Dev Cert.BatMerge.nD → PrngReg), Pre_BatMerge m →
    θ_run (Cert.BatMerge.defs (F := Bits)) (onTc (τ := Cert.BatMerge.τ) (Cert.BatMerge.main (F := Bits))) ⟨m, fun _ => 0, g⟩ (fun r => (∀ c : Dev Cert.BatMerge.nD,
      r.2.mem ((c.tc : Thread Cert.BatMerge.nD Cert.BatMerge.τ).loc Cert.BatMerge.main_arg0) = m ((c.tc : Thread Cert.BatMerge.nD Cert.BatMerge.τ).loc Cert.BatMerge.main_arg0)
      ∧ r.2.mem ((c.tc : Thread Cert.BatMerge.nD Cert.BatMerge.τ).loc Cert.BatMerge.main_arg1) = m ((c.tc : Thread Cert.BatMerge.nD Cert.BatMerge.τ).loc Cert.BatMerge.main_arg1)
      ∧ r.2.mem ((c.tc : Thread Cert.BatMerge.nD Cert.BatMerge.τ).loc Cert.BatMerge.main_arg2) = m ((c.tc : Thread Cert.BatMerge.nD Cert.BatMerge.τ).loc Cert.BatMerge.main_arg2)
      ∧ r.2.mem ((c.tc : Thread Cert.BatMerge.nD Cert.BatMerge.τ).loc Cert.BatMerge.main_arg3) = m ((c.tc : Thread Cert.BatMerge.nD Cert.BatMerge.τ).loc Cert.BatMerge.main_arg3))
      ∧ r.2.sem = fun _ => 0)

def quiescent_BatMergeIdeal [hBatMergeIdeal : Cert.BatMergeIdeal.Facts] : Prop :=
  ∀ (m : (ℓ : Loc Cert.BatMergeIdeal.nD Cert.BatMergeIdeal.τ Cert.BatMergeIdeal.sig) → Buf (Elt Ideal) ℓ) (g : Dev Cert.BatMergeIdeal.nD → PrngReg), Pre_BatMergeIdeal m →
    θ_run (Cert.BatMergeIdeal.defs (F := Ideal)) (onTc (τ := Cert.BatMergeIdeal.τ) (Cert.BatMergeIdeal.main (F := Ideal))) ⟨m, fun _ => 0, g⟩ (fun r => (∀ c : Dev Cert.BatMergeIdeal.nD,
      r.2.mem ((c.tc : Thread Cert.BatMergeIdeal.nD Cert.BatMergeIdeal.τ).loc Cert.BatMergeIdeal.main_arg0) = m ((c.tc : Thread Cert.BatMergeIdeal.nD Cert.BatMergeIdeal.τ).loc Cert.BatMergeIdeal.main_arg0)
      ∧ r.2.mem ((c.tc : Thread Cert.BatMergeIdeal.nD Cert.BatMergeIdeal.τ).loc Cert.BatMergeIdeal.main_arg1) = m ((c.tc : Thread Cert.BatMergeIdeal.nD Cert.BatMergeIdeal.τ).loc Cert.BatMergeIdeal.main_arg1)
      ∧ r.2.mem ((c.tc : Thread Cert.BatMergeIdeal.nD Cert.BatMergeIdeal.τ).loc Cert.BatMergeIdeal.main_arg2) = m ((c.tc : Thread Cert.BatMergeIdeal.nD Cert.BatMergeIdeal.τ).loc Cert.BatMergeIdeal.main_arg2)
      ∧ r.2.mem ((c.tc : Thread Cert.BatMergeIdeal.nD Cert.BatMergeIdeal.τ).loc Cert.BatMergeIdeal.main_arg3) = m ((c.tc : Thread Cert.BatMergeIdeal.nD Cert.BatMergeIdeal.τ).loc Cert.BatMergeIdeal.main_arg3))
      ∧ r.2.sem = fun _ => 0)

def quiescent_BatMergeRefIdeal [hBatMergeRefIdeal : Cert.BatMergeRefIdeal.Facts] : Prop :=
  ∀ (m : (ℓ : Loc Cert.BatMergeRefIdeal.nD Cert.BatMergeRefIdeal.τ Cert.BatMergeRefIdeal.sig) → Buf (Elt Ideal) ℓ) (g : Dev Cert.BatMergeRefIdeal.nD → PrngReg), Pre_BatMergeRefIdeal m →
    θ_run (Cert.BatMergeRefIdeal.defs (F := Ideal)) (onTc (τ := Cert.BatMergeRefIdeal.τ) (Cert.BatMergeRefIdeal.main (F := Ideal))) ⟨m, fun _ => 0, g⟩ (fun r => (∀ c : Dev Cert.BatMergeRefIdeal.nD,
      r.2.mem ((c.tc : Thread Cert.BatMergeRefIdeal.nD Cert.BatMergeRefIdeal.τ).loc Cert.BatMergeRefIdeal.main_arg0) = m ((c.tc : Thread Cert.BatMergeRefIdeal.nD Cert.BatMergeRefIdeal.τ).loc Cert.BatMergeRefIdeal.main_arg0)
      ∧ r.2.mem ((c.tc : Thread Cert.BatMergeRefIdeal.nD Cert.BatMergeRefIdeal.τ).loc Cert.BatMergeRefIdeal.main_arg1) = m ((c.tc : Thread Cert.BatMergeRefIdeal.nD Cert.BatMergeRefIdeal.τ).loc Cert.BatMergeRefIdeal.main_arg1)
      ∧ r.2.mem ((c.tc : Thread Cert.BatMergeRefIdeal.nD Cert.BatMergeRefIdeal.τ).loc Cert.BatMergeRefIdeal.main_arg2) = m ((c.tc : Thread Cert.BatMergeRefIdeal.nD Cert.BatMergeRefIdeal.τ).loc Cert.BatMergeRefIdeal.main_arg2)
      ∧ r.2.mem ((c.tc : Thread Cert.BatMergeRefIdeal.nD Cert.BatMergeRefIdeal.τ).loc Cert.BatMergeRefIdeal.main_arg3) = m ((c.tc : Thread Cert.BatMergeRefIdeal.nD Cert.BatMergeRefIdeal.τ).loc Cert.BatMergeRefIdeal.main_arg3))
      ∧ r.2.sem = fun _ => 0)

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v5) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)) →
    ∃ (v0 : (c : Dev Cert.InDxIdeal.nD) → Buf (Elt Ideal) ((c.tc : Thread Cert.InDxIdeal.nD Cert.InDxIdeal.τ).loc Cert.InDxIdeal.main_v0)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v4) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1))

def preserves_SeqBwd_SeqBwdIdeal : Prop :=
  True

def algebraic_SeqBwdIdeal_SeqBwdRefIdeal_pre_finite [hSeqBwdIdeal : Cert.SeqBwdIdeal.Facts] [hSeqBwdRefIdeal : Cert.SeqBwdRefIdeal.Facts] [hPre_finite : Cert.Pre_finite.Facts] : Prop :=
  ∀ (m : (ℓ : Loc Cert.SeqBwdIdeal.nD Cert.SeqBwdIdeal.τ Cert.SeqBwdIdeal.sig) → Buf (Elt Ideal) ℓ) (g : Dev Cert.SeqBwdIdeal.nD → PrngReg)
    (m' : (ℓ : Loc Cert.SeqBwdRefIdeal.nD Cert.SeqBwdRefIdeal.τ Cert.SeqBwdRefIdeal.sig) → Buf (Elt Ideal) ℓ) (g' : Dev Cert.SeqBwdRefIdeal.nD → PrngReg), Pre_SeqBwdIdeal_finite m →
    (∀ c : Dev Cert.SeqBwdIdeal.nD,
      m' ((c.tc : Thread Cert.SeqBwdRefIdeal.nD Cert.SeqBwdRefIdeal.τ).loc Cert.SeqBwdRefIdeal.main_arg0) = m ((c.tc : Thread Cert.SeqBwdIdeal.nD Cert.SeqBwdIdeal.τ).loc Cert.SeqBwdIdeal.main_arg0)
      ∧ m' ((c.tc : Thread Cert.SeqBwdRefIdeal.nD Cert.SeqBwdRefIdeal.τ).loc Cert.SeqBwdRefIdeal.main_arg1) = m ((c.tc : Thread Cert.SeqBwdIdeal.nD Cert.SeqBwdIdeal.τ).loc Cert.SeqBwdIdeal.main_arg1)
      ∧ m' ((c.tc : Thread Cert.SeqBwdRefIdeal.nD Cert.SeqBwdRefIdeal.τ).loc Cert.SeqBwdRefIdeal.main_arg2) = m ((c.tc : Thread Cert.SeqBwdIdeal.nD Cert.SeqBwdIdeal.τ).loc Cert.SeqBwdIdeal.main_arg2)
      ∧ m' ((c.tc : Thread Cert.SeqBwdRefIdeal.nD Cert.SeqBwdRefIdeal.τ).loc Cert.SeqBwdRefIdeal.main_arg3) = m ((c.tc : Thread Cert.SeqBwdIdeal.nD Cert.SeqBwdIdeal.τ).loc Cert.SeqBwdIdeal.main_arg3)
      ∧ m' ((c.tc : Thread Cert.SeqBwdRefIdeal.nD Cert.SeqBwdRefIdeal.τ).loc Cert.SeqBwdRefIdeal.main_arg4) = m ((c.tc : Thread Cert.SeqBwdIdeal.nD Cert.SeqBwdIdeal.τ).loc Cert.SeqBwdIdeal.main_arg4)
      ∧ m' ((c.tc : Thread Cert.SeqBwdRefIdeal.nD Cert.SeqBwdRefIdeal.τ).loc Cert.SeqBwdRefIdeal.main_arg5) = m ((c.tc : Thread Cert.SeqBwdIdeal.nD Cert.SeqBwdIdeal.τ).loc Cert.SeqBwdIdeal.main_arg5)
      ∧ m' ((c.tc : Thread Cert.SeqBwdRefIdeal.nD Cert.SeqBwdRefIdeal.τ).loc Cert.SeqBwdRefIdeal.main_arg6) = m ((c.tc : Thread Cert.SeqBwdIdeal.nD Cert.SeqBwdIdeal.τ).loc Cert.SeqBwdIdeal.main_arg6)
      ∧ m' ((c.tc : Thread Cert.SeqBwdRefIdeal.nD Cert.SeqBwdRefIdeal.τ).loc Cert.SeqBwdRefIdeal.main_arg7) = m ((c.tc : Thread Cert.SeqBwdIdeal.nD Cert.SeqBwdIdeal.τ).loc Cert.SeqBwdIdeal.main_arg7)) →
    ∃ (v0 : (c : Dev Cert.SeqBwdIdeal.nD) → Buf (Elt Ideal) ((c.tc : Thread Cert.SeqBwdIdeal.nD Cert.SeqBwdIdeal.τ).loc Cert.SeqBwdIdeal.main_v6_0)) (v1 : (c : Dev Cert.SeqBwdIdeal.nD) → Buf (Elt Ideal) ((c.tc : Thread Cert.SeqBwdIdeal.nD Cert.SeqBwdIdeal.τ).loc Cert.SeqBwdIdeal.main_v6_1)) (v2 : (c : Dev Cert.SeqBwdIdeal.nD) → Buf (Elt Ideal) ((c.tc : Thread Cert.SeqBwdIdeal.nD Cert.SeqBwdIdeal.τ).loc Cert.SeqBwdIdeal.main_v6_2)) (v3 : (c : Dev Cert.SeqBwdIdeal.nD) → Buf (Elt Ideal) ((c.tc : Thread Cert.SeqBwdIdeal.nD Cert.SeqBwdIdeal.τ).loc Cert.SeqBwdIdeal.main_v6_3)) (v4 : (c : Dev Cert.SeqBwdIdeal.nD) → Buf (Elt Ideal) ((c.tc : Thread Cert.SeqBwdIdeal.nD Cert.SeqBwdIdeal.τ).loc Cert.SeqBwdIdeal.main_v6_4)),
      θ_run (Cert.SeqBwdIdeal.defs (F := Ideal)) (onTc (τ := Cert.SeqBwdIdeal.τ) (Cert.SeqBwdIdeal.main (F := Ideal))) ⟨m, fun _ => 0, g⟩ (fun r => ∀ c : Dev Cert.SeqBwdIdeal.nD,
          r.2.mem ((c.tc : Thread Cert.SeqBwdIdeal.nD Cert.SeqBwdIdeal.τ).loc Cert.SeqBwdIdeal.main_v6_0) = v0 c
          ∧ r.2.mem ((c.tc : Thread Cert.SeqBwdIdeal.nD Cert.SeqBwdIdeal.τ).loc Cert.SeqBwdIdeal.main_v6_1) = v1 c
          ∧ r.2.mem ((c.tc : Thread Cert.SeqBwdIdeal.nD Cert.SeqBwdIdeal.τ).loc Cert.SeqBwdIdeal.main_v6_2) = v2 c
          ∧ r.2.mem ((c.tc : Thread Cert.SeqBwdIdeal.nD Cert.SeqBwdIdeal.τ).loc Cert.SeqBwdIdeal.main_v6_3) = v3 c
          ∧ r.2.mem ((c.tc : Thread Cert.SeqBwdIdeal.nD Cert.SeqBwdIdeal.τ).loc Cert.SeqBwdIdeal.main_v6_4) = v4 c
          ∧ r.2.mem ((c.tc : Thread Cert.SeqBwdIdeal.nD Cert.SeqBwdIdeal.τ).loc Cert.SeqBwdIdeal.main_arg0) = m ((c.tc : Thread Cert.SeqBwdIdeal.nD Cert.SeqBwdIdeal.τ).loc Cert.SeqBwdIdeal.main_arg0)
          ∧ r.2.mem ((c.tc : Thread Cert.SeqBwdIdeal.nD Cert.SeqBwdIdeal.τ).loc Cert.SeqBwdIdeal.main_arg1) = m ((c.tc : Thread Cert.SeqBwdIdeal.nD Cert.SeqBwdIdeal.τ).loc Cert.SeqBwdIdeal.main_arg1)
          ∧ r.2.mem ((c.tc : Thread Cert.SeqBwdIdeal.nD Cert.SeqBwdIdeal.τ).loc Cert.SeqBwdIdeal.main_arg2) = m ((c.tc : Thread Cert.SeqBwdIdeal.nD Cert.SeqBwdIdeal.τ).loc Cert.SeqBwdIdeal.main_arg2)
          ∧ r.2.mem ((c.tc : Thread Cert.SeqBwdIdeal.nD Cert.SeqBwdIdeal.τ).loc Cert.SeqBwdIdeal.main_arg3) = m ((c.tc : Thread Cert.SeqBwdIdeal.nD Cert.SeqBwdIdeal.τ).loc Cert.SeqBwdIdeal.main_arg3)
          ∧ r.2.mem ((c.tc : Thread Cert.SeqBwdIdeal.nD Cert.SeqBwdIdeal.τ).loc Cert.SeqBwdIdeal.main_arg4) = m ((c.tc : Thread Cert.SeqBwdIdeal.nD Cert.SeqBwdIdeal.τ).loc Cert.SeqBwdIdeal.main_arg4)
          ∧ r.2.mem ((c.tc : Thread Cert.SeqBwdIdeal.nD Cert.SeqBwdIdeal.τ).loc Cert.SeqBwdIdeal.main_arg5) = m ((c.tc : Thread Cert.SeqBwdIdeal.nD Cert.SeqBwdIdeal.τ).loc Cert.SeqBwdIdeal.main_arg5)
          ∧ r.2.mem ((c.tc : Thread Cert.SeqBwdIdeal.nD Cert.SeqBwdIdeal.τ).loc Cert.SeqBwdIdeal.main_arg6) = m ((c.tc : Thread Cert.SeqBwdIdeal.nD Cert.SeqBwdIdeal.τ).loc Cert.SeqBwdIdeal.main_arg6)
          ∧ r.2.mem ((c.tc : Thread Cert.SeqBwdIdeal.nD Cert.SeqBwdIdeal.τ).loc Cert.SeqBwdIdeal.main_arg7) = m ((c.tc : Thread Cert.SeqBwdIdeal.nD Cert.SeqBwdIdeal.τ).loc Cert.SeqBwdIdeal.main_arg7))
      ∧ θ_run (Cert.SeqBwdRefIdeal.defs (F := Ideal)) (onTc (τ := Cert.SeqBwdRefIdeal.τ) (Cert.SeqBwdRefIdeal.main (F := Ideal))) ⟨m', fun _ => 0, g'⟩ (fun r => ∀ c : Dev Cert.SeqBwdRefIdeal.nD,
          r.2.mem ((c.tc : Thread Cert.SeqBwdRefIdeal.nD Cert.SeqBwdRefIdeal.τ).loc Cert.SeqBwdRefIdeal.main_v131) = v0 c
          ∧ r.2.mem ((c.tc : Thread Cert.SeqBwdRefIdeal.nD Cert.SeqBwdRefIdeal.τ).loc Cert.SeqBwdRefIdeal.main_v144) = v1 c
          ∧ r.2.mem ((c.tc : Thread Cert.SeqBwdRefIdeal.nD Cert.SeqBwdRefIdeal.τ).loc Cert.SeqBwdRefIdeal.main_v157) = v2 c
          ∧ r.2.mem ((c.tc : Thread Cert.SeqBwdRefIdeal.nD Cert.SeqBwdRefIdeal.τ).loc Cert.SeqBwdRefIdeal.main_v170) = v3 c
          ∧ r.2.mem ((c.tc : Thread Cert.SeqBwdRefIdeal.nD Cert.SeqBwdRefIdeal.τ).loc Cert.SeqBwdRefIdeal.main_v184) = v4 c
          ∧ r.2.mem ((c.tc : Thread Cert.SeqBwdRefIdeal.nD Cert.SeqBwdRefIdeal.τ).loc Cert.SeqBwdRefIdeal.main_arg0) = m' ((c.tc : Thread Cert.SeqBwdRefIdeal.nD Cert.SeqBwdRefIdeal.τ).loc Cert.SeqBwdRefIdeal.main_arg0)
          ∧ r.2.mem ((c.tc : Thread Cert.SeqBwdRefIdeal.nD Cert.SeqBwdRefIdeal.τ).loc Cert.SeqBwdRefIdeal.main_arg1) = m' ((c.tc : Thread Cert.SeqBwdRefIdeal.nD Cert.SeqBwdRefIdeal.τ).loc Cert.SeqBwdRefIdeal.main_arg1)
          ∧ r.2.mem ((c.tc : Thread Cert.SeqBwdRefIdeal.nD Cert.SeqBwdRefIdeal.τ).loc Cert.SeqBwdRefIdeal.main_arg2) = m' ((c.tc : Thread Cert.SeqBwdRefIdeal.nD Cert.SeqBwdRefIdeal.τ).loc Cert.SeqBwdRefIdeal.main_arg2)
          ∧ r.2.mem ((c.tc : Thread Cert.SeqBwdRefIdeal.nD Cert.SeqBwdRefIdeal.τ).loc Cert.SeqBwdRefIdeal.main_arg3) = m' ((c.tc : Thread Cert.SeqBwdRefIdeal.nD Cert.SeqBwdRefIdeal.τ).loc Cert.SeqBwdRefIdeal.main_arg3)
          ∧ r.2.mem ((c.tc : Thread Cert.SeqBwdRefIdeal.nD Cert.SeqBwdRefIdeal.τ).loc Cert.SeqBwdRefIdeal.main_arg4) = m' ((c.tc : Thread Cert.SeqBwdRefIdeal.nD Cert.SeqBwdRefIdeal.τ).loc Cert.SeqBwdRefIdeal.main_arg4)
          ∧ r.2.mem ((c.tc : Thread Cert.SeqBwdRefIdeal.nD Cert.SeqBwdRefIdeal.τ).loc Cert.SeqBwdRefIdeal.main_arg5) = m' ((c.tc : Thread Cert.SeqBwdRefIdeal.nD Cert.SeqBwdRefIdeal.τ).loc Cert.SeqBwdRefIdeal.main_arg5)
          ∧ r.2.mem ((c.tc : Thread Cert.SeqBwdRefIdeal.nD Cert.SeqBwdRefIdeal.τ).loc Cert.SeqBwdRefIdeal.main_arg6) = m' ((c.tc : Thread Cert.SeqBwdRefIdeal.nD Cert.SeqBwdRefIdeal.τ).loc Cert.SeqBwdRefIdeal.main_arg6)
          ∧ r.2.mem ((c.tc : Thread Cert.SeqBwdRefIdeal.nD Cert.SeqBwdRefIdeal.τ).loc Cert.SeqBwdRefIdeal.main_arg7) = m' ((c.tc : Thread Cert.SeqBwdRefIdeal.nD Cert.SeqBwdRefIdeal.τ).loc Cert.SeqBwdRefIdeal.main_arg7))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v2) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v2) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v5) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_SqDw_SqDwIdeal : Prop :=
  True

def algebraic_SqDwIdeal_SqDwRefIdeal [hSqDwIdeal : Cert.SqDwIdeal.Facts] [hSqDwRefIdeal : Cert.SqDwRefIdeal.Facts] : Prop :=
  ∀ (m : (ℓ : Loc Cert.SqDwIdeal.nD Cert.SqDwIdeal.τ Cert.SqDwIdeal.sig) → Buf (Elt Ideal) ℓ) (g : Dev Cert.SqDwIdeal.nD → PrngReg)
    (m' : (ℓ : Loc Cert.SqDwRefIdeal.nD Cert.SqDwRefIdeal.τ Cert.SqDwRefIdeal.sig) → Buf (Elt Ideal) ℓ) (g' : Dev Cert.SqDwRefIdeal.nD → PrngReg), Pre_SqDwIdeal m →
    (∀ c : Dev Cert.SqDwIdeal.nD,
      m' ((c.tc : Thread Cert.SqDwRefIdeal.nD Cert.SqDwRefIdeal.τ).loc Cert.SqDwRefIdeal.main_arg0) = m ((c.tc : Thread Cert.SqDwIdeal.nD Cert.SqDwIdeal.τ).loc Cert.SqDwIdeal.main_arg0)
      ∧ m' ((c.tc : Thread Cert.SqDwRefIdeal.nD Cert.SqDwRefIdeal.τ).loc Cert.SqDwRefIdeal.main_arg1) = m ((c.tc : Thread Cert.SqDwIdeal.nD Cert.SqDwIdeal.τ).loc Cert.SqDwIdeal.main_arg1)) →
    ∃ (v0 : (c : Dev Cert.SqDwIdeal.nD) → Buf (Elt Ideal) ((c.tc : Thread Cert.SqDwIdeal.nD Cert.SqDwIdeal.τ).loc Cert.SqDwIdeal.main_v0)),
      θ_run (Cert.SqDwIdeal.defs (F := Ideal)) (onTc (τ := Cert.SqDwIdeal.τ) (Cert.SqDwIdeal.main (F := Ideal))) ⟨m, fun _ => 0, g⟩ (fun r => ∀ c : Dev Cert.SqDwIdeal.nD,
          r.2.mem ((c.tc : Thread Cert.SqDwIdeal.nD Cert.SqDwIdeal.τ).loc Cert.SqDwIdeal.main_v0) = v0 c
          ∧ r.2.mem ((c.tc : Thread Cert.SqDwIdeal.nD Cert.SqDwIdeal.τ).loc Cert.SqDwIdeal.main_arg0) = m ((c.tc : Thread Cert.SqDwIdeal.nD Cert.SqDwIdeal.τ).loc Cert.SqDwIdeal.main_arg0)
          ∧ r.2.mem ((c.tc : Thread Cert.SqDwIdeal.nD Cert.SqDwIdeal.τ).loc Cert.SqDwIdeal.main_arg1) = m ((c.tc : Thread Cert.SqDwIdeal.nD Cert.SqDwIdeal.τ).loc Cert.SqDwIdeal.main_arg1))
      ∧ θ_run (Cert.SqDwRefIdeal.defs (F := Ideal)) (onTc (τ := Cert.SqDwRefIdeal.τ) (Cert.SqDwRefIdeal.main (F := Ideal))) ⟨m', fun _ => 0, g'⟩ (fun r => ∀ c : Dev Cert.SqDwRefIdeal.nD,
          r.2.mem ((c.tc : Thread Cert.SqDwRefIdeal.nD Cert.SqDwRefIdeal.τ).loc Cert.SqDwRefIdeal.main_v5) = v0 c
          ∧ r.2.mem ((c.tc : Thread Cert.SqDwRefIdeal.nD Cert.SqDwRefIdeal.τ).loc Cert.SqDwRefIdeal.main_arg0) = m' ((c.tc : Thread Cert.SqDwRefIdeal.nD Cert.SqDwRefIdeal.τ).loc Cert.SqDwRefIdeal.main_arg0)
          ∧ r.2.mem ((c.tc : Thread Cert.SqDwRefIdeal.nD Cert.SqDwRefIdeal.τ).loc Cert.SqDwRefIdeal.main_arg1) = m' ((c.tc : Thread Cert.SqDwRefIdeal.nD Cert.SqDwRefIdeal.τ).loc Cert.SqDwRefIdeal.main_arg1))

def preserves_UpDxNorm_UpDxNormIdeal : Prop :=
  True

def algebraic_UpDxNormIdeal_UpDxNormRefIdeal [hUpDxNormIdeal : Cert.UpDxNormIdeal.Facts] [hUpDxNormRefIdeal : Cert.UpDxNormRefIdeal.Facts] : Prop :=
  ∀ (m : (ℓ : Loc Cert.UpDxNormIdeal.nD Cert.UpDxNormIdeal.τ Cert.UpDxNormIdeal.sig) → Buf (Elt Ideal) ℓ) (g : Dev Cert.UpDxNormIdeal.nD → PrngReg)
    (m' : (ℓ : Loc Cert.UpDxNormRefIdeal.nD Cert.UpDxNormRefIdeal.τ Cert.UpDxNormRefIdeal.sig) → Buf (Elt Ideal) ℓ) (g' : Dev Cert.UpDxNormRefIdeal.nD → PrngReg), Pre_UpDxNormIdeal m →
    (∀ c : Dev Cert.UpDxNormIdeal.nD,
      m' ((c.tc : Thread Cert.UpDxNormRefIdeal.nD Cert.UpDxNormRefIdeal.τ).loc Cert.UpDxNormRefIdeal.main_arg0) = m ((c.tc : Thread Cert.UpDxNormIdeal.nD Cert.UpDxNormIdeal.τ).loc Cert.UpDxNormIdeal.main_arg0)
      ∧ m' ((c.tc : Thread Cert.UpDxNormRefIdeal.nD Cert.UpDxNormRefIdeal.τ).loc Cert.UpDxNormRefIdeal.main_arg1) = m ((c.tc : Thread Cert.UpDxNormIdeal.nD Cert.UpDxNormIdeal.τ).loc Cert.UpDxNormIdeal.main_arg1)
      ∧ m' ((c.tc : Thread Cert.UpDxNormRefIdeal.nD Cert.UpDxNormRefIdeal.τ).loc Cert.UpDxNormRefIdeal.main_arg2) = m ((c.tc : Thread Cert.UpDxNormIdeal.nD Cert.UpDxNormIdeal.τ).loc Cert.UpDxNormIdeal.main_arg2)
      ∧ m' ((c.tc : Thread Cert.UpDxNormRefIdeal.nD Cert.UpDxNormRefIdeal.τ).loc Cert.UpDxNormRefIdeal.main_arg3) = m ((c.tc : Thread Cert.UpDxNormIdeal.nD Cert.UpDxNormIdeal.τ).loc Cert.UpDxNormIdeal.main_arg3)
      ∧ m' ((c.tc : Thread Cert.UpDxNormRefIdeal.nD Cert.UpDxNormRefIdeal.τ).loc Cert.UpDxNormRefIdeal.main_arg4) = m ((c.tc : Thread Cert.UpDxNormIdeal.nD Cert.UpDxNormIdeal.τ).loc Cert.UpDxNormIdeal.main_arg4)
      ∧ m' ((c.tc : Thread Cert.UpDxNormRefIdeal.nD Cert.UpDxNormRefIdeal.τ).loc Cert.UpDxNormRefIdeal.main_arg5) = m ((c.tc : Thread Cert.UpDxNormIdeal.nD Cert.UpDxNormIdeal.τ).loc Cert.UpDxNormIdeal.main_arg5)
      ∧ m' ((c.tc : Thread Cert.UpDxNormRefIdeal.nD Cert.UpDxNormRefIdeal.τ).loc Cert.UpDxNormRefIdeal.main_arg6) = m ((c.tc : Thread Cert.UpDxNormIdeal.nD Cert.UpDxNormIdeal.τ).loc Cert.UpDxNormIdeal.main_arg6)
      ∧ m' ((c.tc : Thread Cert.UpDxNormRefIdeal.nD Cert.UpDxNormRefIdeal.τ).loc Cert.UpDxNormRefIdeal.main_arg7) = m ((c.tc : Thread Cert.UpDxNormIdeal.nD Cert.UpDxNormIdeal.τ).loc Cert.UpDxNormIdeal.main_arg7)) →
    ∃ (v0 : (c : Dev Cert.UpDxNormIdeal.nD) → Buf (Elt Ideal) ((c.tc : Thread Cert.UpDxNormIdeal.nD Cert.UpDxNormIdeal.τ).loc Cert.UpDxNormIdeal.main_v0_0)) (v1 : (c : Dev Cert.UpDxNormIdeal.nD) → Buf (Elt Ideal) ((c.tc : Thread Cert.UpDxNormIdeal.nD Cert.UpDxNormIdeal.τ).loc Cert.UpDxNormIdeal.main_v0_1)) (v2 : (c : Dev Cert.UpDxNormIdeal.nD) → Buf (Elt Ideal) ((c.tc : Thread Cert.UpDxNormIdeal.nD Cert.UpDxNormIdeal.τ).loc Cert.UpDxNormIdeal.main_v0_2)) (v3 : (c : Dev Cert.UpDxNormIdeal.nD) → Buf (Elt Ideal) ((c.tc : Thread Cert.UpDxNormIdeal.nD Cert.UpDxNormIdeal.τ).loc Cert.UpDxNormIdeal.main_v0_3)) (v4 : (c : Dev Cert.UpDxNormIdeal.nD) → Buf (Elt Ideal) ((c.tc : Thread Cert.UpDxNormIdeal.nD Cert.UpDxNormIdeal.τ).loc Cert.UpDxNormIdeal.main_v0_4)) (v5 : (c : Dev Cert.UpDxNormIdeal.nD) → Buf (Elt Ideal) ((c.tc : Thread Cert.UpDxNormIdeal.nD Cert.UpDxNormIdeal.τ).loc Cert.UpDxNormIdeal.main_v0_5)),
      θ_run (Cert.UpDxNormIdeal.defs (F := Ideal)) (onTc (τ := Cert.UpDxNormIdeal.τ) (Cert.UpDxNormIdeal.main (F := Ideal))) ⟨m, fun _ => 0, g⟩ (fun r => ∀ c : Dev Cert.UpDxNormIdeal.nD,
          r.2.mem ((c.tc : Thread Cert.UpDxNormIdeal.nD Cert.UpDxNormIdeal.τ).loc Cert.UpDxNormIdeal.main_v0_0) = v0 c
          ∧ r.2.mem ((c.tc : Thread Cert.UpDxNormIdeal.nD Cert.UpDxNormIdeal.τ).loc Cert.UpDxNormIdeal.main_v0_1) = v1 c
          ∧ r.2.mem ((c.tc : Thread Cert.UpDxNormIdeal.nD Cert.UpDxNormIdeal.τ).loc Cert.UpDxNormIdeal.main_v0_2) = v2 c
          ∧ r.2.mem ((c.tc : Thread Cert.UpDxNormIdeal.nD Cert.UpDxNormIdeal.τ).loc Cert.UpDxNormIdeal.main_v0_3) = v3 c
          ∧ r.2.mem ((c.tc : Thread Cert.UpDxNormIdeal.nD Cert.UpDxNormIdeal.τ).loc Cert.UpDxNormIdeal.main_v0_4) = v4 c
          ∧ r.2.mem ((c.tc : Thread Cert.UpDxNormIdeal.nD Cert.UpDxNormIdeal.τ).loc Cert.UpDxNormIdeal.main_v0_5) = v5 c
          ∧ r.2.mem ((c.tc : Thread Cert.UpDxNormIdeal.nD Cert.UpDxNormIdeal.τ).loc Cert.UpDxNormIdeal.main_arg0) = m ((c.tc : Thread Cert.UpDxNormIdeal.nD Cert.UpDxNormIdeal.τ).loc Cert.UpDxNormIdeal.main_arg0)
          ∧ r.2.mem ((c.tc : Thread Cert.UpDxNormIdeal.nD Cert.UpDxNormIdeal.τ).loc Cert.UpDxNormIdeal.main_arg1) = m ((c.tc : Thread Cert.UpDxNormIdeal.nD Cert.UpDxNormIdeal.τ).loc Cert.UpDxNormIdeal.main_arg1)
          ∧ r.2.mem ((c.tc : Thread Cert.UpDxNormIdeal.nD Cert.UpDxNormIdeal.τ).loc Cert.UpDxNormIdeal.main_arg2) = m ((c.tc : Thread Cert.UpDxNormIdeal.nD Cert.UpDxNormIdeal.τ).loc Cert.UpDxNormIdeal.main_arg2)
          ∧ r.2.mem ((c.tc : Thread Cert.UpDxNormIdeal.nD Cert.UpDxNormIdeal.τ).loc Cert.UpDxNormIdeal.main_arg3) = m ((c.tc : Thread Cert.UpDxNormIdeal.nD Cert.UpDxNormIdeal.τ).loc Cert.UpDxNormIdeal.main_arg3)
          ∧ r.2.mem ((c.tc : Thread Cert.UpDxNormIdeal.nD Cert.UpDxNormIdeal.τ).loc Cert.UpDxNormIdeal.main_arg4) = m ((c.tc : Thread Cert.UpDxNormIdeal.nD Cert.UpDxNormIdeal.τ).loc Cert.UpDxNormIdeal.main_arg4)
          ∧ r.2.mem ((c.tc : Thread Cert.UpDxNormIdeal.nD Cert.UpDxNormIdeal.τ).loc Cert.UpDxNormIdeal.main_arg5) = m ((c.tc : Thread Cert.UpDxNormIdeal.nD Cert.UpDxNormIdeal.τ).loc Cert.UpDxNormIdeal.main_arg5)
          ∧ r.2.mem ((c.tc : Thread Cert.UpDxNormIdeal.nD Cert.UpDxNormIdeal.τ).loc Cert.UpDxNormIdeal.main_arg6) = m ((c.tc : Thread Cert.UpDxNormIdeal.nD Cert.UpDxNormIdeal.τ).loc Cert.UpDxNormIdeal.main_arg6)
          ∧ r.2.mem ((c.tc : Thread Cert.UpDxNormIdeal.nD Cert.UpDxNormIdeal.τ).loc Cert.UpDxNormIdeal.main_arg7) = m ((c.tc : Thread Cert.UpDxNormIdeal.nD Cert.UpDxNormIdeal.τ).loc Cert.UpDxNormIdeal.main_arg7))
      ∧ θ_run (Cert.UpDxNormRefIdeal.defs (F := Ideal)) (onTc (τ := Cert.UpDxNormRefIdeal.τ) (Cert.UpDxNormRefIdeal.main (F := Ideal))) ⟨m', fun _ => 0, g'⟩ (fun r => ∀ c : Dev Cert.UpDxNormRefIdeal.nD,
          r.2.mem ((c.tc : Thread Cert.UpDxNormRefIdeal.nD Cert.UpDxNormRefIdeal.τ).loc Cert.UpDxNormRefIdeal.main_v58) = v0 c
          ∧ r.2.mem ((c.tc : Thread Cert.UpDxNormRefIdeal.nD Cert.UpDxNormRefIdeal.τ).loc Cert.UpDxNormRefIdeal.main_v66) = v1 c
          ∧ r.2.mem ((c.tc : Thread Cert.UpDxNormRefIdeal.nD Cert.UpDxNormRefIdeal.τ).loc Cert.UpDxNormRefIdeal.main_v41) = v2 c
          ∧ r.2.mem ((c.tc : Thread Cert.UpDxNormRefIdeal.nD Cert.UpDxNormRefIdeal.τ).loc Cert.UpDxNormRefIdeal.main_v33) = v3 c
          ∧ r.2.mem ((c.tc : Thread Cert.UpDxNormRefIdeal.nD Cert.UpDxNormRefIdeal.τ).loc Cert.UpDxNormRefIdeal.main_v36) = v4 c
          ∧ r.2.mem ((c.tc : Thread Cert.UpDxNormRefIdeal.nD Cert.UpDxNormRefIdeal.τ).loc Cert.UpDxNormRefIdeal.main_v65) = v5 c
          ∧ r.2.mem ((c.tc : Thread Cert.UpDxNormRefIdeal.nD Cert.UpDxNormRefIdeal.τ).loc Cert.UpDxNormRefIdeal.main_arg0) = m' ((c.tc : Thread Cert.UpDxNormRefIdeal.nD Cert.UpDxNormRefIdeal.τ).loc Cert.UpDxNormRefIdeal.main_arg0)
          ∧ r.2.mem ((c.tc : Thread Cert.UpDxNormRefIdeal.nD Cert.UpDxNormRefIdeal.τ).loc Cert.UpDxNormRefIdeal.main_arg1) = m' ((c.tc : Thread Cert.UpDxNormRefIdeal.nD Cert.UpDxNormRefIdeal.τ).loc Cert.UpDxNormRefIdeal.main_arg1)
          ∧ r.2.mem ((c.tc : Thread Cert.UpDxNormRefIdeal.nD Cert.UpDxNormRefIdeal.τ).loc Cert.UpDxNormRefIdeal.main_arg2) = m' ((c.tc : Thread Cert.UpDxNormRefIdeal.nD Cert.UpDxNormRefIdeal.τ).loc Cert.UpDxNormRefIdeal.main_arg2)
          ∧ r.2.mem ((c.tc : Thread Cert.UpDxNormRefIdeal.nD Cert.UpDxNormRefIdeal.τ).loc Cert.UpDxNormRefIdeal.main_arg3) = m' ((c.tc : Thread Cert.UpDxNormRefIdeal.nD Cert.UpDxNormRefIdeal.τ).loc Cert.UpDxNormRefIdeal.main_arg3)
          ∧ r.2.mem ((c.tc : Thread Cert.UpDxNormRefIdeal.nD Cert.UpDxNormRefIdeal.τ).loc Cert.UpDxNormRefIdeal.main_arg4) = m' ((c.tc : Thread Cert.UpDxNormRefIdeal.nD Cert.UpDxNormRefIdeal.τ).loc Cert.UpDxNormRefIdeal.main_arg4)
          ∧ r.2.mem ((c.tc : Thread Cert.UpDxNormRefIdeal.nD Cert.UpDxNormRefIdeal.τ).loc Cert.UpDxNormRefIdeal.main_arg5) = m' ((c.tc : Thread Cert.UpDxNormRefIdeal.nD Cert.UpDxNormRefIdeal.τ).loc Cert.UpDxNormRefIdeal.main_arg5)
          ∧ r.2.mem ((c.tc : Thread Cert.UpDxNormRefIdeal.nD Cert.UpDxNormRefIdeal.τ).loc Cert.UpDxNormRefIdeal.main_arg6) = m' ((c.tc : Thread Cert.UpDxNormRefIdeal.nD Cert.UpDxNormRefIdeal.τ).loc Cert.UpDxNormRefIdeal.main_arg6)
          ∧ r.2.mem ((c.tc : Thread Cert.UpDxNormRefIdeal.nD Cert.UpDxNormRefIdeal.τ).loc Cert.UpDxNormRefIdeal.main_arg7) = m' ((c.tc : Thread Cert.UpDxNormRefIdeal.nD Cert.UpDxNormRefIdeal.τ).loc Cert.UpDxNormRefIdeal.main_arg7))

def preserves_BatDw_BatDwIdeal : Prop :=
  True

def algebraic_BatDwIdeal_BatDwRefIdeal [hBatDwIdeal : Cert.BatDwIdeal.Facts] [hBatDwRefIdeal : Cert.BatDwRefIdeal.Facts] : Prop :=
  ∀ (m : (ℓ : Loc Cert.BatDwIdeal.nD Cert.BatDwIdeal.τ Cert.BatDwIdeal.sig) → Buf (Elt Ideal) ℓ) (g : Dev Cert.BatDwIdeal.nD → PrngReg)
    (m' : (ℓ : Loc Cert.BatDwRefIdeal.nD Cert.BatDwRefIdeal.τ Cert.BatDwRefIdeal.sig) → Buf (Elt Ideal) ℓ) (g' : Dev Cert.BatDwRefIdeal.nD → PrngReg), Pre_BatDwIdeal m →
    (∀ c : Dev Cert.BatDwIdeal.nD,
      m' ((c.tc : Thread Cert.BatDwRefIdeal.nD Cert.BatDwRefIdeal.τ).loc Cert.BatDwRefIdeal.main_arg0) = m ((c.tc : Thread Cert.BatDwIdeal.nD Cert.BatDwIdeal.τ).loc Cert.BatDwIdeal.main_arg0)
      ∧ m' ((c.tc : Thread Cert.BatDwRefIdeal.nD Cert.BatDwRefIdeal.τ).loc Cert.BatDwRefIdeal.main_arg1) = m ((c.tc : Thread Cert.BatDwIdeal.nD Cert.BatDwIdeal.τ).loc Cert.BatDwIdeal.main_arg1)) →
    ∃ (v0 : (c : Dev Cert.BatDwIdeal.nD) → Buf (Elt Ideal) ((c.tc : Thread Cert.BatDwIdeal.nD Cert.BatDwIdeal.τ).loc Cert.BatDwIdeal.main_v0)),
      θ_run (Cert.BatDwIdeal.defs (F := Ideal)) (onTc (τ := Cert.BatDwIdeal.τ) (Cert.BatDwIdeal.main (F := Ideal))) ⟨m, fun _ => 0, g⟩ (fun r => ∀ c : Dev Cert.BatDwIdeal.nD,
          r.2.mem ((c.tc : Thread Cert.BatDwIdeal.nD Cert.BatDwIdeal.τ).loc Cert.BatDwIdeal.main_v0) = v0 c
          ∧ r.2.mem ((c.tc : Thread Cert.BatDwIdeal.nD Cert.BatDwIdeal.τ).loc Cert.BatDwIdeal.main_arg0) = m ((c.tc : Thread Cert.BatDwIdeal.nD Cert.BatDwIdeal.τ).loc Cert.BatDwIdeal.main_arg0)
          ∧ r.2.mem ((c.tc : Thread Cert.BatDwIdeal.nD Cert.BatDwIdeal.τ).loc Cert.BatDwIdeal.main_arg1) = m ((c.tc : Thread Cert.BatDwIdeal.nD Cert.BatDwIdeal.τ).loc Cert.BatDwIdeal.main_arg1))
      ∧ θ_run (Cert.BatDwRefIdeal.defs (F := Ideal)) (onTc (τ := Cert.BatDwRefIdeal.τ) (Cert.BatDwRefIdeal.main (F := Ideal))) ⟨m', fun _ => 0, g'⟩ (fun r => ∀ c : Dev Cert.BatDwRefIdeal.nD,
          r.2.mem ((c.tc : Thread Cert.BatDwRefIdeal.nD Cert.BatDwRefIdeal.τ).loc Cert.BatDwRefIdeal.main_v4) = v0 c
          ∧ r.2.mem ((c.tc : Thread Cert.BatDwRefIdeal.nD Cert.BatDwRefIdeal.τ).loc Cert.BatDwRefIdeal.main_arg0) = m' ((c.tc : Thread Cert.BatDwRefIdeal.nD Cert.BatDwRefIdeal.τ).loc Cert.BatDwRefIdeal.main_arg0)
          ∧ r.2.mem ((c.tc : Thread Cert.BatDwRefIdeal.nD Cert.BatDwRefIdeal.τ).loc Cert.BatDwRefIdeal.main_arg1) = m' ((c.tc : Thread Cert.BatDwRefIdeal.nD Cert.BatDwRefIdeal.τ).loc Cert.BatDwRefIdeal.main_arg1))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v22) = v0 c
          ∧ r.2.mem ((c.tc : Thread Cert.DownLossRefIdeal.nD Cert.DownLossRefIdeal.τ).loc Cert.DownLossRefIdeal.main_v28) = v1 c
          ∧ r.2.mem ((c.tc : Thread Cert.DownLossRefIdeal.nD Cert.DownLossRefIdeal.τ).loc Cert.DownLossRefIdeal.main_v27) = v2 c
          ∧ r.2.mem ((c.tc : Thread Cert.DownLossRefIdeal.nD Cert.DownLossRefIdeal.τ).loc Cert.DownLossRefIdeal.main_v29) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_BatMerge_BatMergeIdeal : Prop :=
  True

def algebraic_BatMergeIdeal_BatMergeRefIdeal [hBatMergeIdeal : Cert.BatMergeIdeal.Facts] [hBatMergeRefIdeal : Cert.BatMergeRefIdeal.Facts] : Prop :=
  ∀ (m : (ℓ : Loc Cert.BatMergeIdeal.nD Cert.BatMergeIdeal.τ Cert.BatMergeIdeal.sig) → Buf (Elt Ideal) ℓ) (g : Dev Cert.BatMergeIdeal.nD → PrngReg)
    (m' : (ℓ : Loc Cert.BatMergeRefIdeal.nD Cert.BatMergeRefIdeal.τ Cert.BatMergeRefIdeal.sig) → Buf (Elt Ideal) ℓ) (g' : Dev Cert.BatMergeRefIdeal.nD → PrngReg), Pre_BatMergeIdeal m →
    (∀ c : Dev Cert.BatMergeIdeal.nD,
      m' ((c.tc : Thread Cert.BatMergeRefIdeal.nD Cert.BatMergeRefIdeal.τ).loc Cert.BatMergeRefIdeal.main_arg0) = m ((c.tc : Thread Cert.BatMergeIdeal.nD Cert.BatMergeIdeal.τ).loc Cert.BatMergeIdeal.main_arg0)
      ∧ m' ((c.tc : Thread Cert.BatMergeRefIdeal.nD Cert.BatMergeRefIdeal.τ).loc Cert.BatMergeRefIdeal.main_arg1) = m ((c.tc : Thread Cert.BatMergeIdeal.nD Cert.BatMergeIdeal.τ).loc Cert.BatMergeIdeal.main_arg1)
      ∧ m' ((c.tc : Thread Cert.BatMergeRefIdeal.nD Cert.BatMergeRefIdeal.τ).loc Cert.BatMergeRefIdeal.main_arg2) = m ((c.tc : Thread Cert.BatMergeIdeal.nD Cert.BatMergeIdeal.τ).loc Cert.BatMergeIdeal.main_arg2)
      ∧ m' ((c.tc : Thread Cert.BatMergeRefIdeal.nD Cert.BatMergeRefIdeal.τ).loc Cert.BatMergeRefIdeal.main_arg3) = m ((c.tc : Thread Cert.BatMergeIdeal.nD Cert.BatMergeIdeal.τ).loc Cert.BatMergeIdeal.main_arg3)) →
    ∃ (v0 : (c : Dev Cert.BatMergeIdeal.nD) → Buf (Elt Ideal) ((c.tc : Thread Cert.BatMergeIdeal.nD Cert.BatMergeIdeal.τ).loc Cert.BatMergeIdeal.main_v0_0)) (v1 : (c : Dev Cert.BatMergeIdeal.nD) → Buf (Elt Ideal) ((c.tc : Thread Cert.BatMergeIdeal.nD Cert.BatMergeIdeal.τ).loc Cert.BatMergeIdeal.main_v0_1)),
      θ_run (Cert.BatMergeIdeal.defs (F := Ideal)) (onTc (τ := Cert.BatMergeIdeal.τ) (Cert.BatMergeIdeal.main (F := Ideal))) ⟨m, fun _ => 0, g⟩ (fun r => ∀ c : Dev Cert.BatMergeIdeal.nD,
          r.2.mem ((c.tc : Thread Cert.BatMergeIdeal.nD Cert.BatMergeIdeal.τ).loc Cert.BatMergeIdeal.main_v0_0) = v0 c
          ∧ r.2.mem ((c.tc : Thread Cert.BatMergeIdeal.nD Cert.BatMergeIdeal.τ).loc Cert.BatMergeIdeal.main_v0_1) = v1 c
          ∧ r.2.mem ((c.tc : Thread Cert.BatMergeIdeal.nD Cert.BatMergeIdeal.τ).loc Cert.BatMergeIdeal.main_arg0) = m ((c.tc : Thread Cert.BatMergeIdeal.nD Cert.BatMergeIdeal.τ).loc Cert.BatMergeIdeal.main_arg0)
          ∧ r.2.mem ((c.tc : Thread Cert.BatMergeIdeal.nD Cert.BatMergeIdeal.τ).loc Cert.BatMergeIdeal.main_arg1) = m ((c.tc : Thread Cert.BatMergeIdeal.nD Cert.BatMergeIdeal.τ).loc Cert.BatMergeIdeal.main_arg1)
          ∧ r.2.mem ((c.tc : Thread Cert.BatMergeIdeal.nD Cert.BatMergeIdeal.τ).loc Cert.BatMergeIdeal.main_arg2) = m ((c.tc : Thread Cert.BatMergeIdeal.nD Cert.BatMergeIdeal.τ).loc Cert.BatMergeIdeal.main_arg2)
          ∧ r.2.mem ((c.tc : Thread Cert.BatMergeIdeal.nD Cert.BatMergeIdeal.τ).loc Cert.BatMergeIdeal.main_arg3) = m ((c.tc : Thread Cert.BatMergeIdeal.nD Cert.BatMergeIdeal.τ).loc Cert.BatMergeIdeal.main_arg3))
      ∧ θ_run (Cert.BatMergeRefIdeal.defs (F := Ideal)) (onTc (τ := Cert.BatMergeRefIdeal.τ) (Cert.BatMergeRefIdeal.main (F := Ideal))) ⟨m', fun _ => 0, g'⟩ (fun r => ∀ c : Dev Cert.BatMergeRefIdeal.nD,
          r.2.mem ((c.tc : Thread Cert.BatMergeRefIdeal.nD Cert.BatMergeRefIdeal.τ).loc Cert.BatMergeRefIdeal.main_v1) = v0 c
          ∧ r.2.mem ((c.tc : Thread Cert.BatMergeRefIdeal.nD Cert.BatMergeRefIdeal.τ).loc Cert.BatMergeRefIdeal.main_v19) = v1 c
          ∧ r.2.mem ((c.tc : Thread Cert.BatMergeRefIdeal.nD Cert.BatMergeRefIdeal.τ).loc Cert.BatMergeRefIdeal.main_arg0) = m' ((c.tc : Thread Cert.BatMergeRefIdeal.nD Cert.BatMergeRefIdeal.τ).loc Cert.BatMergeRefIdeal.main_arg0)
          ∧ r.2.mem ((c.tc : Thread Cert.BatMergeRefIdeal.nD Cert.BatMergeRefIdeal.τ).loc Cert.BatMergeRefIdeal.main_arg1) = m' ((c.tc : Thread Cert.BatMergeRefIdeal.nD Cert.BatMergeRefIdeal.τ).loc Cert.BatMergeRefIdeal.main_arg1)
          ∧ r.2.mem ((c.tc : Thread Cert.BatMergeRefIdeal.nD Cert.BatMergeRefIdeal.τ).loc Cert.BatMergeRefIdeal.main_arg2) = m' ((c.tc : Thread Cert.BatMergeRefIdeal.nD Cert.BatMergeRefIdeal.τ).loc Cert.BatMergeRefIdeal.main_arg2)
          ∧ r.2.mem ((c.tc : Thread Cert.BatMergeRefIdeal.nD Cert.BatMergeRefIdeal.τ).loc Cert.BatMergeRefIdeal.main_arg3) = m' ((c.tc : Thread Cert.BatMergeRefIdeal.nD Cert.BatMergeRefIdeal.τ).loc Cert.BatMergeRefIdeal.main_arg3))

def Claim : Prop :=
  ∃ (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hSeqBwd : Cert.SeqBwd.Facts) (hSeqBwdIdeal : Cert.SeqBwdIdeal.Facts) (hSeqBwdRefIdeal : Cert.SeqBwdRefIdeal.Facts) (hInFwd : Cert.InFwd.Facts) (hInFwdIdeal : Cert.InFwdIdeal.Facts) (hInFwdRefIdeal : Cert.InFwdRefIdeal.Facts) (hUpFwd : Cert.UpFwd.Facts) (hUpFwdIdeal : Cert.UpFwdIdeal.Facts) (hUpFwdRefIdeal : Cert.UpFwdRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hSqDw : Cert.SqDw.Facts) (hSqDwIdeal : Cert.SqDwIdeal.Facts) (hSqDwRefIdeal : Cert.SqDwRefIdeal.Facts) (hUpDxNorm : Cert.UpDxNorm.Facts) (hUpDxNormIdeal : Cert.UpDxNormIdeal.Facts) (hUpDxNormRefIdeal : Cert.UpDxNormRefIdeal.Facts) (hBatDw : Cert.BatDw.Facts) (hBatDwIdeal : Cert.BatDwIdeal.Facts) (hBatDwRefIdeal : Cert.BatDwRefIdeal.Facts) (hDownLoss : Cert.DownLoss.Facts) (hDownLossIdeal : Cert.DownLossIdeal.Facts) (hDownLossRefIdeal : Cert.DownLossRefIdeal.Facts) (hBatMerge : Cert.BatMerge.Facts) (hBatMergeIdeal : Cert.BatMergeIdeal.Facts) (hBatMergeRefIdeal : Cert.BatMergeRefIdeal.Facts) (hPre_finite : Cert.Pre_finite.Facts),
    quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_SeqBwd (hSeqBwd := hSeqBwd)
    ∧ quiescent_SeqBwdIdeal (hSeqBwdIdeal := hSeqBwdIdeal)
    ∧ quiescent_SeqBwdIdeal_pre_finite (hSeqBwdIdeal := hSeqBwdIdeal) (hPre_finite := hPre_finite)
    ∧ quiescent_SeqBwdRefIdeal (hSeqBwdRefIdeal := hSeqBwdRefIdeal)
    ∧ quiescent_SeqBwdRefIdeal_pre_finite (hSeqBwdRefIdeal := hSeqBwdRefIdeal) (hPre_finite := hPre_finite)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_SqDw (hSqDw := hSqDw)
    ∧ quiescent_SqDwIdeal (hSqDwIdeal := hSqDwIdeal)
    ∧ quiescent_SqDwRefIdeal (hSqDwRefIdeal := hSqDwRefIdeal)
    ∧ quiescent_UpDxNorm (hUpDxNorm := hUpDxNorm)
    ∧ quiescent_UpDxNormIdeal (hUpDxNormIdeal := hUpDxNormIdeal)
    ∧ quiescent_UpDxNormRefIdeal (hUpDxNormRefIdeal := hUpDxNormRefIdeal)
    ∧ quiescent_BatDw (hBatDw := hBatDw)
    ∧ quiescent_BatDwIdeal (hBatDwIdeal := hBatDwIdeal)
    ∧ quiescent_BatDwRefIdeal (hBatDwRefIdeal := hBatDwRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_BatMerge (hBatMerge := hBatMerge)
    ∧ quiescent_BatMergeIdeal (hBatMergeIdeal := hBatMergeIdeal)
    ∧ quiescent_BatMergeRefIdeal (hBatMergeRefIdeal := hBatMergeRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_SeqBwd_SeqBwdIdeal
    ∧ algebraic_SeqBwdIdeal_SeqBwdRefIdeal_pre_finite (hSeqBwdIdeal := hSeqBwdIdeal) (hSeqBwdRefIdeal := hSeqBwdRefIdeal) (hPre_finite := hPre_finite)
    ∧ preserves_InFwd_InFwdIdeal
    ∧ algebraic_InFwdIdeal_InFwdRefIdeal (hInFwdIdeal := hInFwdIdeal) (hInFwdRefIdeal := hInFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_SqDw_SqDwIdeal
    ∧ algebraic_SqDwIdeal_SqDwRefIdeal (hSqDwIdeal := hSqDwIdeal) (hSqDwRefIdeal := hSqDwRefIdeal)
    ∧ preserves_UpDxNorm_UpDxNormIdeal
    ∧ algebraic_UpDxNormIdeal_UpDxNormRefIdeal (hUpDxNormIdeal := hUpDxNormIdeal) (hUpDxNormRefIdeal := hUpDxNormRefIdeal)
    ∧ preserves_BatDw_BatDwIdeal
    ∧ algebraic_BatDwIdeal_BatDwRefIdeal (hBatDwIdeal := hBatDwIdeal) (hBatDwRefIdeal := hBatDwRefIdeal)
    ∧ preserves_DownLoss_DownLossIdeal
    ∧ algebraic_DownLossIdeal_DownLossRefIdeal (hDownLossIdeal := hDownLossIdeal) (hDownLossRefIdeal := hDownLossRefIdeal)
    ∧ preserves_BatMerge_BatMergeIdeal
    ∧ algebraic_BatMergeIdeal_BatMergeRefIdeal (hBatMergeIdeal := hBatMergeIdeal) (hBatMergeRefIdeal := hBatMergeRefIdeal)
-- ==== Pre_finite.lean ====
abbrev S2x260x8x64x128 : Shape := ⟨5, ![2, 260, 8, 64, 128]⟩
abbrev S2x260x8x64x64 : Shape := ⟨5, ![2, 260, 8, 64, 64]⟩
abbrev S2x260x8x128x128 : Shape := ⟨5, ![2, 260, 8, 128, 128]⟩
abbrev S2x16640x128 : Shape := ⟨3, ![2, 16640, 128]⟩
abbrev S16384x1024 : Shape := ⟨2, ![16384, 1024]⟩
abbrev S_ : Shape := ⟨0, ![]⟩

class Facts : Prop where
  bitsLt_bf16_f32 : FTy.bits .bf16 < FTy.bits .f32
  bcast_S_S2x260x8x64x128 : S_.BroadcastsInDim S2x260x8x64x128 (![] : Fin 0 → Fin S2x260x8x64x128.rank)
  reducesTo_S2x260x8x64x128_S_d0_1_2_3_4 : S2x260x8x64x128.ReducesTo [0, 1, 2, 3, 4] S_
  h_S_ : 0 < S_.numel
  bcast_S_S2x260x8x64x64 : S_.BroadcastsInDim S2x260x8x64x64 (![] : Fin 0 → Fin S2x260x8x64x64.rank)
  reducesTo_S2x260x8x64x64_S_d0_1_2_3_4 : S2x260x8x64x64.ReducesTo [0, 1, 2, 3, 4] S_
  bcast_S_S2x260x8x128x128 : S_.BroadcastsInDim S2x260x8x128x128 (![] : Fin 0 → Fin S2x260x8x128x128.rank)
  reducesTo_S2x260x8x128x128_S_d0_1_2_3_4 : S2x260x8x128x128.ReducesTo [0, 1, 2, 3, 4] S_
  bcast_S_S2x16640x128 : S_.BroadcastsInDim S2x16640x128 (![] : Fin 0 → Fin S2x16640x128.rank)
  reducesTo_S2x16640x128_S_d0_1_2 : S2x16640x128.ReducesTo [0, 1, 2] S_
  bcast_S_S16384x1024 : S_.BroadcastsInDim S16384x1024 (![] : Fin 0 → Fin S16384x1024.rank)
  reducesTo_S16384x1024_S_d0_1 : S16384x1024.ReducesTo [0, 1] S_

variable [Facts]

def fn_part2 {F : FTy → Type} [FloatOps F] (main_v33 : IVec S_ 1) (main_v34 : FVec F S16384x1024 .f32) (main_cst_10 : FVec F S_ .f32) : IVec S_ 1 :=
  let main_v35 : FVec F S16384x1024 .f32 := broadcastInDim S16384x1024 ![] bcast_S_S16384x1024 main_cst_10
  let main_v36 : IVec S16384x1024 1 := cmpf .olt main_v34 main_v35
  let main_c_11 : IVec S_ 1 := constantI S_ 1 1#1
  let main_v37 : IVec S_ 1 := (fun x v => Host.reduce IntOp.andi x v reducesTo_S16384x1024_S_d0_1 h_S_) main_v36 main_c_11
  let main_v38 : IVec S_ 1 := andi main_v33 main_v37
  main_v38

def fn_part1 {F : FTy → Type} [FloatOps F] (main_arg5 : FVec F S2x260x8x128x128 .bf16) (main_arg6 : FVec F S2x16640x128 .f32) (main_arg7 : FVec F S16384x1024 .f32) (main_v16 : IVec S_ 1) (main_v17 : FVec F S2x260x8x64x64 .f32) : IVec S_ 1 :=
  let main_v18 : FVec F S2x260x8x64x64 .f32 := Host.absf main_v17
  let main_cst_4 : FVec F S_ .f32 := constant S_ .f32 0x7F800000#32
  let main_v19 : FVec F S2x260x8x64x64 .f32 := broadcastInDim S2x260x8x64x64 ![] bcast_S_S2x260x8x64x64 main_cst_4
  let main_v20 : IVec S2x260x8x64x64 1 := cmpf .olt main_v18 main_v19
  let main_c_5 : IVec S_ 1 := constantI S_ 1 1#1
  let main_v21 : IVec S_ 1 := (fun x v => Host.reduce IntOp.andi x v reducesTo_S2x260x8x64x64_S_d0_1_2_3_4 h_S_) main_v20 main_c_5
  let main_v22 : IVec S_ 1 := andi main_v16 main_v21
  let main_v23 : FVec F S2x260x8x128x128 .f32 := (extf .f32 · bitsLt_bf16_f32) main_arg5
  let main_v24 : FVec F S2x260x8x128x128 .f32 := Host.absf main_v23
  let main_cst_6 : FVec F S_ .f32 := constant S_ .f32 0x7F800000#32
  let main_v25 : FVec F S2x260x8x128x128 .f32 := broadcastInDim S2x260x8x128x128 ![] bcast_S_S2x260x8x128x128 main_cst_6
  let main_v26 : IVec S2x260x8x128x128 1 := cmpf .olt main_v24 main_v25
  let main_c_7 : IVec S_ 1 := constantI S_ 1 1#1
  let main_v27 : IVec S_ 1 := (fun x v => Host.reduce IntOp.andi x v reducesTo_S2x260x8x128x128_S_d0_1_2_3_4 h_S_) main_v26 main_c_7
  let main_v28 : IVec S_ 1 := andi main_v22 main_v27
  let main_v29 : FVec F S2x16640x128 .f32 := Host.absf main_arg6
  let main_cst_8 : FVec F S_ .f32 := constant S_ .f32 0x7F800000#32
  let main_v30 : FVec F S2x16640x128 .f32 := broadcastInDim S2x16640x128 ![] bcast_S_S2x16640x128 main_cst_8
  let main_v31 : IVec S2x16640x128 1 := cmpf .olt main_v29 main_v30
  let main_c_9 : IVec S_ 1 := constantI S_ 1 1#1
  let main_v32 : IVec S_ 1 := (fun x v => Host.reduce IntOp.andi x v reducesTo_S2x16640x128_S_d0_1_2 h_S_) main_v31 main_c_9
  let main_v33 : IVec S_ 1 := andi main_v28 main_v32
  let main_v34 : FVec F S16384x1024 .f32 := Host.absf main_arg7
  let main_cst_10 : FVec F S_ .f32 := constant S_ .f32 0x7F800000#32
  fn_part2 (F := F) main_v33 main_v34 main_cst_10

def fn {F : FTy → Type} [FloatOps F] (main_arg0 : FVec F S2x260x8x64x128 .bf16) (main_arg1 : FVec F S2x260x8x64x128 .bf16) (main_arg2 : FVec F S2x260x8x64x128 .bf16) (main_arg3 : FVec F S2x260x8x64x128 .bf16) (main_arg4 : FVec F S2x260x8x64x64 .bf16) (main_arg5 : FVec F S2x260x8x128x128 .bf16) (main_arg6 : FVec F S2x16640x128 .f32) (main_arg7 : FVec F S16384x1024 .f32) : IVec S_ 1 :=
  let main_v0 : FVec F S2x260x8x64x128 .f32 := (extf .f32 · bitsLt_bf16_f32) main_arg1
  let main_v1 : FVec F S2x260x8x64x128 .f32 := Host.absf main_v0
  let main_cst : FVec F S_ .f32 := constant S_ .f32 0x7F800000#32
  let main_v2 : FVec F S2x260x8x64x128 .f32 := broadcastInDim S2x260x8x64x128 ![] bcast_S_S2x260x8x64x128 main_cst
  let main_v3 : IVec S2x260x8x64x128 1 := cmpf .olt main_v1 main_v2
  let main_c : IVec S_ 1 := constantI S_ 1 1#1
  let main_v4 : IVec S_ 1 := (fun x v => Host.reduce IntOp.andi x v reducesTo_S2x260x8x64x128_S_d0_1_2_3_4 h_S_) main_v3 main_c
  let main_v5 : FVec F S2x260x8x64x128 .f32 := (extf .f32 · bitsLt_bf16_f32) main_arg2
  let main_v6 : FVec F S2x260x8x64x128 .f32 := Host.absf main_v5
  let main_cst_0 : FVec F S_ .f32 := constant S_ .f32 0x7F800000#32
  let main_v7 : FVec F S2x260x8x64x128 .f32 := broadcastInDim S2x260x8x64x128 ![] bcast_S_S2x260x8x64x128 main_cst_0
  let main_v8 : IVec S2x260x8x64x128 1 := cmpf .olt main_v6 main_v7
  let main_c_1 : IVec S_ 1 := constantI S_ 1 1#1
  let main_v9 : IVec S_ 1 := (fun x v => Host.reduce IntOp.andi x v reducesTo_S2x260x8x64x128_S_d0_1_2_3_4 h_S_) main_v8 main_c_1
  let main_v10 : IVec S_ 1 := andi main_v4 main_v9
  let main_v11 : FVec F S2x260x8x64x128 .f32 := (extf .f32 · bitsLt_bf16_f32) main_arg3
  let main_v12 : FVec F S2x260x8x64x128 .f32 := Host.absf main_v11
  let main_cst_2 : FVec F S_ .f32 := constant S_ .f32 0x7F800000#32
  let main_v13 : FVec F S2x260x8x64x128 .f32 := broadcastInDim S2x260x8x64x128 ![] bcast_S_S2x260x8x64x128 main_cst_2
  let main_v14 : IVec S2x260x8x64x128 1 := cmpf .olt main_v12 main_v13
  let main_c_3 : IVec S_ 1 := constantI S_ 1 1#1
  let main_v15 : IVec S_ 1 := (fun x v => Host.reduce IntOp.andi x v reducesTo_S2x260x8x64x128_S_d0_1_2_3_4 h_S_) main_v14 main_c_3
  let main_v16 : IVec S_ 1 := andi main_v10 main_v15
  let main_v17 : FVec F S2x260x8x64x64 .f32 := (extf .f32 · bitsLt_bf16_f32) main_arg4
  fn_part1 (F := F) main_arg5 main_arg6 main_arg7 main_v16 main_v17
-- ==== InDw.lean ====
abbrev S16640x1024 : Shape := ⟨2, ![16640, 1024]⟩
abbrev S16640x8192 : Shape := ⟨2, ![16640, 8192]⟩
abbrev S1024x8192 : Shape := ⟨2, ![1024, 8192]⟩
abbrev S1280x1024 : Shape := ⟨2, ![1280, 1024]⟩
abbrev S1280x2048 : Shape := ⟨2, ![1280, 2048]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S16640x1024, .bf16⟩
  | .hbm, ⟨1, _⟩ => ⟨S16640x8192, .bf16⟩
  | .hbm, ⟨2, _⟩ => ⟨S1024x8192, .f32⟩
  | .local _ .vmem, ⟨0, _⟩ => ⟨S1280x1024, .bf16⟩
  | .local _ .vmem, ⟨1, _⟩ => ⟨S1280x1024, .bf16⟩
  | .local _ .vmem, ⟨2, _⟩ => ⟨S1280x2048, .bf16⟩
  | .local _ .vmem, ⟨3, _⟩ => ⟨S1280x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 13], ![false, false, false]⟩

def k0_cond3 (i : grid0.Coords) : BitVec 1 :=
  let arg2 : BitVec 32 := BitVec.ofNat 32 (i 2).val
  let c12_i32 : BitVec 32 := 12#32
  let v9 : BitVec 1 := Scalar.cmpi .eq arg2 c12_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S16640x1024 : Shape := ⟨2, ![16640, 1024]⟩
abbrev S16640x8192 : Shape := ⟨2, ![16640, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S16640x8192, .bf16⟩
  | .hbm, ⟨2, _⟩ => ⟨S16640x1024, .f32⟩
  | .hbm, ⟨3, _⟩ => ⟨S16640x8192, .f32⟩
  | .hbm, ⟨4, _⟩ => ⟨S_, .f32⟩
  | .hbm, ⟨5, _⟩ => ⟨S1024x8192, .f32⟩
  | .hbm, ⟨6, _⟩ => ⟨S16640x8192, .f32⟩
  | .hbm, ⟨7, _⟩ => ⟨S8192x1024, .f32⟩
  | .hbm, ⟨8, _⟩ => ⟨S1024x8192, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InDx.lean ====
abbrev S16640x8192 : Shape := ⟨2, ![16640, 8192]⟩
abbrev S1024x8192 : Shape := ⟨2, ![1024, 8192]⟩
abbrev S16640x1024 : Shape := ⟨2, ![16640, 1024]⟩
abbrev S1280x2048 : Shape := ⟨2, ![1280, 2048]⟩
abbrev S1024x2048 : Shape := ⟨2, ![1024, 2048]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16640x8192, .bf16⟩
  | .hbm, ⟨1, _⟩ => ⟨S1024x8192, .bf16⟩
  | .hbm, ⟨2, _⟩ => ⟨S16640x1024, .f32⟩
  | .local _ .vmem, ⟨0, _⟩ => ⟨S1280x2048, .bf16⟩
  | .local _ .vmem, ⟨1, _⟩ => ⟨S1280x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S16640x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S16640x8192 : Shape := ⟨2, ![16640, 8192]⟩
abbrev S1024x8192 : Shape := ⟨2, ![1024, 8192]⟩
abbrev S_ : Shape := ⟨0, ![]⟩
abbrev S16640x1024 : Shape := ⟨2, ![16640, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16640x8192, .bf16⟩
  | .hbm, ⟨1, _⟩ => ⟨S1024x8192, .bf16⟩
  | .hbm, ⟨2, _⟩ => ⟨S16640x8192, .f32⟩
  | .hbm, ⟨3, _⟩ => ⟨S1024x8192, .f32⟩
  | .hbm, ⟨4, _⟩ => ⟨S_, .f32⟩
  | .hbm, ⟨5, _⟩ => ⟨S16640x1024, .f32⟩
  | .hbm, ⟨6, _⟩ => ⟨S16640x8192, .f32⟩
  | .hbm, ⟨7, _⟩ => ⟨S16640x1024, .f32⟩
  | _, _ => ⟨S16640x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SeqBwd.lean ====
abbrev S2x260x8x64x128 : Shape := ⟨5, ![2, 260, 8, 64, 128]⟩
abbrev S2x260x8x64x64 : Shape := ⟨5, ![2, 260, 8, 64, 64]⟩
abbrev S2x260x8x128x128 : Shape := ⟨5, ![2, 260, 8, 128, 128]⟩
abbrev S2x16640x128 : Shape := ⟨3, ![2, 16640, 128]⟩
abbrev S16384x1024 : Shape := ⟨2, ![16384, 1024]⟩
abbrev S2x260x8x1x128 : Shape := ⟨5, ![2, 260, 8, 1, 128]⟩
abbrev S1x4x8x64x128 : Shape := ⟨5, ![1, 4, 8, 64, 128]⟩
abbrev S1x4x8x64x64 : Shape := ⟨5, ![1, 4, 8, 64, 64]⟩
abbrev S1x4x8x128x128 : Shape := ⟨5, ![1, 4, 8, 128, 128]⟩
abbrev S1x256x128 : Shape := ⟨3, ![1, 256, 128]⟩
abbrev S256x1024 : Shape := ⟨2, ![256, 1024]⟩
abbrev S1x4x8x1x128 : Shape := ⟨5, ![1, 4, 8, 1, 128]⟩
abbrev S8x128x128 : Shape := ⟨3, ![8, 128, 128]⟩
abbrev S1x1x8x128x128 : Shape := ⟨5, ![1, 1, 8, 128, 128]⟩
abbrev S64x128 : Shape := ⟨2, ![64, 128]⟩
abbrev S1x64x128 : Shape := ⟨3, ![1, 64, 128]⟩
abbrev S8x64x128 : Shape := ⟨3, ![8, 64, 128]⟩
abbrev S1x1x8x64x64 : Shape := ⟨5, ![1, 1, 8, 64, 64]⟩
abbrev S8x64x64 : Shape := ⟨3, ![8, 64, 64]⟩
abbrev S1x1x8x64x128 : Shape := ⟨5, ![1, 1, 8, 64, 128]⟩
abbrev S128 : Shape := ⟨1, ![128]⟩
abbrev S1x128 : Shape := ⟨2, ![1, 128]⟩
abbrev S1x1 : Shape := ⟨2, ![1, 1]⟩
abbrev S1x1x1 : Shape := ⟨3, ![1, 1, 1]⟩
abbrev S8x1x1 : Shape := ⟨3, ![8, 1, 1]⟩
abbrev S8x128 : Shape := ⟨2, ![8, 128]⟩
abbrev S8x128x1 : Shape := ⟨3, ![8, 128, 1]⟩
abbrev S8x1 : Shape := ⟨2, ![8, 1]⟩
abbrev S8x1x128 : Shape := ⟨3, ![8, 1, 128]⟩
abbrev S1x1x8x1x128 : Shape := ⟨5, ![1, 1, 8, 1, 128]⟩

abbrev nBuf : Space → Nat
  | .hbm => 19
  | .vmem => 27
  | .smem => 0
  | _ => 0

abbrev bufTy : (tb : Table) → Fin (tcTables nBuf tb) → BufTy
  | .hbm, ⟨0, _⟩ => ⟨S2x260x8x64x128, .bf16⟩
  | .hbm, ⟨1, _⟩ => ⟨S2x260x8x64x128, .bf16⟩
  | .hbm, ⟨2, _⟩ => ⟨S2x260x8x64x128, .bf16⟩
  | .hbm, ⟨3, _⟩ => ⟨S2x260x8x64x128, .bf16⟩
  | .hbm, ⟨4, _⟩ => ⟨S2x260x8x64x64, .bf16⟩
  | .hbm, ⟨5, _⟩ => ⟨S2x260x8x128x128, .bf16⟩
  | .hbm, ⟨6, _⟩ => ⟨S2x16640x128, .f32⟩
  | .hbm, ⟨7, _⟩ => ⟨S16384x1024, .f32⟩
  | .hbm, ⟨8, _⟩ => ⟨S2x260x8x64x128, .f32⟩
  | .hbm, ⟨9, _⟩ => ⟨S2x260x8x64x128, .f32⟩
  | .hbm, ⟨10, _⟩ => ⟨S2x260x8x128x128, .f32⟩
  | .hbm, ⟨11, _⟩ => ⟨S2x260x8x64x128, .f32⟩
  | .hbm, ⟨12, _⟩ => ⟨S2x260x8x64x128, .f32⟩
  | .hbm, ⟨13, _⟩ => ⟨S2x260x8x64x128, .bf16⟩
  | .hbm, ⟨14, _⟩ => ⟨S2x260x8x64x128, .bf16⟩
  | .hbm, ⟨15, _⟩ => ⟨S2x260x8x64x128, .bf16⟩
  | .hbm, ⟨16, _⟩ => ⟨S2x260x8x64x128, .bf16⟩
  | .hbm, ⟨17, _⟩ => ⟨S2x260x8x64x128, .bf16⟩
  | .hbm, ⟨18, _⟩ => ⟨S2x260x8x1x128, .f32⟩
  | .local _ .vmem, ⟨0, _⟩ => ⟨S1x4x8x64x128, .bf16⟩
  | .local _ .vmem, ⟨1, _⟩ => ⟨S1x4x8x64x128, .bf16⟩
  | .local _ .vmem, ⟨2, _⟩ => ⟨S1x4x8x64x128, .bf16⟩
  | .local _ .vmem, ⟨3, _⟩ => ⟨S1x4x8x64x128, .bf16⟩
  | .local _ .vmem, ⟨4, _⟩ => ⟨S1x4x8x64x128, .bf16⟩
  | .local _ .vmem, ⟨5, _⟩ => ⟨S1x4x8x64x128, .bf16⟩
  | .local _ .vmem, ⟨6, _⟩ => ⟨S1x4x8x64x64, .bf16⟩
  | .local _ .vmem, ⟨7, _⟩ => ⟨S1x4x8x64x64, .bf16⟩
  | .local _ .vmem, ⟨8, _⟩ => ⟨S1x4x8x64x128, .bf16⟩
  | .local _ .vmem, ⟨9, _⟩ => ⟨S1x4x8x64x128, .bf16⟩
  | .local _ .vmem, ⟨10, _⟩ => ⟨S1x4x8x128x128, .bf16⟩
  | .local _ .vmem, ⟨11, _⟩ => ⟨S1x4x8x128x128, .bf16⟩
  | .local _ .vmem, ⟨12, _⟩ => ⟨S1x256x128, .f32⟩
  | .local _ .vmem, ⟨13, _⟩ => ⟨S1x256x128, .f32⟩
  | .local _ .vmem, ⟨14, _⟩ => ⟨S256x1024, .f32⟩
  | .local _ .vmem, ⟨15, _⟩ => ⟨S256x1024, .f32⟩
  | .local _ .vmem, ⟨16, _⟩ => ⟨S1x4x8x64x128, .bf16⟩
  | .local _ .vmem, ⟨17, _⟩ => ⟨S1x4x8x64x128, .bf16⟩
  | .local _ .vmem, ⟨18, _⟩ => ⟨S1x4x8x64x128, .bf16⟩
  | .local _ .vmem, ⟨19, _⟩ => ⟨S1x4x8x64x128, .bf16⟩
  | .local _ .vmem, ⟨20, _⟩ => ⟨S1x4x8x64x128, .bf16⟩
  | .local _ .vmem, ⟨21, _⟩ => ⟨S1x4x8x64x128, .bf16⟩
  | .local _ .vmem, ⟨22, _⟩ => ⟨S1x4x8x64x128, .bf16⟩
  | .local _ .vmem, ⟨23, _⟩ => ⟨S1x4x8x64x128, .bf16⟩
  | .local _ .vmem, ⟨24, _⟩ => ⟨S1x4x8x1x128, .f32⟩
  | .local _ .vmem, ⟨25, _⟩ => ⟨S1x4x8x1x128, .f32⟩
  | .local _ .vmem, ⟨26, _⟩ => ⟨S8x128x128, .f32⟩
  | _, _ => ⟨S2x260x8x64x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![2, 65], ![false, false]⟩

def k0_mult1 (i : grid0.Coords) : BitVec 32 :=
  let arg0 : BitVec 32 := BitVec.ofNat 32 (i 0).val
  let c1_i32 : BitVec 32 := 1#32
  let v3 : BitVec 1 := Scalar.cmpi .eq arg0 c1_i32
  let c0_i32_1 : BitVec 32 := 0#32
  let c3_i32 : BitVec 32 := 3#32
  let v4 : BitVec 32 := Scalar.select v3 c0_i32_1 c3_i32
  let c64_i32 : BitVec 32 := 64#32
  let v5 : BitVec 32 := Scalar.muli v4 c64_i32
  v5
def k0_off1 (i : grid0.Coords) (c0_i32_1 : BitVec 32) (c3_i32 : BitVec 32) : Fin 5 → Nat :=
  let c0_4 : Index := 0#32
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let v8 : Index := Scalar.indexCast v4
  let c0_5 : Index := 0#32
  let c0_6 : Index := 0#32
  let c0_7 : Index := 0#32
  ![0, v8.toNat, 0, 0, 0]
def k0_off1_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off2 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v11 : Index := Scalar.indexCast v6
  let c0_8 : Index := 0#32
  ![v11.toNat, 0]
def k0_off2_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off3 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v13 : Index := Scalar.indexCast v6
  let c128 : Index := 128#32
  ![v13.toNat, 128]
def k0_off3_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off4 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v15 : Index := Scalar.indexCast v6
  let c256 : Index := 256#32
  ![v15.toNat, 256]
def k0_off4_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off5 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v17 : Index := Scalar.indexCast v6
  let c384 : Index := 384#32
  ![v17.toNat, 384]
def k0_off5_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off6 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v19 : Index := Scalar.indexCast v6
  let c512 : Index := 512#32
  ![v19.toNat, 512]
def k0_off6_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off7 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v21 : Index := Scalar.indexCast v6
  let c640 : Index := 640#32
  ![v21.toNat, 640]
def k0_off7_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off8 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v23 : Index := Scalar.indexCast v6
  let c768 : Index := 768#32
  ![v23.toNat, 768]
def k0_off8_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off9 (i : grid0.Coords) (c0_i32_1 : BitVec 32) (c3_i32 : BitVec 32) : Fin 2 → Nat :=
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v25 : Index := Scalar.indexCast v6
  let c896 : Index := 896#32
  ![v25.toNat, 896]
def k0_off9_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off10 (i : grid0.Coords) (c0_i32_1 : BitVec 32) (c3_i32 : BitVec 32) : Fin 5 → Nat :=
  let c0_20 : Index := 0#32
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let v64 : Index := Scalar.indexCast v4
  let c0_21 : Index := 0#32
  let c0_22 : Index := 0#32
  let c0_23 : Index := 0#32
  ![0, v64.toNat, 0, 0, 0]
def k0_off10_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off11 (i : grid0.Coords) (c0_i32_1 : BitVec 32) (c3_i32 : BitVec 32) : Fin 5 → Nat :=
  let c0_25 : Index := 0#32
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let v69 : Index := Scalar.indexCast v4
  let c0_26 : Index := 0#32
  let c0_27 : Index := 0#32
  let c0_28 : Index := 0#32
  ![0, v69.toNat, 0, 0, 0]
def k0_off11_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off12 (i : grid0.Coords) (c0_i32_1 : BitVec 32) (c3_i32 : BitVec 32) : Fin 3 → Nat :=
  let c0_35 : Index := 0#32
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let c64_i32 : BitVec 32 := 64#32
  let v5 : BitVec 32 := Scalar.muli v4 c64_i32
  let v6 : BitVec 32 := v5
  let v80 : Index := Scalar.indexCast v6
  let c0_36 : Index := 0#32
  ![0, v80.toNat, 0]
def k0_off12_at (r : Fin 4) : BitVec 32 × BitVec 32 :=
  if r.val < 2 then
    if r.val < 1 then
      (0#32, 3#32)
    else
      (1#32, 2#32)
  else
    if r.val < 3 then
      (2#32, 1#32)
    else
      (3#32, 0#32)
def k0_off13 (i : grid0.Coords) (c0_i32_1 : BitVec 32) (c3_i32 : BitVec 32) : Fin 5 → Nat :=
  let c0_72 : Index := 0#32
  let arg0 : BitVec 32 := BitVec.ofNat 32 (i 0).val
  let c1_i32 : BitVec 32 := 1#32
  let v3 : BitVec 1 := Scalar.cmpi .eq arg0 c1_i32
  let v4 : BitVec 32 := Scalar.select v3 c0_i32_1 c3_i32
  let v154 : Index := Scalar.indexCast v4
  let c0_73 : Index := 0#32
  let c0_74 : Index := 0#32
  let c0_75 : Index := 0#32
  ![0, v154.toNat, 0, 0, 0]
def k0_off13_at (r : Fin 4) : BitVec 32 × BitVec 32 :=
  if r.val < 2 then
    if r.val < 1 then
      (0#32, 3#32)
    else
      (1#32, 2#32)
  else
    if r.val < 3 then
      (2#32, 1#32)
    else
      (3#32, 0#32)
def k0_mult2 (i : grid0.Coords) : BitVec 32 :=
  let arg0 : BitVec 32 := BitVec.ofNat 32 (i 0).val
  let c1_i32_76 : BitVec 32 := 1#32
  let v158 : BitVec 1 := Scalar.cmpi .eq arg0 c1_i32_76
  let c1_i32_77 : BitVec 32 := 1#32
  let c2_i32 : BitVec 32 := 2#32
  let v159 : BitVec 32 := Scalar.select v158 c1_i32_77 c2_i32
  let c64_i32_78 : BitVec 32 := 64#32
  let v160 : BitVec 32 := Scalar.muli v159 c64_i32_78
  v160
def k0_mult3 (i : grid0.Coords) : BitVec 32 :=
  let arg0 : BitVec 32 := BitVec.ofNat 32 (i 0).val
  let c1_i32_165 : BitVec 32 := 1#32
  let v313 : BitVec 1 := Scalar.cmpi .eq arg0 c1_i32_165
  let c2_i32_166 : BitVec 32 := 2#32
  let c1_i32_167 : BitVec 32 := 1#32
  let v314 : BitVec 32 := Scalar.select v313 c2_i32_166 c1_i32_167
  let c64_i32_168 : BitVec 32 := 64#32
  let v315 : BitVec 32 := Scalar.muli v314 c64_i32_168
  v315
def k0_mult4 (i : grid0.Coords) : BitVec 32 :=
  let arg0 : BitVec 32 := BitVec.ofNat 32 (i 0).val
  let c1_i32_255 : BitVec 32 := 1#32
  let v468 : BitVec 1 := Scalar.cmpi .eq arg0 c1_i32_255
  let c3_i32_256 : BitVec 32 := 3#32
  let c0_i32_257 : BitVec 32 := 0#32
  let v469 : BitVec 32 := Scalar.select v468 c3_i32_256 c0_i32_257
  let c64_i32_258 : BitVec 32 := 64#32
  let v470 : BitVec 32 := Scalar.muli v469 c64_i32_258
  v470
def cc0_transform_0 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_1 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_3 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_4 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_5 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  ![arg0.toNat, v24.toNat, c0_i32_7.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c1_i32_7 : BitVec 32 := 1#32
  let v25 : BitVec 32 := Scalar.subi v24 c1_i32_7
  let c0_i32_8 : BitVec 32 := 0#32
  let v26 : BitVec 32 := Scalar.maxsi v25 c0_i32_8
  let c0_i32_9 : BitVec 32 := 0#32
  let c0_i32_10 : BitVec 32 := 0#32
  ![v26.toNat, c0_i32_9.toNat]

def cc0_transform_8 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_9 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_10 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_11 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

def cc0_transform_12 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg1
  let c259_i32 : BitVec 32 := 259#32
  let v1 : BitVec 32 := Scalar.subi c259_i32 v0
  let c4_i32_0 : BitVec 32 := 4#32
  let v2 : BitVec 1 := Scalar.cmpi .slt v1 c4_i32_0
  let c3_i32 : BitVec 32 := 3#32
  let v3 : BitVec 32 := Scalar.subi c3_i32 v1
  let c263_i32 : BitVec 32 := 263#32
  let v4 : BitVec 32 := Scalar.subi c263_i32 v1
  let v5 : BitVec 32 := Scalar.select v2 v3 v4
  let c0_i32 : BitVec 32 := 0#32
  let v6 : BitVec 1 := Scalar.cmpi .eq arg0 c0_i32
  let v7 : BitVec 32 := Scalar.select v6 v1 v5
  let c4_i32_1 : BitVec 32 := 4#32
  let v8 : BitVec 32 := Scalar.divsi v7 c4_i32_1
  let c0_i32_2 : BitVec 32 := 0#32
  let v9 : BitVec 1 := Scalar.cmpi .sgt v7 c0_i32_2
  let v10 : BitVec 32 := Scalar.extui v9
  let c0_i32_3 : BitVec 32 := 0#32
  let v11 : BitVec 1 := Scalar.cmpi .slt v7 c0_i32_3
  let v12 : BitVec 32 := Scalar.extui v11
  let v13 : BitVec 32 := Scalar.subi v10 v12
  let c0_i32_4 : BitVec 32 := 0#32
  let v14 : BitVec 1 := Scalar.cmpi .sgt c4_i32_1 c0_i32_4
  let v15 : BitVec 32 := Scalar.extui v14
  let c0_i32_5 : BitVec 32 := 0#32
  let v16 : BitVec 1 := Scalar.cmpi .slt c4_i32_1 c0_i32_5
  let v17 : BitVec 32 := Scalar.extui v16
  let v18 : BitVec 32 := Scalar.subi v15 v17
  let v19 : BitVec 1 := Scalar.cmpi .ne v13 v18
  let v20 : BitVec 32 := Scalar.remsi v7 c4_i32_1
  let c0_i32_6 : BitVec 32 := 0#32
  let v21 : BitVec 1 := Scalar.cmpi .ne v20 c0_i32_6
  let v22 : BitVec 1 := Scalar.andi v19 v21
  let c1_i32 : BitVec 32 := 1#32
  let v23 : BitVec 32 := Scalar.subi v8 c1_i32
  let v24 : BitVec 32 := Scalar.select v22 v23 v8
  let c0_i32_7 : BitVec 32 := 0#32
  let c0_i32_8 : BitVec 32 := 0#32
  let c0_i32_9 : BitVec 32 := 0#32
  let c0_i32_10 : BitVec 32 := 0#32
  ![arg0.toNat, v24.toNat, c0_i32_7.toNat, c0_i32_8.toNat, c0_i32_9.toNat]

abbrev stage0_0 : Fin 2 → Memref sig .tc .vmem S1x4x8x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x8x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x8x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8x64x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x8x64x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x8x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x8x64x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x8x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x8x64x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x8x64x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x8x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== SeqBwdRefIdeal.lean ====
abbrev S2x260x8x64x128 : Shape := ⟨5, ![2, 260, 8, 64, 128]⟩
abbrev S2x260x8x64x64 : Shape := ⟨5, ![2, 260, 8, 64, 64]⟩
abbrev S2x260x8x128x128 : Shape := ⟨5, ![2, 260, 8, 128, 128]⟩
abbrev S2x16640x128 : Shape := ⟨3, ![2, 16640, 128]⟩
abbrev S16384x1024 : Shape := ⟨2, ![16384, 1024]⟩
abbrev S2x16640x8 : Shape := ⟨3, ![2, 16640, 8]⟩
abbrev S2x260x64x8 : Shape := ⟨4, ![2, 260, 64, 8]⟩
abbrev S_ : Shape := ⟨0, ![]⟩
abbrev S2x260x8 : Shape := ⟨3, ![2, 260, 8]⟩
abbrev S16640x1024 : Shape := ⟨2, ![16640, 1024]⟩
abbrev S260x64x8x128 : Shape := ⟨4, ![260, 64, 8, 128]⟩
abbrev S260x8x64x128 : Shape := ⟨4, ![260, 8, 64, 128]⟩
abbrev S2x8x128x128 : Shape := ⟨4, ![2, 8, 128, 128]⟩
abbrev S1x260x8x128x128 : Shape := ⟨5, ![1, 260, 8, 128, 128]⟩
abbrev S260x8x128x128 : Shape := ⟨4, ![260, 8, 128, 128]⟩
abbrev S1x4x8x128x128 : Shape := ⟨5, ![1, 4, 8, 128, 128]⟩
abbrev S4x8x128x128 : Shape := ⟨4, ![4, 8, 128, 128]⟩
abbrev S1x256x8x128x128 : Shape := ⟨5, ![1, 256, 8, 128, 128]⟩
abbrev S256x8x128x128 : Shape := ⟨4, ![256, 8, 128, 128]⟩
abbrev S260x1x8x128x128 : Shape := ⟨5, ![260, 1, 8, 128, 128]⟩
abbrev S260x2x8x128x128 : Shape := ⟨5, ![260, 2, 8, 128, 128]⟩
abbrev S1x260x8x64x128 : Shape := ⟨5, ![1, 260, 8, 64, 128]⟩
abbrev S1x4x8x64x128 : Shape := ⟨5, ![1, 4, 8, 64, 128]⟩
abbrev S4x8x64x128 : Shape := ⟨4, ![4, 8, 64, 128]⟩
abbrev S1x256x8x64x128 : Shape := ⟨5, ![1, 256, 8, 64, 128]⟩
abbrev S256x8x64x128 : Shape := ⟨4, ![256, 8, 64, 128]⟩
abbrev S260x1x8x64x128 : Shape := ⟨5, ![260, 1, 8, 64, 128]⟩
abbrev S260x2x8x64x128 : Shape := ⟨5, ![260, 2, 8, 64, 128]⟩
abbrev S1x260x8x64x64 : Shape := ⟨5, ![1, 260, 8, 64, 64]⟩
abbrev S260x8x64x64 : Shape := ⟨4, ![260, 8, 64, 64]⟩
abbrev S1x4x8x64x64 : Shape := ⟨5, ![1, 4, 8, 64, 64]⟩
abbrev S4x8x64x64 : Shape := ⟨4, ![4, 8, 64, 64]⟩
abbrev S1x256x8x64x64 : Shape := ⟨5, ![1, 256, 8, 64, 64]⟩
abbrev S256x8x64x64 : Shape := ⟨4, ![256, 8, 64, 64]⟩
abbrev S260x1x8x64x64 : Shape := ⟨5, ![260, 1, 8, 64, 64]⟩
abbrev S260x2x8x64x64 : Shape := ⟨5, ![260, 2, 8, 64, 64]⟩
abbrev S1x260x8 : Shape := ⟨3, ![1, 260, 8]⟩
abbrev S260x8 : Shape := ⟨2, ![260, 8]⟩
abbrev S1x4x8 : Shape := ⟨3, ![1, 4, 8]⟩
abbrev S4x8 : Shape := ⟨2, ![4, 8]⟩
abbrev S1x256x8 : Shape := ⟨3, ![1, 256, 8]⟩
abbrev S256x8 : Shape := ⟨2, ![256, 8]⟩
abbrev S260x1x8 : Shape := ⟨3, ![260, 1, 8]⟩
abbrev S260x2x8 : Shape := ⟨3, ![260, 2, 8]⟩
abbrev S1x2x8x128x128 : Shape := ⟨5, ![1, 2, 8, 128, 128]⟩
abbrev S1x2x8x64x128 : Shape := ⟨5, ![1, 2, 8, 64, 128]⟩
abbrev S2x8x64x128 : Shape := ⟨4, ![2, 8, 64, 128]⟩
abbrev S1x2x8x64x64 : Shape := ⟨5, ![1, 2, 8, 64, 64]⟩
abbrev S2x8x64x64 : Shape := ⟨4, ![2, 8, 64, 64]⟩
abbrev S1x2x8 : Shape := ⟨3, ![1, 2, 8]⟩
abbrev S2x8 : Shape := ⟨2, ![2, 8]⟩
abbrev S2x8x1x1 : Shape := ⟨4, ![2, 8, 1, 1]⟩
abbrev S2x8x128x64 : Shape := ⟨4, ![2, 8, 128, 64]⟩
abbrev S4x1x8x64x128 : Shape := ⟨5, ![4, 1, 8, 64, 128]⟩
abbrev S256x1x8x64x128 : Shape := ⟨5, ![256, 1, 8, 64, 128]⟩
abbrev S4x1x8 : Shape := ⟨3, ![4, 1, 8]⟩
abbrev S256x1x8 : Shape := ⟨3, ![256, 1, 8]⟩
abbrev S2x260x8x1x1 : Shape := ⟨5, ![2, 260, 8, 1, 1]⟩
abbrev S2x260x8x1x128 : Shape := ⟨5, ![2, 260, 8, 1, 128]⟩

abbrev nBuf : Space → Nat
  | .hbm => 334
  | .vmem => 0
  | .smem => 0
  | _ => 0

abbrev hbmTy0_0 (i : Nat) : BufTy := match i % 128 with
  | 0 => ⟨S2x260x8x64x128, .bf16⟩
  | 1 => ⟨S2x260x8x64x128, .bf16⟩
  | 2 => ⟨S2x260x8x64x128, .bf16⟩
  | 3 => ⟨S2x260x8x64x128, .bf16⟩
  | 4 => ⟨S2x260x8x64x64, .bf16⟩
  | 5 => ⟨S2x260x8x128x128, .bf16⟩
  | 6 => ⟨S2x16640x128, .f32⟩
  | 7 => ⟨S16384x1024, .f32⟩
  | 8 => ⟨S2x16640x8, .f32⟩
  | 9 => ⟨S2x260x64x8, .f32⟩
  | 10 => ⟨S_, .f32⟩
  | 11 => ⟨S2x260x8, .f32⟩
  | 12 => ⟨S2x260x8, .f32⟩
  | 13 => ⟨S_, .i32⟩
  | 14 => ⟨S_, .f32⟩
  | 15 => ⟨S16640x1024, .f32⟩
  | 16 => ⟨S260x64x8x128, .f32⟩
  | 17 => ⟨S260x8x64x128, .f32⟩
  | 18 => ⟨S_, .f32⟩
  | 19 => ⟨S2x8x128x128, .f32⟩
  | 20 => ⟨S2x260x8x128x128, .f32⟩
  | 21 => ⟨S1x260x8x128x128, .f32⟩
  | 22 => ⟨S260x8x128x128, .f32⟩
  | 23 => ⟨S1x4x8x128x128, .f32⟩
  | 24 => ⟨S4x8x128x128, .f32⟩
  | 25 => ⟨S4x8x128x128, .f32⟩
  | 26 => ⟨S1x256x8x128x128, .f32⟩
  | 27 => ⟨S256x8x128x128, .f32⟩
  | 28 => ⟨S256x8x128x128, .f32⟩
  | 29 => ⟨S260x8x128x128, .f32⟩
  | 30 => ⟨S260x1x8x128x128, .f32⟩
  | 31 => ⟨S260x1x8x128x128, .f32⟩
  | 32 => ⟨S260x2x8x128x128, .f32⟩
  | 33 => ⟨S1x260x8x64x128, .f32⟩
  | 34 => ⟨S1x260x8x64x128, .f32⟩
  | 35 => ⟨S2x260x8x64x128, .f32⟩
  | 36 => ⟨S1x260x8x64x128, .f32⟩
  | 37 => ⟨S260x8x64x128, .f32⟩
  | 38 => ⟨S1x4x8x64x128, .f32⟩
  | 39 => ⟨S4x8x64x128, .f32⟩
  | 40 => ⟨S4x8x64x128, .f32⟩
  | 41 => ⟨S1x256x8x64x128, .f32⟩
  | 42 => ⟨S256x8x64x128, .f32⟩
  | 43 => ⟨S256x8x64x128, .f32⟩
  | 44 => ⟨S260x8x64x128, .f32⟩
  | 45 => ⟨S260x1x8x64x128, .f32⟩
  | 46 => ⟨S260x1x8x64x128, .f32⟩
  | 47 => ⟨S260x2x8x64x128, .f32⟩
  | 48 => ⟨S2x260x8x64x128, .f32⟩
  | 49 => ⟨S1x260x8x64x128, .f32⟩
  | 50 => ⟨S260x8x64x128, .f32⟩
  | 51 => ⟨S1x4x8x64x128, .f32⟩
  | 52 => ⟨S4x8x64x128, .f32⟩
  | 53 => ⟨S4x8x64x128, .f32⟩
  | 54 => ⟨S1x256x8x64x128, .f32⟩
  | 55 => ⟨S256x8x64x128, .f32⟩
  | 56 => ⟨S256x8x64x128, .f32⟩
  | 57 => ⟨S260x8x64x128, .f32⟩
  | 58 => ⟨S260x1x8x64x128, .f32⟩
  | 59 => ⟨S260x1x8x64x128, .f32⟩
  | 60 => ⟨S260x2x8x64x128, .f32⟩
  | 61 => ⟨S2x260x8x64x128, .f32⟩
  | 62 => ⟨S1x260x8x64x128, .f32⟩
  | 63 => ⟨S260x8x64x128, .f32⟩
  | 64 => ⟨S1x4x8x64x128, .f32⟩
  | 65 => ⟨S4x8x64x128, .f32⟩
  | 66 => ⟨S4x8x64x128, .f32⟩
  | 67 => ⟨S1x256x8x64x128, .f32⟩
  | 68 => ⟨S256x8x64x128, .f32⟩
  | 69 => ⟨S256x8x64x128, .f32⟩
  | 70 => ⟨S260x8x64x128, .f32⟩
  | 71 => ⟨S260x1x8x64x128, .f32⟩
  | 72 => ⟨S260x1x8x64x128, .f32⟩
  | 73 => ⟨S260x2x8x64x128, .f32⟩
  | 74 => ⟨S2x260x8x64x128, .f32⟩
  | 75 => ⟨S1x260x8x64x128, .f32⟩
  | 76 => ⟨S260x8x64x128, .f32⟩
  | 77 => ⟨S1x4x8x64x128, .f32⟩
  | 78 => ⟨S4x8x64x128, .f32⟩
  | 79 => ⟨S4x8x64x128, .f32⟩
  | 80 => ⟨S1x256x8x64x128, .f32⟩
  | 81 => ⟨S256x8x64x128, .f32⟩
  | 82 => ⟨S256x8x64x128, .f32⟩
  | 83 => ⟨S260x8x64x128, .f32⟩
  | 84 => ⟨S260x1x8x64x128, .f32⟩
  | 85 => ⟨S260x1x8x64x128, .f32⟩
  | 86 => ⟨S260x2x8x64x128, .f32⟩
  | 87 => ⟨S2x260x8x64x128, .f32⟩
  | 88 => ⟨S1x260x8x64x128, .f32⟩
  | 89 => ⟨S260x8x64x128, .f32⟩
  | 90 => ⟨S1x4x8x64x128, .f32⟩
  | 91 => ⟨S4x8x64x128, .f32⟩
  | 92 => ⟨S4x8x64x128, .f32⟩
  | 93 => ⟨S1x256x8x64x128, .f32⟩
  | 94 => ⟨S256x8x64x128, .f32⟩
  | 95 => ⟨S256x8x64x128, .f32⟩
  | 96 => ⟨S260x8x64x128, .f32⟩
  | 97 => ⟨S260x1x8x64x128, .f32⟩
  | 98 => ⟨S260x1x8x64x128, .f32⟩
  | 99 => ⟨S260x2x8x64x128, .f32⟩
  | 100 => ⟨S2x260x8x64x64, .f32⟩
  | 101 => ⟨S1x260x8x64x64, .f32⟩
  | 102 => ⟨S260x8x64x64, .f32⟩
  | 103 => ⟨S1x4x8x64x64, .f32⟩
  | 104 => ⟨S4x8x64x64, .f32⟩
  | 105 => ⟨S4x8x64x64, .f32⟩
  | 106 => ⟨S1x256x8x64x64, .f32⟩
  | 107 => ⟨S256x8x64x64, .f32⟩
  | 108 => ⟨S256x8x64x64, .f32⟩
  | 109 => ⟨S260x8x64x64, .f32⟩
  | 110 => ⟨S260x1x8x64x64, .f32⟩
  | 111 => ⟨S260x1x8x64x64, .f32⟩
  | 112 => ⟨S260x2x8x64x64, .f32⟩
  | 113 => ⟨S1x260x8, .f32⟩
  | 114 => ⟨S260x8, .f32⟩
  | 115 => ⟨S1x4x8, .f32⟩
  | 116 => ⟨S4x8, .f32⟩
  | 117 => ⟨S4x8, .f32⟩
  | 118 => ⟨S1x256x8, .f32⟩
  | 119 => ⟨S256x8, .f32⟩
  | 120 => ⟨S256x8, .f32⟩
  | 121 => ⟨S260x8, .f32⟩
  | 122 => ⟨S260x1x8, .f32⟩
  | 123 => ⟨S260x1x8, .f32⟩
  | 124 => ⟨S260x2x8, .f32⟩
  | 125 => ⟨S_, .f32⟩
  | 126 => ⟨S260x2x8x64x128, .f32⟩
  | 127 => ⟨S_, .f32⟩
  | _ => ⟨S2x260x8x64x128, .bf16⟩

abbrev hbmTy0_1 (i : Nat) : BufTy := match i % 128 with
  | 0 => ⟨S260x2x8x64x128, .f32⟩
  | 1 => ⟨S_, .f32⟩
  | 2 => ⟨S260x2x8x64x128, .f32⟩
  | 3 => ⟨S_, .f32⟩
  | 4 => ⟨S260x2x8x64x128, .f32⟩
  | 5 => ⟨S_, .f32⟩
  | 6 => ⟨S260x2x8, .f32⟩
  | 7 => ⟨S_, .i32⟩
  | 8 => ⟨S260x2x8x128x128, .f32⟩
  | 9 => ⟨S260x2x8x64x128, .f32⟩
  | 10 => ⟨S260x2x8x64x128, .f32⟩
  | 11 => ⟨S260x2x8x64x128, .f32⟩
  | 12 => ⟨S260x2x8x64x128, .f32⟩
  | 13 => ⟨S260x2x8x64x128, .f32⟩
  | 14 => ⟨S260x2x8x64x64, .f32⟩
  | 15 => ⟨S260x2x8, .f32⟩
  | 16 => ⟨S_, .i32⟩
  | 17 => ⟨S2x8x128x128, .f32⟩
  | 18 => ⟨S260x2x8x64x128, .f32⟩
  | 19 => ⟨S260x2x8x64x128, .f32⟩
  | 20 => ⟨S260x2x8x64x128, .f32⟩
  | 21 => ⟨S260x2x8x64x128, .f32⟩
  | 22 => ⟨S260x2x8, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S1x2x8x128x128, .f32⟩
  | 34 => ⟨S2x8x128x128, .f32⟩
  | 35 => ⟨S_, .i32⟩
  | 36 => ⟨S_, .i32⟩
  | 37 => ⟨S_, .i32⟩
  | 38 => ⟨S_, .i32⟩
  | 39 => ⟨S1x2x8x64x128, .f32⟩
  | 40 => ⟨S2x8x64x128, .f32⟩
  | 41 => ⟨S_, .i32⟩
  | 42 => ⟨S_, .i32⟩
  | 43 => ⟨S_, .i32⟩
  | 44 => ⟨S_, .i32⟩
  | 45 => ⟨S1x2x8x64x128, .f32⟩
  | 46 => ⟨S2x8x64x128, .f32⟩
  | 47 => ⟨S_, .i32⟩
  | 48 => ⟨S_, .i32⟩
  | 49 => ⟨S_, .i32⟩
  | 50 => ⟨S_, .i32⟩
  | 51 => ⟨S1x2x8x64x128, .f32⟩
  | 52 => ⟨S2x8x64x128, .f32⟩
  | 53 => ⟨S_, .i32⟩
  | 54 => ⟨S_, .i32⟩
  | 55 => ⟨S_, .i32⟩
  | 56 => ⟨S_, .i32⟩
  | 57 => ⟨S1x2x8x64x128, .f32⟩
  | 58 => ⟨S2x8x64x128, .f32⟩
  | 59 => ⟨S_, .i32⟩
  | 60 => ⟨S_, .i32⟩
  | 61 => ⟨S_, .i32⟩
  | 62 => ⟨S_, .i32⟩
  | 63 => ⟨S1x2x8x64x128, .f32⟩
  | 64 => ⟨S2x8x64x128, .f32⟩
  | 65 => ⟨S_, .i32⟩
  | 66 => ⟨S_, .i32⟩
  | 67 => ⟨S_, .i32⟩
  | 68 => ⟨S_, .i32⟩
  | 69 => ⟨S1x2x8x64x64, .f32⟩
  | 70 => ⟨S2x8x64x64, .f32⟩
  | 71 => ⟨S_, .i32⟩
  | 72 => ⟨S_, .i32⟩
  | 73 => ⟨S1x2x8, .f32⟩
  | 74 => ⟨S2x8, .f32⟩
  | 75 => ⟨S2x8x64x128, .f32⟩
  | 76 => ⟨S2x8x64x128, .f32⟩
  | 77 => ⟨S2x8x64x128, .f32⟩
  | 78 => ⟨S2x8x64x128, .f32⟩
  | 79 => ⟨S2x8x64x128, .f32⟩
  | 80 => ⟨S2x8x1x1, .f32⟩
  | 81 => ⟨S2x8x128x128, .f32⟩
  | 82 => ⟨S2x8x128x128, .f32⟩
  | 83 => ⟨S2x8x128x128, .f32⟩
  | 84 => ⟨S2x8x128x128, .f32⟩
  | 85 => ⟨S2x8x128x64, .f32⟩
  | 86 => ⟨S2x8x64x128, .f32⟩
  | 87 => ⟨S2x8x128x64, .f32⟩
  | 88 => ⟨S2x8x64x128, .f32⟩
  | 89 => ⟨S2x8x128x128, .f32⟩
  | 90 => ⟨S_, .f32⟩
  | 91 => ⟨S2x8, .f32⟩
  | 92 => ⟨S2x8x1x1, .f32⟩
  | 93 => ⟨S2x8x128x128, .f32⟩
  | 94 => ⟨S2x8x128x128, .f32⟩
  | 95 => ⟨S_, .f32⟩
  | 96 => ⟨S2x8, .f32⟩
  | 97 => ⟨S2x8x128x64, .f32⟩
  | 98 => ⟨S2x8x64x128, .f32⟩
  | 99 => ⟨S2x8x64x128, .f32⟩
  | 100 => ⟨S2x8x64x64, .f32⟩
  | 101 => ⟨S2x8x128x128, .f32⟩
  | 102 => ⟨S2x8x128x128, .f32⟩
  | 103 => ⟨S2x8x128x128, .f32⟩
  | 104 => ⟨S2x8x64x128, .f32⟩
  | 105 => ⟨S2x8x64x128, .f32⟩
  | 106 => ⟨S2x8x128x128, .f32⟩
  | 107 => ⟨S2x8x128x128, .f32⟩
  | 108 => ⟨S2x8x128x128, .f32⟩
  | 109 => ⟨S2x8x64x128, .f32⟩
  | 110 => ⟨S1x2x8x64x128, .f32⟩
  | 111 => ⟨S_, .i32⟩
  | 112 => ⟨S_, .i32⟩
  | 113 => ⟨S_, .i32⟩
  | 114 => ⟨S_, .i32⟩
  | 115 => ⟨S260x2x8x64x128, .f32⟩
  | 116 => ⟨S1x2x8x64x128, .f32⟩
  | 117 => ⟨S_, .i32⟩
  | 118 => ⟨S_, .i32⟩
  | 119 => ⟨S_, .i32⟩
  | 120 => ⟨S_, .i32⟩
  | 121 => ⟨S260x2x8x64x128, .f32⟩
  | 122 => ⟨S1x2x8x64x128, .f32⟩
  | 123 => ⟨S_, .i32⟩
  | 124 => ⟨S_, .i32⟩
  | 125 => ⟨S_, .i32⟩
  | 126 => ⟨S_, .i32⟩
  | 127 => ⟨S260x2x8x64x128, .f32⟩
  | _ => ⟨S2x260x8x64x128, .bf16⟩

abbrev hbmTy0_2 (i : Nat) : BufTy := match i % 128 with
  | 0 => ⟨S1x2x8x64x128, .f32⟩
  | 1 => ⟨S_, .i32⟩
  | 2 => ⟨S_, .i32⟩
  | 3 => ⟨S_, .i32⟩
  | 4 => ⟨S_, .i32⟩
  | 5 => ⟨S260x2x8x64x128, .f32⟩
  | 6 => ⟨S1x2x8, .f32⟩
  | 7 => ⟨S_, .i32⟩
  | 8 => ⟨S_, .i32⟩
  | 9 => ⟨S260x2x8, .f32⟩
  | 10 => ⟨S_, .i32⟩
  | 11 => ⟨S_, .i32⟩
  | 12 => ⟨S260x1x8x64x128, .f32⟩
  | 13 => ⟨S260x8x64x128, .f32⟩
  | 14 => ⟨S4x1x8x64x128, .f32⟩
  | 15 => ⟨S4x8x64x128, .f32⟩
  | 16 => ⟨S4x8x64x128, .f32⟩
  | 17 => ⟨S256x1x8x64x128, .f32⟩
  | 18 => ⟨S256x8x64x128, .f32⟩
  | 19 => ⟨S256x8x64x128, .f32⟩
  | 20 => ⟨S260x8x64x128, .f32⟩
  | 21 => ⟨S1x260x8x64x128, .f32⟩
  | 22 => ⟨S1x260x8x64x128, .f32⟩
  | 23 => ⟨S2x260x8x64x128, .f32⟩
  | 24 => ⟨S2x260x8x64x128, .bf16⟩
  | 25 => ⟨S260x1x8x64x128, .f32⟩
  | 26 => ⟨S260x8x64x128, .f32⟩
  | 27 => ⟨S4x1x8x64x128, .f32⟩
  | 28 => ⟨S4x8x64x128, .f32⟩
  | 29 => ⟨S4x8x64x128, .f32⟩
  | 30 => ⟨S256x1x8x64x128, .f32⟩
  | 31 => ⟨S256x8x64x128, .f32⟩
  | 32 => ⟨S256x8x64x128, .f32⟩
  | 33 => ⟨S260x8x64x128, .f32⟩
  | 34 => ⟨S1x260x8x64x128, .f32⟩
  | 35 => ⟨S1x260x8x64x128, .f32⟩
  | 36 => ⟨S2x260x8x64x128, .f32⟩
  | 37 => ⟨S2x260x8x64x128, .bf16⟩
  | 38 => ⟨S260x1x8x64x128, .f32⟩
  | 39 => ⟨S260x8x64x128, .f32⟩
  | 40 => ⟨S4x1x8x64x128, .f32⟩
  | 41 => ⟨S4x8x64x128, .f32⟩
  | 42 => ⟨S4x8x64x128, .f32⟩
  | 43 => ⟨S256x1x8x64x128, .f32⟩
  | 44 => ⟨S256x8x64x128, .f32⟩
  | 45 => ⟨S256x8x64x128, .f32⟩
  | 46 => ⟨S260x8x64x128, .f32⟩
  | 47 => ⟨S1x260x8x64x128, .f32⟩
  | 48 => ⟨S1x260x8x64x128, .f32⟩
  | 49 => ⟨S2x260x8x64x128, .f32⟩
  | 50 => ⟨S2x260x8x64x128, .bf16⟩
  | 51 => ⟨S260x1x8x64x128, .f32⟩
  | 52 => ⟨S260x8x64x128, .f32⟩
  | 53 => ⟨S4x1x8x64x128, .f32⟩
  | 54 => ⟨S4x8x64x128, .f32⟩
  | 55 => ⟨S4x8x64x128, .f32⟩
  | 56 => ⟨S256x1x8x64x128, .f32⟩
  | 57 => ⟨S256x8x64x128, .f32⟩
  | 58 => ⟨S256x8x64x128, .f32⟩
  | 59 => ⟨S260x8x64x128, .f32⟩
  | 60 => ⟨S1x260x8x64x128, .f32⟩
  | 61 => ⟨S1x260x8x64x128, .f32⟩
  | 62 => ⟨S2x260x8x64x128, .f32⟩
  | 63 => ⟨S2x260x8x64x128, .bf16⟩
  | 64 => ⟨S260x1x8, .f32⟩
  | 65 => ⟨S260x8, .f32⟩
  | 66 => ⟨S4x1x8, .f32⟩
  | 67 => ⟨S4x8, .f32⟩
  | 68 => ⟨S4x8, .f32⟩
  | 69 => ⟨S256x1x8, .f32⟩
  | 70 => ⟨S256x8, .f32⟩
  | 71 => ⟨S256x8, .f32⟩
  | 72 => ⟨S260x8, .f32⟩
  | 73 => ⟨S1x260x8, .f32⟩
  | 74 => ⟨S1x260x8, .f32⟩
  | 75 => ⟨S2x260x8, .f32⟩
  | 76 => ⟨S2x260x8x1x1, .f32⟩
  | 77 => ⟨S2x260x8x1x128, .f32⟩
  | _ => ⟨S2x260x8x64x128, .bf16⟩

abbrev hbmTy (i : Nat) : BufTy := match i / 128 with
  | 0 => hbmTy0_0 i
  | 1 => hbmTy0_1 i
  | 2 => hbmTy0_2 i
  | _ => ⟨S2x260x8x64x128, .bf16⟩

abbrev bufTy : (tb : Table) → Fin (tcTables nBuf tb) → BufTy
  | .hbm, ⟨i, _⟩ => hbmTy i
  | _, _ => ⟨S2x260x8x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_cst_1 : Ref sig .tc := ⟨.hbm, 125, rfl⟩
abbrev main_v113 : Ref sig .tc := ⟨.hbm, 126, rfl⟩
abbrev main_cst_2 : Ref sig .tc := ⟨.hbm, 127, rfl⟩
abbrev main_v114 : Ref sig .tc := ⟨.hbm, 128, rfl⟩
abbrev main_cst_3 : Ref sig .tc := ⟨.hbm, 129, rfl⟩
abbrev main_v115 : Ref sig .tc := ⟨.hbm, 130, rfl⟩
abbrev main_cst_4 : Ref sig .tc := ⟨.hbm, 131, rfl⟩
abbrev main_v116 : Ref sig .tc := ⟨.hbm, 132, rfl⟩
abbrev main_cst_5 : Ref sig .tc := ⟨.hbm, 133, rfl⟩
abbrev main_v117 : Ref sig .tc := ⟨.hbm, 134, rfl⟩
abbrev main_c_6 : Ref sig .tc := ⟨.hbm, 135, rfl⟩
abbrev main_v118_0 : Ref sig .tc := ⟨.hbm, 136, rfl⟩
abbrev main_v118_1 : Ref sig .tc := ⟨.hbm, 137, rfl⟩
abbrev main_v118_2 : Ref sig .tc := ⟨.hbm, 138, rfl⟩
abbrev main_v118_3 : Ref sig .tc := ⟨.hbm, 139, rfl⟩
abbrev main_v118_4 : Ref sig .tc := ⟨.hbm, 140, rfl⟩
abbrev main_v118_5 : Ref sig .tc := ⟨.hbm, 141, rfl⟩
abbrev main_v118_6 : Ref sig .tc := ⟨.hbm, 142, rfl⟩
abbrev main_v118_7 : Ref sig .tc := ⟨.hbm, 143, rfl⟩
abbrev main_v118_8 : Ref sig .tc := ⟨.hbm, 144, rfl⟩
abbrev main_v118_9 : Ref sig .tc := ⟨.hbm, 145, rfl⟩
abbrev main_v118_10 : Ref sig .tc := ⟨.hbm, 146, rfl⟩
abbrev main_v118_11 : Ref sig .tc := ⟨.hbm, 147, rfl⟩
abbrev main_v118_12 : Ref sig .tc := ⟨.hbm, 148, rfl⟩
abbrev main_v118_13 : Ref sig .tc := ⟨.hbm, 149, rfl⟩
abbrev main_v118_14 : Ref sig .tc := ⟨.hbm, 150, rfl⟩
abbrev main_while0c_c_21 : Ref sig .tc := ⟨.hbm, 151, rfl⟩
abbrev main_while0c_v185 : Ref sig .tc := ⟨.hbm, 152, rfl⟩
abbrev main_while0b_c_21 : Ref sig .tc := ⟨.hbm, 153, rfl⟩
abbrev main_while0b_v185 : Ref sig .tc := ⟨.hbm, 154, rfl⟩
abbrev main_while0b_c_22 : Ref sig .tc := ⟨.hbm, 155, rfl⟩
abbrev main_while0b_v186 : Ref sig .tc := ⟨.hbm, 156, rfl⟩
abbrev main_while0b_call17_c : Ref sig .tc := ⟨.hbm, 157, rfl⟩
abbrev main_while0b_call17_c_0 : Ref sig .tc := ⟨.hbm, 158, rfl⟩
abbrev main_while0b_call17_c_1 : Ref sig .tc := ⟨.hbm, 159, rfl⟩
abbrev main_while0b_call17_c_2 : Ref sig .tc := ⟨.hbm, 160, rfl⟩
abbrev main_while0b_call17_v0 : Ref sig .tc := ⟨.hbm, 161, rfl⟩
abbrev main_while0b_v187 : Ref sig .tc := ⟨.hbm, 162, rfl⟩
abbrev main_while0b_call18_c : Ref sig .tc := ⟨.hbm, 163, rfl⟩
abbrev main_while0b_call18_c_0 : Ref sig .tc := ⟨.hbm, 164, rfl⟩
abbrev main_while0b_call18_c_1 : Ref sig .tc := ⟨.hbm, 165, rfl⟩
abbrev main_while0b_call18_c_2 : Ref sig .tc := ⟨.hbm, 166, rfl⟩
abbrev main_while0b_call18_v0 : Ref sig .tc := ⟨.hbm, 167, rfl⟩
abbrev main_while0b_v188 : Ref sig .tc := ⟨.hbm, 168, rfl⟩
abbrev main_while0b_call19_c : Ref sig .tc := ⟨.hbm, 169, rfl⟩
abbrev main_while0b_call19_c_0 : Ref sig .tc := ⟨.hbm, 170, rfl⟩
abbrev main_while0b_call19_c_1 : Ref sig .tc := ⟨.hbm, 171, rfl⟩
abbrev main_while0b_call19_c_2 : Ref sig .tc := ⟨.hbm, 172, rfl⟩
abbrev main_while0b_call19_v0 : Ref sig .tc := ⟨.hbm, 173, rfl⟩
abbrev main_while0b_v189 : Ref sig .tc := ⟨.hbm, 174, rfl⟩
abbrev main_while0b_call20_c : Ref sig .tc := ⟨.hbm, 175, rfl⟩
abbrev main_while0b_call20_c_0 : Ref sig .tc := ⟨.hbm, 176, rfl⟩
abbrev main_while0b_call20_c_1 : Ref sig .tc := ⟨.hbm, 177, rfl⟩
abbrev main_while0b_call20_c_2 : Ref sig .tc := ⟨.hbm, 178, rfl⟩
abbrev main_while0b_call20_v0 : Ref sig .tc := ⟨.hbm, 179, rfl⟩
abbrev main_while0b_v190 : Ref sig .tc := ⟨.hbm, 180, rfl⟩
abbrev main_while0b_call21_c : Ref sig .tc := ⟨.hbm, 181, rfl⟩
abbrev main_while0b_call21_c_0 : Ref sig .tc := ⟨.hbm, 182, rfl⟩
abbrev main_while0b_call21_c_1 : Ref sig .tc := ⟨.hbm, 183, rfl⟩
abbrev main_while0b_call21_c_2 : Ref sig .tc := ⟨.hbm, 184, rfl⟩
abbrev main_while0b_call21_v0 : Ref sig .tc := ⟨.hbm, 185, rfl⟩
abbrev main_while0b_v191 : Ref sig .tc := ⟨.hbm, 186, rfl⟩
abbrev main_while0b_call22_c : Ref sig .tc := ⟨.hbm, 187, rfl⟩
abbrev main_while0b_call22_c_0 : Ref sig .tc := ⟨.hbm, 188, rfl⟩
abbrev main_while0b_call22_c_1 : Ref sig .tc := ⟨.hbm, 189, rfl⟩
abbrev main_while0b_call22_c_2 : Ref sig .tc := ⟨.hbm, 190, rfl⟩
abbrev main_while0b_call22_v0 : Ref sig .tc := ⟨.hbm, 191, rfl⟩
abbrev main_while0b_v192 : Ref sig .tc := ⟨.hbm, 192, rfl⟩
abbrev main_while0b_call23_c : Ref sig .tc := ⟨.hbm, 193, rfl⟩
abbrev main_while0b_call23_c_0 : Ref sig .tc := ⟨.hbm, 194, rfl⟩
abbrev main_while0b_call23_c_1 : Ref sig .tc := ⟨.hbm, 195, rfl⟩
abbrev main_while0b_call23_c_2 : Ref sig .tc := ⟨.hbm, 196, rfl⟩
abbrev main_while0b_call23_v0 : Ref sig .tc := ⟨.hbm, 197, rfl⟩
abbrev main_while0b_v193 : Ref sig .tc := ⟨.hbm, 198, rfl⟩
abbrev main_while0b_call24_c : Ref sig .tc := ⟨.hbm, 199, rfl⟩
abbrev main_while0b_call24_c_0 : Ref sig .tc := ⟨.hbm, 200, rfl⟩
abbrev main_while0b_call24_v0 : Ref sig .tc := ⟨.hbm, 201, rfl⟩
abbrev main_while0b_v194 : Ref sig .tc := ⟨.hbm, 202, rfl⟩
abbrev main_while0b_v195 : Ref sig .tc := ⟨.hbm, 203, rfl⟩
abbrev main_while0b_v196 : Ref sig .tc := ⟨.hbm, 204, rfl⟩
abbrev main_while0b_v197 : Ref sig .tc := ⟨.hbm, 205, rfl⟩
abbrev main_while0b_v198 : Ref sig .tc := ⟨.hbm, 206, rfl⟩
abbrev main_while0b_v199 : Ref sig .tc := ⟨.hbm, 207, rfl⟩
abbrev main_while0b_v200 : Ref sig .tc := ⟨.hbm, 208, rfl⟩
abbrev main_while0b_v201 : Ref sig .tc := ⟨.hbm, 209, rfl⟩
abbrev main_while0b_v202 : Ref sig .tc := ⟨.hbm, 210, rfl⟩
abbrev main_while0b_v203 : Ref sig .tc := ⟨.hbm, 211, rfl⟩
abbrev main_while0b_v204 : Ref sig .tc := ⟨.hbm, 212, rfl⟩
abbrev main_while0b_v205 : Ref sig .tc := ⟨.hbm, 213, rfl⟩
abbrev main_while0b_v206 : Ref sig .tc := ⟨.hbm, 214, rfl⟩
abbrev main_while0b_v207 : Ref sig .tc := ⟨.hbm, 215, rfl⟩
abbrev main_while0b_v208 : Ref sig .tc := ⟨.hbm, 216, rfl⟩
abbrev main_while0b_v209 : Ref sig .tc := ⟨.hbm, 217, rfl⟩
abbrev main_while0b_cst_23 : Ref sig .tc := ⟨.hbm, 218, rfl⟩
abbrev main_while0b_v210 : Ref sig .tc := ⟨.hbm, 219, rfl⟩
abbrev main_while0b_v211 : Ref sig .tc := ⟨.hbm, 220, rfl⟩
abbrev main_while0b_v212 : Ref sig .tc := ⟨.hbm, 221, rfl⟩
abbrev main_while0b_v213 : Ref sig .tc := ⟨.hbm, 222, rfl⟩
abbrev main_while0b_cst_24 : Ref sig .tc := ⟨.hbm, 223, rfl⟩
abbrev main_while0b_v214 : Ref sig .tc := ⟨.hbm, 224, rfl⟩
abbrev main_while0b_v215 : Ref sig .tc := ⟨.hbm, 225, rfl⟩
abbrev main_while0b_v216 : Ref sig .tc := ⟨.hbm, 226, rfl⟩
abbrev main_while0b_v217 : Ref sig .tc := ⟨.hbm, 227, rfl⟩
abbrev main_while0b_v218 : Ref sig .tc := ⟨.hbm, 228, rfl⟩
abbrev main_while0b_v219 : Ref sig .tc := ⟨.hbm, 229, rfl⟩
abbrev main_while0b_v220 : Ref sig .tc := ⟨.hbm, 230, rfl⟩
abbrev main_while0b_v221 : Ref sig .tc := ⟨.hbm, 231, rfl⟩
abbrev main_while0b_v222 : Ref sig .tc := ⟨.hbm, 232, rfl⟩
abbrev main_while0b_v223 : Ref sig .tc := ⟨.hbm, 233, rfl⟩
abbrev main_while0b_v224 : Ref sig .tc := ⟨.hbm, 234, rfl⟩
abbrev main_while0b_v225 : Ref sig .tc := ⟨.hbm, 235, rfl⟩
abbrev main_while0b_v226 : Ref sig .tc := ⟨.hbm, 236, rfl⟩
abbrev main_while0b_v227 : Ref sig .tc := ⟨.hbm, 237, rfl⟩
abbrev main_while0b_call25_v0 : Ref sig .tc := ⟨.hbm, 238, rfl⟩
abbrev main_while0b_call25_c : Ref sig .tc := ⟨.hbm, 239, rfl⟩
abbrev main_while0b_call25_c_0 : Ref sig .tc := ⟨.hbm, 240, rfl⟩
abbrev main_while0b_call25_c_1 : Ref sig .tc := ⟨.hbm, 241, rfl⟩
abbrev main_while0b_call25_c_2 : Ref sig .tc := ⟨.hbm, 242, rfl⟩
abbrev main_while0b_v228 : Ref sig .tc := ⟨.hbm, 243, rfl⟩
abbrev main_while0b_call26_v0 : Ref sig .tc := ⟨.hbm, 244, rfl⟩
abbrev main_while0b_call26_c : Ref sig .tc := ⟨.hbm, 245, rfl⟩
abbrev main_while0b_call26_c_0 : Ref sig .tc := ⟨.hbm, 246, rfl⟩
abbrev main_while0b_call26_c_1 : Ref sig .tc := ⟨.hbm, 247, rfl⟩
abbrev main_while0b_call26_c_2 : Ref sig .tc := ⟨.hbm, 248, rfl⟩
abbrev main_while0b_v229 : Ref sig .tc := ⟨.hbm, 249, rfl⟩
abbrev main_while0b_call27_v0 : Ref sig .tc := ⟨.hbm, 250, rfl⟩
abbrev main_while0b_call27_c : Ref sig .tc := ⟨.hbm, 251, rfl⟩
abbrev main_while0b_call27_c_0 : Ref sig .tc := ⟨.hbm, 252, rfl⟩
abbrev main_while0b_call27_c_1 : Ref sig .tc := ⟨.hbm, 253, rfl⟩
abbrev main_while0b_call27_c_2 : Ref sig .tc := ⟨.hbm, 254, rfl⟩
abbrev main_while0b_v230 : Ref sig .tc := ⟨.hbm, 255, rfl⟩
abbrev main_while0b_call28_v0 : Ref sig .tc := ⟨.hbm, 256, rfl⟩
abbrev main_while0b_call28_c : Ref sig .tc := ⟨.hbm, 257, rfl⟩
abbrev main_while0b_call28_c_0 : Ref sig .tc := ⟨.hbm, 258, rfl⟩
abbrev main_while0b_call28_c_1 : Ref sig .tc := ⟨.hbm, 259, rfl⟩
abbrev main_while0b_call28_c_2 : Ref sig .tc := ⟨.hbm, 260, rfl⟩
abbrev main_while0b_v231 : Ref sig .tc := ⟨.hbm, 261, rfl⟩
abbrev main_while0b_call29_v0 : Ref sig .tc := ⟨.hbm, 262, rfl⟩
abbrev main_while0b_call29_c : Ref sig .tc := ⟨.hbm, 263, rfl⟩
abbrev main_while0b_call29_c_0 : Ref sig .tc := ⟨.hbm, 264, rfl⟩
abbrev main_while0b_v232 : Ref sig .tc := ⟨.hbm, 265, rfl⟩
abbrev main_while0b_c_25 : Ref sig .tc := ⟨.hbm, 266, rfl⟩
abbrev main_while0b_v233 : Ref sig .tc := ⟨.hbm, 267, rfl⟩
abbrev main_v119 : Ref sig .tc := ⟨.hbm, 268, rfl⟩
abbrev main_v120 : Ref sig .tc := ⟨.hbm, 269, rfl⟩
abbrev main_v121 : Ref sig .tc := ⟨.hbm, 270, rfl⟩
abbrev main_v122 : Ref sig .tc := ⟨.hbm, 271, rfl⟩
abbrev main_v123 : Ref sig .tc := ⟨.hbm, 272, rfl⟩
abbrev main_v124 : Ref sig .tc := ⟨.hbm, 273, rfl⟩
abbrev main_v125 : Ref sig .tc := ⟨.hbm, 274, rfl⟩
abbrev main_v126 : Ref sig .tc := ⟨.hbm, 275, rfl⟩
abbrev main_v127 : Ref sig .tc := ⟨.hbm, 276, rfl⟩
abbrev main_v128 : Ref sig .tc := ⟨.hbm, 277, rfl⟩
abbrev main_v129 : Ref sig .tc := ⟨.hbm, 278, rfl⟩
abbrev main_v130 : Ref sig .tc := ⟨.hbm, 279, rfl⟩
abbrev main_v131 : Ref sig .tc := ⟨.hbm, 280, rfl⟩
abbrev main_v132 : Ref sig .tc := ⟨.hbm, 281, rfl⟩
abbrev main_v133 : Ref sig .tc := ⟨.hbm, 282, rfl⟩
abbrev main_v134 : Ref sig .tc := ⟨.hbm, 283, rfl⟩
abbrev main_v135 : Ref sig .tc := ⟨.hbm, 284, rfl⟩
abbrev main_v136 : Ref sig .tc := ⟨.hbm, 285, rfl⟩
abbrev main_v137 : Ref sig .tc := ⟨.hbm, 286, rfl⟩
abbrev main_v138 : Ref sig .tc := ⟨.hbm, 287, rfl⟩
abbrev main_v139 : Ref sig .tc := ⟨.hbm, 288, rfl⟩
abbrev main_v140 : Ref sig .tc := ⟨.hbm, 289, rfl⟩
abbrev main_v141 : Ref sig .tc := ⟨.hbm, 290, rfl⟩
abbrev main_v142 : Ref sig .tc := ⟨.hbm, 291, rfl⟩
abbrev main_v143 : Ref sig .tc := ⟨.hbm, 292, rfl⟩
abbrev main_v144 : Ref sig .tc := ⟨.hbm, 293, rfl⟩
abbrev main_v145 : Ref sig .tc := ⟨.hbm, 294, rfl⟩
abbrev main_v146 : Ref sig .tc := ⟨.hbm, 295, rfl⟩
abbrev main_v147 : Ref sig .tc := ⟨.hbm, 296, rfl⟩
abbrev main_v148 : Ref sig .tc := ⟨.hbm, 297, rfl⟩
abbrev main_v149 : Ref sig .tc := ⟨.hbm, 298, rfl⟩
abbrev main_v150 : Ref sig .tc := ⟨.hbm, 299, rfl⟩
abbrev main_v151 : Ref sig .tc := ⟨.hbm, 300, rfl⟩
abbrev main_v152 : Ref sig .tc := ⟨.hbm, 301, rfl⟩
abbrev main_v153 : Ref sig .tc := ⟨.hbm, 302, rfl⟩
abbrev main_v154 : Ref sig .tc := ⟨.hbm, 303, rfl⟩
abbrev main_v155 : Ref sig .tc := ⟨.hbm, 304, rfl⟩
abbrev main_v156 : Ref sig .tc := ⟨.hbm, 305, rfl⟩
abbrev main_v157 : Ref sig .tc := ⟨.hbm, 306, rfl⟩
abbrev main_v158 : Ref sig .tc := ⟨.hbm, 307, rfl⟩
abbrev main_v159 : Ref sig .tc := ⟨.hbm, 308, rfl⟩
abbrev main_v160 : Ref sig .tc := ⟨.hbm, 309, rfl⟩
abbrev main_v161 : Ref sig .tc := ⟨.hbm, 310, rfl⟩
abbrev main_v162 : Ref sig .tc := ⟨.hbm, 311, rfl⟩
abbrev main_v163 : Ref sig .tc := ⟨.hbm, 312, rfl⟩
abbrev main_v164 : Ref sig .tc := ⟨.hbm, 313, rfl⟩
abbrev main_v165 : Ref sig .tc := ⟨.hbm, 314, rfl⟩
abbrev main_v166 : Ref sig .tc := ⟨.hbm, 315, rfl⟩
abbrev main_v167 : Ref sig .tc := ⟨.hbm, 316, rfl⟩
abbrev main_v168 : Ref sig .tc := ⟨.hbm, 317, rfl⟩
abbrev main_v169 : Ref sig .tc := ⟨.hbm, 318, rfl⟩
abbrev main_v170 : Ref sig .tc := ⟨.hbm, 319, rfl⟩
abbrev main_v171 : Ref sig .tc := ⟨.hbm, 320, rfl⟩
abbrev main_v172 : Ref sig .tc := ⟨.hbm, 321, rfl⟩
abbrev main_v173 : Ref sig .tc := ⟨.hbm, 322, rfl⟩
abbrev main_v174 : Ref sig .tc := ⟨.hbm, 323, rfl⟩
abbrev main_v175 : Ref sig .tc := ⟨.hbm, 324, rfl⟩
abbrev main_v176 : Ref sig .tc := ⟨.hbm, 325, rfl⟩
abbrev main_v177 : Ref sig .tc := ⟨.hbm, 326, rfl⟩
abbrev main_v178 : Ref sig .tc := ⟨.hbm, 327, rfl⟩
abbrev main_v179 : Ref sig .tc := ⟨.hbm, 328, rfl⟩
abbrev main_v180 : Ref sig .tc := ⟨.hbm, 329, rfl⟩
abbrev main_v181 : Ref sig .tc := ⟨.hbm, 330, rfl⟩
abbrev main_v182 : Ref sig .tc := ⟨.hbm, 331, rfl⟩
abbrev main_v183 : Ref sig .tc := ⟨.hbm, 332, rfl⟩
abbrev main_v184 : Ref sig .tc := ⟨.hbm, 333, rfl⟩

abbrev nD : Nat := 1
abbrev τ : Topo := Topo.v7x

variable {F : FTy → Type} [FloatOps F]

abbrev main_while0_count : Scf.Loop 32 := ⟨0#32, 260#32, 1#32⟩
-- ==== InFwd.lean ====
abbrev S16640x1024 : Shape := ⟨2, ![16640, 1024]⟩
abbrev S1024x8192 : Shape := ⟨2, ![1024, 8192]⟩
abbrev S16640x8192 : Shape := ⟨2, ![16640, 8192]⟩
abbrev S1280x1024 : Shape := ⟨2, ![1280, 1024]⟩
abbrev S1024x2048 : Shape := ⟨2, ![1024, 2048]⟩
abbrev S1280x2048 : Shape := ⟨2, ![1280, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16640x1024, .bf16⟩
  | .hbm, ⟨1, _⟩ => ⟨S1024x8192, .bf16⟩
  | .hbm, ⟨2, _⟩ => ⟨S16640x8192, .f32⟩
  | .local _ .vmem, ⟨0, _⟩ => ⟨S1280x1024, .bf16⟩
  | .local _ .vmem, ⟨1, _⟩ => ⟨S1280x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1280x2048, .f32⟩
  | .local _ .vmem, ⟨5, _⟩ => ⟨S1280x2048, .f32⟩
  | _, _ => ⟨S16640x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S16640x1024 : Shape := ⟨2, ![16640, 1024]⟩
abbrev S1024x8192 : Shape := ⟨2, ![1024, 8192]⟩
abbrev S16640x8192 : Shape := ⟨2, ![16640, 8192]⟩

abbrev nBuf : Space → Nat
  | .hbm => 5
  | .vmem => 0
  | .smem => 0
  | _ => 0

abbrev bufTy : (tb : Table) → Fin (tcTables nBuf tb) → BufTy
  | .hbm, ⟨0, _⟩ => ⟨S16640x1024, .bf16⟩
  | .hbm, ⟨1, _⟩ => ⟨S1024x8192, .bf16⟩
  | .hbm, ⟨2, _⟩ => ⟨S16640x1024, .f32⟩
  | .hbm, ⟨3, _⟩ => ⟨S1024x8192, .f32⟩
  | .hbm, ⟨4, _⟩ => ⟨S16640x8192, .f32⟩
  | _, _ => ⟨S16640x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpFwd.lean ====
abbrev S16384x1024 : Shape := ⟨2, ![16384, 1024]⟩
abbrev S1024x5632 : Shape := ⟨2, ![1024, 5632]⟩
abbrev S16384x5632 : Shape := ⟨2, ![16384, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x5632, .f32⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .f32⟩
  | .local _ .vmem, ⟨5, _⟩ => ⟨S2048x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpFwdRefIdeal.lean ====
abbrev S16384x1024 : Shape := ⟨2, ![16384, 1024]⟩
abbrev S1024x5632 : Shape := ⟨2, ![1024, 5632]⟩
abbrev S16384x5632 : Shape := ⟨2, ![16384, 5632]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x5632, .bf16⟩
  | .hbm, ⟨2, _⟩ => ⟨S16384x1024, .f32⟩
  | .hbm, ⟨3, _⟩ => ⟨S1024x5632, .f32⟩
  | .hbm, ⟨4, _⟩ => ⟨S16384x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDw.lean ====
abbrev S16384x1024 : Shape := ⟨2, ![16384, 1024]⟩
abbrev S2x16384x2816 : Shape := ⟨3, ![2, 16384, 2816]⟩
abbrev S1024x5632 : Shape := ⟨2, ![1024, 5632]⟩
abbrev S2048x1024 : Shape := ⟨2, ![2048, 1024]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S2x16384x2816, .bf16⟩
  | .hbm, ⟨2, _⟩ => ⟨S1024x5632, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S16384x1024 : Shape := ⟨2, ![16384, 1024]⟩
abbrev S2x16384x2816 : Shape := ⟨3, ![2, 16384, 2816]⟩
abbrev S1x16384x2816 : Shape := ⟨3, ![1, 16384, 2816]⟩
abbrev S16384x2816 : Shape := ⟨2, ![16384, 2816]⟩
abbrev S16384x5632 : Shape := ⟨2, ![16384, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x16384x2816, .bf16⟩
  | .hbm, ⟨2, _⟩ => ⟨S1x16384x2816, .bf16⟩
  | .hbm, ⟨3, _⟩ => ⟨S16384x2816, .bf16⟩
  | .hbm, ⟨4, _⟩ => ⟨S1x16384x2816, .bf16⟩
  | .hbm, ⟨5, _⟩ => ⟨S16384x2816, .bf16⟩
  | .hbm, ⟨6, _⟩ => ⟨S16384x5632, .bf16⟩
  | .hbm, ⟨7, _⟩ => ⟨S16384x1024, .f32⟩
  | .hbm, ⟨8, _⟩ => ⟨S16384x5632, .f32⟩
  | .hbm, ⟨9, _⟩ => ⟨S_, .f32⟩
  | .hbm, ⟨10, _⟩ => ⟨S1024x5632, .f32⟩
  | .hbm, ⟨11, _⟩ => ⟨S16384x5632, .f32⟩
  | .hbm, ⟨12, _⟩ => ⟨S5632x1024, .f32⟩
  | .hbm, ⟨13, _⟩ => ⟨S1024x5632, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== DownDx.lean ====
abbrev S16384x1024 : Shape := ⟨2, ![16384, 1024]⟩
abbrev S2816x1024 : Shape := ⟨2, ![2816, 1024]⟩
abbrev S16384x2816 : Shape := ⟨2, ![16384, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x2816, .f32⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .f32⟩
  | .local _ .vmem, ⟨4, _⟩ => ⟨S1024x2816, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S16384x1024 : Shape := ⟨2, ![16384, 1024]⟩
abbrev S2816x1024 : Shape := ⟨2, ![2816, 1024]⟩
abbrev S_ : Shape := ⟨0, ![]⟩
abbrev S16384x2816 : Shape := ⟨2, ![16384, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2816x1024, .bf16⟩
  | .hbm, ⟨2, _⟩ => ⟨S16384x1024, .f32⟩
  | .hbm, ⟨3, _⟩ => ⟨S2816x1024, .f32⟩
  | .hbm, ⟨4, _⟩ => ⟨S_, .f32⟩
  | .hbm, ⟨5, _⟩ => ⟨S16384x2816, .f32⟩
  | .hbm, ⟨6, _⟩ => ⟨S16384x1024, .f32⟩
  | .hbm, ⟨7, _⟩ => ⟨S16384x2816, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S16384x2816 : Shape := ⟨2, ![16384, 2816]⟩
abbrev S16384x1024 : Shape := ⟨2, ![16384, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S16384x2816 : Shape := ⟨2, ![16384, 2816]⟩
abbrev S16384x1024 : Shape := ⟨2, ![16384, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S16384x1024, .bf16⟩
  | .hbm, ⟨2, _⟩ => ⟨S16384x2816, .f32⟩
  | .hbm, ⟨3, _⟩ => ⟨S16384x1024, .f32⟩
  | .hbm, ⟨4, _⟩ => ⟨S_, .f32⟩
  | .hbm, ⟨5, _⟩ => ⟨S2816x1024, .f32⟩
  | .hbm, ⟨6, _⟩ => ⟨S16384x1024, .f32⟩
  | .hbm, ⟨7, _⟩ => ⟨S1024x2816, .f32⟩
  | .hbm, ⟨8, _⟩ => ⟨S2816x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SqDw.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== SqDwRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S1024x1024, .f32⟩
  | .hbm, ⟨6, _⟩ => ⟨S16384x1024, .f32⟩
  | .hbm, ⟨7, _⟩ => ⟨S1024x1024, .f32⟩
  | .hbm, ⟨8, _⟩ => ⟨S1024x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpDxNorm.lean ====
abbrev S2x16384x2816 : Shape := ⟨3, ![2, 16384, 2816]⟩
abbrev S1024x5632 : Shape := ⟨2, ![1024, 5632]⟩
abbrev S16384x1024 : Shape := ⟨2, ![16384, 1024]⟩
abbrev S1x1024 : Shape := ⟨2, ![1, 1024]⟩
abbrev S2x1024 : Shape := ⟨2, ![2, 1024]⟩
abbrev S1x512x2816 : Shape := ⟨3, ![1, 512, 2816]⟩
abbrev S1024x2816 : Shape := ⟨2, ![1024, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S2x16384x2816, .bf16⟩
  | .hbm, ⟨1, _⟩ => ⟨S1024x5632, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S16384x1024, .f32⟩
  | .hbm, ⟨9, _⟩ => ⟨S16384x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .local _ .vmem, ⟨0, _⟩ => ⟨S1x512x2816, .bf16⟩
  | .local _ .vmem, ⟨1, _⟩ => ⟨S1x512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S2x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S512x1024, .f32⟩
  | _, _ => ⟨S2x16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨2, ![32, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c0_i32_36 : BitVec 32 := 0#32
  let v66 : BitVec 1 := Scalar.cmpi .eq arg0 c0_i32_36
  let v67 : BitVec 32 := Scalar.extui v66
  let c0_i32_37 : BitVec 32 := 0#32
  let v68 : BitVec 1 := Scalar.cmpi .ne v67 c0_i32_37
  v68

def k0_cond5 (i : grid0.Coords) : BitVec 1 :=
  let arg0 : BitVec 32 := BitVec.ofNat 32 (i 0).val
  let c0_i32_38 : BitVec 32 := 0#32
  let v69 : BitVec 1 := Scalar.cmpi .sgt arg0 c0_i32_38
  let v70 : BitVec 32 := Scalar.extui v69
  let c0_i32_39 : BitVec 32 := 0#32
  let v71 : BitVec 1 := Scalar.cmpi .ne v70 c0_i32_39
  v71

def k0_cond6 (i : grid0.Coords) : BitVec 1 :=
  let arg0 : BitVec 32 := BitVec.ofNat 32 (i 0).val
  let c0_i32_40 : BitVec 32 := 0#32
  let v72 : BitVec 1 := Scalar.cmpi .eq arg0 c0_i32_40
  let v73 : BitVec 32 := Scalar.extui v72
  let c0_i32_41 : BitVec 32 := 0#32
  let v74 : BitVec 1 := Scalar.cmpi .ne v73 c0_i32_41
  v74

def k0_cond7 (i : grid0.Coords) : BitVec 1 :=
  let arg0 : BitVec 32 := BitVec.ofNat 32 (i 0).val
  let c0_i32_42 : BitVec 32 := 0#32
  let v75 : BitVec 1 := Scalar.cmpi .sgt arg0 c0_i32_42
  let v76 : BitVec 32 := Scalar.extui v75
  let c0_i32_43 : BitVec 32 := 0#32
  let v77 : BitVec 1 := Scalar.cmpi .ne v76 c0_i32_43
  v77

def k0_cond8 (i : grid0.Coords) : BitVec 1 :=
  let arg0 : BitVec 32 := BitVec.ofNat 32 (i 0).val
  let c0_i32_44 : BitVec 32 := 0#32
  let v78 : BitVec 1 := Scalar.cmpi .eq arg0 c0_i32_44
  let v79 : BitVec 32 := Scalar.extui v78
  let c0_i32_45 : BitVec 32 := 0#32
  let v80 : BitVec 1 := Scalar.cmpi .ne v79 c0_i32_45
  v80

def k0_cond9 (i : grid0.Coords) : BitVec 1 :=
  let arg0 : BitVec 32 := BitVec.ofNat 32 (i 0).val
  let c0_i32_46 : BitVec 32 := 0#32
  let v81 : BitVec 1 := Scalar.cmpi .sgt arg0 c0_i32_46
  let v82 : BitVec 32 := Scalar.extui v81
  let c0_i32_47 : BitVec 32 := 0#32
  let v83 : BitVec 1 := Scalar.cmpi .ne v82 c0_i32_47
  v83

def k0_cond10 (i : grid0.Coords) : BitVec 1 :=
  let arg0 : BitVec 32 := BitVec.ofNat 32 (i 0).val
  let c0_i32_48 : BitVec 32 := 0#32
  let v84 : BitVec 1 := Scalar.cmpi .eq arg0 c0_i32_48
  let v85 : BitVec 32 := Scalar.extui v84
  let c0_i32_49 : BitVec 32 := 0#32
  let v86 : BitVec 1 := Scalar.cmpi .ne v85 c0_i32_49
  v86

def k0_cond11 (i : grid0.Coords) : BitVec 1 :=
  let arg0 : BitVec 32 := BitVec.ofNat 32 (i 0).val
  let c0_i32_50 : BitVec 32 := 0#32
  let v87 : BitVec 1 := Scalar.cmpi .sgt arg0 c0_i32_50
  let v88 : BitVec 32 := Scalar.extui v87
  let c0_i32_51 : BitVec 32 := 0#32
  let v89 : BitVec 1 := Scalar.cmpi .ne v88 c0_i32_51
  v89

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== UpDxNormRefIdeal.lean ====
abbrev S2x16384x2816 : Shape := ⟨3, ![2, 16384, 2816]⟩
abbrev S1024x5632 : Shape := ⟨2, ![1024, 5632]⟩
abbrev S16384x1024 : Shape := ⟨2, ![16384, 1024]⟩
abbrev S1x1024 : Shape := ⟨2, ![1, 1024]⟩
abbrev S2x1024 : Shape := ⟨2, ![2, 1024]⟩
abbrev S1x16384x2816 : Shape := ⟨3, ![1, 16384, 2816]⟩
abbrev S16384x2816 : Shape := ⟨2, ![16384, 2816]⟩
abbrev S16384x5632 : Shape := ⟨2, ![16384, 5632]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 87
  | .vmem => 0
  | .smem => 0
  | _ => 0

abbrev bufTy : (tb : Table) → Fin (tcTables nBuf tb) → BufTy
  | .hbm, ⟨0, _⟩ => ⟨S2x16384x2816, .bf16⟩
  | .hbm, ⟨1, _⟩ => ⟨S1024x5632, .bf16⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1x1024, .f32⟩
  | .hbm, ⟨6, _⟩ => ⟨S1x1024, .f32⟩
  | .hbm, ⟨7, _⟩ => ⟨S2x1024, .f32⟩
  | .hbm, ⟨8, _⟩ => ⟨S1x16384x2816, .bf16⟩
  | .hbm, ⟨9, _⟩ => ⟨S16384x2816, .bf16⟩
  | .hbm, ⟨10, _⟩ => ⟨S1x16384x2816, .bf16⟩
  | .hbm, ⟨11, _⟩ => ⟨S16384x2816, .bf16⟩
  | .hbm, ⟨12, _⟩ => ⟨S16384x5632, .bf16⟩
  | .hbm, ⟨13, _⟩ => ⟨S16384x5632, .f32⟩
  | .hbm, ⟨14, _⟩ => ⟨S1x1024, .f32⟩
  | .hbm, ⟨15, _⟩ => ⟨S1x1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1024x5632, .f32⟩
  | .hbm, ⟨43, _⟩ => ⟨S16384x5632, .f32⟩
  | .hbm, ⟨44, _⟩ => ⟨S16384x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S16384x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1, .f32⟩
  | .hbm, ⟨68, _⟩ => ⟨S_, .f32⟩
  | .hbm, ⟨69, _⟩ => ⟨S16384x1, .f32⟩
  | .hbm, ⟨70, _⟩ => ⟨S16384x1, .f32⟩
  | .hbm, ⟨71, _⟩ => ⟨S_, .f32⟩
  | .hbm, ⟨72, _⟩ => ⟨S16384, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S16384x1024, .bf16⟩
  | _, _ => ⟨S2x16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩

abbrev nD : Nat := 1
abbrev τ : Topo := Topo.v7x

variable {F : FTy → Type} [FloatOps F]
-- ==== BatDw.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BatDwRefIdeal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .f32⟩
  | .hbm, ⟨3, _⟩ => ⟨S_, .f32⟩
  | .hbm, ⟨4, _⟩ => ⟨S1024x1024, .f32⟩
  | .hbm, ⟨5, _⟩ => ⟨S16384x1024, .f32⟩
  | .hbm, ⟨6, _⟩ => ⟨S1024x1024, .f32⟩
  | .hbm, ⟨7, _⟩ => ⟨S1024x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownLoss.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 15
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .bf16⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | .local _ .vmem, ⟨14, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_6 : BitVec 32 := 0#32
  let v9 : BitVec 1 := Scalar.cmpi .eq arg1 c0_i32_6
  let v10 : BitVec 32 := Scalar.extui v9
  let c0_i32_7 : BitVec 32 := 0#32
  let v11 : BitVec 1 := Scalar.cmpi .ne v10 c0_i32_7
  v11

def k0_cond4 (i : grid0.Coords) : BitVec 1 :=
  let arg0 : BitVec 32 := BitVec.ofNat 32 (i 0).val
  let c0_i32_25 : BitVec 32 := 0#32
  let v39 : BitVec 1 := Scalar.cmpi .eq arg0 c0_i32_25
  let v40 : BitVec 32 := Scalar.extui v39
  let c0_i32_26 : BitVec 32 := 0#32
  let v41 : BitVec 1 := Scalar.cmpi .ne v40 c0_i32_26
  v41

def k0_cond5 (i : grid0.Coords) : BitVec 1 :=
  let arg0 : BitVec 32 := BitVec.ofNat 32 (i 0).val
  let c0_i32_27 : BitVec 32 := 0#32
  let v42 : BitVec 1 := Scalar.cmpi .sgt arg0 c0_i32_27
  let v43 : BitVec 32 := Scalar.extui v42
  let c0_i32_28 : BitVec 32 := 0#32
  let v44 : BitVec 1 := Scalar.cmpi .ne v43 c0_i32_28
  v44

def k0_cond6 (i : grid0.Coords) : BitVec 1 :=
  let arg0 : BitVec 32 := BitVec.ofNat 32 (i 0).val
  let c0_i32_29 : BitVec 32 := 0#32
  let v45 : BitVec 1 := Scalar.cmpi .eq arg0 c0_i32_29
  let v46 : BitVec 32 := Scalar.extui v45
  let c0_i32_30 : BitVec 32 := 0#32
  let v47 : BitVec 1 := Scalar.cmpi .ne v46 c0_i32_30
  v47

def k0_cond7 (i : grid0.Coords) : BitVec 1 :=
  let arg0 : BitVec 32 := BitVec.ofNat 32 (i 0).val
  let c0_i32_31 : BitVec 32 := 0#32
  let v48 : BitVec 1 := Scalar.cmpi .sgt arg0 c0_i32_31
  let v49 : BitVec 32 := Scalar.extui v48
  let c0_i32_32 : BitVec 32 := 0#32
  let v50 : BitVec 1 := Scalar.cmpi .ne v49 c0_i32_32
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== DownLossRefIdeal.lean ====
abbrev S16384x2816 : Shape := ⟨2, ![16384, 2816]⟩
abbrev S2816x1024 : Shape := ⟨2, ![2816, 1024]⟩
abbrev S16384x1024 : Shape := ⟨2, ![16384, 1024]⟩
abbrev S1x1024 : Shape := ⟨2, ![1, 1024]⟩
abbrev S_ : Shape := ⟨0, ![]⟩
abbrev S16384 : Shape := ⟨1, ![16384]⟩
abbrev S1024 : Shape := ⟨1, ![1024]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .bf16⟩
  | .hbm, ⟨2, _⟩ => ⟨S16384x1024, .f32⟩
  | .hbm, ⟨3, _⟩ => ⟨S16384x1024, .f32⟩
  | .hbm, ⟨4, _⟩ => ⟨S1x1024, .f32⟩
  | .hbm, ⟨5, _⟩ => ⟨S16384x2816, .f32⟩
  | .hbm, ⟨6, _⟩ => ⟨S2816x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S_, .f32⟩
  | .hbm, ⟨19, _⟩ => ⟨S16384, .f32⟩
  | .hbm, ⟨20, _⟩ => ⟨S16384, .f32⟩
  | .hbm, ⟨21, _⟩ => ⟨S_, .f32⟩
  | .hbm, ⟨22, _⟩ => ⟨S16384, .f32⟩
  | .hbm, ⟨23, _⟩ => ⟨S16384, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S16384x1024, .bf16⟩
  | .hbm, ⟨43, _⟩ => ⟨S1x128, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== BatMerge.lean ====
abbrev S16384x1024 : Shape := ⟨2, ![16384, 1024]⟩
abbrev S1024x1024 : Shape := ⟨2, ![1024, 1024]⟩
abbrev S16640x8192 : Shape := ⟨2, ![16640, 8192]⟩
abbrev S256x1024 : Shape := ⟨2, ![256, 1024]⟩

abbrev nBuf : Space → Nat
  | .hbm => 6
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16640x8192, .f32⟩
  | .hbm, ⟨4, _⟩ => ⟨S16384x1024, .f32⟩
  | .hbm, ⟨5, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 1], ![false, false]⟩

def k0_cond3 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c6_i32 : BitVec 32 := 6#32
  let c0_i32 : BitVec 32 := 0#32
  ![v0.toNat, c6_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c7_i32 : BitVec 32 := 7#32
  let c0_i32 : BitVec 32 := 0#32
  ![v0.toNat, c7_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== BatMergeRefIdeal.lean ====
abbrev S16384x1024 : Shape := ⟨2, ![16384, 1024]⟩
abbrev S1024x1024 : Shape := ⟨2, ![1024, 1024]⟩
abbrev S16640x8192 : Shape := ⟨2, ![16640, 8192]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .bf16⟩
  | .hbm, ⟨2, _⟩ => ⟨S16384x1024, .f32⟩
  | .hbm, ⟨3, _⟩ => ⟨S16640x8192, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.InDw.lean ====
/- The weight gradient of the layer's input projection: what the blocked product `h^T dp` leaves in its array. -/
module

public import proofs.«01_k».proof.Proof.Gen.InDwIdeal.Frame
public import proofs.«01_k».proof.Proof.Gen.InDwRefIdeal
public import Idealize.ShloMosaic.Lib.Pipeline.ValueKit

@[expose] public section

set_option maxRecDepth 16384

noncomputable section

namespace Cert.InDwIdeal.Value

open Cert.InDwIdeal Cert.InDwIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the pullback of `w ↦ h w` at the cotangent `dp`. -/
abbrev REF (h : FVec Ideal S16640x1024 .bf16) (dp : FVec Ideal S16640x8192 .bf16) : FVec Ideal S1024x8192 .f32 :=
  transpose S1024x8192 [1, 0] (Host.dotGeneral Cert.InDwRefIdeal.dot_S16640x8192_S16640x1024_S8192x1024_0_0_1_1_n_n none
    (extf .f32 dp Cert.InDwRefIdeal.Gen.bitsLt_bf16_f32) (extf .f32 h Cert.InDwRefIdeal.Gen.bitsLt_bf16_f32))
    Cert.InDwRefIdeal.Gen.transposes_S8192x1024_S1024x8192_1_0

/-- The reference at an index. -/
theorem href (h dp j) : REF h dp j = ∑ l : Fin 16640, dp (ix2 l (j 1)) * h (ix2 l (j 0)) := by pointwise [REF]

/-- One point's product at an index. -/
theorem hpay1 (x0 x1 j) : k0_pay2 (F := Ideal) x0 x1 j = ∑ k : Fin 1280, x0 (ix2 k (j 0)) * x1 (ix2 k (j 1)) := by
  pointwise [k0_pay2, k0_pay1]

/-- A later point's product, added to what the scratch held. -/
theorem hpay (x0 x1 acc j) : k0_pay3 (F := Ideal) x0 x1 acc j = acc j + ∑ k : Fin 1280, x0 (ix2 k (j 0)) * x1 (ix2 k (j 1)) := by
  pointwise [k0_pay3, k0_pay1]

/-- Which blocks the points see. -/
theorem idx : ∀ t : Fin cfg0.N, win0_0.index t = ![t.val % 13, 0] ∧ win0_1.index t = ![t.val % 13, t.val / 13]
    ∧ win0_2.index t = ![0, t.val / 13] :=
  (by decide +kernel : ∀ t : Fin grid0.N, _)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  have hout : (outsAt0 m c t.val t.isLt).1 = (outsAt0 m c t.val t.isLt).2 := by
    rw [outsAt0_C m c t (by omega) (by omega) hr]
    funext j
    frame_out
  blk_simp
  rw [after0_2, hout, Pipeline.eq_sum_fin_of_reset_step_apply_of_flush (fun n h => (outsAt0 m c n h).2) 13 (fun _ => 0) _
    (fun t h j => by rw [outsAt0_A m c t h (by omega) (by omega)]; frame_out; rw [hpay1, ← zero_add (∑ k : Fin 1280, _)])
    (fun t h j => by
      by_cases h2 : t.val % 13 = 12
      · rw [outsAt0_C m c t h (by omega) h2]; frame_out; rw [hpay]; erw [(Memref.isWhole_whole cc0_scratch0).read_unread]
      · rw [outsAt0_B m c t h (by omega) h2]; frame_out; rw [hpay]; erw [(Memref.isWhole_whole cc0_scratch0).read_unread])
    t hr _, zero_add, href]
  refine Fin.sum_mul_add_congr fun s k hl => ?_
  rw [mul_comm]
  blk_point [iblk, V, idx t, idx ⟨_, Pipeline.run_point_lt_of_flush t hr s⟩]

end Cert.InDwIdeal.Value

end
-- ==== Proof.InDx.lean ====
/- The activation gradient of the layer's input projection: what the blocked product `dp w^T` leaves in its array. -/
module

public import proofs.«01_k».proof.Proof.Gen.InDxIdeal.Frame
public import proofs.«01_k».proof.Proof.Gen.InDxRefIdeal
public import Idealize.ShloMosaic.Lib.Pipeline.ValueKit

@[expose] public section

set_option maxRecDepth 16384

noncomputable section

namespace Cert.InDxIdeal.Value

open Cert.InDxIdeal Cert.InDxIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the pullback of `h ↦ h w` at the cotangent `dp`. -/
abbrev REF (dp : FVec Ideal S16640x8192 .bf16) (w : FVec Ideal S1024x8192 .bf16) : FVec Ideal S16640x1024 .f32 :=
  Host.dotGeneral Cert.InDxRefIdeal.dot_S16640x8192_S1024x8192_S16640x1024_1_1_0_0_n_n none
    (extf .f32 dp Cert.InDxRefIdeal.Gen.bitsLt_bf16_f32) (extf .f32 w Cert.InDxRefIdeal.Gen.bitsLt_bf16_f32)

/-- The reference at an index. -/
theorem href (dp w j) : REF dp w j = ∑ l : Fin 8192, dp (ix2 (j 0) l) * w (ix2 (j 1) l) := by pointwise [REF]

/-- One point's product at an index. -/
theorem hpay1 (x0 x1 j) : k0_pay2 (F := Ideal) x0 x1 j = ∑ k : Fin 2048, x0 (ix2 (j 0) k) * x1 (ix2 (j 1) k) := by
  pointwise [k0_pay2, k0_pay1]

/-- A later point's product, added to what the scratch held. -/
theorem hpay (x0 x1 acc j) : k0_pay3 (F := Ideal) x0 x1 acc j = acc j + ∑ k : Fin 2048, x0 (ix2 (j 0) k) * x1 (ix2 (j 1) k) := by
  pointwise [k0_pay3, k0_pay1]

/-- Which blocks the points see. -/
theorem idx : ∀ t : Fin cfg0.N, win0_0.index t = ![t.val / 4, t.val % 4] ∧ win0_1.index t = ![0, t.val % 4]
    ∧ win0_2.index t = ![t.val / 4, 0] :=
  (by decide +kernel : ∀ t : Fin grid0.N, _)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  have hout : (outsAt0 m c t.val t.isLt).1 = (outsAt0 m c t.val t.isLt).2 := by
    rw [outsAt0_C m c t (by omega) (by omega) hr]
    funext j
    frame_out
  blk_simp
  rw [after0_2, hout, Pipeline.eq_sum_fin_of_reset_step_apply_of_flush (fun n h => (outsAt0 m c n h).2) 4 (fun _ => 0) _
    (fun t h j => by rw [outsAt0_A m c t h (by omega) (by omega)]; frame_out; rw [hpay1, ← zero_add (∑ k : Fin 2048, _)])
    (fun t h j => by
      by_cases h2 : t.val % 4 = 3
      · rw [outsAt0_C m c t h (by omega) h2]; frame_out; rw [hpay]; erw [(Memref.isWhole_whole cc0_scratch0).read_unread]
      · rw [outsAt0_B m c t h (by omega) h2]; frame_out; rw [hpay]; erw [(Memref.isWhole_whole cc0_scratch0).read_unread])
    t hr _, zero_add, href]
  refine Fin.sum_mul_add_congr fun s k hl => ?_
  blk_point [iblk, V, idx t, idx ⟨_, Pipeline.run_point_lt_of_flush t hr s⟩]

end Cert.InDxIdeal.Value

end
-- ==== Proof.InFwd.lean ====
/- The input projection of the layer: what the blocked product leaves in its array. -/
module

public import proofs.«01_k».proof.Proof.Gen.InFwdIdeal.Frame
public import proofs.«01_k».proof.Proof.Gen.InFwdRefIdeal
public import Idealize.ShloMosaic.Lib.Pipeline.ValueKit

@[expose] public section

set_option maxRecDepth 16384

noncomputable section

namespace Cert.InFwdIdeal.Value

open Cert.InFwdIdeal Cert.InFwdIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term. -/
abbrev REF (a : FVec Ideal S16640x1024 .bf16) (b : FVec Ideal S1024x8192 .bf16) : FVec Ideal S16640x8192 .f32 :=
  Host.dotGeneral Cert.InFwdRefIdeal.dot_S16640x1024_S1024x8192_S16640x8192_1_0_0_1_n_n none
    (extf .f32 a Cert.InFwdRefIdeal.Gen.bitsLt_bf16_f32) (extf .f32 b Cert.InFwdRefIdeal.Gen.bitsLt_bf16_f32)

/-- The reference at an index. -/
theorem href (a b j) : REF a b j = ∑ l : Fin 1024, a (ix2 (j 0) l) * b (ix2 l (j 1)) := by pointwise [REF]

/-- One point's product at an index. -/
theorem hpay (x0 x1 j) : k0_pay1 (F := Ideal) x0 x1 j = ∑ l : Fin 1024, x0 (ix2 (j 0) l) * x1 (ix2 l (j 1)) := by
  pointwise [k0_pay1]

/-- Which blocks the points see. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, href]
  unfold out0_2
  frame_out
  rw [hpay]
  refine @Finset.sum_congr (Fin 1024) (Elt Ideal (.f32 : EltTy)) _ _ _ _ _ rfl fun k _ => ?_
  blk_point [iblk, V, idx t]

end Cert.InFwdIdeal.Value

end
-- ==== Proof.UpFwd.lean ====
/- The up projection of the feed-forward part: what the blocked product leaves in its array. -/
module

public import proofs.«01_k».proof.Proof.Gen.UpFwdIdeal.Frame
public import proofs.«01_k».proof.Proof.Gen.UpFwdRefIdeal
public import Idealize.ShloMosaic.Lib.Pipeline.ValueKit

@[expose] public section

set_option maxRecDepth 16384

noncomputable section

namespace Cert.UpFwdIdeal.Value

open Cert.UpFwdIdeal Cert.UpFwdIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term. -/
abbrev REF (a : FVec Ideal S16384x1024 .bf16) (b : FVec Ideal S1024x5632 .bf16) : FVec Ideal S16384x5632 .f32 :=
  Host.dotGeneral Cert.UpFwdRefIdeal.dot_S16384x1024_S1024x5632_S16384x5632_1_0_0_1_n_n none
    (extf .f32 a Cert.UpFwdRefIdeal.Gen.bitsLt_bf16_f32) (extf .f32 b Cert.UpFwdRefIdeal.Gen.bitsLt_bf16_f32)

/-- The reference at an index. -/
theorem href (a b j) : REF a b j = ∑ l : Fin 1024, a (ix2 (j 0) l) * b (ix2 l (j 1)) := by pointwise [REF]

/-- One point's product at an index. -/
theorem hpay (x0 x1 j) : k0_pay1 (F := Ideal) x0 x1 j = ∑ l : Fin 1024, x0 (ix2 (j 0) l) * x1 (ix2 l (j 1)) := by
  pointwise [k0_pay1]

/-- Which blocks the points see. -/
theorem idx : ∀ t : Fin cfg0.N, win0_0.index t = ![t.val / 4, 0] ∧ win0_1.index t = ![0, t.val % 4] ∧ win0_2.index t = ![t.val / 4, t.val % 4] :=
  (by decide +kernel : ∀ t : Fin grid0.N, _)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, href]
  unfold out0_2
  frame_out
  rw [hpay]
  refine @Finset.sum_congr (Fin 1024) (Elt Ideal (.f32 : EltTy)) _ _ _ _ _ rfl fun k _ => ?_
  blk_point [iblk, V, idx t]

end Cert.UpFwdIdeal.Value

end
-- ==== Proof.UpDw.lean ====
/- The weight gradient of the feed-forward up projection: what the blocked product `h2^T du`, whose right operand is stored as two halves of its columns, leaves in its array. -/
module

public import proofs.«01_k».proof.Proof.Gen.UpDwIdeal.Frame
public import proofs.«01_k».proof.Proof.Gen.UpDwRefIdeal
public import Idealize.ShloMosaic.Lib.Pipeline.ValueKit

@[expose] public section

set_option maxRecDepth 16384

noncomputable section

namespace Cert.UpDwIdeal.Value

open Cert.UpDwIdeal Cert.UpDwIdeal.Gen Idealize.ShloMosaic Idealize.ShloMosaic.TcCoe Idealize.SL.Sem
open Idealize.ShloMosaic.Pipeline (Dat)

variable (m : (ℓ : Loc nD τ sig) → Buf (Elt Ideal) ℓ)

/-- The two halves of the columns of `du`, one beside the other. -/
abbrev halves (du : FVec Ideal S2x16384x2816 .bf16) : FVec Ideal Cert.UpDwRefIdeal.S16384x5632 .bf16 :=
  concatenate Cert.UpDwRefIdeal.S16384x5632 1
    [⟨Cert.UpDwRefIdeal.S16384x2816, (shapeCast _ (extractStridedSlice Cert.UpDwRefIdeal.S1x16384x2816 ![0, 0, 0] du
        Cert.UpDwRefIdeal.Gen.slices_S2x16384x2816_S1x16384x2816_0_0_0) Cert.UpDwRefIdeal.Gen.shapeCasts_S1x16384x2816_S16384x2816)⟩,
     ⟨Cert.UpDwRefIdeal.S16384x2816, (shapeCast _ (extractStridedSlice Cert.UpDwRefIdeal.S1x16384x2816 ![1, 0, 0] du
        Cert.UpDwRefIdeal.Gen.slices_S2x16384x2816_S1x16384x2816_1_0_0) Cert.UpDwRefIdeal.Gen.shapeCasts_S1x16384x2816_S16384x2816)⟩]
    Cert.UpDwRefIdeal.Gen.concatenates_S16384x2816_S16384x2816_S16384x5632_d1

/-- The reference's composed term: the pullback of `w ↦ h2 w` at the two halves of the cotangent. -/
abbrev REF (h : FVec Ideal S16384x1024 .bf16) (du : FVec Ideal S2x16384x2816 .bf16) : FVec Ideal S1024x5632 .f32 :=
  transpose S1024x5632 [1, 0] (Host.dotGeneral Cert.UpDwRefIdeal.dot_S16384x5632_S16384x1024_S5632x1024_0_0_1_1_n_n none
    (extf .f32 (halves du) Cert.UpDwRefIdeal.Gen.bitsLt_bf16_f32) (extf .f32 h Cert.UpDwRefIdeal.Gen.bitsLt_bf16_f32))
    Cert.UpDwRefIdeal.Gen.transposes_S5632x1024_S1024x5632_1_0

/-- The concatenation at an index. -/
theorem hcat (du : FVec Ideal S2x16384x2816 .bf16) (l : Fin 16384) (q : Fin 5632) :
    halves du (ix2 l q) = du (ix3 ⟨q.val / 2816, by omega⟩ l ⟨q.val % 2816, by omega⟩) := by
  pointwise [halves]
  split
  · next h =>
    congr 1
    exact congrArg₂ (fun a b => ix3 a l b) (Fin.ext (by simp; omega)) (Fin.ext (by simp; omega))
  · next h =>
    congr 1
    exact congrArg₂ (fun a b => ix3 a l b) (Fin.ext (by simp; omega)) (Fin.ext (by simp; omega))

/-- The reference at an index. -/
theorem href (h du) (j : S1024x5632.Idx) : REF h du j = ∑ l : Fin 16384,
    du (ix3 ⟨(j 1).val / 2816, by have := (j 1).isLt; simp at this; omega⟩ l ⟨(j 1).val % 2816, by omega⟩) * h (ix2 l (j 0)) := by
  have e : REF h du j = ∑ l : Fin 16384, halves du (ix2 l (j 1)) * h (ix2 l (j 0)) := by
    unfold REF
    generalize halves du = g
    pointwise []
  rw [e]
  exact @Finset.sum_congr (Fin 16384) (Elt Ideal (.f32 : EltTy)) _ _ _ _ _ rfl fun l _ =>
    congrArg (fun z : Elt Ideal (.f32 : EltTy) => z * h (ix2 l (j 0))) (hcat du l (j 1))

/-- One point's product at an index. -/
theorem hpay1 (x0 x1 j) : k0_pay2 (F := Ideal) x0 x1 j = ∑ k : Fin 2048, x0 (ix2 k (j 0)) * x1 (ix3 0 k (j 1)) := by
  pointwise [k0_pay2, k0_pay1]

/-- A later point's product, added to what the scratch held. -/
theorem hpay (x0 x1 acc j) : k0_pay3 (F := Ideal) x0 x1 acc j = acc j + ∑ k : Fin 2048, x0 (ix2 k (j 0)) * x1 (ix3 0 k (j 1)) := by
  pointwise [k0_pay3, k0_pay1]

/-- Which blocks the points see. -/
theorem idx : ∀ t : Fin cfg0.N, win0_0.index t = ![t.val % 8, 0] ∧ win0_1.index t = ![t.val / 8 / 2, t.val % 8, t.val / 8 % 2]
    ∧ win0_2.index t = ![0, t.val / 8] :=
  (by decide +kernel : ∀ t : Fin grid0.N, _)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  have hout : (outsAt0 m c t.val t.isLt).1 = (outsAt0 m c t.val t.isLt).2 := by
    rw [outsAt0_C m c t (by omega) (by omega) hr]
    funext j
    frame_out
  blk_simp
  rw [after0_2, hout, Pipeline.eq_sum_fin_of_reset_step_apply_of_flush (fun n h => (outsAt0 m c n h).2) 8 (fun _ => 0) _
    (fun t h j => by rw [outsAt0_A m c t h (by omega) (by omega)]; frame_out; rw [hpay1, ← zero_add (∑ k : Fin 2048, _)])
    (fun t h j => by
      by_cases h2 : t.val % 8 = 7
      · rw [outsAt0_C m c t h (by omega) h2]; frame_out; rw [hpay]; erw [(Memref.isWhole_whole cc0_scratch0).read_unread]
      · rw [outsAt0_B m c t h (by omega) h2]; frame_out; rw [hpay]; erw [(Memref.isWhole_whole cc0_scratch0).read_unread])
    t hr _, zero_add, href]
  refine Fin.sum_mul_add_congr fun s k hl => ?_
  rw [mul_comm]
  blk_point [iblk, V, idx t, idx ⟨_, Pipeline.run_point_lt_of_flush t hr s⟩]

end Cert.UpDwIdeal.Value

end
-- ==== Proof.DownDx.lean ====
/- The activation gradient of the feed-forward down projection: what the blocked product leaves in its array. -/
module

public import proofs.«01_k».proof.Proof.Gen.DownDxIdeal.Frame
public import proofs.«01_k».proof.Proof.Gen.DownDxRefIdeal
public import Idealize.ShloMosaic.Lib.Pipeline.ValueKit

@[expose] public section

set_option maxRecDepth 16384

noncomputable section

namespace Cert.DownDxIdeal.Value

open Cert.DownDxIdeal Cert.DownDxIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term. -/
abbrev REF (a : FVec Ideal S16384x1024 .bf16) (b : FVec Ideal S2816x1024 .bf16) : FVec Ideal S16384x2816 .f32 :=
  Host.dotGeneral Cert.DownDxRefIdeal.dot_S16384x1024_S2816x1024_S16384x2816_1_1_0_0_n_n none
    (extf .f32 a Cert.DownDxRefIdeal.Gen.bitsLt_bf16_f32) (extf .f32 b Cert.DownDxRefIdeal.Gen.bitsLt_bf16_f32)

/-- The reference at an index. -/
theorem href (a b j) : REF a b j = ∑ l : Fin 1024, a (ix2 (j 0) l) * b (ix2 (j 1) l) := by pointwise [REF]

/-- One point's product at an index. -/
theorem hpay (x0 x1 j) : k0_pay1 (F := Ideal) x0 x1 j = ∑ l : Fin 1024, x0 (ix2 (j 0) l) * x1 (ix2 (j 1) l) := by
  pointwise [k0_pay1]

/-- Which blocks the points see. -/
theorem idx : ∀ t : Fin cfg0.N, win0_0.index t = ![t.val, 0] ∧ win0_1.index t = ![0, 0] ∧ win0_2.index t = ![t.val, 0] :=
  (by decide +kernel : ∀ t : Fin grid0.N, _)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2, href]
  unfold out0_2
  frame_out
  rw [hpay]
  refine @Finset.sum_congr (Fin 1024) (Elt Ideal (.f32 : EltTy)) _ _ _ _ _ rfl fun k _ => ?_
  blk_point [iblk, V, idx t]

end Cert.DownDxIdeal.Value

end
-- ==== Proof.DownDw.lean ====
/- The weight gradient of the down projection: what the blocked product `a^T df` leaves in its array. -/
module

public import proofs.«01_k».proof.Proof.Gen.DownDwIdeal.Frame
public import proofs.«01_k».proof.Proof.Gen.DownDwRefIdeal
public import Idealize.ShloMosaic.Lib.Pipeline.ValueKit

@[expose] public section

set_option maxRecDepth 16384

noncomputable section

namespace Cert.DownDwIdeal.Value

open Cert.DownDwIdeal Cert.DownDwIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the pullback of `w ↦ h w` at the cotangent `dp`. -/
abbrev REF (h : FVec Ideal S16384x2816 .bf16) (dp : FVec Ideal S16384x1024 .bf16) : FVec Ideal S2816x1024 .f32 :=
  transpose S2816x1024 [1, 0] (Host.dotGeneral Cert.DownDwRefIdeal.dot_S16384x1024_S16384x2816_S1024x2816_0_0_1_1_n_n none
    (extf .f32 dp Cert.DownDwRefIdeal.Gen.bitsLt_bf16_f32) (extf .f32 h Cert.DownDwRefIdeal.Gen.bitsLt_bf16_f32))
    Cert.DownDwRefIdeal.Gen.transposes_S1024x2816_S2816x1024_1_0

/-- The reference at an index. -/
theorem href (h dp j) : REF h dp j = ∑ l : Fin 16384, dp (ix2 l (j 1)) * h (ix2 l (j 0)) := by pointwise [REF]

/-- One point's product at an index. -/
theorem hpay1 (x0 x1 j) : k0_pay2 (F := Ideal) x0 x1 j = ∑ k : Fin 2048, x0 (ix2 k (j 0)) * x1 (ix2 k (j 1)) := by
  pointwise [k0_pay2, k0_pay1]

/-- A later point's product, added to what the scratch held. -/
theorem hpay (x0 x1 acc j) : k0_pay3 (F := Ideal) x0 x1 acc j = acc j + ∑ k : Fin 2048, x0 (ix2 k (j 0)) * x1 (ix2 k (j 1)) := by
  pointwise [k0_pay3, k0_pay1]

/-- Which blocks the points see. -/
theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  have hout : (outsAt0 m c t.val t.isLt).1 = (outsAt0 m c t.val t.isLt).2 := by
    rw [outsAt0_C m c t (by omega) (by omega) hr]
    funext j
    frame_out
  blk_simp
  rw [after0_2, hout, Pipeline.eq_sum_fin_of_reset_step_apply_of_flush (fun n h => (outsAt0 m c n h).2) 8 (fun _ => 0) _
    (fun t h j => by rw [outsAt0_A m c t h (by omega) (by omega)]; frame_out; rw [hpay1, ← zero_add (∑ k : Fin 2048, _)])
    (fun t h j => by
      by_cases h2 : t.val % 8 = 7
      · rw [outsAt0_C m c t h (by omega) h2]; frame_out; rw [hpay]; erw [(Memref.isWhole_whole cc0_scratch0).read_unread]
      · rw [outsAt0_B m c t h (by omega) h2]; frame_out; rw [hpay]; erw [(Memref.isWhole_whole cc0_scratch0).read_unread])
    t hr _, zero_add, href]
  refine Fin.sum_mul_add_congr fun s k hl => ?_
  rw [mul_comm]
  blk_point [iblk, V, idx t, idx ⟨_, Pipeline.run_point_lt_of_flush t hr s⟩]

end Cert.DownDwIdeal.Value

end
-- ==== Proof.SqDw.lean ====
/- The weight gradient of a square projection: what the blocked product `x^T dy` leaves in its array. -/
module

public import proofs.«01_k».proof.Proof.Gen.SqDwIdeal.Frame
public import proofs.«01_k».proof.Proof.Gen.SqDwRefIdeal
public import Idealize.ShloMosaic.Lib.Pipeline.ValueKit

@[expose] public section

set_option maxRecDepth 16384

noncomputable section

namespace Cert.SqDwIdeal.Value

open Cert.SqDwIdeal Cert.SqDwIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the pullback of `w ↦ h w` at the cotangent `dp`. -/
abbrev REF (h : FVec Ideal S16384x1024 .bf16) (dp : FVec Ideal S16384x1024 .bf16) : FVec Ideal S1024x1024 .f32 :=
  transpose S1024x1024 [1, 0] (Host.dotGeneral Cert.SqDwRefIdeal.dot_S16384x1024_S16384x1024_S1024x1024_0_0_1_1_n_n none
    (extf .f32 dp Cert.SqDwRefIdeal.Gen.bitsLt_bf16_f32) (extf .f32 h Cert.SqDwRefIdeal.Gen.bitsLt_bf16_f32))
    Cert.SqDwRefIdeal.Gen.transposes_S1024x1024_S1024x1024_1_0

/-- The reference at an index. -/
theorem href (h dp j) : REF h dp j = ∑ l : Fin 16384, dp (ix2 l (j 1)) * h (ix2 l (j 0)) := by pointwise [REF]

/-- One point's product at an index. -/
theorem hpay1 (x0 x1 j) : k0_pay2 (F := Ideal) x0 x1 j = ∑ k : Fin 2048, x0 (ix2 k (j 0)) * x1 (ix2 k (j 1)) := by
  pointwise [k0_pay2, k0_pay1]

/-- A later point's product, added to what the scratch held. -/
theorem hpay (x0 x1 acc j) : k0_pay3 (F := Ideal) x0 x1 acc j = acc j + ∑ k : Fin 2048, x0 (ix2 k (j 0)) * x1 (ix2 k (j 1)) := by
  pointwise [k0_pay3, k0_pay1]

/-- Which blocks the points see. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The grid has eight points. -/
theorem lt8 : ∀ t : Fin cfg0.N, t.val < 8 := (by decide +kernel : ∀ t : Fin grid0.N, t.val < 8)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  have hout : (outsAt0 m c t.val t.isLt).1 = (outsAt0 m c t.val t.isLt).2 := by
    rw [outsAt0_C m c t (by omega) (by omega) hr]
    funext j
    frame_out
  blk_simp
  rw [after0_2, hout, Pipeline.eq_sum_fin_of_reset_step_apply_of_flush (fun n h => (outsAt0 m c n h).2) 8 (fun _ => 0) _
    (fun t h j => by rw [outsAt0_A m c t h (by have := lt8 t; omega) (by omega)]; frame_out; rw [hpay1, ← zero_add (∑ k : Fin 2048, _)])
    (fun t h j => by
      by_cases h2 : t.val % 8 = 7
      · rw [outsAt0_C m c t h (by omega) h2]; frame_out; rw [hpay]; erw [(Memref.isWhole_whole cc0_scratch0).read_unread]
      · rw [outsAt0_B m c t h (by omega) h2]; frame_out; rw [hpay]; erw [(Memref.isWhole_whole cc0_scratch0).read_unread])
    t hr _, zero_add, href]
  refine Fin.sum_mul_add_congr fun s k hl => ?_
  rw [mul_comm]
  blk_point [iblk, V, idx t, idx ⟨_, Pipeline.run_point_lt_of_flush t hr s⟩]

end Cert.SqDwIdeal.Value

end
-- ==== Proof.NormRow.lean ====
/- The gradient of a root-mean-square normalisation at one row, over the extended reals: the form with the factored
   reciprocal root and the form of the chain rule are one function, whatever the entries are. -/
module

public import Idealize.ShloMosaic.PureOps.Ideal

@[expose] public section

noncomputable section

namespace Cert.NormRow

open Idealize.ShloMosaic

/-- The row length, the small constant and minus a half, as the programs write them. -/
abbrev len : EReal := Ideal.ofBits .f32 0x44800000#32
abbrev eps : EReal := Ideal.ofBits .f32 0x358637BD#32
abbrev nhalf : EReal := Ideal.ofBits .f32 0xBF000000#32

theorem len_eq : len = ((1024 : ℝ) : EReal) := by
  simp [len, Ideal.ofBits, Ideal.ieee]
  rw [← EReal.coe_mul]
  norm_num

theorem nhalf_eq : nhalf = ((-(1 / 2) : ℝ) : EReal) := by
  simp [nhalf, Ideal.ofBits, Ideal.ieee]
  rw [← EReal.coe_mul]
  norm_num

theorem eps_eq : ∃ e : ℝ, 0 < e ∧ eps = (e : EReal) := by
  refine ⟨(1 : ℝ) * ((2 ^ 23 + 407485 : ℕ) : ℝ) * (2 : ℝ) ^ ((107 : ℤ) - 127 - 23), by positivity, ?_⟩
  simp [eps, Ideal.ofBits, Ideal.ieee]

variable {ι : Type} [Fintype ι] (x G : ι → EReal)

/-- The mean square of a row, with the small constant, and its reciprocal root. -/
def ms : EReal := Ideal.div (∑ l, x l * x l) len + eps
def rr : EReal := Ideal.rsqrt (ms x)

/-- The cotangent of the mean square, spread over the row. -/
def spread : EReal := Ideal.div ((∑ l, x l * G l) * (nhalf * Ideal.div (rr x) (ms x))) len

theorem mul_self_nonneg' (a : EReal) : 0 ≤ a * a := by
  induction a with
  | bot => simp
  | coe r => rw [← EReal.coe_mul]; exact_mod_cast mul_self_nonneg r
  | top => simp

/-- A nonnegative real factor moves out of a sum. -/
theorem sum_mul_coe {r : ℝ} (hr : 0 ≤ r) (f : ι → EReal) : ∑ l, f l * (r : EReal) = (∑ l, f l) * (r : EReal) := by
  classical
  induction (Finset.univ : Finset ι) using Finset.induction_on with
  | empty => simp
  | insert a s ha ih =>
    rw [Finset.sum_insert ha, Finset.sum_insert ha, ih,
      EReal.right_distrib_of_nonneg_of_ne_top (by exact_mod_cast hr) (EReal.coe_ne_top r)]

/-- Adding a product to itself doubles its real factor. -/
theorem mul_add_self (a : EReal) (r : ℝ) : a * (r : EReal) + a * (r : EReal) = a * ((r + r : ℝ) : EReal) := by
  rcases lt_trichotomy r 0 with h | h | h
  · induction a with
    | bot => rw [EReal.bot_mul_coe_of_neg h, EReal.bot_mul_coe_of_neg (by linarith)]; rfl
    | coe a => norm_cast; ring_nf
    | top => rw [EReal.top_mul_coe_of_neg h, EReal.top_mul_coe_of_neg (by linarith)]; rfl
  · subst h; simp
  · induction a with
    | bot => rw [EReal.bot_mul_coe_of_pos h, EReal.bot_mul_coe_of_pos (by linarith)]; rfl
    | coe a => norm_cast; ring_nf
    | top => rw [EReal.top_mul_coe_of_pos h, EReal.top_mul_coe_of_pos (by linarith)]; rfl

/-- A row with an infinite entry has the reciprocal root zero. -/
theorem rr_of_inf {q : ι} (hq : x q = ⊤ ∨ x q = ⊥) : ms x = ⊤ ∧ rr x = 0 := by
  have h1 : (∑ l, x l * x l) = ⊤ := by
    refine top_unique ?_
    have := Finset.single_le_sum (f := fun l => x l * x l) (fun l _ => mul_self_nonneg' (x l)) (Finset.mem_univ q)
    refine le_trans ?_ this
    rcases hq with h | h <;> simp [h]
  obtain ⟨e, he, hee⟩ := eps_eq
  have h2 : ms x = ⊤ := by
    rw [ms, h1, len_eq, hee, Ideal.div_coe (by norm_num), EReal.top_mul_coe_of_pos (by norm_num)]
    rfl
  exact ⟨h2, by rw [rr, h2]; rfl⟩

/-- A row of reals has a positive real reciprocal root, whose square is the inverse of the mean square. -/
theorem rr_of_real (y : ι → ℝ) (hy : ∀ l, x l = (y l : EReal)) :
    ∃ a ρ : ℝ, 0 < a ∧ 0 < ρ ∧ ms x = (a : EReal) ∧ rr x = (ρ : EReal) ∧ ρ * ρ = 1 / a := by
  obtain ⟨e, he, hee⟩ := eps_eq
  have hs : (∑ l, x l * x l) = ((∑ l, y l * y l : ℝ) : EReal) := by
    rw [show (((∑ l, y l * y l : ℝ)) : EReal) = ∑ l, ((y l * y l : ℝ) : EReal) from
      map_sum (⟨⟨Real.toEReal, EReal.coe_zero⟩, EReal.coe_add⟩ : ℝ →+ EReal) _ _]
    exact Finset.sum_congr rfl fun l _ => by rw [hy l, EReal.coe_mul]
  have hn : 0 ≤ ∑ l, y l * y l := Finset.sum_nonneg fun l _ => mul_self_nonneg (y l)
  have ha : 0 < (∑ l, y l * y l) * (1 / 1024) + e := by positivity
  have hm : ms x = (((∑ l, y l * y l) * (1 / 1024) + e : ℝ) : EReal) := by
    rw [ms, hs, len_eq, hee, Ideal.div_coe (by norm_num)]
    norm_cast
  refine ⟨_, (Real.sqrt ((∑ l, y l * y l) * (1 / 1024) + e))⁻¹, ha, by positivity, hm, ?_, ?_⟩
  · rw [rr, hm, Ideal.rsqrt_coe, if_neg (not_lt.mpr ha.le), if_neg ha.ne']
  · rw [← mul_inv, Real.mul_self_sqrt ha.le]
    exact (one_div _).symm

/-- The two forms of the gradient of a normalised row agree. -/
theorem grad_row (q : ι) :
    rr x * (G q - (x q * rr x) * Ideal.div (∑ l, G l * (x l * rr x)) len)
      = G q * rr x + (x q * spread x G + spread x G * x q) := by
  by_cases hfin : ∀ l, x l ≠ ⊤ ∧ x l ≠ ⊥
  · obtain ⟨a, ρ, ha, hρ, hm, hr, hsq⟩ := rr_of_real x (fun l => (x l).toReal)
      (fun l => (EReal.coe_toReal (hfin l).1 (hfin l).2).symm)
    have hxq := (EReal.coe_toReal (hfin q).1 (hfin q).2).symm
    generalize (x q).toReal = y at hxq
    have hS : (∑ l, G l * (x l * rr x)) = (∑ l, x l * G l) * (ρ : EReal) := by
      rw [← sum_mul_coe hρ.le, hr]
      exact Finset.sum_congr rfl fun l _ => by rw [← mul_assoc, mul_comm (G l)]
    rw [spread, hS, hm, hr, len_eq, nhalf_eq]
    generalize (∑ l, x l * G l) = S
    rw [hxq, Ideal.div_coe (by norm_num), Ideal.div_coe (by norm_num), Ideal.div_coe ha.ne']
    have h1 : (y : EReal) * (ρ : EReal) * (S * (ρ : EReal) * ((1 / 1024 : ℝ) : EReal))
        = S * ((y * ρ * ρ * (1 / 1024) : ℝ) : EReal) := by
      push_cast; ac_rfl
    have h2 : S * (((-(1 / 2) : ℝ) : EReal) * ((ρ : EReal) * ((1 / a : ℝ) : EReal))) * ((1 / 1024 : ℝ) : EReal)
        = S * ((-(1 / 2) * (ρ * (1 / a)) * (1 / 1024) : ℝ) : EReal) := by
      rw [← EReal.coe_mul, ← EReal.coe_mul, mul_assoc, ← EReal.coe_mul]
    rw [h1, h2]
    have h3 : (y : EReal) * (S * ((-(1 / 2) * (ρ * (1 / a)) * (1 / 1024) : ℝ) : EReal))
        = S * ((y * (-(1 / 2) * (ρ * (1 / a)) * (1 / 1024)) : ℝ) : EReal) := by
      rw [EReal.coe_mul y]; ac_rfl
    rw [mul_comm _ (y : EReal), h3, mul_add_self, sub_eq_add_neg,
      EReal.left_distrib_of_nonneg_of_ne_top (by exact_mod_cast hρ.le) (EReal.coe_ne_top ρ), mul_comm (ρ : EReal) (G q)]
    congr 1
    rw [← mul_neg, mul_left_comm, ← EReal.coe_neg, ← EReal.coe_mul]
    congr 2
    rw [← hsq]
    ring
  · push Not at hfin
    obtain ⟨p, hp⟩ := hfin
    obtain ⟨hm, hr⟩ := rr_of_inf x (q := p) (by by_cases h : x p = ⊤; exact .inl h; exact .inr (hp h))
    have hV : spread x G = 0 := by
      rw [spread, hm, hr, len_eq, Ideal.div_coe (by norm_num)]
      simp [Ideal.div]
    rw [hV, hr]
    simp

end Cert.NormRow

end
-- ==== Proof.NormRef.lean ====
/- The gradients of the feed-forward input by the chain rule, entry by entry: the product `du up^T` at a row, then the
   gradient of the modulated root-mean-square normalisation of that row. -/
module

public import proofs.«01_k».proof.Proof.Gen.UpDxNormRefIdeal.Run
public import Idealize.ShloMosaic.Lib.Pipeline.ValueKit
public import proofs.«01_k».proof.Proof.NormRow

@[expose] public section

set_option maxRecDepth 16384

noncomputable section

namespace Cert.UpDxNormRefIdeal.Value

open Cert.UpDxNormRefIdeal Cert.UpDxNormRefIdeal.Gen Idealize.ShloMosaic Idealize.ShloMosaic.TcCoe Idealize.SL.Sem
open Cert.NormRow

/-- The two halves of the columns of `du`, one beside the other. -/
abbrev halves (du : FVec Ideal S2x16384x2816 .bf16) : FVec Ideal S16384x5632 .bf16 :=
  concatenate S16384x5632 1
    [⟨S16384x2816, (shapeCast _ (extractStridedSlice S1x16384x2816 ![0, 0, 0] du
        slices_S2x16384x2816_S1x16384x2816_0_0_0) shapeCasts_S1x16384x2816_S16384x2816)⟩,
     ⟨S16384x2816, (shapeCast _ (extractStridedSlice S1x16384x2816 ![1, 0, 0] du
        slices_S2x16384x2816_S1x16384x2816_1_0_0) shapeCasts_S1x16384x2816_S16384x2816)⟩]
    concatenates_S16384x2816_S16384x2816_S16384x5632_d1

/-- The product `du up^T`. -/
abbrev DH (du : FVec Ideal S2x16384x2816 .bf16) (w : FVec Ideal S1024x5632 .bf16) : FVec Ideal S16384x1024 .f32 :=
  Host.dotGeneral dot_S16384x5632_S1024x5632_S16384x1024_1_1_0_0_n_n none (extf .f32 (halves du) bitsLt_bf16_f32)
    (extf .f32 w bitsLt_bf16_f32)

/-- The mean square of each row, with the small constant. -/
abbrev MS (x : FVec Ideal S16384x1024 .f32) : FVec Ideal S16384x1 .f32 :=
  addf (Host.divf (broadcastInDim S16384x1 ![0] bcast_S16384_S16384x1_0
      (Host.reduceAdd (mulf x x) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))

/-- One plus the scale. -/
abbrev SC (md : FVec Ideal S2x1024 .f32) : FVec Ideal S1x1024 .f32 :=
  addf (broadcastInDim S1x1024 ![] bcast_S_S1x1024 (constant S_ .f32 0x3F800000#32))
    (extractStridedSlice S1x1024 ![1, 0] md slices_S2x1024_S1x1024_1_0)

/-- The cotangent of the modulated rows, and of the normalised rows. -/
abbrev GZ (g : FVec Ideal S16384x1024 .f32) (md : FVec Ideal S2x1024 .f32) : FVec Ideal S16384x1024 .f32 :=
  mulf g (broadcastInDim S16384x1024 ![0, 1] bcast_S1x1024_S16384x1024_0_1 (SC md))
abbrev GN (g : FVec Ideal S16384x1024 .f32) (nf : FVec Ideal S1x1024 .f32) (md : FVec Ideal S2x1024 .f32) :
    FVec Ideal S16384x1024 .f32 :=
  mulf (GZ g md) (broadcastInDim S16384x1024 ![0, 1] bcast_S1x1024_S16384x1024_0_1 nf)

/-- The reciprocal root, spread over the row. -/
abbrev RB (x : FVec Ideal S16384x1024 .f32) : FVec Ideal S16384x1024 .f32 :=
  broadcastInDim S16384x1024 ![0, 1] bcast_S16384x1_S16384x1024_0_1 (Host.rsqrt (MS x))

/-- The cotangent of the mean square, spread over the row. -/
abbrev VB (g' x : FVec Ideal S16384x1024 .f32) : FVec Ideal S16384x1024 .f32 :=
  broadcastInDim S16384x1024 ![0] bcast_S16384_S16384x1024_0 (Host.reduceAdd (Host.divf
    (mulf (shapeCast _ (Host.reduceAdd (mulf x g') (constant S_ .f32 0x00000000#32) reducesTo_S16384x1024_S16384_d1 h_S_)
        shapeCasts_S16384_S16384x1)
      (mulf (broadcastInDim S16384x1 ![] bcast_S_S16384x1 (constant S_ .f32 0xBF000000#32)) (Host.divf (Host.rsqrt (MS x)) (MS x))))
    (broadcastInDim S16384x1 ![] bcast_S_S16384x1 (constant S_ .f32 0x44800000#32)))
    (constant S_ .f32 0x00000000#32) reducesTo_S16384x1_S16384_d1 h_S_)

/-- The gradient of the rows, before the product is taken. -/
abbrev DX (dy x g' : FVec Ideal S16384x1024 .f32) : FVec Ideal S16384x1024 .f32 :=
  addf (addf (addf dy (mulf g' (RB x))) (mulf x (VB g' x))) (mulf (VB g' x) x)

/-- One row of an array. -/
abbrev row (x : FVec Ideal S16384x1024 .f32) (r : Fin 16384) : Fin 1024 → EReal := fun l => x (ix2 r l)

theorem MS_at (x) (r : Fin 16384) : MS x (ix2 r 0) = ms (row x r) := by
  pointwise [MS, ms, len, eps, row]

theorem RB_at (x) (r : Fin 16384) (q : Fin 1024) : RB x (ix2 r q) = rr (row x r) := by
  have h : RB x (ix2 r q) = Ideal.rsqrt (MS x (ix2 r 0)) := by
    unfold RB
    generalize MS x = y
    pointwise []
  rw [h, MS_at]
  rfl

theorem VB_at (g' x) (r : Fin 16384) (q : Fin 1024) : VB g' x (ix2 r q) = spread (row x r) (row g' r) := by
  have h : VB g' x (ix2 r q) = Ideal.div ((∑ l : Fin 1024, x (ix2 r l) * g' (ix2 r l)) *
      (nhalf * Ideal.div (Ideal.rsqrt (MS x (ix2 r 0))) (MS x (ix2 r 0)))) len := by
    unfold VB
    generalize MS x = y
    pointwise [len, nhalf]
    exact Fin.sum_univ_one _
  rw [h, MS_at]
  rfl

theorem GN_at (g nf md) (r : Fin 16384) (q : Fin 1024) : GN g nf md (ix2 r q)
    = g (ix2 r q) * (Ideal.ofBits .f32 0x3F800000#32 + md (ix2 1 q)) * nf (ix2 0 q) := by
  pointwise [GN, GZ, SC]

theorem DX_at (dy x g') (r : Fin 16384) (q : Fin 1024) : DX dy x g' (ix2 r q) = dy (ix2 r q) + rr (row x r) * (g' (ix2 r q)
    - (x (ix2 r q) * rr (row x r)) * Ideal.div (∑ l : Fin 1024, g' (ix2 r l) * (x (ix2 r l) * rr (row x r))) len) := by
  have h := grad_row (row x r) (row g' r) q
  have e : DX dy x g' (ix2 r q) = ((dy (ix2 r q) + g' (ix2 r q) * RB x (ix2 r q)) + x (ix2 r q) * VB g' x (ix2 r q))
      + VB g' x (ix2 r q) * x (ix2 r q) := rfl
  rw [e, RB_at, VB_at, add_assoc, add_assoc]
  exact congrArg (dy (ix2 r q) + ·) h.symm

/-- The concatenation at an index. -/
theorem hcat (du : FVec Ideal S2x16384x2816 .bf16) (l : Fin 16384) (q : Fin 5632) :
    halves du (ix2 l q) = du (ix3 ⟨q.val / 2816, by omega⟩ l ⟨q.val % 2816, by omega⟩) := by
  pointwise [halves]
  split
  · next h =>
    congr 1
    exact congrArg₂ (fun a b => ix3 a l b) (Fin.ext (by simp; omega)) (Fin.ext (by simp; omega))
  · next h =>
    congr 1
    exact congrArg₂ (fun a b => ix3 a l b) (Fin.ext (by simp; omega)) (Fin.ext (by simp; omega))

theorem DH_at (du w) (r : Fin 16384) (q : Fin 1024) : DH du w (ix2 r q) = ∑ l : Fin 5632,
    du (ix3 ⟨l.val / 2816, by omega⟩ r ⟨l.val % 2816, by omega⟩) * w (ix2 q l) := by
  have e : DH du w (ix2 r q) = ∑ l : Fin 5632, halves du (ix2 r l) * w (ix2 q l) := by
    unfold DH
    generalize halves du = g
    pointwise []
  rw [e]
  exact @Finset.sum_congr (Fin 5632) (Elt Ideal (.f32 : EltTy)) _ _ _ _ _ rfl fun l _ =>
    congrArg (fun z : Elt Ideal (.f32 : EltTy) => z * w (ix2 q l)) (hcat du r l)

/-- The gradient of the branch: the rows' gradient times the gate. -/
abbrev DMO (ga : FVec Ideal S1x1024 .f32) (d : FVec Ideal S16384x1024 .f32) : FVec Ideal S16384x1024 .bf16 :=
  truncf .bf16 (mulf (broadcastInDim S16384x1024 ![0, 1] bcast_S1x1024_S16384x1024_0_1 ga) d) bitsLt_bf16_f32

theorem DMO_at (ga d) (r : Fin 16384) (q : Fin 1024) : DMO ga d (ix2 r q) = ga (ix2 0 q) * d (ix2 r q) := by
  pointwise [DMO]

/-- A sum over the rows, as a row. -/
abbrev CS (y : FVec Ideal S16384x1024 .f32) : FVec Ideal S1x1024 .f32 :=
  shapeCast _ (Host.reduceAdd y (constant S_ .f32 0x00000000#32) reducesTo_S16384x1024_S1024_d0 h_S_) shapeCasts_S1024_S1x1024

theorem CS_at (y) (q : Fin 1024) : CS y (ix2 0 q) = ∑ r : Fin 16384, y (ix2 r q) := by
  pointwise [CS]

/-- The gradient of the norm's weights, of the scale, of the gate. -/
abbrev DNF (x g : FVec Ideal S16384x1024 .f32) (md : FVec Ideal S2x1024 .f32) : FVec Ideal S1x1024 .f32 :=
  CS (mulf (mulf x (RB x)) (GZ g md))
abbrev DSC (x g : FVec Ideal S16384x1024 .f32) (nf : FVec Ideal S1x1024 .f32) : FVec Ideal S1x1024 .f32 :=
  CS (mulf (mulf (mulf x (RB x)) (broadcastInDim S16384x1024 ![0, 1] bcast_S1x1024_S16384x1024_0_1 nf)) g)
abbrev DGA (d mo : FVec Ideal S16384x1024 .f32) : FVec Ideal S1x1024 .f32 := CS (mulf d mo)

theorem DNF_at (x g md) (q : Fin 1024) : DNF x g md (ix2 0 q) = ∑ r : Fin 16384,
    (x (ix2 r q) * rr (row x r)) * (g (ix2 r q) * (Ideal.ofBits .f32 0x3F800000#32 + md (ix2 1 q))) := by
  rw [DNF, CS_at]
  refine @Finset.sum_congr (Fin 16384) (Elt Ideal (.f32 : EltTy)) _ _ _ _ _ rfl fun r _ => ?_
  rw [← RB_at x r q]
  generalize RB x = y
  pointwise [GZ, SC]

theorem DSC_at (x g nf) (q : Fin 1024) : DSC x g nf (ix2 0 q) = ∑ r : Fin 16384,
    ((x (ix2 r q) * rr (row x r)) * nf (ix2 0 q)) * g (ix2 r q) := by
  rw [DSC, CS_at]
  refine @Finset.sum_congr (Fin 16384) (Elt Ideal (.f32 : EltTy)) _ _ _ _ _ rfl fun r _ => ?_
  rw [← RB_at x r q]
  generalize RB x = y
  pointwise []

theorem DGA_at (d mo) (q : Fin 1024) : DGA d mo (ix2 0 q) = ∑ r : Fin 16384, d (ix2 r q) * mo (ix2 r q) := by
  rw [DGA, CS_at]
  rfl

variable (m : (ℓ : Loc nD τ sig) → Buf (Elt Ideal) ℓ) (c : Dev nD)

theorem out0_eq : res_main_v58 m c = DX (m ((c.tc : Thread nD τ).loc main_arg2)) (m ((c.tc : Thread nD τ).loc main_arg3))
    (GN (DH (m ((c.tc : Thread nD τ).loc main_arg0)) (m ((c.tc : Thread nD τ).loc main_arg1))) (m ((c.tc : Thread nD τ).loc main_arg6))
      (m ((c.tc : Thread nD τ).loc main_arg7))) := rfl

theorem out1_eq : res_main_v66 m c = DMO (m ((c.tc : Thread nD τ).loc main_arg5)) (res_main_v58 m c) := rfl

theorem out5_eq : res_main_v65 m c = DGA (res_main_v58 m c) (m ((c.tc : Thread nD τ).loc main_arg4)) := rfl

end Cert.UpDxNormRefIdeal.Value

end
-- ==== Proof.UpDxNorm.lean ====
/- The gradients of the feed-forward input: the kernel's run, tile by tile, against the chain rule's entries. -/
module

public import proofs.«01_k».proof.Proof.Gen.UpDxNormIdeal.Value
public import Idealize.ShloMosaic.Lib.Pipeline.ValueKit
public import proofs.«01_k».proof.Proof.NormRef

@[expose] public section

set_option maxRecDepth 16384

noncomputable section

namespace Cert.UpDxNormIdeal.Value

open Cert.UpDxNormIdeal Cert.UpDxNormIdeal.Gen Idealize.ShloMosaic Idealize.ShloMosaic.TcCoe Idealize.SL.Sem
open Idealize.ShloMosaic.Pipeline (Dat)
open Cert.NormRow

variable (m : (ℓ : Loc nD τ sig) → Buf (Elt Ideal) ℓ)

theorem pay5_at (x) (r : Fin 512) : k0_pay5 (F := Ideal) x (ix2 r 0) = rr (fun l : Fin 1024 => x (ix2 r l)) := by
  pointwise [k0_pay5, rr, ms, len, eps]

theorem pay6_at (x) (r : Fin 512) (q : Fin 1024) :
    k0_pay6 (F := Ideal) x (ix2 r q) = x (ix2 r q) * rr (fun l : Fin 1024 => x (ix2 r l)) := by
  rw [← pay5_at]
  unfold k0_pay6
  generalize k0_pay5 x = y
  pointwise []

theorem pay7_at (h md) (r : Fin 512) (q : Fin 1024) :
    k0_pay7 (F := Ideal) h md (ix2 r q) = h (ix2 r q) * (Ideal.ofBits .f32 0x3F800000#32 + md (ix2 1 q)) := by
  pointwise [k0_pay7]

theorem pay8_at (h x nf md) (r : Fin 512) (q : Fin 1024) : k0_pay8 (F := Ideal) h x nf md (ix2 r q)
    = rr (fun l : Fin 1024 => x (ix2 r l)) * (h (ix2 r q) * (Ideal.ofBits .f32 0x3F800000#32 + md (ix2 1 q)) * nf (ix2 0 q)
      - (x (ix2 r q) * rr (fun l : Fin 1024 => x (ix2 r l))) * Ideal.div (∑ l : Fin 1024,
          (h (ix2 r l) * (Ideal.ofBits .f32 0x3F800000#32 + md (ix2 1 l)) * nf (ix2 0 l))
            * (x (ix2 r l) * rr (fun l : Fin 1024 => x (ix2 r l)))) len) := by
  have e : k0_pay8 (F := Ideal) h x nf md (ix2 r q) = k0_pay5 (F := Ideal) x (ix2 r 0)
      * (k0_pay7 (F := Ideal) h md (ix2 r q) * nf (ix2 0 q) - k0_pay6 (F := Ideal) x (ix2 r q)
        * Ideal.div (∑ l : Fin 1024, k0_pay7 (F := Ideal) h md (ix2 r l) * nf (ix2 0 l) * k0_pay6 (F := Ideal) x (ix2 r l)) len) := by
    unfold k0_pay8
    generalize k0_pay6 x = y
    generalize k0_pay5 x = z
    generalize k0_pay7 h md = u
    pointwise [len]
  rw [e]
  simp only [pay5_at, pay6_at, pay7_at]

theorem pay9_at (h x md) (q : Fin 1024) : k0_pay9 (F := Ideal) h x md (ix2 0 q) = ∑ r : Fin 512,
    (h (ix2 r q) * (Ideal.ofBits .f32 0x3F800000#32 + md (ix2 1 q))) * (x (ix2 r q) * rr (fun l : Fin 1024 => x (ix2 r l))) := by
  have e : k0_pay9 (F := Ideal) h x md (ix2 0 q) = ∑ r : Fin 512,
      k0_pay7 (F := Ideal) h md (ix2 r q) * k0_pay6 (F := Ideal) x (ix2 r q) := by
    unfold k0_pay9
    generalize k0_pay6 x = y
    generalize k0_pay7 h md = u
    pointwise []
  rw [e]
  simp only [pay6_at, pay7_at]

theorem pay11_at (h) (q : Fin 1024) : k0_pay11 (F := Ideal) (k0_pay10 h) (ix2 0 q) = ∑ r : Fin 512, h (ix2 r q) := by
  pointwise [k0_pay11, k0_pay10]

theorem pay12_at (h x nf) (q : Fin 1024) : k0_pay12 (F := Ideal) h nf (k0_pay6 x) (ix2 0 q) = ∑ r : Fin 512,
    h (ix2 r q) * ((x (ix2 r q) * rr (fun l : Fin 1024 => x (ix2 r l))) * nf (ix2 0 q)) := by
  have e : ∀ y : FVec Ideal S512x1024 .f32, k0_pay12 (F := Ideal) h nf y (ix2 0 q) = ∑ r : Fin 512,
      h (ix2 r q) * (y (ix2 r q) * nf (ix2 0 q)) := fun y => by pointwise [k0_pay12]
  rw [e]
  simp only [pay6_at]

theorem pay14_at (dy mo p) (q : Fin 1024) : k0_pay14 (F := Ideal) dy mo p (ix2 0 q) = ∑ r : Fin 512,
    (dy (ix2 r q) + p (ix2 r q)) * mo (ix2 r q) := by
  pointwise [k0_pay14, k0_pay13]

theorem pay15_at (dy ga p) (r : Fin 512) (q : Fin 1024) :
    k0_pay15 (F := Ideal) dy ga p (ix2 r q) = ga (ix2 0 q) * (dy (ix2 r q) + p (ix2 r q)) := by
  pointwise [k0_pay15, k0_pay13]

theorem pay4_at (y a j) : k0_pay4 (F := Ideal) y a j = a j + y j := by pointwise [k0_pay4]
theorem pay16_at (y a j) : k0_pay16 (F := Ideal) y a j = a j + y j := by pointwise [k0_pay16]
theorem pay17_at (h a) (q : Fin 1024) : k0_pay17 (F := Ideal) (k0_pay10 h) a (ix2 0 q) = a (ix2 0 q) + ∑ r : Fin 512, h (ix2 r q) := by
  rw [← pay11_at]
  generalize k0_pay10 h = u
  pointwise [k0_pay17, k0_pay11]
theorem pay18_at (h nf x a j) : k0_pay18 (F := Ideal) h nf x a j = a j + k0_pay12 (F := Ideal) h nf x j := by
  unfold k0_pay18
  generalize k0_pay12 h nf x = u
  pointwise []

theorem pay2_at (a b) (r : Fin 512) (q : Fin 1024) :
    k0_pay2 (F := Ideal) a b (ix2 r q) = ∑ l : Fin 2816, a (ix3 0 r l) * b (ix2 q l) := by
  pointwise [k0_pay2, k0_pay1]
theorem pay3_at (a b s) (r : Fin 512) (q : Fin 1024) :
    k0_pay3 (F := Ideal) a b s (ix2 r q) = s (ix2 r q) + ∑ l : Fin 2816, a (ix3 0 r l) * b (ix2 q l) := by
  pointwise [k0_pay3, k0_pay1]

/-- Which blocks the points see. -/
theorem idx : ∀ t : Fin cfg0.N, win0_0.index t = ![t.val % 2, t.val / 2, 0] ∧ win0_1.index t = ![0, t.val % 2]
    ∧ win0_2.index t = ![t.val / 2, 0] ∧ win0_3.index t = ![t.val / 2, 0] ∧ win0_4.index t = ![t.val / 2, 0]
    ∧ win0_5.index t = ![0, 0] ∧ win0_6.index t = ![0, 0] ∧ win0_7.index t = ![0, 0]
    ∧ win0_8.index t = ![t.val / 2, 0] ∧ win0_9.index t = ![t.val / 2, 0]
    ∧ win0_10.index t = ![0, 0] ∧ win0_11.index t = ![0, 0] ∧ win0_12.index t = ![0, 0] ∧ win0_13.index t = ![0, 0] :=
  (by decide +kernel : ∀ t : Fin grid0.N, _)

theorem lt64 : ∀ t : Fin cfg0.N, t.val < 64 := (by decide +kernel : ∀ t : Fin grid0.N, t.val < 64)

/-- The array's row a tile's row is. -/
abbrev at_ (t : Fin cfg0.N) (r : Fin 512) : Fin 16384 := ⟨t.val / 2 * 512 + r.val, by have := lt64 t; omega⟩

abbrev du (c : Dev nD) : FVec Ideal S2x16384x2816 .bf16 := m ((c : Thread nD τ).loc main_arg0)
abbrev up (c : Dev nD) : FVec Ideal S1024x5632 .bf16 := m ((c : Thread nD τ).loc main_arg1)
abbrev dy (c : Dev nD) : FVec Ideal S16384x1024 .f32 := m ((c : Thread nD τ).loc main_arg2)
abbrev xx (c : Dev nD) : FVec Ideal S16384x1024 .f32 := m ((c : Thread nD τ).loc main_arg3)
abbrev mo (c : Dev nD) : FVec Ideal S16384x1024 .f32 := m ((c : Thread nD τ).loc main_arg4)
abbrev ga (c : Dev nD) : FVec Ideal S1x1024 .f32 := m ((c : Thread nD τ).loc main_arg5)
abbrev nf (c : Dev nD) : FVec Ideal S1x1024 .f32 := m ((c : Thread nD τ).loc main_arg6)
abbrev md (c : Dev nD) : FVec Ideal S2x1024 .f32 := m ((c : Thread nD τ).loc main_arg7)

theorem b2 (c : Dev nD) (t : Fin cfg0.N) (r : Fin 512) (q : Fin 1024) : iblk m c 2 t (ix2 r q) = dy m c (ix2 (at_ t r) q) := by
  blk_point [iblk, V, idx t]
theorem b3 (c : Dev nD) (t : Fin cfg0.N) (r : Fin 512) (q : Fin 1024) : iblk m c 3 t (ix2 r q) = xx m c (ix2 (at_ t r) q) := by
  blk_point [iblk, V, idx t]
theorem b4 (c : Dev nD) (t : Fin cfg0.N) (r : Fin 512) (q : Fin 1024) : iblk m c 4 t (ix2 r q) = mo m c (ix2 (at_ t r) q) := by
  blk_point [iblk, V, idx t]
theorem b5 (c : Dev nD) (t : Fin cfg0.N) (q : Fin 1024) : iblk m c 5 t (ix2 0 q) = ga m c (ix2 0 q) := by
  blk_point [iblk, V, idx t]
theorem b6 (c : Dev nD) (t : Fin cfg0.N) (q : Fin 1024) : iblk m c 6 t (ix2 0 q) = nf m c (ix2 0 q) := by
  blk_point [iblk, V, idx t]
theorem b7 (c : Dev nD) (t : Fin cfg0.N) (q : Fin 1024) : iblk m c 7 t (ix2 1 q) = md m c (ix2 1 q) := by
  blk_point [iblk, V, idx t]

/-- What the point before left. -/
abbrev prev (c : Dev nD) (t : Fin cfg0.N) := outsAt0 m c (t.val - 1) (lt_of_le_of_lt (Nat.sub_le _ _) t.isLt)

/-- A row tile of `du up^T`, when its second half has been added. -/
def H (c : Dev nD) (t : Fin cfg0.N) : FVec Ideal S512x1024 .f32 :=
  k0_pay3 (iblk m c 0 t) (iblk m c 1 t) (prev m c t).2.2.2.2.2.2

theorem even (c : Dev nD) (t : Fin cfg0.N) (h : t.val % 2 = 0) :
    (outsAt0 m c t.val t.isLt).2.2.2.2.2.2 = k0_pay2 (iblk m c 0 t) (iblk m c 1 t) := by
  rw [outsAt0_A m c t h (by omega) (by omega)]
  funext j
  frame_out

theorem H_at (c : Dev nD) (t : Fin cfg0.N) (h : t.val % 2 = 1) (r : Fin 512) (q : Fin 1024) :
    H m c t (ix2 r q) = Cert.UpDxNormRefIdeal.Value.DH (du m c) (up m c) (ix2 (at_ t r) q) := by
  rw [Cert.UpDxNormRefIdeal.Value.DH_at, H, pay3_at]
  have he := even m c ⟨t.val - 1, lt_of_le_of_lt (Nat.sub_le _ _) t.isLt⟩ (by show (t.val - 1) % 2 = 0; omega)
  rw [show (prev m c t).2.2.2.2.2.2 = _ from he, pay2_at]
  have g : ∀ (s : Fin 2) (k : Fin 2816), s.val * 2816 + k.val < 5632 := fun s k => by omega
  let F : Fin 2 → Fin 2816 → EReal := fun s k => du m c (ix3 s (at_ t r) k) * up m c (ix2 q ⟨s.val * 2816 + k.val, g s k⟩)
  have hF : (∑ s : Fin 2, ∑ k : Fin 2816, F s k) = ∑ l : Fin 5632,
      (du m c (ix3 ⟨l.val / 2816, by omega⟩ (at_ t r) ⟨l.val % 2816, by omega⟩) * up m c (ix2 q l) : EReal) := by
    refine Fin.sum_mul_add_congr fun s k hl => ?_
    have e1 : (⟨(s.val * 2816 + k.val) / 2816, by omega⟩ : Fin 2) = s := Fin.ext (by show (s.val * 2816 + k.val) / 2816 = s.val; omega)
    have e2 : (⟨(s.val * 2816 + k.val) % 2816, by omega⟩ : Fin 2816) = k := Fin.ext (by show (s.val * 2816 + k.val) % 2816 = k.val; omega)
    show F s k = _
    exact congrArg₂ (fun (a : Fin 2) (b : Fin 2816) => (du m c (ix3 a (at_ t r) b) * up m c (ix2 q ⟨s.val * 2816 + k.val, hl⟩) : EReal))
      e1.symm e2.symm
  refine Eq.trans ?_ hF
  rw [Fin.sum_univ_two]
  refine congrArg₂ (fun a b : EReal => a + b) (Fin.sum_fin_congr fun k => ?_) (Fin.sum_fin_congr fun k => ?_)
  · have h0 : (t.val - 1) % 2 = 0 := by omega
    have h1 : (t.val - 1) / 2 = t.val / 2 := by omega
    show @HMul.hMul EReal EReal EReal _ (iblk m c 0 ⟨t.val - 1, _⟩ (ix3 0 r k)) (iblk m c 1 ⟨t.val - 1, _⟩ (ix2 q k))
      = du m c (ix3 0 (at_ t r) k) * up m c (ix2 q ⟨0 * 2816 + k.val, _⟩)
    blk_point [iblk, V, idx ⟨t.val - 1, lt_of_le_of_lt (Nat.sub_le _ _) t.isLt⟩, h0, h1]
  · show @HMul.hMul EReal EReal EReal _ (iblk m c 0 t (ix3 0 r k)) (iblk m c 1 t (ix2 q k))
      = du m c (ix3 1 (at_ t r) k) * up m c (ix2 q ⟨1 * 2816 + k.val, _⟩)
    blk_point [iblk, V, idx t, h]

/-- The rows' gradient of a tile. -/
abbrev P8 (c : Dev nD) (t : Fin cfg0.N) : FVec Ideal S512x1024 .f32 :=
  k0_pay8 (H m c t) (iblk m c 3 t) (iblk m c 6 t) (iblk m c 7 t)

theorem odd8 (c : Dev nD) (t : Fin cfg0.N) (h : t.val % 2 = 1) :
    (outsAt0 m c t.val t.isLt).1 = k0_pay13 (iblk m c 2 t) (P8 m c t) := by
  by_cases h2 : 2 ≤ t.val
  · rw [outsAt0_C m c t (by omega) h h (by omega) h2 (by omega) h2 (by omega) h2 (by omega) h2]
    funext j; frame_out; erw [(Memref.isWhole_whole cc0_scratch0).read_unread]; rfl
  · rw [outsAt0_B m c t (by omega) h h (by omega) h2 (by omega) h2 (by omega) h2 (by omega) h2]
    funext j; frame_out; erw [(Memref.isWhole_whole cc0_scratch0).read_unread]; rfl

theorem odd9 (c : Dev nD) (t : Fin cfg0.N) (h : t.val % 2 = 1) :
    (outsAt0 m c t.val t.isLt).2.1 = k0_pay15 (iblk m c 2 t) (iblk m c 5 t) (P8 m c t) := by
  by_cases h2 : 2 ≤ t.val
  · rw [outsAt0_C m c t (by omega) h h (by omega) h2 (by omega) h2 (by omega) h2 (by omega) h2]
    funext j; frame_out; erw [(Memref.isWhole_whole cc0_scratch0).read_unread]; rfl
  · rw [outsAt0_B m c t (by omega) h h (by omega) h2 (by omega) h2 (by omega) h2 (by omega) h2]
    funext j; frame_out; erw [(Memref.isWhole_whole cc0_scratch0).read_unread]; rfl

open Cert.UpDxNormRefIdeal.Value (DH GN DX DMO DNF DSC DGA CS DX_at GN_at DMO_at DNF_at DSC_at DGA_at CS_at row)

/-- The reference's gradient of the rows, at this memory. -/
abbrev D (c : Dev nD) : FVec Ideal S16384x1024 .f32 := DX (dy m c) (xx m c) (GN (DH (du m c) (up m c)) (nf m c) (md m c))

theorem D_at (c : Dev nD) (t : Fin cfg0.N) (h : t.val % 2 = 1) (r : Fin 512) (q : Fin 1024) :
    D m c (ix2 (at_ t r) q) = @HAdd.hAdd EReal EReal EReal _ (iblk m c 2 t (ix2 r q)) (P8 m c t (ix2 r q)) := by
  refine (DX_at _ _ _ _ _).trans ?_
  rw [P8, pay8_at]
  simp only [b2, b3, b6, b7, H_at m c t h, GN_at]

theorem emb8 (t : Fin cfg0.N) (y : S512x1024.Idx) : ((cfg0.win 8).blk t).view.emb y = ix2 (at_ t (y 0)) (y 1) := by
  have e := (idx t).2.2.2.2.2.2.2.2.1
  funext a
  match a with
  | ⟨0, _⟩ => exact Fin.ext (show win0_8.index t (0 : Fin 2) * 512 + 1 * (y 0).val = _ by rw [e]; show t.val / 2 * 512 + 1 * (y 0).val = t.val / 2 * 512 + (y 0).val; omega)
  | ⟨1, _⟩ => exact Fin.ext (show win0_8.index t (1 : Fin 2) * 1024 + 1 * (y 1).val = _ by rw [e]; show 0 * 1024 + 1 * (y 1).val = (y 1).val; omega)

theorem emb9 (t : Fin cfg0.N) (y : S512x1024.Idx) : ((cfg0.win 9).blk t).view.emb y = ix2 (at_ t (y 0)) (y 1) := by
  have e := (idx t).2.2.2.2.2.2.2.2.2.1
  funext a
  match a with
  | ⟨0, _⟩ => exact Fin.ext (show win0_9.index t (0 : Fin 2) * 512 + 1 * (y 0).val = _ by rw [e]; show t.val / 2 * 512 + 1 * (y 0).val = t.val / 2 * 512 + (y 0).val; omega)
  | ⟨1, _⟩ => exact Fin.ext (show win0_9.index t (1 : Fin 2) * 1024 + 1 * (y 1).val = _ by rw [e]; show 0 * 1024 + 1 * (y 1).val = (y 1).val; omega)

theorem fin8 (c : Dev nD) : (dats m 0 c).arrAt 8 (cfgs 0).N = D m c := by
  refine (dats m 0 c).arrAt_eq_of_covers 8 _ (by decide +kernel) fun t hf y => ?_
  have hr := (flush0_8 t).mp hf
  blk_simp
  rw [after0_8, odd8 m c t hr]
  refine Eq.trans ?_ (congrArg (D m c) (emb8 t y)).symm
  have hy : y = ix2 (y 0) (y 1) := by
    funext a
    match a with
    | ⟨0, _⟩ => rfl
    | ⟨1, _⟩ => rfl
  exact (congrArg (k0_pay13 (iblk m c 2 t) (P8 m c t)) hy).trans (D_at m c t hr (y 0) (y 1)).symm

theorem ent9 (c : Dev nD) (t : Fin cfg0.N) (h : t.val % 2 = 1) (r : Fin 512) (q : Fin 1024) :
    k0_pay15 (iblk m c 2 t) (iblk m c 5 t) (P8 m c t) (ix2 r q) = DMO (ga m c) (D m c) (ix2 (at_ t r) q) := by
  rw [DMO_at, D_at m c t h r q, pay15_at, b5]

theorem fin9 (c : Dev nD) : (dats m 0 c).arrAt 9 (cfgs 0).N = DMO (ga m c) (D m c) := by
  refine (dats m 0 c).arrAt_eq_of_covers 9 _ (by decide +kernel) fun t hf y => ?_
  have hr := (flush0_9 t).mp hf
  blk_simp
  rw [after0_9, odd9 m c t hr]
  refine Eq.trans ?_ (congrArg (DMO (ga m c) (D m c)) (emb9 t y)).symm
  have hy : y = ix2 (y 0) (y 1) := by
    funext a
    match a with
    | ⟨0, _⟩ => rfl
    | ⟨1, _⟩ => rfl
  exact (congrArg (k0_pay15 (iblk m c 2 t) (iblk m c 5 t) (P8 m c t)) hy).trans (ent9 m c t hr (y 0) (y 1))

/-- A value carried over the even points and added to at the odd ones is the sum of what was added. -/
theorem accum (f g : Fin cfg0.N → EReal) (h0 : ∀ t : Fin cfg0.N, t.val = 1 → f t = g t)
    (hs : ∀ t : Fin cfg0.N, t.val % 2 = 1 → 2 ≤ t.val → f t = f ⟨t.val - 1, lt_of_le_of_lt (Nat.sub_le _ _) t.isLt⟩ + g t)
    (hc : ∀ t : Fin cfg0.N, t.val % 2 = 0 → 1 ≤ t.val → f t = f ⟨t.val - 1, lt_of_le_of_lt (Nat.sub_le _ _) t.isLt⟩) :
    ∀ (n : ℕ) (hn : 2 * n + 1 < cfg0.N), f ⟨2 * n + 1, hn⟩ = ∑ s : Fin (n + 1), g ⟨2 * s.val + 1, by omega⟩
  | 0, hn => by
    rw [Fin.sum_univ_one]
    exact h0 ⟨1, hn⟩ rfl
  | n + 1, hn => by
    rw [Fin.sum_univ_castSucc, hs ⟨2 * (n + 1) + 1, hn⟩ (by show (2 * (n + 1) + 1) % 2 = 1; omega) (by show 2 ≤ 2 * (n + 1) + 1; omega)]
    refine congrArg (fun z : EReal => z + g ⟨2 * (n + 1) + 1, hn⟩) ?_
    rw [hc ⟨2 * (n + 1) + 1 - 1, _⟩ (by show (2 * (n + 1) + 1 - 1) % 2 = 0; omega) (by show 1 ≤ 2 * (n + 1) + 1 - 1; omega)]
    exact accum f g h0 hs hc n (by omega)

/-- The tiles' rows are the array's. -/
theorem tiles (e : Fin 16384 → EReal) (n : ℕ) (hn : 2 * n + 1 < cfg0.N) (h : n = 31) : (∑ s : Fin (n + 1), ∑ r : Fin 512,
    e (at_ ⟨2 * s.val + 1, by omega⟩ r)) = ∑ R : Fin 16384, e R := by
  subst h
  refine Fin.sum_mul_add_congr fun s r hl => congrArg e (Fin.ext ?_)
  show (2 * s.val + 1) / 2 * 512 + r.val = s.val * 512 + r.val
  omega

theorem last : ∀ t : Fin cfg0.N, t.val % 64 = 63 → ∃ (n : ℕ) (hn : 2 * n + 1 < cfg0.N), n = 31 ∧ t = ⟨2 * n + 1, hn⟩ := fun t h =>
  ⟨t.val / 2, by have := t.isLt; omega, by have := lt64 t; omega, Fin.ext (by show t.val = 2 * (t.val / 2) + 1; omega)⟩

abbrev T10 (c : Dev nD) (t : Fin cfg0.N) : FVec Ideal S1x1024 .f32 := k0_pay9 (H m c t) (iblk m c 3 t) (iblk m c 7 t)

theorem fst10 (c : Dev nD) (t : Fin cfg0.N) (h : t.val = 1) : (outsAt0 m c t.val t.isLt).2.2.1 = T10 m c t := by
  rw [outsAt0_B m c t (by omega) (by omega) (by omega) (by omega) (by omega) (by omega) (by omega) (by omega) (by omega) (by omega) (by omega)]
  funext j; frame_out; erw [(Memref.isWhole_whole cc0_scratch0).read_unread]; rfl

theorem stp10 (c : Dev nD) (t : Fin cfg0.N) (h : t.val % 2 = 1) (h2 : 2 ≤ t.val) (q : Fin 1024) :
    (outsAt0 m c t.val t.isLt).2.2.1 (ix2 0 q) = (prev m c t).2.2.1 (ix2 0 q) + T10 m c t (ix2 0 q) := by
  rw [outsAt0_C m c t (by omega) h h (by omega) h2 (by omega) h2 (by omega) h2 (by omega) h2]
  frame_out; erw [(Memref.isWhole_whole cc0_scratch0).read_unread]
  unfold T10
  exact (pay16_at _ _ _)

theorem car10 (c : Dev nD) (t : Fin cfg0.N) (h : t.val % 2 = 0) (h2 : 1 ≤ t.val) :
    (outsAt0 m c t.val t.isLt).2.2.1 = (prev m c t).2.2.1 := by
  rw [outsAt0_A m c t h (by omega) (by omega)]
  rfl

theorem key10 (c : Dev nD) (t : Fin cfg0.N) (h : t.val % 2 = 1) (q : Fin 1024) : T10 m c t (ix2 0 q) = ∑ r : Fin 512,
    ((xx m c (ix2 (at_ t r) q) * rr (row (xx m c) (at_ t r))) * (DH (du m c) (up m c) (ix2 (at_ t r) q) * (Ideal.ofBits .f32 0x3F800000#32 + md m c (ix2 1 q))) : EReal) := by
  unfold T10
  rw [pay9_at]
  refine Fin.sum_fin_congr fun r => ?_
  simp only [b3, b7, H_at m c t h]
  exact mul_comm _ _

theorem sum10 (c : Dev nD) (q : Fin 1024) (n : ℕ) (hn : 2 * n + 1 < cfg0.N) (h31 : n = 31) :
    (outsAt0 m c (2 * n + 1) hn).2.2.1 (ix2 0 q) = DNF (xx m c) (DH (du m c) (up m c)) (md m c) (ix2 0 q) := by
  have h := accum (fun t => (outsAt0 m c t.val t.isLt).2.2.1 (ix2 0 q)) (fun t => T10 m c t (ix2 0 q))
    (fun t h => congrFun (fst10 m c t h) _) (fun t h h2 => stp10 m c t h h2 q) (fun t h h2 => congrFun (car10 m c t h h2) _) n hn
  refine h.trans (Eq.trans (Fin.sum_fin_congr fun s => key10 m c _ (by show (2 * s.val + 1) % 2 = 1; omega) q) ?_)
  rw [DNF_at]
  exact tiles (fun R => ((xx m c (ix2 R q) * rr (row (xx m c) R)) * (DH (du m c) (up m c) (ix2 R q) * (Ideal.ofBits .f32 0x3F800000#32 + md m c (ix2 1 q))) : EReal)) n hn h31

theorem emb10 (t : Fin cfg0.N) (y : S1x1024.Idx) : ((cfg0.win 10).blk t).view.emb y = ix2 0 (y 1) := by
  have e : win0_10.index t = ![0, 0] := by simp only [idx t]
  funext a
  match a with
  | ⟨0, _⟩ => exact Fin.ext (show win0_10.index t (0 : Fin 2) * 1 + 1 * (y 0).val = _ by rw [e]; have h : (y 0).val < 1 := (y 0).isLt; show 0 * 1 + 1 * (y 0).val = 0; omega)
  | ⟨1, _⟩ => exact Fin.ext (show win0_10.index t (1 : Fin 2) * 1024 + 1 * (y 1).val = _ by rw [e]; show 0 * 1024 + 1 * (y 1).val = (y 1).val; omega)

theorem fin10 (c : Dev nD) : (dats m 0 c).arrAt 10 (cfgs 0).N = DNF (xx m c) (DH (du m c) (up m c)) (md m c) := by
  refine (dats m 0 c).arrAt_eq_of_covers 10 _ (by decide +kernel) fun t hf y => ?_
  obtain ⟨n, hn, h31, hr⟩ := last t ((flush0_10 t).mp hf)
  blk_simp
  rw [after0_10]
  subst hr
  refine Eq.trans ?_ (congrArg (DNF (xx m c) (DH (du m c) (up m c)) (md m c)) (emb10 _ y)).symm
  have hy : y = ix2 0 (y 1) := by
    funext a
    match a with
    | ⟨0, _⟩ => exact Fin.ext (by have h : (y 0).val < 1 := (y 0).isLt; show (y 0).val = 0; omega)
    | ⟨1, _⟩ => rfl
  exact (congrArg ((outsAt0 m c (2 * n + 1) hn).2.2.1) hy).trans (sum10 m c (y 1) n hn h31)

abbrev T11 (c : Dev nD) (t : Fin cfg0.N) : FVec Ideal S1x1024 .f32 := k0_pay11 (k0_pay10 (H m c t))

theorem fst11 (c : Dev nD) (t : Fin cfg0.N) (h : t.val = 1) : (outsAt0 m c t.val t.isLt).2.2.2.1 = T11 m c t := by
  rw [outsAt0_B m c t (by omega) (by omega) (by omega) (by omega) (by omega) (by omega) (by omega) (by omega) (by omega) (by omega) (by omega)]
  funext j; frame_out; erw [(Memref.isWhole_whole cc0_scratch0).read_unread]; rfl

theorem stp11 (c : Dev nD) (t : Fin cfg0.N) (h : t.val % 2 = 1) (h2 : 2 ≤ t.val) (q : Fin 1024) :
    (outsAt0 m c t.val t.isLt).2.2.2.1 (ix2 0 q) = (prev m c t).2.2.2.1 (ix2 0 q) + T11 m c t (ix2 0 q) := by
  rw [outsAt0_C m c t (by omega) h h (by omega) h2 (by omega) h2 (by omega) h2 (by omega) h2]
  frame_out; erw [(Memref.isWhole_whole cc0_scratch0).read_unread]
  unfold T11
  rw [pay11_at]; exact pay17_at _ _ _

theorem car11 (c : Dev nD) (t : Fin cfg0.N) (h : t.val % 2 = 0) (h2 : 1 ≤ t.val) :
    (outsAt0 m c t.val t.isLt).2.2.2.1 = (prev m c t).2.2.2.1 := by
  rw [outsAt0_A m c t h (by omega) (by omega)]
  rfl

theorem key11 (c : Dev nD) (t : Fin cfg0.N) (h : t.val % 2 = 1) (q : Fin 1024) : T11 m c t (ix2 0 q) = ∑ r : Fin 512,
    (DH (du m c) (up m c) (ix2 (at_ t r) q) : EReal) := by
  unfold T11
  rw [pay11_at]
  refine Fin.sum_fin_congr fun r => ?_
  rw [H_at m c t h]

theorem sum11 (c : Dev nD) (q : Fin 1024) (n : ℕ) (hn : 2 * n + 1 < cfg0.N) (h31 : n = 31) :
    (outsAt0 m c (2 * n + 1) hn).2.2.2.1 (ix2 0 q) = CS (DH (du m c) (up m c)) (ix2 0 q) := by
  have h := accum (fun t => (outsAt0 m c t.val t.isLt).2.2.2.1 (ix2 0 q)) (fun t => T11 m c t (ix2 0 q))
    (fun t h => congrFun (fst11 m c t h) _) (fun t h h2 => stp11 m c t h h2 q) (fun t h h2 => congrFun (car11 m c t h h2) _) n hn
  refine h.trans (Eq.trans (Fin.sum_fin_congr fun s => key11 m c _ (by show (2 * s.val + 1) % 2 = 1; omega) q) ?_)
  rw [CS_at]
  exact tiles (fun R => (DH (du m c) (up m c) (ix2 R q) : EReal)) n hn h31

theorem emb11 (t : Fin cfg0.N) (y : S1x1024.Idx) : ((cfg0.win 11).blk t).view.emb y = ix2 0 (y 1) := by
  have e : win0_11.index t = ![0, 0] := by simp only [idx t]
  funext a
  match a with
  | ⟨0, _⟩ => exact Fin.ext (show win0_11.index t (0 : Fin 2) * 1 + 1 * (y 0).val = _ by rw [e]; have h : (y 0).val < 1 := (y 0).isLt; show 0 * 1 + 1 * (y 0).val = 0; omega)
  | ⟨1, _⟩ => exact Fin.ext (show win0_11.index t (1 : Fin 2) * 1024 + 1 * (y 1).val = _ by rw [e]; show 0 * 1024 + 1 * (y 1).val = (y 1).val; omega)

theorem fin11 (c : Dev nD) : (dats m 0 c).arrAt 11 (cfgs 0).N = CS (DH (du m c) (up m c)) := by
  refine (dats m 0 c).arrAt_eq_of_covers 11 _ (by decide +kernel) fun t hf y => ?_
  obtain ⟨n, hn, h31, hr⟩ := last t ((flush0_11 t).mp hf)
  blk_simp
  rw [after0_11]
  subst hr
  refine Eq.trans ?_ (congrArg (CS (DH (du m c) (up m c))) (emb11 _ y)).symm
  have hy : y = ix2 0 (y 1) := by
    funext a
    match a with
    | ⟨0, _⟩ => exact Fin.ext (by have h : (y 0).val < 1 := (y 0).isLt; show (y 0).val = 0; omega)
    | ⟨1, _⟩ => rfl
  exact (congrArg ((outsAt0 m c (2 * n + 1) hn).2.2.2.1) hy).trans (sum11 m c (y 1) n hn h31)

abbrev T12 (c : Dev nD) (t : Fin cfg0.N) : FVec Ideal S1x1024 .f32 := k0_pay12 (H m c t) (iblk m c 6 t) (k0_pay6 (iblk m c 3 t))

theorem fst12 (c : Dev nD) (t : Fin cfg0.N) (h : t.val = 1) : (outsAt0 m c t.val t.isLt).2.2.2.2.1 = T12 m c t := by
  rw [outsAt0_B m c t (by omega) (by omega) (by omega) (by omega) (by omega) (by omega) (by omega) (by omega) (by omega) (by omega) (by omega)]
  funext j; frame_out; erw [(Memref.isWhole_whole cc0_scratch0).read_unread]; rfl

theorem stp12 (c : Dev nD) (t : Fin cfg0.N) (h : t.val % 2 = 1) (h2 : 2 ≤ t.val) (q : Fin 1024) :
    (outsAt0 m c t.val t.isLt).2.2.2.2.1 (ix2 0 q) = (prev m c t).2.2.2.2.1 (ix2 0 q) + T12 m c t (ix2 0 q) := by
  rw [outsAt0_C m c t (by omega) h h (by omega) h2 (by omega) h2 (by omega) h2 (by omega) h2]
  frame_out; erw [(Memref.isWhole_whole cc0_scratch0).read_unread]
  unfold T12
  exact pay18_at _ _ _ _ _

theorem car12 (c : Dev nD) (t : Fin cfg0.N) (h : t.val % 2 = 0) (h2 : 1 ≤ t.val) :
    (outsAt0 m c t.val t.isLt).2.2.2.2.1 = (prev m c t).2.2.2.2.1 := by
  rw [outsAt0_A m c t h (by omega) (by omega)]
  rfl

theorem key12 (c : Dev nD) (t : Fin cfg0.N) (h : t.val % 2 = 1) (q : Fin 1024) : T12 m c t (ix2 0 q) = ∑ r : Fin 512,
    (((xx m c (ix2 (at_ t r) q) * rr (row (xx m c) (at_ t r))) * nf m c (ix2 0 q)) * DH (du m c) (up m c) (ix2 (at_ t r) q) : EReal) := by
  unfold T12
  rw [pay12_at]
  refine Fin.sum_fin_congr fun r => ?_
  simp only [b3, b6, H_at m c t h]
  exact mul_comm _ _

theorem sum12 (c : Dev nD) (q : Fin 1024) (n : ℕ) (hn : 2 * n + 1 < cfg0.N) (h31 : n = 31) :
    (outsAt0 m c (2 * n + 1) hn).2.2.2.2.1 (ix2 0 q) = DSC (xx m c) (DH (du m c) (up m c)) (nf m c) (ix2 0 q) := by
  have h := accum (fun t => (outsAt0 m c t.val t.isLt).2.2.2.2.1 (ix2 0 q)) (fun t => T12 m c t (ix2 0 q))
    (fun t h => congrFun (fst12 m c t h) _) (fun t h h2 => stp12 m c t h h2 q) (fun t h h2 => congrFun (car12 m c t h h2) _) n hn
  refine h.trans (Eq.trans (Fin.sum_fin_congr fun s => key12 m c _ (by show (2 * s.val + 1) % 2 = 1; omega) q) ?_)
  rw [DSC_at]
  exact tiles (fun R => (((xx m c (ix2 R q) * rr (row (xx m c) R)) * nf m c (ix2 0 q)) * DH (du m c) (up m c) (ix2 R q) : EReal)) n hn h31

theorem emb12 (t : Fin cfg0.N) (y : S1x1024.Idx) : ((cfg0.win 12).blk t).view.emb y = ix2 0 (y 1) := by
  have e : win0_12.index t = ![0, 0] := by simp only [idx t]
  funext a
  match a with
  | ⟨0, _⟩ => exact Fin.ext (show win0_12.index t (0 : Fin 2) * 1 + 1 * (y 0).val = _ by rw [e]; have h : (y 0).val < 1 := (y 0).isLt; show 0 * 1 + 1 * (y 0).val = 0; omega)
  | ⟨1, _⟩ => exact Fin.ext (show win0_12.index t (1 : Fin 2) * 1024 + 1 * (y 1).val = _ by rw [e]; show 0 * 1024 + 1 * (y 1).val = (y 1).val; omega)

theorem fin12 (c : Dev nD) : (dats m 0 c).arrAt 12 (cfgs 0).N = DSC (xx m c) (DH (du m c) (up m c)) (nf m c) := by
  refine (dats m 0 c).arrAt_eq_of_covers 12 _ (by decide +kernel) fun t hf y => ?_
  obtain ⟨n, hn, h31, hr⟩ := last t ((flush0_12 t).mp hf)
  blk_simp
  rw [after0_12]
  subst hr
  refine Eq.trans ?_ (congrArg (DSC (xx m c) (DH (du m c) (up m c)) (nf m c)) (emb12 _ y)).symm
  have hy : y = ix2 0 (y 1) := by
    funext a
    match a with
    | ⟨0, _⟩ => exact Fin.ext (by have h : (y 0).val < 1 := (y 0).isLt; show (y 0).val = 0; omega)
    | ⟨1, _⟩ => rfl
  exact (congrArg ((outsAt0 m c (2 * n + 1) hn).2.2.2.2.1) hy).trans (sum12 m c (y 1) n hn h31)

abbrev T13 (c : Dev nD) (t : Fin cfg0.N) : FVec Ideal S1x1024 .f32 := k0_pay14 (iblk m c 2 t) (iblk m c 4 t) (P8 m c t)

theorem fst13 (c : Dev nD) (t : Fin cfg0.N) (h : t.val = 1) : (outsAt0 m c t.val t.isLt).2.2.2.2.2.1 = T13 m c t := by
  rw [outsAt0_B m c t (by omega) (by omega) (by omega) (by omega) (by omega) (by omega) (by omega) (by omega) (by omega) (by omega) (by omega)]
  funext j; frame_out; erw [(Memref.isWhole_whole cc0_scratch0).read_unread]; rfl

theorem stp13 (c : Dev nD) (t : Fin cfg0.N) (h : t.val % 2 = 1) (h2 : 2 ≤ t.val) (q : Fin 1024) :
    (outsAt0 m c t.val t.isLt).2.2.2.2.2.1 (ix2 0 q) = (prev m c t).2.2.2.2.2.1 (ix2 0 q) + T13 m c t (ix2 0 q) := by
  rw [outsAt0_C m c t (by omega) h h (by omega) h2 (by omega) h2 (by omega) h2 (by omega) h2]
  frame_out; erw [(Memref.isWhole_whole cc0_scratch0).read_unread]
  unfold T13
  exact (pay4_at _ _ _)

theorem car13 (c : Dev nD) (t : Fin cfg0.N) (h : t.val % 2 = 0) (h2 : 1 ≤ t.val) :
    (outsAt0 m c t.val t.isLt).2.2.2.2.2.1 = (prev m c t).2.2.2.2.2.1 := by
  rw [outsAt0_A m c t h (by omega) (by omega)]
  rfl

theorem key13 (c : Dev nD) (t : Fin cfg0.N) (h : t.val % 2 = 1) (q : Fin 1024) : T13 m c t (ix2 0 q) = ∑ r : Fin 512,
    (D m c (ix2 (at_ t r) q) * mo m c (ix2 (at_ t r) q) : EReal) := by
  unfold T13
  rw [pay14_at]
  refine Fin.sum_fin_congr fun r => ?_
  rw [D_at m c t h, b4]

theorem sum13 (c : Dev nD) (q : Fin 1024) (n : ℕ) (hn : 2 * n + 1 < cfg0.N) (h31 : n = 31) :
    (outsAt0 m c (2 * n + 1) hn).2.2.2.2.2.1 (ix2 0 q) = DGA (D m c) (mo m c) (ix2 0 q) := by
  have h := accum (fun t => (outsAt0 m c t.val t.isLt).2.2.2.2.2.1 (ix2 0 q)) (fun t => T13 m c t (ix2 0 q))
    (fun t h => congrFun (fst13 m c t h) _) (fun t h h2 => stp13 m c t h h2 q) (fun t h h2 => congrFun (car13 m c t h h2) _) n hn
  refine h.trans (Eq.trans (Fin.sum_fin_congr fun s => key13 m c _ (by show (2 * s.val + 1) % 2 = 1; omega) q) ?_)
  rw [DGA_at]
  exact tiles (fun R => (D m c (ix2 R q) * mo m c (ix2 R q) : EReal)) n hn h31

theorem emb13 (t : Fin cfg0.N) (y : S1x1024.Idx) : ((cfg0.win 13).blk t).view.emb y = ix2 0 (y 1) := by
  have e : win0_13.index t = ![0, 0] := by simp only [idx t]
  funext a
  match a with
  | ⟨0, _⟩ => exact Fin.ext (show win0_13.index t (0 : Fin 2) * 1 + 1 * (y 0).val = _ by rw [e]; have h : (y 0).val < 1 := (y 0).isLt; show 0 * 1 + 1 * (y 0).val = 0; omega)
  | ⟨1, _⟩ => exact Fin.ext (show win0_13.index t (1 : Fin 2) * 1024 + 1 * (y 1).val = _ by rw [e]; show 0 * 1024 + 1 * (y 1).val = (y 1).val; omega)

theorem fin13 (c : Dev nD) : (dats m 0 c).arrAt 13 (cfgs 0).N = DGA (D m c) (mo m c) := by
  refine (dats m 0 c).arrAt_eq_of_covers 13 _ (by decide +kernel) fun t hf y => ?_
  obtain ⟨n, hn, h31, hr⟩ := last t ((flush0_13 t).mp hf)
  blk_simp
  rw [after0_13]
  subst hr
  refine Eq.trans ?_ (congrArg (DGA (D m c) (mo m c)) (emb13 _ y)).symm
  have hy : y = ix2 0 (y 1) := by
    funext a
    match a with
    | ⟨0, _⟩ => exact Fin.ext (by have h : (y 0).val < 1 := (y 0).isLt; show (y 0).val = 0; omega)
    | ⟨1, _⟩ => rfl
  exact (congrArg ((outsAt0 m c (2 * n + 1) hn).2.2.2.2.2.1) hy).trans (sum13 m c (y 1) n hn h31)
end Cert.UpDxNormIdeal.Value

end
-- ==== Proof.BatDw.lean ====
/- The weight gradient of the attention branch projection, whose left operand is kept in 32 bits: what the blocked product `x^T dy` leaves in its array. -/
module

public import proofs.«01_k».proof.Proof.Gen.BatDwIdeal.Frame
public import proofs.«01_k».proof.Proof.Gen.BatDwRefIdeal
public import Idealize.ShloMosaic.Lib.Pipeline.ValueKit

@[expose] public section

set_option maxRecDepth 16384

noncomputable section

namespace Cert.BatDwIdeal.Value

open Cert.BatDwIdeal Cert.BatDwIdeal.Gen Idealize.ShloMosaic Idealize.ShloMosaic.TcCoe Idealize.SL.Sem
open Idealize.ShloMosaic.Pipeline (Dat)

variable (m : (ℓ : Loc nD τ sig) → Buf (Elt Ideal) ℓ)

/-- The reference's composed term: the pullback of `w ↦ h w` at the cotangent `dp`. -/
abbrev REF (h : FVec Ideal S16384x1024 .f32) (dp : FVec Ideal S16384x1024 .bf16) : FVec Ideal S1024x1024 .f32 :=
  transpose S1024x1024 [1, 0] (Host.dotGeneral Cert.BatDwRefIdeal.dot_S16384x1024_S16384x1024_S1024x1024_0_0_1_1_n_n none
    (extf .f32 dp Cert.BatDwRefIdeal.Gen.bitsLt_bf16_f32) h)
    Cert.BatDwRefIdeal.Gen.transposes_S1024x1024_S1024x1024_1_0

/-- The reference at an index. -/
theorem href (h dp j) : REF h dp j = ∑ l : Fin 16384, dp (ix2 l (j 1)) * h (ix2 l (j 0)) := by pointwise [REF]

/-- One point's product at an index. -/
theorem hpay1 (x0 x1 j) : k0_pay2 (F := Ideal) x0 x1 j = ∑ k : Fin 2048, x0 (ix2 k (j 0)) * x1 (ix2 k (j 1)) := by
  pointwise [k0_pay2, k0_pay1]

/-- A later point's product, added to what the scratch held. -/
theorem hpay (x0 x1 acc j) : k0_pay3 (F := Ideal) x0 x1 acc j = acc j + ∑ k : Fin 2048, x0 (ix2 k (j 0)) * x1 (ix2 k (j 1)) := by
  pointwise [k0_pay3, k0_pay1]

/-- Which blocks the points see. -/
theorem idx : ∀ t : Fin cfg0.N, win0_0.index t = ![t.val % 8, 0] ∧ win0_1.index t = ![t.val % 8, 0]
    ∧ win0_2.index t = ![0, 0] :=
  (by decide +kernel : ∀ t : Fin grid0.N, _)

/-- The grid has eight points. -/
theorem lt8 : ∀ t : Fin cfg0.N, t.val < 8 := (by decide +kernel : ∀ t : Fin grid0.N, t.val < 8)

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have hr := (flush0_2 t).mp hf
  have hout : (outsAt0 m c t.val t.isLt).1 = (outsAt0 m c t.val t.isLt).2 := by
    rw [outsAt0_C m c t (by omega) (by omega) hr]
    funext j
    frame_out
  blk_simp
  rw [after0_2, hout, Pipeline.eq_sum_fin_of_reset_step_apply_of_flush (fun n h => (outsAt0 m c n h).2) 8 (fun _ => 0) _
    (fun t h j => by rw [outsAt0_A m c t h (by have := lt8 t; omega) (by omega)]; frame_out; rw [hpay1, ← zero_add (∑ k : Fin 2048, _)])
    (fun t h j => by
      by_cases h2 : t.val % 8 = 7
      · rw [outsAt0_C m c t h (by omega) h2]; frame_out; rw [hpay]; erw [(Memref.isWhole_whole cc0_scratch0).read_unread]
      · rw [outsAt0_B m c t h (by omega) h2]; frame_out; rw [hpay]; erw [(Memref.isWhole_whole cc0_scratch0).read_unread])
    t hr _, zero_add, href]
  refine Fin.sum_mul_add_congr fun s k hl => ?_
  rw [mul_comm]
  blk_point [iblk, V, idx t, idx ⟨_, Pipeline.run_point_lt_of_flush t hr s⟩]

end Cert.BatDwIdeal.Value

end
-- ==== Proof.DownLoss.lean ====
/- The loss head: the error against the target, the loss, and the gradients at the last product, tile by tile against the
   chain rule's entries. -/
module

public import proofs.«01_k».proof.Proof.Gen.DownLossIdeal.Value
public import proofs.«01_k».proof.Proof.Gen.DownLossRefIdeal.Run
public import Idealize.ShloMosaic.Lib.Pipeline.ValueKit
public import proofs.«01_k».proof.Proof.NormRow

@[expose] public section

set_option maxRecDepth 16384

noncomputable section

namespace Cert.DownLossRefIdeal.Value

open Cert.DownLossRefIdeal Cert.DownLossRefIdeal.Gen Idealize.ShloMosaic Idealize.ShloMosaic.TcCoe Idealize.SL.Sem
open Cert.NormRow

/-- The last product. -/
abbrev FF (a : FVec Ideal S16384x2816 .bf16) (w : FVec Ideal S2816x1024 .bf16) : FVec Ideal S16384x1024 .f32 :=
  Host.dotGeneral dot_S16384x2816_S2816x1024_S16384x1024_1_0_0_1_n_n none (extf .f32 a bitsLt_bf16_f32) (extf .f32 w bitsLt_bf16_f32)

/-- The error against the target. -/
abbrev ER (f x t : FVec Ideal S16384x1024 .f32) (g : FVec Ideal S1x1024 .f32) : FVec Ideal S16384x1024 .f32 :=
  subf (addf x (mulf (broadcastInDim S16384x1024 ![0, 1] bcast_S1x1024_S16384x1024_0_1 g) f)) t

/-- The gradient of the rows, from the error. -/
abbrev DY (e : FVec Ideal S16384x1024 .f32) : FVec Ideal S16384x1024 .f32 :=
  mulf (broadcastInDim S16384x1024 ![0] bcast_S16384_S16384x1024_0 (Host.divf (mulf
      (broadcastInDim S16384 ![] bcast_S_S16384 (constant S_ .f32 0x3F000000#32))
      (broadcastInDim S16384 ![] bcast_S_S16384 (constant S_ .f32 0x3F800000#32)))
      (broadcastInDim S16384 ![] bcast_S_S16384 (constant S_ .f32 0x44800000#32))))
    (mulf (broadcastInDim S16384x1024 ![] bcast_S_S16384x1024 (constant S_ .f32 0x40000000#32)) e)

/-- The gradient of the product. -/
abbrev DF (g : FVec Ideal S1x1024 .f32) (d : FVec Ideal S16384x1024 .f32) : FVec Ideal S16384x1024 .bf16 :=
  truncf .bf16 (mulf (broadcastInDim S16384x1024 ![0, 1] bcast_S1x1024_S16384x1024_0_1 g) d) bitsLt_bf16_f32

/-- The gradient of the gate. -/
abbrev DG (d f : FVec Ideal S16384x1024 .f32) : FVec Ideal S1x1024 .f32 :=
  shapeCast _ (Host.reduceAdd (mulf d f) (constant S_ .f32 0x00000000#32) reducesTo_S16384x1024_S1024_d0 h_S_) shapeCasts_S1024_S1x1024

/-- The loss. -/
abbrev LS (e : FVec Ideal S16384x1024 .f32) : FVec Ideal S1x128 .f32 :=
  broadcastInDim S1x128 ![] bcast_S_S1x128 (Host.reduceAdd (mulf
    (broadcastInDim S16384 ![] bcast_S_S16384 (constant S_ .f32 0x3F000000#32))
    (Host.divf (Host.reduceAdd (mulf e e) (constant S_ .f32 0x00000000#32) reducesTo_S16384x1024_S16384_d1 h_S_)
      (broadcastInDim S16384 ![] bcast_S_S16384 (constant S_ .f32 0x44800000#32))))
    (constant S_ .f32 0x00000000#32) reducesTo_S16384_S_d0 h_S_)

abbrev half : EReal := Ideal.ofBits .f32 0x3F000000#32
abbrev one : EReal := Ideal.ofBits .f32 0x3F800000#32
abbrev two : EReal := Ideal.ofBits .f32 0x40000000#32
abbrev rinv : EReal := Ideal.ofBits .f32 0x3A800000#32
abbrev hinv : EReal := Ideal.ofBits .f32 0x3A000000#32

theorem half_eq : half = ((1 / 2 : ℝ) : EReal) := by
  simp [half, Ideal.ofBits, Ideal.ieee]
  rw [← EReal.coe_mul]
  norm_num
theorem one_eq : one = ((1 : ℝ) : EReal) := by
  simp [one, Ideal.ofBits, Ideal.ieee]
  rw [← EReal.coe_mul]
  norm_num
theorem two_eq : two = ((2 : ℝ) : EReal) := by
  simp [two, Ideal.ofBits, Ideal.ieee]
  rw [← EReal.coe_mul]
  norm_num
theorem inv_eq : rinv = ((1 / 1024 : ℝ) : EReal) := by
  simp [rinv, Ideal.ofBits, Ideal.ieee]
  rw [← EReal.coe_mul]
  norm_num
theorem hinv_eq : hinv = ((1 / 2048 : ℝ) : EReal) := by
  simp [hinv, Ideal.ofBits, Ideal.ieee]
  rw [← EReal.coe_mul]
  norm_num

theorem FF_at (a w) (r : Fin 16384) (q : Fin 1024) : FF a w (ix2 r q) = ∑ l : Fin 2816, a (ix2 r l) * w (ix2 l q) := by
  pointwise [FF]

theorem ER_at (f x t g) (r : Fin 16384) (q : Fin 1024) :
    ER f x t g (ix2 r q) = (x (ix2 r q) + g (ix2 0 q) * f (ix2 r q)) - t (ix2 r q) := by
  pointwise [ER]

theorem scale (z : EReal) : Ideal.div (half * one) len * (two * z) = z * rinv := by
  rw [half_eq, one_eq, two_eq, inv_eq, len_eq, Ideal.div_coe (by norm_num), ← mul_assoc, mul_comm z,
    ← EReal.coe_mul, ← EReal.coe_mul, ← EReal.coe_mul]
  norm_num

theorem DY_at (e) (r : Fin 16384) (q : Fin 1024) : DY e (ix2 r q) = e (ix2 r q) * rinv := by
  have h : DY e (ix2 r q) = Ideal.div (half * one) len * (two * e (ix2 r q)) := by
    pointwise [DY, half, one, two, len]
  exact h.trans (scale _)

theorem DF_at (g d) (r : Fin 16384) (q : Fin 1024) : DF g d (ix2 r q) = g (ix2 0 q) * d (ix2 r q) := by
  pointwise [DF]

theorem DG_at (d f) (q : Fin 1024) : DG d f (ix2 0 q) = ∑ r : Fin 16384, d (ix2 r q) * f (ix2 r q) := by
  pointwise [DG]

theorem LS_at (e) (q : Fin 128) : LS e (ix2 0 q) = (∑ r : Fin 16384, ∑ l : Fin 1024, e (ix2 r l) * e (ix2 r l)) * hinv := by
  have h : LS e (ix2 0 q) = ∑ r : Fin 16384, half * Ideal.div (∑ l : Fin 1024, e (ix2 r l) * e (ix2 r l)) len := by
    pointwise [LS, half, len]
  rw [h, hinv_eq, ← sum_mul_coe (by norm_num)]
  refine Finset.sum_congr rfl fun r _ => ?_
  rw [half_eq, len_eq, Ideal.div_coe (by norm_num), mul_comm, mul_assoc, ← EReal.coe_mul]
  norm_num

end Cert.DownLossRefIdeal.Value

namespace Cert.DownLossIdeal.Value

open Cert.DownLossIdeal Cert.DownLossIdeal.Gen Idealize.ShloMosaic Idealize.ShloMosaic.TcCoe Idealize.SL.Sem
open Idealize.ShloMosaic.Pipeline (Dat)
open Cert.NormRow
open Cert.DownLossRefIdeal.Value (FF ER DY DF DG LS rinv hinv FF_at ER_at DY_at DF_at DG_at LS_at)

variable (m : (ℓ : Loc nD τ sig) → Buf (Elt Ideal) ℓ)

theorem pay2_at (a b) (r : Fin 512) (q : Fin 1024) :
    k0_pay2 (F := Ideal) a b (ix2 r q) = ∑ l : Fin 2816, a (ix2 r l) * b (ix2 l q) := by
  pointwise [k0_pay2, k0_pay1]

theorem pay5_at (f x t g) (r : Fin 512) (q : Fin 1024) :
    k0_pay5 (F := Ideal) f x t g (ix2 r q) = (x (ix2 r q) + g (ix2 0 q) * f (ix2 r q)) - t (ix2 r q) := by
  pointwise [k0_pay5]

theorem pay6_at (f x t g) (r : Fin 512) (q : Fin 1024) :
    k0_pay6 (F := Ideal) f x t g (ix2 r q) = k0_pay5 (F := Ideal) f x t g (ix2 r q) * rinv := by
  unfold k0_pay6
  generalize k0_pay5 f x t g = e
  pointwise [rinv]

theorem pay7_at (f x t g) (q : Fin 1024) : k0_pay7 (F := Ideal) f x t g (ix2 0 q)
    = ∑ r : Fin 512, k0_pay6 (F := Ideal) f x t g (ix2 r q) * f (ix2 r q) := by
  unfold k0_pay7
  generalize k0_pay6 f x t g = e
  pointwise []

theorem pay8_at (f x t g) (q : Fin 128) : k0_pay8 (F := Ideal) f x t g (ix2 0 q) = (∑ r : Fin 512, ∑ l : Fin 1024,
    k0_pay5 (F := Ideal) f x t g (ix2 r l) * k0_pay5 (F := Ideal) f x t g (ix2 r l)) * hinv := by
  unfold k0_pay8
  generalize k0_pay5 f x t g = e
  pointwise [hinv]

theorem pay9_at (f x t g) (r : Fin 512) (q : Fin 1024) :
    k0_pay9 (F := Ideal) f x t g (ix2 r q) = g (ix2 0 q) * k0_pay6 (F := Ideal) f x t g (ix2 r q) := by
  unfold k0_pay9
  generalize k0_pay6 f x t g = e
  pointwise []

theorem pay4_at (y a j) : k0_pay4 (F := Ideal) y a j = a j + y j := by pointwise [k0_pay4]

theorem pay10_at (f x t g a j) : k0_pay10 (F := Ideal) f x t g a j = a j + k0_pay7 (F := Ideal) f x t g j := by
  unfold k0_pay10
  generalize k0_pay7 f x t g = u
  pointwise []

/-- Which blocks the points see. -/
theorem idx : ∀ t : Fin cfg0.N, win0_0.index t = ![t.val, 0] ∧ win0_1.index t = ![0, 0]
    ∧ win0_2.index t = ![t.val, 0] ∧ win0_3.index t = ![t.val, 0] ∧ win0_4.index t = ![0, 0]
    ∧ win0_5.index t = ![t.val, 0] ∧ win0_6.index t = ![t.val, 0] ∧ win0_7.index t = ![0, 0]
    ∧ win0_8.index t = ![0, 0] :=
  (by decide +kernel : ∀ t : Fin grid0.N, _)

theorem lt32 : ∀ t : Fin cfg0.N, t.val < 32 := (by decide +kernel : ∀ t : Fin grid0.N, t.val < 32)

/-- The array's row a tile's row is. -/
abbrev at_ (t : Fin cfg0.N) (r : Fin 512) : Fin 16384 := ⟨t.val * 512 + r.val, by have := lt32 t; omega⟩

abbrev aa (c : Dev nD) : FVec Ideal S16384x2816 .bf16 := m ((c : Thread nD τ).loc main_arg0)
abbrev ww (c : Dev nD) : FVec Ideal S2816x1024 .bf16 := m ((c : Thread nD τ).loc main_arg1)
abbrev xx (c : Dev nD) : FVec Ideal S16384x1024 .f32 := m ((c : Thread nD τ).loc main_arg2)
abbrev tt (c : Dev nD) : FVec Ideal S16384x1024 .f32 := m ((c : Thread nD τ).loc main_arg3)
abbrev gg (c : Dev nD) : FVec Ideal S1x1024 .f32 := m ((c : Thread nD τ).loc main_arg4)

theorem b0 (c : Dev nD) (t : Fin cfg0.N) (r : Fin 512) (q : Fin 2816) : iblk m c 0 t (ix2 r q) = aa m c (ix2 (at_ t r) q) := by
  blk_point [iblk, V, idx t]
theorem b1 (c : Dev nD) (t : Fin cfg0.N) (r : Fin 2816) (q : Fin 1024) : iblk m c 1 t (ix2 r q) = ww m c (ix2 r q) := by
  blk_point [iblk, V, idx t]
theorem b2 (c : Dev nD) (t : Fin cfg0.N) (r : Fin 512) (q : Fin 1024) : iblk m c 2 t (ix2 r q) = xx m c (ix2 (at_ t r) q) := by
  blk_point [iblk, V, idx t]
theorem b3 (c : Dev nD) (t : Fin cfg0.N) (r : Fin 512) (q : Fin 1024) : iblk m c 3 t (ix2 r q) = tt m c (ix2 (at_ t r) q) := by
  blk_point [iblk, V, idx t]
theorem b4 (c : Dev nD) (t : Fin cfg0.N) (q : Fin 1024) : iblk m c 4 t (ix2 0 q) = gg m c (ix2 0 q) := by
  blk_point [iblk, V, idx t]

/-- The reference's product, error and gradient, at this memory. -/
def RF (c : Dev nD) : FVec Ideal S16384x1024 .f32 := FF (aa m c) (ww m c)
def RE (c : Dev nD) : FVec Ideal S16384x1024 .f32 := ER (RF m c) (xx m c) (tt m c) (gg m c)
def RD (c : Dev nD) : FVec Ideal S16384x1024 .f32 := DY (RE m c)

/-- A tile of the product. -/
def H (c : Dev nD) (t : Fin cfg0.N) : FVec Ideal S512x1024 .f32 := k0_pay2 (iblk m c 0 t) (iblk m c 1 t)

theorem H_at (c : Dev nD) (t : Fin cfg0.N) (r : Fin 512) (q : Fin 1024) : H m c t (ix2 r q) = RF m c (ix2 (at_ t r) q) := by
  refine Eq.trans ?_ (FF_at _ _ _ _).symm
  rw [H, pay2_at]
  refine Fin.sum_fin_congr fun l => ?_
  rw [b0, b1]

theorem E_at (c : Dev nD) (t : Fin cfg0.N) (r : Fin 512) (q : Fin 1024) :
    k0_pay5 (H m c t) (iblk m c 2 t) (iblk m c 3 t) (iblk m c 4 t) (ix2 r q) = RE m c (ix2 (at_ t r) q) := by
  refine Eq.trans ?_ (ER_at _ _ _ _ _ _).symm
  rw [pay5_at, H_at, b2, b3, b4]

theorem D_at (c : Dev nD) (t : Fin cfg0.N) (r : Fin 512) (q : Fin 1024) :
    k0_pay6 (H m c t) (iblk m c 2 t) (iblk m c 3 t) (iblk m c 4 t) (ix2 r q) = RD m c (ix2 (at_ t r) q) := by
  refine Eq.trans ?_ (DY_at _ _ _).symm
  rw [pay6_at, E_at]

theorem P9_at (c : Dev nD) (t : Fin cfg0.N) (r : Fin 512) (q : Fin 1024) :
    k0_pay9 (H m c t) (iblk m c 2 t) (iblk m c 3 t) (iblk m c 4 t) (ix2 r q) = DF (gg m c) (RD m c) (ix2 (at_ t r) q) := by
  refine Eq.trans ?_ (DF_at _ _ _ _).symm
  rw [pay9_at, D_at, b4]

/-- The tiles of the two gradients, and what they hold. -/
def Q5 (c : Dev nD) (t : Fin cfg0.N) : FVec Ideal S512x1024 .f32 := k0_pay6 (H m c t) (iblk m c 2 t) (iblk m c 3 t) (iblk m c 4 t)
def Q6 (c : Dev nD) (t : Fin cfg0.N) : FVec Ideal S512x1024 .bf16 := k0_pay9 (H m c t) (iblk m c 2 t) (iblk m c 3 t) (iblk m c 4 t)
def RG (c : Dev nD) : FVec Ideal S16384x1024 .bf16 := DF (gg m c) (RD m c)

theorem Q5_at (c : Dev nD) (t : Fin cfg0.N) (r : Fin 512) (q : Fin 1024) : Q5 m c t (ix2 r q) = RD m c (ix2 (at_ t r) q) := D_at m c t r q
theorem Q6_at (c : Dev nD) (t : Fin cfg0.N) (r : Fin 512) (q : Fin 1024) : Q6 m c t (ix2 r q) = RG m c (ix2 (at_ t r) q) := P9_at m c t r q

theorem ix2_eq (y : S512x1024.Idx) : y = ix2 (y 0) (y 1) := by
  funext a
  match a with
  | ⟨0, _⟩ => rfl
  | ⟨1, _⟩ => rfl

theorem emb5 (t : Fin cfg0.N) (y : S512x1024.Idx) : ((cfg0.win 5).blk t).view.emb y = ix2 (at_ t (y 0)) (y 1) := by
  have e : win0_5.index t = ![t.val, 0] := by simp only [idx t]
  funext a
  match a with
  | ⟨0, _⟩ => exact Fin.ext (show win0_5.index t (0 : Fin 2) * 512 + 1 * (y 0).val = _ by rw [e]; show t.val * 512 + 1 * (y 0).val = t.val * 512 + (y 0).val; omega)
  | ⟨1, _⟩ => exact Fin.ext (show win0_5.index t (1 : Fin 2) * 1024 + 1 * (y 1).val = _ by rw [e]; show 0 * 1024 + 1 * (y 1).val = (y 1).val; omega)

theorem emb6 (t : Fin cfg0.N) (y : S512x1024.Idx) : ((cfg0.win 6).blk t).view.emb y = ix2 (at_ t (y 0)) (y 1) := by
  have e : win0_6.index t = ![t.val, 0] := by simp only [idx t]
  funext a
  match a with
  | ⟨0, _⟩ => exact Fin.ext (show win0_6.index t (0 : Fin 2) * 512 + 1 * (y 0).val = _ by rw [e]; show t.val * 512 + 1 * (y 0).val = t.val * 512 + (y 0).val; omega)
  | ⟨1, _⟩ => exact Fin.ext (show win0_6.index t (1 : Fin 2) * 1024 + 1 * (y 1).val = _ by rw [e]; show 0 * 1024 + 1 * (y 1).val = (y 1).val; omega)

theorem all5 (c : Dev nD) (t : Fin cfg0.N) : (outsAt0 m c t.val t.isLt).1 = Q5 m c t := by
  have h32 := lt32 t
  by_cases h : 1 ≤ t.val
  · rw [outsAt0_B m c t (by omega) h (by omega) h]
    funext j; frame_out; rfl
  · rw [outsAt0_A m c t (by omega) h (by omega) h]
    funext j; frame_out; rfl

theorem all6 (c : Dev nD) (t : Fin cfg0.N) : (outsAt0 m c t.val t.isLt).2.1 = Q6 m c t := by
  have h32 := lt32 t
  by_cases h : 1 ≤ t.val
  · rw [outsAt0_B m c t (by omega) h (by omega) h]
    funext j; frame_out; rfl
  · rw [outsAt0_A m c t (by omega) h (by omega) h]
    funext j; frame_out; rfl

theorem fin5 (c : Dev nD) : (dats m 0 c).arrAt 5 (cfgs 0).N = RD m c := by
  refine (dats m 0 c).arrAt_eq_of_covers 5 _ (by decide +kernel) fun t hf y => ?_
  blk_simp
  rw [after0_5, all5 m c t]
  refine Eq.trans ?_ (congrArg (RD m c) (emb5 t y)).symm
  exact (congrArg (Q5 m c t) (ix2_eq y)).trans (Q5_at m c t (y 0) (y 1))

theorem fin6 (c : Dev nD) : (dats m 0 c).arrAt 6 (cfgs 0).N = RG m c := by
  refine (dats m 0 c).arrAt_eq_of_covers 6 _ (by decide +kernel) fun t hf y => ?_
  blk_simp
  rw [after0_6, all6 m c t]
  refine Eq.trans ?_ (congrArg (RG m c) (emb6 t y)).symm
  exact (congrArg (Q6 m c t) (ix2_eq y)).trans (Q6_at m c t (y 0) (y 1))

/-- What the point before left. -/
abbrev prev (c : Dev nD) (t : Fin cfg0.N) := outsAt0 m c (t.val - 1) (lt_of_le_of_lt (Nat.sub_le _ _) t.isLt)

/-- A value set at the first point and added to at the later ones is the sum of what was added. -/
theorem accum (f g : Fin cfg0.N → EReal) (h0 : ∀ t : Fin cfg0.N, t.val = 0 → f t = g t)
    (hs : ∀ t : Fin cfg0.N, 1 ≤ t.val → f t = f ⟨t.val - 1, lt_of_le_of_lt (Nat.sub_le _ _) t.isLt⟩ + g t) :
    ∀ (n : ℕ) (hn : n < cfg0.N), f ⟨n, hn⟩ = ∑ s : Fin (n + 1), g ⟨s.val, by omega⟩
  | 0, hn => by
    rw [Fin.sum_univ_one]
    exact h0 ⟨0, hn⟩ rfl
  | n + 1, hn => by
    rw [Fin.sum_univ_castSucc, hs ⟨n + 1, hn⟩ (by show 1 ≤ n + 1; omega)]
    refine congrArg (fun z : EReal => z + g ⟨n + 1, hn⟩) ?_
    exact accum f g h0 hs n (by omega)

/-- The tiles' rows are the array's. -/
theorem tiles (e : Fin 16384 → EReal) (n : ℕ) (hn : n < cfg0.N) (h : n = 31) : (∑ s : Fin (n + 1), ∑ r : Fin 512,
    e (at_ ⟨s.val, by omega⟩ r)) = ∑ R : Fin 16384, e R := by
  subst h
  exact Fin.sum_mul_add_congr fun s r hl => congrArg e (Fin.ext rfl)

theorem last : ∀ t : Fin cfg0.N, t.val % 32 = 31 → ∃ (n : ℕ) (hn : n < cfg0.N), n = 31 ∧ t = ⟨n, hn⟩ := fun t h =>
  ⟨t.val, t.isLt, by have := lt32 t; omega, rfl⟩

abbrev T7 (c : Dev nD) (t : Fin cfg0.N) : FVec Ideal S1x1024 .f32 := k0_pay7 (H m c t) (iblk m c 2 t) (iblk m c 3 t) (iblk m c 4 t)
abbrev T8 (c : Dev nD) (t : Fin cfg0.N) : FVec Ideal S1x128 .f32 := k0_pay8 (H m c t) (iblk m c 2 t) (iblk m c 3 t) (iblk m c 4 t)

theorem fst7 (c : Dev nD) (t : Fin cfg0.N) (h : t.val = 0) : (outsAt0 m c t.val t.isLt).2.2.1 = T7 m c t := by
  rw [outsAt0_A m c t (by omega) (by omega) (by omega) (by omega)]
  funext j; frame_out; rfl

theorem stp7 (c : Dev nD) (t : Fin cfg0.N) (h : 1 ≤ t.val) (q : Fin 1024) :
    (outsAt0 m c t.val t.isLt).2.2.1 (ix2 0 q) = (prev m c t).2.2.1 (ix2 0 q) + T7 m c t (ix2 0 q) := by
  have h32 := lt32 t
  rw [outsAt0_B m c t (by omega) h (by omega) h]
  frame_out
  unfold T7
  exact pay10_at _ _ _ _ _ _

theorem key7 (c : Dev nD) (t : Fin cfg0.N) (q : Fin 1024) : T7 m c t (ix2 0 q) = ∑ r : Fin 512,
    (RD m c (ix2 (at_ t r) q) * RF m c (ix2 (at_ t r) q) : EReal) := by
  unfold T7
  rw [pay7_at]
  refine Fin.sum_fin_congr fun r => ?_
  rw [D_at, H_at]

theorem sum7 (c : Dev nD) (q : Fin 1024) (n : ℕ) (hn : n < cfg0.N) (h31 : n = 31) :
    (outsAt0 m c n hn).2.2.1 (ix2 0 q) = DG (RD m c) (RF m c) (ix2 0 q) := by
  have h := accum (fun t => (outsAt0 m c t.val t.isLt).2.2.1 (ix2 0 q)) (fun t => T7 m c t (ix2 0 q))
    (fun t h => congrFun (fst7 m c t h) _) (fun t h => stp7 m c t h q) n hn
  refine h.trans (Eq.trans (Fin.sum_fin_congr fun s => key7 m c _ q) ?_)
  rw [DG_at]
  exact tiles (fun R => (RD m c (ix2 R q) * RF m c (ix2 R q) : EReal)) n hn h31

theorem emb7 (t : Fin cfg0.N) (y : S1x1024.Idx) : ((cfg0.win 7).blk t).view.emb y = ix2 0 (y 1) := by
  have e : win0_7.index t = ![0, 0] := by simp only [idx t]
  funext a
  match a with
  | ⟨0, _⟩ => exact Fin.ext (show win0_7.index t (0 : Fin 2) * 1 + 1 * (y 0).val = _ by rw [e]; have h : (y 0).val < 1 := (y 0).isLt; show 0 * 1 + 1 * (y 0).val = 0; omega)
  | ⟨1, _⟩ => exact Fin.ext (show win0_7.index t (1 : Fin 2) * 1024 + 1 * (y 1).val = _ by rw [e]; show 0 * 1024 + 1 * (y 1).val = (y 1).val; omega)

theorem fin7 (c : Dev nD) : (dats m 0 c).arrAt 7 (cfgs 0).N = DG (RD m c) (RF m c) := by
  refine (dats m 0 c).arrAt_eq_of_covers 7 _ (by decide +kernel) fun t hf y => ?_
  obtain ⟨n, hn, h31, hr⟩ := last t ((flush0_7 t).mp hf)
  blk_simp
  rw [after0_7]
  subst hr
  refine Eq.trans ?_ (congrArg (DG (RD m c) (RF m c)) (emb7 _ y)).symm
  have hy : y = ix2 0 (y 1) := by
    funext a
    match a with
    | ⟨0, _⟩ => exact Fin.ext (by have h : (y 0).val < 1 := (y 0).isLt; show (y 0).val = 0; omega)
    | ⟨1, _⟩ => rfl
  exact (congrArg ((outsAt0 m c n hn).2.2.1) hy).trans (sum7 m c (y 1) n hn h31)

theorem fst8 (c : Dev nD) (t : Fin cfg0.N) (h : t.val = 0) : (outsAt0 m c t.val t.isLt).2.2.2 = T8 m c t := by
  rw [outsAt0_A m c t (by omega) (by omega) (by omega) (by omega)]
  funext j; frame_out; rfl

theorem stp8 (c : Dev nD) (t : Fin cfg0.N) (h : 1 ≤ t.val) (q : Fin 128) :
    (outsAt0 m c t.val t.isLt).2.2.2 (ix2 0 q) = (prev m c t).2.2.2 (ix2 0 q) + T8 m c t (ix2 0 q) := by
  have h32 := lt32 t
  rw [outsAt0_B m c t (by omega) h (by omega) h]
  frame_out
  unfold T8
  exact pay4_at _ _ _

theorem key8 (c : Dev nD) (t : Fin cfg0.N) (q : Fin 128) : T8 m c t (ix2 0 q) = (∑ r : Fin 512, ∑ l : Fin 1024,
    (RE m c (ix2 (at_ t r) l) * RE m c (ix2 (at_ t r) l) : EReal)) * hinv := by
  unfold T8
  rw [pay8_at]
  refine congrArg (fun z : EReal => z * hinv) (Fin.sum_fin_congr fun r => Fin.sum_fin_congr fun l => ?_)
  rw [E_at]

theorem sum8 (c : Dev nD) (q : Fin 128) (n : ℕ) (hn : n < cfg0.N) (h31 : n = 31) :
    (outsAt0 m c n hn).2.2.2 (ix2 0 q) = LS (RE m c) (ix2 0 q) := by
  have h := accum (fun t => (outsAt0 m c t.val t.isLt).2.2.2 (ix2 0 q)) (fun t => T8 m c t (ix2 0 q))
    (fun t h => congrFun (fst8 m c t h) _) (fun t h => stp8 m c t h q) n hn
  refine h.trans (Eq.trans (Fin.sum_fin_congr fun s => key8 m c _ q) ?_)
  refine Eq.trans ?_ (LS_at _ _).symm
  rw [Cert.DownLossRefIdeal.Value.hinv_eq, sum_mul_coe (by norm_num)]
  exact congrArg (fun z : EReal => z * ((1 / 2048 : ℝ) : EReal))
    (tiles (fun R => ∑ l : Fin 1024, (RE m c (ix2 R l) * RE m c (ix2 R l) : EReal)) n hn h31)

theorem emb8 (t : Fin cfg0.N) (y : S1x128.Idx) : ((cfg0.win 8).blk t).view.emb y = ix2 0 (y 1) := by
  have e : win0_8.index t = ![0, 0] := by simp only [idx t]
  funext a
  match a with
  | ⟨0, _⟩ => exact Fin.ext (show win0_8.index t (0 : Fin 2) * 1 + 1 * (y 0).val = _ by rw [e]; have h : (y 0).val < 1 := (y 0).isLt; show 0 * 1 + 1 * (y 0).val = 0; omega)
  | ⟨1, _⟩ => exact Fin.ext (show win0_8.index t (1 : Fin 2) * 128 + 1 * (y 1).val = _ by rw [e]; show 0 * 128 + 1 * (y 1).val = (y 1).val; omega)

theorem fin8 (c : Dev nD) : (dats m 0 c).arrAt 8 (cfgs 0).N = LS (RE m c) := by
  refine (dats m 0 c).arrAt_eq_of_covers 8 _ (by decide +kernel) fun t hf y => ?_
  obtain ⟨n, hn, h31, hr⟩ := last t ((flush0_8 t).mp hf)
  blk_simp
  rw [after0_8]
  subst hr
  refine Eq.trans ?_ (congrArg (LS (RE m c)) (emb8 _ y)).symm
  have hy : y = ix2 0 (y 1) := by
    funext a
    match a with
    | ⟨0, _⟩ => exact Fin.ext (by have h : (y 0).val < 1 := (y 0).isLt; show (y 0).val = 0; omega)
    | ⟨1, _⟩ => rfl
  exact (congrArg ((outsAt0 m c n hn).2.2.2) hy).trans (sum8 m c (y 1) n hn h31)

end Cert.DownLossIdeal.Value
-- ==== Proof.BatMerge.lean ====
/- The attention branch's projection and the gated sum of the two branches: the kernel's run, tile by tile. -/
module

public import proofs.«01_k».proof.Proof.Gen.BatMergeIdeal.Value
public import proofs.«01_k».proof.Proof.Gen.BatMergeRefIdeal.Run
public import Idealize.ShloMosaic.Lib.Pipeline.ValueKit

@[expose] public section

set_option maxRecDepth 16384

noncomputable section

namespace Cert.BatMergeRefIdeal.Value

open Cert.BatMergeRefIdeal Cert.BatMergeRefIdeal.Gen Idealize.ShloMosaic Idealize.ShloMosaic.TcCoe Idealize.SL.Sem

/-- The branch's projection. -/
abbrev ZA (o : FVec Ideal S16384x1024 .f32) (w : FVec Ideal S1024x1024 .bf16) : FVec Ideal S16384x1024 .f32 :=
  Host.dotGeneral dot_S16384x1024_S1024x1024_S16384x1024_1_0_0_1_n_n none o (extf .f32 w bitsLt_bf16_f32)

/-- The gate of a slice of the projections. -/
abbrev SG (x : FVec Ideal S16384x1024 .f32) : FVec Ideal S16384x1024 .f32 :=
  Host.divf (broadcastInDim S16384x1024 ![] bcast_S_S16384x1024 (constant S_ .f32 0x3F800000#32))
    (addf (broadcastInDim S16384x1024 ![] bcast_S_S16384x1024 (constant S_ .f32 0x3F800000#32)) (Host.exp (Host.negf x)))

/-- The gated sum of the branches. -/
abbrev MG (z y : FVec Ideal S16384x1024 .f32) (p : FVec Ideal S16640x8192 .f32) : FVec Ideal S16384x1024 .bf16 :=
  truncf .bf16 (addf (mulf (SG (extractStridedSlice S16384x1024 ![256, 6144] p slices_S16640x8192_S16384x1024_256_6144)) y)
    (mulf (SG (extractStridedSlice S16384x1024 ![256, 7168] p slices_S16640x8192_S16384x1024_256_7168)) z)) bitsLt_bf16_f32

theorem ZA_at (o w) (r : Fin 16384) (q : Fin 1024) : ZA o w (ix2 r q) = ∑ l : Fin 1024, o (ix2 r l) * w (ix2 l q) := by
  pointwise [ZA]

theorem SG_at (x j) : SG x j = Ideal.logistic (x j) := by
  have h : SG x j = Ideal.div (Ideal.ofBits .f32 0x3F800000#32) (Ideal.ofBits .f32 0x3F800000#32 + Ideal.exp (-(x j))) := rfl
  have one : Ideal.ofBits .f32 0x3F800000#32 = 1 := by
    simp [Ideal.ofBits, Ideal.ieee]
    rw [← EReal.coe_mul]
    norm_num
  rw [h, one]
  rfl

theorem MG_at (z y p) (r : Fin 16384) (q : Fin 1024) : MG z y p (ix2 r q)
    = Ideal.logistic (p (ix2 ⟨256 + r.val, by omega⟩ ⟨6144 + q.val, by omega⟩)) * y (ix2 r q)
      + Ideal.logistic (p (ix2 ⟨256 + r.val, by omega⟩ ⟨7168 + q.val, by omega⟩)) * z (ix2 r q) := by
  have h : ∀ a b : FVec Ideal S16384x1024 .f32, (truncf .bf16 (addf (mulf (SG a) y) (mulf (SG b) z)) bitsLt_bf16_f32 :
      FVec Ideal S16384x1024 .bf16) (ix2 r q) = SG a (ix2 r q) * y (ix2 r q) + SG b (ix2 r q) * z (ix2 r q) := fun a b => rfl
  refine (h _ _).trans ?_
  rw [SG_at, SG_at]
  pointwise []

end Cert.BatMergeRefIdeal.Value

namespace Cert.BatMergeIdeal.Value

open Cert.BatMergeIdeal Cert.BatMergeIdeal.Gen Idealize.ShloMosaic Idealize.ShloMosaic.TcCoe Idealize.SL.Sem
open Idealize.ShloMosaic.Pipeline (Dat)
open Cert.BatMergeRefIdeal.Value (ZA MG ZA_at MG_at)

variable (m : (ℓ : Loc nD τ sig) → Buf (Elt Ideal) ℓ)

theorem pay2_at (a b) (r : Fin 256) (q : Fin 1024) :
    k0_pay2 (F := Ideal) a b (ix2 r q) = ∑ l : Fin 1024, a (ix2 r l) * b (ix2 l q) := by
  pointwise [k0_pay2, k0_pay1]

theorem pay4_at (z y a b) (r : Fin 256) (q : Fin 1024) : k0_pay4 (F := Ideal) z y a b (ix2 r q)
    = Ideal.logistic (a (ix2 r q)) * y (ix2 r q) + Ideal.logistic (b (ix2 r q)) * z (ix2 r q) := by
  pointwise [k0_pay4]

/-- Which blocks the points see. -/
theorem idx : ∀ t : Fin cfg0.N, win0_0.index t = ![t.val, 0] ∧ win0_1.index t = ![0, 0]
    ∧ win0_2.index t = ![t.val, 0] ∧ win0_3.index t = ![t.val + 1, 6] ∧ win0_4.index t = ![t.val + 1, 7]
    ∧ win0_5.index t = ![t.val, 0] ∧ win0_6.index t = ![t.val, 0] :=
  (by decide +kernel : ∀ t : Fin grid0.N, _)

theorem lt64 : ∀ t : Fin cfg0.N, t.val < 64 := (by decide +kernel : ∀ t : Fin grid0.N, t.val < 64)

/-- The array's row a tile's row is. -/
abbrev at_ (t : Fin cfg0.N) (r : Fin 256) : Fin 16384 := ⟨t.val * 256 + r.val, by have := lt64 t; omega⟩

abbrev oo (c : Dev nD) : FVec Ideal S16384x1024 .f32 := m ((c : Thread nD τ).loc main_arg0)
abbrev ww (c : Dev nD) : FVec Ideal S1024x1024 .bf16 := m ((c : Thread nD τ).loc main_arg1)
abbrev zd (c : Dev nD) : FVec Ideal S16384x1024 .f32 := m ((c : Thread nD τ).loc main_arg2)
abbrev pp (c : Dev nD) : FVec Ideal S16640x8192 .f32 := m ((c : Thread nD τ).loc main_arg3)

theorem b0 (c : Dev nD) (t : Fin cfg0.N) (r : Fin 256) (q : Fin 1024) : iblk m c 0 t (ix2 r q) = oo m c (ix2 (at_ t r) q) := by
  blk_point [iblk, V, idx t]
theorem b1 (c : Dev nD) (t : Fin cfg0.N) (r : Fin 1024) (q : Fin 1024) : iblk m c 1 t (ix2 r q) = ww m c (ix2 r q) := by
  blk_point [iblk, V, idx t]
theorem b2 (c : Dev nD) (t : Fin cfg0.N) (r : Fin 256) (q : Fin 1024) : iblk m c 2 t (ix2 r q) = zd m c (ix2 (at_ t r) q) := by
  blk_point [iblk, V, idx t]
theorem b3 (c : Dev nD) (t : Fin cfg0.N) (r : Fin 256) (q : Fin 1024) : iblk m c 3 t (ix2 r q)
    = pp m c (ix2 ⟨256 + (at_ t r).val, by omega⟩ ⟨6144 + q.val, by omega⟩) := by
  blk_point [iblk, V, idx t]
theorem b4 (c : Dev nD) (t : Fin cfg0.N) (r : Fin 256) (q : Fin 1024) : iblk m c 4 t (ix2 r q)
    = pp m c (ix2 ⟨256 + (at_ t r).val, by omega⟩ ⟨7168 + q.val, by omega⟩) := by
  blk_point [iblk, V, idx t]

/-- The two results by the reference, at this memory, and their tiles by the kernel. -/
def RZ (c : Dev nD) : FVec Ideal S16384x1024 .f32 := ZA (oo m c) (ww m c)
def RM (c : Dev nD) : FVec Ideal S16384x1024 .bf16 := MG (RZ m c) (zd m c) (pp m c)
def Q5 (c : Dev nD) (t : Fin cfg0.N) : FVec Ideal S256x1024 .f32 := k0_pay2 (iblk m c 0 t) (iblk m c 1 t)
def Q6 (c : Dev nD) (t : Fin cfg0.N) : FVec Ideal S256x1024 .bf16 := k0_pay4 (Q5 m c t) (iblk m c 2 t) (iblk m c 3 t) (iblk m c 4 t)

theorem Q5_at (c : Dev nD) (t : Fin cfg0.N) (r : Fin 256) (q : Fin 1024) : Q5 m c t (ix2 r q) = RZ m c (ix2 (at_ t r) q) := by
  refine Eq.trans ?_ (ZA_at _ _ _ _).symm
  rw [Q5, pay2_at]
  refine Fin.sum_fin_congr fun l => ?_
  rw [b0, b1]

theorem Q6_at (c : Dev nD) (t : Fin cfg0.N) (r : Fin 256) (q : Fin 1024) : Q6 m c t (ix2 r q) = RM m c (ix2 (at_ t r) q) := by
  refine Eq.trans ?_ (MG_at _ _ _ _ _).symm
  rw [Q6, pay4_at, Q5_at, b2, b3, b4]

theorem ix2_eq (y : S256x1024.Idx) : y = ix2 (y 0) (y 1) := by
  funext a
  match a with
  | ⟨0, _⟩ => rfl
  | ⟨1, _⟩ => rfl

theorem emb5 (t : Fin cfg0.N) (y : S256x1024.Idx) : ((cfg0.win 5).blk t).view.emb y = ix2 (at_ t (y 0)) (y 1) := by
  have e : win0_5.index t = ![t.val, 0] := by simp only [idx t]
  funext a
  match a with
  | ⟨0, _⟩ => exact Fin.ext (show win0_5.index t (0 : Fin 2) * 256 + 1 * (y 0).val = _ by rw [e]; show t.val * 256 + 1 * (y 0).val = t.val * 256 + (y 0).val; omega)
  | ⟨1, _⟩ => exact Fin.ext (show win0_5.index t (1 : Fin 2) * 1024 + 1 * (y 1).val = _ by rw [e]; show 0 * 1024 + 1 * (y 1).val = (y 1).val; omega)

theorem emb6 (t : Fin cfg0.N) (y : S256x1024.Idx) : ((cfg0.win 6).blk t).view.emb y = ix2 (at_ t (y 0)) (y 1) := by
  have e : win0_6.index t = ![t.val, 0] := by simp only [idx t]
  funext a
  match a with
  | ⟨0, _⟩ => exact Fin.ext (show win0_6.index t (0 : Fin 2) * 256 + 1 * (y 0).val = _ by rw [e]; show t.val * 256 + 1 * (y 0).val = t.val * 256 + (y 0).val; omega)
  | ⟨1, _⟩ => exact Fin.ext (show win0_6.index t (1 : Fin 2) * 1024 + 1 * (y 1).val = _ by rw [e]; show 0 * 1024 + 1 * (y 1).val = (y 1).val; omega)

theorem all5 (c : Dev nD) (t : Fin cfg0.N) : (outsAt0 m c t).1 = Q5 m c t := by
  unfold outsAt0
  funext j; frame_out; rfl

theorem all6 (c : Dev nD) (t : Fin cfg0.N) : (outsAt0 m c t).2 = Q6 m c t := by
  unfold outsAt0
  funext j; frame_out; rfl

theorem fin5 (c : Dev nD) : (dats m 0 c).arrAt 5 (cfgs 0).N = RZ m c := by
  refine (dats m 0 c).arrAt_eq_of_covers 5 _ (by decide +kernel) fun t hf y => ?_
  blk_simp
  rw [after0_5, all5 m c t]
  refine Eq.trans ?_ (congrArg (RZ m c) (emb5 t y)).symm
  exact (congrArg (Q5 m c t) (ix2_eq y)).trans (Q5_at m c t (y 0) (y 1))

theorem fin6 (c : Dev nD) : (dats m 0 c).arrAt 6 (cfgs 0).N = RM m c := by
  refine (dats m 0 c).arrAt_eq_of_covers 6 _ (by decide +kernel) fun t hf y => ?_
  blk_simp
  rw [after0_6, all6 m c t]
  refine Eq.trans ?_ (congrArg (RM m c) (emb6 t y)).symm
  exact (congrArg (Q6 m c t) (ix2_eq y)).trans (Q6_at m c t (y 0) (y 1))

end Cert.BatMergeIdeal.Value
-- ==== Proof.SeqRunA.lean ====
module

public import proofs.«01_k».proof.Proof.Gen.SeqBwdIdeal.Skeleton
public import proofs.«01_k».proof.Proof.Gen.SeqBwdIdeal.Frame

@[expose] public section

set_option maxRecDepth 16384

noncomputable section

namespace Cert.SeqBwdIdeal.Body

open Cert.SeqBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's test for the first visit of a direction. -/
abbrev cond0 (i : grid0.Coords) : Prop := (Scalar.cmpi .ne (Scalar.extui (Scalar.cmpi .eq (BitVec.ofNat 32 (i 1).val) 0#32)) 0#32) = 1#1

set_option maxHeartbeats 4000000 in
/-- One visit of the body, the first of a direction (the carried gradient starts at zero): the pieces its stores leave
    in each output and in the carried buffer, with the proof that the body runs to a continuation holding them. -/
noncomputable def runA (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : cond0 i)
    (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    Σ' (L8 : List (View.Piece (Elt F) S1x4x8x64x128 .bf16)) (L9 : List (View.Piece (Elt F) S1x4x8x64x128 .bf16)) (L10 : List (View.Piece (Elt F) S1x4x8x64x128 .bf16)) (L11 : List (View.Piece (Elt F) S1x4x8x64x128 .bf16)) (L12 : List (View.Piece (Elt F) S1x4x8x1x128 .f32)), { LS : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS)) -∗ K ⟨⟩))
          ⊢ wp frame (wpE (defs₀ (F := F)) Variants.none c none) E (cc0_dn_seq_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_dn_seq_bwd_eq_skeleton]; unfold cc0_dn_seq_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%ds, %fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec_parts (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    isplitl [H11]
    · iexists _; iexact H11
    isplitl [H12]
    · iexists _; iexact H12
    iexists _; iexact HS0

end Cert.SeqBwdIdeal.Body

end
-- ==== Proof.SeqRunB.lean ====
module

public import proofs.«01_k».proof.Proof.Gen.SeqBwdIdeal.Skeleton
public import proofs.«01_k».proof.Proof.Gen.SeqBwdIdeal.Frame
public import proofs.«01_k».proof.Proof.SeqRunA

@[expose] public section

set_option maxRecDepth 16384

noncomputable section

namespace Cert.SeqBwdIdeal.Body

open Cert.SeqBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- One visit of the body, a later one (the carried gradient is what the visit before left): the pieces its stores leave
    in each output and in the carried buffer, with the proof that the body runs to a continuation holding them. -/
noncomputable def runB (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : ¬ cond0 i)
    (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    Σ' (L8 : List (View.Piece (Elt F) S1x4x8x64x128 .bf16)) (L9 : List (View.Piece (Elt F) S1x4x8x64x128 .bf16)) (L10 : List (View.Piece (Elt F) S1x4x8x64x128 .bf16)) (L11 : List (View.Piece (Elt F) S1x4x8x64x128 .bf16)) (L12 : List (View.Piece (Elt F) S1x4x8x1x128 .f32)), { LS : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS)) -∗ K ⟨⟩))
          ⊢ wp frame (wpE (defs₀ (F := F)) Variants.none c none) E (cc0_dn_seq_bwd i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun E K => ?run⟩
  case run =>
    simp only [cc0_dn_seq_bwd_eq_skeleton]; unfold cc0_dn_seq_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%fs, %hfs, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg15.eq_unread hfs
    sl_exec_parts (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; iexact H8
    isplitl [H9]
    · iexists _; iexact H9
    isplitl [H10]
    · iexists _; iexact H10
    isplitl [H11]
    · iexists _; iexact H11
    isplitl [H12]
    · iexists _; iexact H12
    iexists _; iexact HS0

end Cert.SeqBwdIdeal.Body

end
-- ==== Proof.SeqVals.lean ====
module

public import proofs.«01_k».proof.Proof.Gen.SeqBwdIdeal.Skeleton
public import proofs.«01_k».proof.Proof.Gen.SeqBwdIdeal.Frame
public import proofs.«01_k».proof.Proof.SeqRunB
public import Idealize.ShloMosaic.Lib.VecWindow

@[expose] public section

set_option maxRecDepth 16384

noncomputable section

namespace Cert.SeqBwdIdeal.Body

open Cert.SeqBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The offsets of the four steps of a visit -/

/-- The rectangle step `r` of a visit reads or writes at, the family of offsets `1`. -/
abbrev R1 (i : grid0.Coords) (r : Fin 4) : Rect S1x4x8x128x128 :=
  Rect.unit (s := S1x4x8x128x128) (k0_off1 i (k0_off1_at r).1 (k0_off1_at r).2) S1x1x8x128x128.size (k0_off1_inb i r)

/-- The rectangle step `r` of a visit reads or writes at, the family of offsets `2`. -/
abbrev R2 (i : grid0.Coords) (r : Fin 4) : Rect S256x1024 :=
  Rect.unit (s := S256x1024) (k0_off2 i (k0_off2_at r).1 (k0_off2_at r).2) S64x128.size (k0_off2_inb i r)

/-- The rectangle step `r` of a visit reads or writes at, the family of offsets `3`. -/
abbrev R3 (i : grid0.Coords) (r : Fin 4) : Rect S256x1024 :=
  Rect.unit (s := S256x1024) (k0_off3 i (k0_off3_at r).1 (k0_off3_at r).2) S64x128.size (k0_off3_inb i r)

/-- The rectangle step `r` of a visit reads or writes at, the family of offsets `4`. -/
abbrev R4 (i : grid0.Coords) (r : Fin 4) : Rect S256x1024 :=
  Rect.unit (s := S256x1024) (k0_off4 i (k0_off4_at r).1 (k0_off4_at r).2) S64x128.size (k0_off4_inb i r)

/-- The rectangle step `r` of a visit reads or writes at, the family of offsets `5`. -/
abbrev R5 (i : grid0.Coords) (r : Fin 4) : Rect S256x1024 :=
  Rect.unit (s := S256x1024) (k0_off5 i (k0_off5_at r).1 (k0_off5_at r).2) S64x128.size (k0_off5_inb i r)

/-- The rectangle step `r` of a visit reads or writes at, the family of offsets `6`. -/
abbrev R6 (i : grid0.Coords) (r : Fin 4) : Rect S256x1024 :=
  Rect.unit (s := S256x1024) (k0_off6 i (k0_off6_at r).1 (k0_off6_at r).2) S64x128.size (k0_off6_inb i r)

/-- The rectangle step `r` of a visit reads or writes at, the family of offsets `7`. -/
abbrev R7 (i : grid0.Coords) (r : Fin 4) : Rect S256x1024 :=
  Rect.unit (s := S256x1024) (k0_off7 i (k0_off7_at r).1 (k0_off7_at r).2) S64x128.size (k0_off7_inb i r)

/-- The rectangle step `r` of a visit reads or writes at, the family of offsets `8`. -/
abbrev R8 (i : grid0.Coords) (r : Fin 4) : Rect S256x1024 :=
  Rect.unit (s := S256x1024) (k0_off8 i (k0_off8_at r).1 (k0_off8_at r).2) S64x128.size (k0_off8_inb i r)

/-- The rectangle step `r` of a visit reads or writes at, the family of offsets `9`. -/
abbrev R9 (i : grid0.Coords) (r : Fin 4) : Rect S256x1024 :=
  Rect.unit (s := S256x1024) (k0_off9 i (k0_off9_at r).1 (k0_off9_at r).2) S64x128.size (k0_off9_inb i r)

/-- The rectangle step `r` of a visit reads or writes at, the family of offsets `10`. -/
abbrev R10 (i : grid0.Coords) (r : Fin 4) : Rect S1x4x8x64x64 :=
  Rect.unit (s := S1x4x8x64x64) (k0_off10 i (k0_off10_at r).1 (k0_off10_at r).2) S1x1x8x64x64.size (k0_off10_inb i r)

/-- The rectangle step `r` of a visit reads or writes at, the family of offsets `11`. -/
abbrev R11 (i : grid0.Coords) (r : Fin 4) : Rect S1x4x8x64x128 :=
  Rect.unit (s := S1x4x8x64x128) (k0_off11 i (k0_off11_at r).1 (k0_off11_at r).2) S1x1x8x64x128.size (k0_off11_inb i r)

/-- The rectangle step `r` of a visit reads or writes at, the family of offsets `12`. -/
abbrev R12 (i : grid0.Coords) (r : Fin 4) : Rect S1x256x128 :=
  Rect.unit (s := S1x256x128) (k0_off12 i (k0_off12_at r).1 (k0_off12_at r).2) S1x64x128.size (k0_off12_inb i r)

/-- The rectangle step `r` of a visit reads or writes at, the family of offsets `13`. -/
abbrev R13 (i : grid0.Coords) (r : Fin 4) : Rect S1x4x8x1x128 :=
  Rect.unit (s := S1x4x8x1x128) (k0_off13 i (k0_off13_at r).1 (k0_off13_at r).2) S1x1x8x1x128.size (k0_off13_inb i r)

/-- What one step reads: the eight heads' gradients stacked, the saved state, and the step's slabs of the other operands. -/
structure Slabs (F : FTy → Type) where
  st : FVec F S8x64x128 .f32
  s : Vec F S1x1x8x128x128 .bf16
  pm : Vec F S1x1x8x64x64 .bf16
  kd : Vec F S1x1x8x64x128 .bf16
  qg : Vec F S1x1x8x64x128 .bf16
  w : Vec F S1x1x8x64x128 .bf16
  vn : Vec F S1x1x8x64x128 .bf16
  g : Vec F S1x64x128 .f32

/-- A block read at a rectangle. -/
abbrev ldR {s : Shape} {e : EltTy} (x : Vec F s e) (R : Rect s) : R.toLoadRect.shape.Idx → Elt F e := fun j => x (R.toLoadRect.idx j)

/-- The slabs of step `r`, off the blocks of the visit. -/
def slabs (i : grid0.Coords) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (r : Fin 4) : Slabs F where
  st := k0_pay4 (ldR x7 (R2 i r)) (ldR x7 (R3 i r)) (ldR x7 (R4 i r)) (ldR x7 (R5 i r)) (ldR x7 (R6 i r)) (ldR x7 (R7 i r)) (ldR x7 (R8 i r)) (ldR x7 (R9 i r))
  s := ldR x5 (R1 i r)
  pm := ldR x3 (R10 i r)
  kd := ldR x2 (R11 i r)
  qg := ldR x1 (R11 i r)
  w := ldR x0 (R11 i r)
  vn := ldR x4 (R11 i r)
  g := ldR x6 (R12 i r)

/-- The same slabs as the body's loads spell them. -/
def rawSlabs (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (r : Fin 4) : Slabs F where
  st := k0_pay4 (View.readAt (Elt F) arg9.view (R2 i r).toLoadRect (harg9.unread x7)) (View.readAt (Elt F) arg9.view (R3 i r).toLoadRect (harg9.unread x7)) (View.readAt (Elt F) arg9.view (R4 i r).toLoadRect (harg9.unread x7)) (View.readAt (Elt F) arg9.view (R5 i r).toLoadRect (harg9.unread x7)) (View.readAt (Elt F) arg9.view (R6 i r).toLoadRect (harg9.unread x7)) (View.readAt (Elt F) arg9.view (R7 i r).toLoadRect (harg9.unread x7)) (View.readAt (Elt F) arg9.view (R8 i r).toLoadRect (harg9.unread x7)) (View.readAt (Elt F) arg9.view (R9 i r).toLoadRect (harg9.unread x7))
  s := View.readAt (Elt F) arg7.view (R1 i r).toLoadRect (harg7.unread x5)
  pm := View.readAt (Elt F) arg5.view (R10 i r).toLoadRect (harg5.unread x3)
  kd := View.readAt (Elt F) arg4.view (R11 i r).toLoadRect (harg4.unread x2)
  qg := View.readAt (Elt F) arg3.view (R11 i r).toLoadRect (harg3.unread x1)
  w := View.readAt (Elt F) arg2.view (R11 i r).toLoadRect (harg2.unread x0)
  vn := View.readAt (Elt F) arg6.view (R11 i r).toLoadRect (harg6.unread x4)
  g := View.readAt (Elt F) arg8.view (R12 i r).toLoadRect (harg8.unread x6)

theorem rawSlabs_eq (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) : rawSlabs i arg2 harg2 arg3 harg3 arg4 harg4 arg5 harg5 arg6 harg6 arg7 harg7 arg8 harg8 arg9 harg9 x0 x1 x2 x3 x4 x5 x6 x7 = slabs i x0 x1 x2 x3 x4 x5 x6 x7 := by
  funext r
  unfold rawSlabs slabs
  rw [show View.readAt (Elt F) arg9.view (R2 i r).toLoadRect (harg9.unread x7) = ldR x7 (R2 i r) from funext fun j => congrFun (harg9.read_unread x7) _]
  rw [show View.readAt (Elt F) arg9.view (R3 i r).toLoadRect (harg9.unread x7) = ldR x7 (R3 i r) from funext fun j => congrFun (harg9.read_unread x7) _]
  rw [show View.readAt (Elt F) arg9.view (R4 i r).toLoadRect (harg9.unread x7) = ldR x7 (R4 i r) from funext fun j => congrFun (harg9.read_unread x7) _]
  rw [show View.readAt (Elt F) arg9.view (R5 i r).toLoadRect (harg9.unread x7) = ldR x7 (R5 i r) from funext fun j => congrFun (harg9.read_unread x7) _]
  rw [show View.readAt (Elt F) arg9.view (R6 i r).toLoadRect (harg9.unread x7) = ldR x7 (R6 i r) from funext fun j => congrFun (harg9.read_unread x7) _]
  rw [show View.readAt (Elt F) arg9.view (R7 i r).toLoadRect (harg9.unread x7) = ldR x7 (R7 i r) from funext fun j => congrFun (harg9.read_unread x7) _]
  rw [show View.readAt (Elt F) arg9.view (R8 i r).toLoadRect (harg9.unread x7) = ldR x7 (R8 i r) from funext fun j => congrFun (harg9.read_unread x7) _]
  rw [show View.readAt (Elt F) arg9.view (R9 i r).toLoadRect (harg9.unread x7) = ldR x7 (R9 i r) from funext fun j => congrFun (harg9.read_unread x7) _]
  rw [show View.readAt (Elt F) arg7.view (R1 i r).toLoadRect (harg7.unread x5) = ldR x5 (R1 i r) from funext fun j => congrFun (harg7.read_unread x5) _]
  rw [show View.readAt (Elt F) arg5.view (R10 i r).toLoadRect (harg5.unread x3) = ldR x3 (R10 i r) from funext fun j => congrFun (harg5.read_unread x3) _]
  rw [show View.readAt (Elt F) arg4.view (R11 i r).toLoadRect (harg4.unread x2) = ldR x2 (R11 i r) from funext fun j => congrFun (harg4.read_unread x2) _]
  rw [show View.readAt (Elt F) arg3.view (R11 i r).toLoadRect (harg3.unread x1) = ldR x1 (R11 i r) from funext fun j => congrFun (harg3.read_unread x1) _]
  rw [show View.readAt (Elt F) arg2.view (R11 i r).toLoadRect (harg2.unread x0) = ldR x0 (R11 i r) from funext fun j => congrFun (harg2.read_unread x0) _]
  rw [show View.readAt (Elt F) arg6.view (R11 i r).toLoadRect (harg6.unread x4) = ldR x4 (R11 i r) from funext fun j => congrFun (harg6.read_unread x4) _]
  rw [show View.readAt (Elt F) arg8.view (R12 i r).toLoadRect (harg8.unread x6) = ldR x6 (R12 i r) from funext fun j => congrFun (harg8.read_unread x6) _]

/-! ## What one step computes -/

/-- The gradient of the output the step takes: zero on the context. -/
def gdo (i : grid0.Coords) (L : Slabs F) : FVec F S8x64x128 .f32 := k0_pay5 (BitVec.ofNat 32 (i 0).val) (BitVec.ofNat 32 (i 1).val) L.st
/-- The gradient of the corrected values. -/
def gdv (i : grid0.Coords) (ds : Vec F S8x128x128 .f32) (L : Slabs F) : FVec F S8x64x128 .f32 :=
  k0_pay8 ds (k0_pay6 (BitVec.ofNat 32 (i 0).val) (BitVec.ofNat 32 (i 1).val) L.st L.pm) (k0_pay7 L.kd)
/-- The gradient of the state before the step. -/
def gds (i : grid0.Coords) (ds : Vec F S8x128x128 .f32) (L : Slabs F) : FVec F S8x128x128 .f32 :=
  k0_pay9 ds (gdo i L) (k0_pay6 (BitVec.ofNat 32 (i 0).val) (BitVec.ofNat 32 (i 1).val) L.st L.pm) (k0_pay7 L.kd) L.qg L.g L.w
/-- What the step stores, output by output. -/
def o8 (i : grid0.Coords) (ds : Vec F S8x128x128 .f32) (L : Slabs F) : Vec F S1x1x8x64x128 .bf16 := k0_pay10 (gdv i ds L)
def o9 (i : grid0.Coords) (ds : Vec F S8x128x128 .f32) (L : Slabs F) : Vec F S1x1x8x64x128 .bf16 := k0_pay11 (k0_pay3 L.s) (gdv i ds L)
def o10 (i : grid0.Coords) (ds : Vec F S8x128x128 .f32) (L : Slabs F) : Vec F S1x1x8x64x128 .bf16 := k0_pay12 (k0_pay3 L.s) (gdo i L)
def o11 (i : grid0.Coords) (ds : Vec F S8x128x128 .f32) (L : Slabs F) : Vec F S1x1x8x64x128 .bf16 := k0_pay13 ds L.vn
def o12 (i : grid0.Coords) (ds : Vec F S8x128x128 .f32) (L : Slabs F) : Vec F S1x1x8x1x128 .f32 := k0_pay14 ds (k0_pay3 L.s)

/-- The carried gradient before step `n` of a visit that starts at `d0`. -/
def dsq (i : grid0.Coords) (d0 : Vec F S8x128x128 .f32) (S : Fin 4 → Slabs F) : ℕ → Vec F S8x128x128 .f32
  | 0 => d0
  | n + 1 => gds i (dsq i d0 S n) (S (Fin.ofNat 4 n))

/-- The pieces the four steps store in an output of the first shape, -/
def pcA (i : grid0.Coords) (f : Fin 4 → Vec F S1x1x8x64x128 .bf16) : List (View.Piece (Elt F) S1x4x8x64x128 .bf16) :=
  [⟨R11 i 3, f 3⟩, ⟨R11 i 2, f 2⟩, ⟨R11 i 1, f 1⟩, ⟨R11 i 0, f 0⟩]
/-- and in the row sums. -/
def pcB (i : grid0.Coords) (f : Fin 4 → Vec F S1x1x8x1x128 .f32) : List (View.Piece (Elt F) S1x4x8x1x128 .f32) :=
  [⟨R13 i 3, f 3⟩, ⟨R13 i 2, f 2⟩, ⟨R13 i 1, f 1⟩, ⟨R13 i 0, f 0⟩]

theorem v7_A (c : Dev nD) (arg15 : Memref sig .tc .vmem S8x128x128 .f32) : (runA.sl.v7 c arg15) = (k0_pay2 : Vec F S8x128x128 .f32) := by
  unfold runA.sl.v7 runA.sl.HS0_1
  exact View.readCov_full _ _ _ _ _

theorem v162_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) : runA.sl.v162 c i arg2 harg2 arg3 harg3 arg4 harg4 arg5 harg5 arg8 harg8 arg9 harg9 arg15 x0 x1 x2 x3 x6 x7 = gds i (runA.sl.v7 c arg15) (rawSlabs i arg2 harg2 arg3 harg3 arg4 harg4 arg5 harg5 arg6 harg6 arg7 harg7 arg8 harg8 arg9 harg9 x0 x1 x2 x3 x4 x5 x6 x7 0) := by
  unfold runA.sl.v162 runA.sl.HS0_2
  exact (View.readCov_full _ _ _ _ _).trans rfl

theorem v317_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) : runA.sl.v317 c i arg2 harg2 arg3 harg3 arg4 harg4 arg5 harg5 arg8 harg8 arg9 harg9 arg15 x0 x1 x2 x3 x6 x7 = gds i (runA.sl.v162 c i arg2 harg2 arg3 harg3 arg4 harg4 arg5 harg5 arg8 harg8 arg9 harg9 arg15 x0 x1 x2 x3 x6 x7) (rawSlabs i arg2 harg2 arg3 harg3 arg4 harg4 arg5 harg5 arg6 harg6 arg7 harg7 arg8 harg8 arg9 harg9 x0 x1 x2 x3 x4 x5 x6 x7 1) := by
  unfold runA.sl.v317 runA.sl.HS0_3
  exact (View.readCov_full _ _ _ _ _).trans rfl

theorem v472_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) : runA.sl.v472 c i arg2 harg2 arg3 harg3 arg4 harg4 arg5 harg5 arg8 harg8 arg9 harg9 arg15 x0 x1 x2 x3 x6 x7 = gds i (runA.sl.v317 c i arg2 harg2 arg3 harg3 arg4 harg4 arg5 harg5 arg8 harg8 arg9 harg9 arg15 x0 x1 x2 x3 x6 x7) (rawSlabs i arg2 harg2 arg3 harg3 arg4 harg4 arg5 harg5 arg6 harg6 arg7 harg7 arg8 harg8 arg9 harg9 x0 x1 x2 x3 x4 x5 x6 x7 2) := by
  unfold runA.sl.v472 runA.sl.HS0_4
  exact (View.readCov_full _ _ _ _ _).trans rfl

theorem chain_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    (runA.sl.v162 c i arg2 harg2 arg3 harg3 arg4 harg4 arg5 harg5 arg8 harg8 arg9 harg9 arg15 x0 x1 x2 x3 x6 x7) = dsq i k0_pay2 (slabs i x0 x1 x2 x3 x4 x5 x6 x7) 1 ∧ (runA.sl.v317 c i arg2 harg2 arg3 harg3 arg4 harg4 arg5 harg5 arg8 harg8 arg9 harg9 arg15 x0 x1 x2 x3 x6 x7) = dsq i k0_pay2 (slabs i x0 x1 x2 x3 x4 x5 x6 x7) 2 ∧ (runA.sl.v472 c i arg2 harg2 arg3 harg3 arg4 harg4 arg5 harg5 arg8 harg8 arg9 harg9 arg15 x0 x1 x2 x3 x6 x7) = dsq i k0_pay2 (slabs i x0 x1 x2 x3 x4 x5 x6 x7) 3 := by
  have h1 : (runA.sl.v162 c i arg2 harg2 arg3 harg3 arg4 harg4 arg5 harg5 arg8 harg8 arg9 harg9 arg15 x0 x1 x2 x3 x6 x7) = dsq i k0_pay2 (slabs i x0 x1 x2 x3 x4 x5 x6 x7) 1 := by
    rw [v162_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7, v7_A, rawSlabs_eq]; rfl
  have h2 : (runA.sl.v317 c i arg2 harg2 arg3 harg3 arg4 harg4 arg5 harg5 arg8 harg8 arg9 harg9 arg15 x0 x1 x2 x3 x6 x7) = dsq i k0_pay2 (slabs i x0 x1 x2 x3 x4 x5 x6 x7) 2 := by
    rw [v317_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7, h1, rawSlabs_eq]; rfl
  refine ⟨h1, h2, ?_⟩
  rw [v472_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7, h2, rawSlabs_eq]; rfl

set_option maxHeartbeats 1000000 in
theorem pieces8_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = pcA i (fun r => o8 i (dsq i k0_pay2 (slabs i x0 x1 x2 x3 x4 x5 x6 x7) r.val) (slabs i x0 x1 x2 x3 x4 x5 x6 x7 r)) := by
  have h : (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1 = pcA i (fun r => o8 i ((![(runA.sl.v7 c arg15), (runA.sl.v162 c i arg2 harg2 arg3 harg3 arg4 harg4 arg5 harg5 arg8 harg8 arg9 harg9 arg15 x0 x1 x2 x3 x6 x7), (runA.sl.v317 c i arg2 harg2 arg3 harg3 arg4 harg4 arg5 harg5 arg8 harg8 arg9 harg9 arg15 x0 x1 x2 x3 x6 x7), (runA.sl.v472 c i arg2 harg2 arg3 harg3 arg4 harg4 arg5 harg5 arg8 harg8 arg9 harg9 arg15 x0 x1 x2 x3 x6 x7)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
  rw [h, rawSlabs_eq, h1, h2, h3, v7_A]
  rfl

set_option maxHeartbeats 1000000 in
theorem pieces9_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = pcA i (fun r => o9 i (dsq i k0_pay2 (slabs i x0 x1 x2 x3 x4 x5 x6 x7) r.val) (slabs i x0 x1 x2 x3 x4 x5 x6 x7 r)) := by
  have h : (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1 = pcA i (fun r => o9 i ((![(runA.sl.v7 c arg15), (runA.sl.v162 c i arg2 harg2 arg3 harg3 arg4 harg4 arg5 harg5 arg8 harg8 arg9 harg9 arg15 x0 x1 x2 x3 x6 x7), (runA.sl.v317 c i arg2 harg2 arg3 harg3 arg4 harg4 arg5 harg5 arg8 harg8 arg9 harg9 arg15 x0 x1 x2 x3 x6 x7), (runA.sl.v472 c i arg2 harg2 arg3 harg3 arg4 harg4 arg5 harg5 arg8 harg8 arg9 harg9 arg15 x0 x1 x2 x3 x6 x7)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
  rw [h, rawSlabs_eq, h1, h2, h3, v7_A]
  rfl

set_option maxHeartbeats 1000000 in
theorem pieces10_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 = pcA i (fun r => o10 i (dsq i k0_pay2 (slabs i x0 x1 x2 x3 x4 x5 x6 x7) r.val) (slabs i x0 x1 x2 x3 x4 x5 x6 x7 r)) := by
  have h : (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1 = pcA i (fun r => o10 i ((![(runA.sl.v7 c arg15), (runA.sl.v162 c i arg2 harg2 arg3 harg3 arg4 harg4 arg5 harg5 arg8 harg8 arg9 harg9 arg15 x0 x1 x2 x3 x6 x7), (runA.sl.v317 c i arg2 harg2 arg3 harg3 arg4 harg4 arg5 harg5 arg8 harg8 arg9 harg9 arg15 x0 x1 x2 x3 x6 x7), (runA.sl.v472 c i arg2 harg2 arg3 harg3 arg4 harg4 arg5 harg5 arg8 harg8 arg9 harg9 arg15 x0 x1 x2 x3 x6 x7)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
  rw [h, rawSlabs_eq, h1, h2, h3, v7_A]
  rfl

set_option maxHeartbeats 1000000 in
theorem pieces11_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 = pcA i (fun r => o11 i (dsq i k0_pay2 (slabs i x0 x1 x2 x3 x4 x5 x6 x7) r.val) (slabs i x0 x1 x2 x3 x4 x5 x6 x7 r)) := by
  have h : (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1 = pcA i (fun r => o11 i ((![(runA.sl.v7 c arg15), (runA.sl.v162 c i arg2 harg2 arg3 harg3 arg4 harg4 arg5 harg5 arg8 harg8 arg9 harg9 arg15 x0 x1 x2 x3 x6 x7), (runA.sl.v317 c i arg2 harg2 arg3 harg3 arg4 harg4 arg5 harg5 arg8 harg8 arg9 harg9 arg15 x0 x1 x2 x3 x6 x7), (runA.sl.v472 c i arg2 harg2 arg3 harg3 arg4 harg4 arg5 harg5 arg8 harg8 arg9 harg9 arg15 x0 x1 x2 x3 x6 x7)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
  rw [h, rawSlabs_eq, h1, h2, h3, v7_A]
  rfl

set_option maxHeartbeats 1000000 in
theorem pieces12_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 = pcB i (fun r => o12 i (dsq i k0_pay2 (slabs i x0 x1 x2 x3 x4 x5 x6 x7) r.val) (slabs i x0 x1 x2 x3 x4 x5 x6 x7 r)) := by
  have h : (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1 = pcB i (fun r => o12 i ((![(runA.sl.v7 c arg15), (runA.sl.v162 c i arg2 harg2 arg3 harg3 arg4 harg4 arg5 harg5 arg8 harg8 arg9 harg9 arg15 x0 x1 x2 x3 x6 x7), (runA.sl.v317 c i arg2 harg2 arg3 harg3 arg4 harg4 arg5 harg5 arg8 harg8 arg9 harg9 arg15 x0 x1 x2 x3 x6 x7), (runA.sl.v472 c i arg2 harg2 arg3 harg3 arg4 harg4 arg5 harg5 arg8 harg8 arg9 harg9 arg15 x0 x1 x2 x3 x6 x7)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
  rw [h, rawSlabs_eq, h1, h2, h3, v7_A]
  rfl

set_option maxHeartbeats 2000000 in
theorem piecesS_A (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) :
    ∃ L, (runA c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1 = ⟨Rect.unit (s := S8x128x128) ![0, 0, 0] S8x128x128.size inb_S8x128x128_S8x128x128_0_0_0, dsq i k0_pay2 (slabs i x0 x1 x2 x3 x4 x5 x6 x7) 4⟩ :: L := by
  obtain ⟨h1, h2, h3⟩ := chain_A c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7
  have h4 : dsq i k0_pay2 (slabs i x0 x1 x2 x3 x4 x5 x6 x7) 4 = gds i (runA.sl.v472 c i arg2 harg2 arg3 harg3 arg4 harg4 arg5 harg5 arg8 harg8 arg9 harg9 arg15 x0 x1 x2 x3 x6 x7) (rawSlabs i arg2 harg2 arg3 harg3 arg4 harg4 arg5 harg5 arg6 harg6 arg7 harg7 arg8 harg8 arg9 harg9 x0 x1 x2 x3 x4 x5 x6 x7 3) := by rw [h3, rawSlabs_eq]; rfl
  rw [h4]
  exact ⟨_, rfl⟩

theorem r_B (c : Dev nD) (arg15 : Memref sig .tc .vmem S8x128x128 .f32) (harg15 : arg15.IsWhole) (xs0 : Vec F S8x128x128 .f32) : (runB.sl.r c arg15 harg15 xs0) = xs0 := by
  unfold runB.sl.r
  rw [View.readAt_full]
  exact harg15.read_unread xs0

theorem v162_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) : runB.sl.v162 c i arg2 harg2 arg3 harg3 arg4 harg4 arg5 harg5 arg8 harg8 arg9 harg9 arg15 harg15 x0 x1 x2 x3 x6 x7 xs0 = gds i (runB.sl.r c arg15 harg15 xs0) (rawSlabs i arg2 harg2 arg3 harg3 arg4 harg4 arg5 harg5 arg6 harg6 arg7 harg7 arg8 harg8 arg9 harg9 x0 x1 x2 x3 x4 x5 x6 x7 0) := by
  unfold runB.sl.v162 runB.sl.HS0_1
  exact (View.readCov_full _ _ _ _ _).trans rfl

theorem v317_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) : runB.sl.v317 c i arg2 harg2 arg3 harg3 arg4 harg4 arg5 harg5 arg8 harg8 arg9 harg9 arg15 harg15 x0 x1 x2 x3 x6 x7 xs0 = gds i (runB.sl.v162 c i arg2 harg2 arg3 harg3 arg4 harg4 arg5 harg5 arg8 harg8 arg9 harg9 arg15 harg15 x0 x1 x2 x3 x6 x7 xs0) (rawSlabs i arg2 harg2 arg3 harg3 arg4 harg4 arg5 harg5 arg6 harg6 arg7 harg7 arg8 harg8 arg9 harg9 x0 x1 x2 x3 x4 x5 x6 x7 1) := by
  unfold runB.sl.v317 runB.sl.HS0_2
  exact (View.readCov_full _ _ _ _ _).trans rfl

theorem v472_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) : runB.sl.v472 c i arg2 harg2 arg3 harg3 arg4 harg4 arg5 harg5 arg8 harg8 arg9 harg9 arg15 harg15 x0 x1 x2 x3 x6 x7 xs0 = gds i (runB.sl.v317 c i arg2 harg2 arg3 harg3 arg4 harg4 arg5 harg5 arg8 harg8 arg9 harg9 arg15 harg15 x0 x1 x2 x3 x6 x7 xs0) (rawSlabs i arg2 harg2 arg3 harg3 arg4 harg4 arg5 harg5 arg6 harg6 arg7 harg7 arg8 harg8 arg9 harg9 x0 x1 x2 x3 x4 x5 x6 x7 2) := by
  unfold runB.sl.v472 runB.sl.HS0_3
  exact (View.readCov_full _ _ _ _ _).trans rfl

theorem chain_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    (runB.sl.v162 c i arg2 harg2 arg3 harg3 arg4 harg4 arg5 harg5 arg8 harg8 arg9 harg9 arg15 harg15 x0 x1 x2 x3 x6 x7 xs0) = dsq i xs0 (slabs i x0 x1 x2 x3 x4 x5 x6 x7) 1 ∧ (runB.sl.v317 c i arg2 harg2 arg3 harg3 arg4 harg4 arg5 harg5 arg8 harg8 arg9 harg9 arg15 harg15 x0 x1 x2 x3 x6 x7 xs0) = dsq i xs0 (slabs i x0 x1 x2 x3 x4 x5 x6 x7) 2 ∧ (runB.sl.v472 c i arg2 harg2 arg3 harg3 arg4 harg4 arg5 harg5 arg8 harg8 arg9 harg9 arg15 harg15 x0 x1 x2 x3 x6 x7 xs0) = dsq i xs0 (slabs i x0 x1 x2 x3 x4 x5 x6 x7) 3 := by
  have h1 : (runB.sl.v162 c i arg2 harg2 arg3 harg3 arg4 harg4 arg5 harg5 arg8 harg8 arg9 harg9 arg15 harg15 x0 x1 x2 x3 x6 x7 xs0) = dsq i xs0 (slabs i x0 x1 x2 x3 x4 x5 x6 x7) 1 := by
    rw [v162_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0, r_B, rawSlabs_eq]; rfl
  have h2 : (runB.sl.v317 c i arg2 harg2 arg3 harg3 arg4 harg4 arg5 harg5 arg8 harg8 arg9 harg9 arg15 harg15 x0 x1 x2 x3 x6 x7 xs0) = dsq i xs0 (slabs i x0 x1 x2 x3 x4 x5 x6 x7) 2 := by
    rw [v317_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0, h1, rawSlabs_eq]; rfl
  refine ⟨h1, h2, ?_⟩
  rw [v472_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0, h2, rawSlabs_eq]; rfl

set_option maxHeartbeats 1000000 in
theorem pieces8_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : ¬ cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1 = pcA i (fun r => o8 i (dsq i xs0 (slabs i x0 x1 x2 x3 x4 x5 x6 x7) r.val) (slabs i x0 x1 x2 x3 x4 x5 x6 x7 r)) := by
  have h : (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1 = pcA i (fun r => o8 i ((![(runB.sl.r c arg15 harg15 xs0), (runB.sl.v162 c i arg2 harg2 arg3 harg3 arg4 harg4 arg5 harg5 arg8 harg8 arg9 harg9 arg15 harg15 x0 x1 x2 x3 x6 x7 xs0), (runB.sl.v317 c i arg2 harg2 arg3 harg3 arg4 harg4 arg5 harg5 arg8 harg8 arg9 harg9 arg15 harg15 x0 x1 x2 x3 x6 x7 xs0), (runB.sl.v472 c i arg2 harg2 arg3 harg3 arg4 harg4 arg5 harg5 arg8 harg8 arg9 harg9 arg15 harg15 x0 x1 x2 x3 x6 x7 xs0)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0
  rw [h, rawSlabs_eq, h1, h2, h3, r_B]
  rfl

set_option maxHeartbeats 1000000 in
theorem pieces9_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : ¬ cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1 = pcA i (fun r => o9 i (dsq i xs0 (slabs i x0 x1 x2 x3 x4 x5 x6 x7) r.val) (slabs i x0 x1 x2 x3 x4 x5 x6 x7 r)) := by
  have h : (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1 = pcA i (fun r => o9 i ((![(runB.sl.r c arg15 harg15 xs0), (runB.sl.v162 c i arg2 harg2 arg3 harg3 arg4 harg4 arg5 harg5 arg8 harg8 arg9 harg9 arg15 harg15 x0 x1 x2 x3 x6 x7 xs0), (runB.sl.v317 c i arg2 harg2 arg3 harg3 arg4 harg4 arg5 harg5 arg8 harg8 arg9 harg9 arg15 harg15 x0 x1 x2 x3 x6 x7 xs0), (runB.sl.v472 c i arg2 harg2 arg3 harg3 arg4 harg4 arg5 harg5 arg8 harg8 arg9 harg9 arg15 harg15 x0 x1 x2 x3 x6 x7 xs0)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0
  rw [h, rawSlabs_eq, h1, h2, h3, r_B]
  rfl

set_option maxHeartbeats 1000000 in
theorem pieces10_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : ¬ cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1 = pcA i (fun r => o10 i (dsq i xs0 (slabs i x0 x1 x2 x3 x4 x5 x6 x7) r.val) (slabs i x0 x1 x2 x3 x4 x5 x6 x7 r)) := by
  have h : (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1 = pcA i (fun r => o10 i ((![(runB.sl.r c arg15 harg15 xs0), (runB.sl.v162 c i arg2 harg2 arg3 harg3 arg4 harg4 arg5 harg5 arg8 harg8 arg9 harg9 arg15 harg15 x0 x1 x2 x3 x6 x7 xs0), (runB.sl.v317 c i arg2 harg2 arg3 harg3 arg4 harg4 arg5 harg5 arg8 harg8 arg9 harg9 arg15 harg15 x0 x1 x2 x3 x6 x7 xs0), (runB.sl.v472 c i arg2 harg2 arg3 harg3 arg4 harg4 arg5 harg5 arg8 harg8 arg9 harg9 arg15 harg15 x0 x1 x2 x3 x6 x7 xs0)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0
  rw [h, rawSlabs_eq, h1, h2, h3, r_B]
  rfl

set_option maxHeartbeats 1000000 in
theorem pieces11_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : ¬ cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1 = pcA i (fun r => o11 i (dsq i xs0 (slabs i x0 x1 x2 x3 x4 x5 x6 x7) r.val) (slabs i x0 x1 x2 x3 x4 x5 x6 x7 r)) := by
  have h : (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1 = pcA i (fun r => o11 i ((![(runB.sl.r c arg15 harg15 xs0), (runB.sl.v162 c i arg2 harg2 arg3 harg3 arg4 harg4 arg5 harg5 arg8 harg8 arg9 harg9 arg15 harg15 x0 x1 x2 x3 x6 x7 xs0), (runB.sl.v317 c i arg2 harg2 arg3 harg3 arg4 harg4 arg5 harg5 arg8 harg8 arg9 harg9 arg15 harg15 x0 x1 x2 x3 x6 x7 xs0), (runB.sl.v472 c i arg2 harg2 arg3 harg3 arg4 harg4 arg5 harg5 arg8 harg8 arg9 harg9 arg15 harg15 x0 x1 x2 x3 x6 x7 xs0)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0
  rw [h, rawSlabs_eq, h1, h2, h3, r_B]
  rfl

set_option maxHeartbeats 1000000 in
theorem pieces12_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : ¬ cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1 = pcB i (fun r => o12 i (dsq i xs0 (slabs i x0 x1 x2 x3 x4 x5 x6 x7) r.val) (slabs i x0 x1 x2 x3 x4 x5 x6 x7 r)) := by
  have h : (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1 = pcB i (fun r => o12 i ((![(runB.sl.r c arg15 harg15 xs0), (runB.sl.v162 c i arg2 harg2 arg3 harg3 arg4 harg4 arg5 harg5 arg8 harg8 arg9 harg9 arg15 harg15 x0 x1 x2 x3 x6 x7 xs0), (runB.sl.v317 c i arg2 harg2 arg3 harg3 arg4 harg4 arg5 harg5 arg8 harg8 arg9 harg9 arg15 harg15 x0 x1 x2 x3 x6 x7 xs0), (runB.sl.v472 c i arg2 harg2 arg3 harg3 arg4 harg4 arg5 harg5 arg8 harg8 arg9 harg9 arg15 harg15 x0 x1 x2 x3 x6 x7 xs0)] : Fin 4 → Vec F S8x128x128 .f32) r) (rawSlabs i arg2 harg2 arg3 harg3 arg4 harg4 arg5 harg5 arg6 harg6 arg7 harg7 arg8 harg8 arg9 harg9 x0 x1 x2 x3 x4 x5 x6 x7 r)) := rfl
  obtain ⟨h1, h2, h3⟩ := chain_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0
  rw [h, rawSlabs_eq, h1, h2, h3, r_B]
  rfl

set_option maxHeartbeats 2000000 in
theorem piecesS_B (c : Dev nD) (i : grid0.Coords) (arg2 : Memref sig .tc .vmem S1x4x8x64x128 .bf16) (harg2 : arg2.IsWhole) (arg3 : Memref sig .tc .vmem S1x4x8x64x128 .bf16) (harg3 : arg3.IsWhole) (arg4 : Memref sig .tc .vmem S1x4x8x64x128 .bf16) (harg4 : arg4.IsWhole) (arg5 : Memref sig .tc .vmem S1x4x8x64x64 .bf16) (harg5 : arg5.IsWhole) (arg6 : Memref sig .tc .vmem S1x4x8x64x128 .bf16) (harg6 : arg6.IsWhole) (arg7 : Memref sig .tc .vmem S1x4x8x128x128 .bf16) (harg7 : arg7.IsWhole) (arg8 : Memref sig .tc .vmem S1x256x128 .f32) (harg8 : arg8.IsWhole) (arg9 : Memref sig .tc .vmem S256x1024 .f32) (harg9 : arg9.IsWhole) (arg10 : Memref sig .tc .vmem S1x4x8x64x128 .bf16) (harg10 : arg10.IsWhole) (arg11 : Memref sig .tc .vmem S1x4x8x64x128 .bf16) (harg11 : arg11.IsWhole) (arg12 : Memref sig .tc .vmem S1x4x8x64x128 .bf16) (harg12 : arg12.IsWhole) (arg13 : Memref sig .tc .vmem S1x4x8x64x128 .bf16) (harg13 : arg13.IsWhole) (arg14 : Memref sig .tc .vmem S1x4x8x1x128 .f32) (harg14 : arg14.IsWhole) (arg15 : Memref sig .tc .vmem S8x128x128 .f32) (harg15 : arg15.IsWhole) (hc0 : ¬ cond0 i) (x0 : Vec F S1x4x8x64x128 .bf16) (x1 : Vec F S1x4x8x64x128 .bf16) (x2 : Vec F S1x4x8x64x128 .bf16) (x3 : Vec F S1x4x8x64x64 .bf16) (x4 : Vec F S1x4x8x64x128 .bf16) (x5 : Vec F S1x4x8x128x128 .bf16) (x6 : Vec F S1x256x128 .f32) (x7 : Vec F S256x1024 .f32) (xs0 : Vec F S8x128x128 .f32) :
    ∃ L, (runB c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1 = ⟨Rect.unit (s := S8x128x128) ![0, 0, 0] S8x128x128.size inb_S8x128x128_S8x128x128_0_0_0, dsq i xs0 (slabs i x0 x1 x2 x3 x4 x5 x6 x7) 4⟩ :: L := by
  obtain ⟨h1, h2, h3⟩ := chain_B c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xs0
  have h4 : dsq i xs0 (slabs i x0 x1 x2 x3 x4 x5 x6 x7) 4 = gds i (runB.sl.v472 c i arg2 harg2 arg3 harg3 arg4 harg4 arg5 harg5 arg8 harg8 arg9 harg9 arg15 harg15 x0 x1 x2 x3 x6 x7 xs0) (rawSlabs i arg2 harg2 arg3 harg3 arg4 harg4 arg5 harg5 arg6 harg6 arg7 harg7 arg8 harg8 arg9 harg9 x0 x1 x2 x3 x4 x5 x6 x7 3) := by rw [h3, rawSlabs_eq]; rfl
  rw [h4]
  exact ⟨_, rfl⟩

end Cert.SeqBwdIdeal.Body

end
-- ==== Proof.SeqBlocks.lean ====
module

public import proofs.«01_k».proof.Proof.Gen.SeqBwdIdeal.Skeleton
public import proofs.«01_k».proof.Proof.Gen.SeqBwdIdeal.Frame
public import proofs.«01_k».proof.Proof.SeqVals
public import Idealize.ShloMosaic.Lib.Pointwise

@[expose] public section

set_option maxRecDepth 16384

noncomputable section

namespace Cert.SeqBwdIdeal.Body

open Cert.SeqBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pointwise
/-! ## The blocks the pieces leave -/

/-- The step that handles chunk `k` of the visit: forward in the second direction, backward in the first. -/
def stepOf (i : grid0.Coords) (k : Fin 4) : Fin 4 := if (i 0).val = 1 then k else 3 - k

theorem stepOf_stepOf (i : grid0.Coords) (k : Fin 4) : stepOf i (stepOf i k) = k := by
  unfold stepOf; split
  · rfl
  · revert k; decide

/-- The chunk a step handles, as the offsets' word. -/
theorem slot_word : ∀ (d : Fin 2) (r : Fin 4),
    (Scalar.indexCast (Scalar.select (Scalar.cmpi .eq (BitVec.ofNat 32 d.val) 1#32) (k0_off11_at r).1 (k0_off11_at r).2)).toNat
      = (if d.val = 1 then r else 3 - r : Fin 4).val := by decide

theorem off11_eq (i : grid0.Coords) (r : Fin 4) : k0_off11 i (k0_off11_at r).1 (k0_off11_at r).2 = ![0, (stepOf i r).val, 0, 0, 0] := by
  have h := slot_word (i 0) r
  unfold stepOf
  rw [← h]; rfl

theorem off13_eq (i : grid0.Coords) (r : Fin 4) : k0_off13 i (k0_off13_at r).1 (k0_off13_at r).2 = ![0, (stepOf i r).val, 0, 0, 0] := by
  have h := slot_word (i 0) r
  unfold stepOf
  rw [← h]; rfl

/-- An output block: chunk `k` holds what the step that handles it stored. -/
def blA (i : grid0.Coords) (f : Fin 4 → Vec F S1x1x8x64x128 .bf16) : Vec F S1x4x8x64x128 .bf16 :=
  fun y => f (stepOf i (y 1)) (ix5 0 0 (y 2) (y 3) (y 4))
def blB (i : grid0.Coords) (f : Fin 4 → Vec F S1x1x8x1x128 .f32) : Vec F S1x4x8x1x128 .f32 :=
  fun y => f (stepOf i (y 1)) (ix5 0 0 (y 2) (y 3) (y 4))

theorem R11_emb (i : grid0.Coords) (r : Fin 4) (x : S1x1x8x64x128.Idx) :
    (R11 i r).emb x = (ix5 (x 0) (stepOf i r) (x 2) (x 3) (x 4) : S1x4x8x64x128.Idx) := by
  have h := off11_eq i r
  funext a
  apply Fin.ext
  have e : ((R11 i r).emb x a).val = (k0_off11 i (k0_off11_at r).1 (k0_off11_at r).2) a + 1 * (x a).val := rfl
  rw [e, h]
  have h1 : (x 1).val = 0 := by have := (x 1).isLt; simpa using this
  fin_cases a
  · show 0 + 1 * (x 0).val = (x 0).val; omega
  · show (stepOf i r).val + 1 * (x 1).val = (stepOf i r).val; omega
  · show 0 + 1 * (x 2).val = (x 2).val; omega
  · show 0 + 1 * (x 3).val = (x 3).val; omega
  · show 0 + 1 * (x 4).val = (x 4).val; omega

theorem read_pcA {sg : RefSig} {κ : Kind} {sp : Space} (v : View sg κ sp S1x4x8x64x128 .bf16) (g : v.ty.Contents (Elt F)) (i : grid0.Coords) (f : Fin 4 → Vec F S1x1x8x64x128 .bf16) :
    v.read (Elt F) (v.writes (Elt F) g (pcA i f)) = blA i f := by
  funext y
  have key : ∀ (r : Fin 4) (x : (R11 i r).shape.Idx), f r x = blA i f ((R11 i r).emb x) := by
    intro r x
    rw [R11_emb i r x]
    show f r x = f (stepOf i (stepOf i r)) (ix5 0 0 (x 2) (x 3) (x 4))
    rw [stepOf_stepOf]
    congr 1
    funext a
    apply Fin.ext
    have h0 : (x 0).val = 0 := by have := (x 0).isLt; simpa using this
    have h1 : (x 1).val = 0 := by have := (x 1).isLt; simpa using this
    fin_cases a
    · exact h0
    · exact h1
    · rfl
    · rfl
    · rfl
  refine View.read_writes_apply_of_pieces v g (blA i f) (pcA i f) ?_ y ?_
  · intro p hp x
    simp only [pcA, List.mem_cons, List.not_mem_nil, _root_.or_false] at hp
    rcases hp with rfl | rfl | rfl | rfl
    · exact key 3 x
    · exact key 2 x
    · exact key 1 x
    · exact key 0 x
  · have hy : y ∈ (R11 i (stepOf i (y 1))).set := by
      have : (R11 i (stepOf i (y 1))).emb (ix5 0 0 (y 2) (y 3) (y 4) : S1x1x8x64x128.Idx) = y := by
        rw [R11_emb]
        funext a
        apply Fin.ext
        have h0 : (y 0).val = 0 := by have := (y 0).isLt; simpa using this
        fin_cases a
        · exact h0.symm
        · exact congrArg Fin.val (stepOf_stepOf i (y 1))
        · rfl
        · rfl
        · rfl
      have hmem := (R11 i (stepOf i (y 1))).idx_mem (ix5 0 0 (y 2) (y 3) (y 4) : S1x1x8x64x128.Idx)
      exact (congrArg (· ∈ (R11 i (stepOf i (y 1))).set) this).mp hmem
    generalize stepOf i (y 1) = r at hy
    have hm : (⟨R11 i r, f r⟩ : View.Piece (Elt F) S1x4x8x64x128 .bf16) ∈ pcA i f := by
      revert r
      rw [Fin.forall_fin_succ, Fin.forall_fin_succ, Fin.forall_fin_succ, Fin.forall_fin_succ]
      refine ⟨fun _ => ?_, fun _ => ?_, fun _ => ?_, fun _ => ?_, fun r => r.elim0⟩
      · exact List.Mem.tail _ (List.Mem.tail _ (List.Mem.tail _ (List.Mem.head _)))
      · exact List.Mem.tail _ (List.Mem.tail _ (List.Mem.head _))
      · exact List.Mem.tail _ (List.Mem.head _)
      · exact List.Mem.head _
    exact ⟨_, hm, hy⟩

theorem R13_emb (i : grid0.Coords) (r : Fin 4) (x : S1x1x8x1x128.Idx) :
    (R13 i r).emb x = (ix5 (x 0) (stepOf i r) (x 2) (x 3) (x 4) : S1x4x8x1x128.Idx) := by
  have h := off13_eq i r
  funext a
  apply Fin.ext
  have e : ((R13 i r).emb x a).val = (k0_off13 i (k0_off13_at r).1 (k0_off13_at r).2) a + 1 * (x a).val := rfl
  rw [e, h]
  have h1 : (x 1).val = 0 := by have := (x 1).isLt; simpa using this
  fin_cases a
  · show 0 + 1 * (x 0).val = (x 0).val; omega
  · show (stepOf i r).val + 1 * (x 1).val = (stepOf i r).val; omega
  · show 0 + 1 * (x 2).val = (x 2).val; omega
  · show 0 + 1 * (x 3).val = (x 3).val; omega
  · show 0 + 1 * (x 4).val = (x 4).val; omega

theorem read_pcB {sg : RefSig} {κ : Kind} {sp : Space} (v : View sg κ sp S1x4x8x1x128 .f32) (g : v.ty.Contents (Elt F)) (i : grid0.Coords) (f : Fin 4 → Vec F S1x1x8x1x128 .f32) :
    v.read (Elt F) (v.writes (Elt F) g (pcB i f)) = blB i f := by
  funext y
  have key : ∀ (r : Fin 4) (x : (R13 i r).shape.Idx), f r x = blB i f ((R13 i r).emb x) := by
    intro r x
    rw [R13_emb i r x]
    show f r x = f (stepOf i (stepOf i r)) (ix5 0 0 (x 2) (x 3) (x 4))
    rw [stepOf_stepOf]
    congr 1
    funext a
    apply Fin.ext
    have h0 : (x 0).val = 0 := by have := (x 0).isLt; simpa using this
    have h1 : (x 1).val = 0 := by have := (x 1).isLt; simpa using this
    fin_cases a
    · exact h0
    · exact h1
    · rfl
    · rfl
    · rfl
  refine View.read_writes_apply_of_pieces v g (blB i f) (pcB i f) ?_ y ?_
  · intro p hp x
    simp only [pcB, List.mem_cons, List.not_mem_nil, _root_.or_false] at hp
    rcases hp with rfl | rfl | rfl | rfl
    · exact key 3 x
    · exact key 2 x
    · exact key 1 x
    · exact key 0 x
  · have hy : y ∈ (R13 i (stepOf i (y 1))).set := by
      have : (R13 i (stepOf i (y 1))).emb (ix5 0 0 (y 2) (y 3) (y 4) : S1x1x8x1x128.Idx) = y := by
        rw [R13_emb]
        funext a
        apply Fin.ext
        have h0 : (y 0).val = 0 := by have := (y 0).isLt; simpa using this
        fin_cases a
        · exact h0.symm
        · exact congrArg Fin.val (stepOf_stepOf i (y 1))
        · rfl
        · rfl
        · rfl
      have hmem := (R13 i (stepOf i (y 1))).idx_mem (ix5 0 0 (y 2) (y 3) (y 4) : S1x1x8x1x128.Idx)
      exact (congrArg (· ∈ (R13 i (stepOf i (y 1))).set) this).mp hmem
    generalize stepOf i (y 1) = r at hy
    have hm : (⟨R13 i r, f r⟩ : View.Piece (Elt F) S1x4x8x1x128 .f32) ∈ pcB i f := by
      revert r
      rw [Fin.forall_fin_succ, Fin.forall_fin_succ, Fin.forall_fin_succ, Fin.forall_fin_succ]
      refine ⟨fun _ => ?_, fun _ => ?_, fun _ => ?_, fun _ => ?_, fun r => r.elim0⟩
      · exact List.Mem.tail _ (List.Mem.tail _ (List.Mem.tail _ (List.Mem.head _)))
      · exact List.Mem.tail _ (List.Mem.tail _ (List.Mem.head _))
      · exact List.Mem.tail _ (List.Mem.head _)
      · exact List.Mem.head _
    exact ⟨_, hm, hy⟩

end Cert.SeqBwdIdeal.Body

end
-- ==== Proof.SeqFrame.lean ====
module

public import proofs.«01_k».proof.Proof.Gen.SeqBwdIdeal.Skeleton
public import proofs.«01_k».proof.Proof.Gen.SeqBwdIdeal.Frame
public import proofs.«01_k».proof.Proof.SeqBlocks
public import Idealize.ShloMosaic.Lib.Claim

@[expose] public section

set_option maxRecDepth 16384

noncomputable section

namespace Cert.SeqBwdIdeal.Body

open Cert.SeqBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A visit is a direction's first exactly at the points ≡ 0 (mod 65). -/
theorem hcond0 : ∀ t : Fin cfg0.N, cond0 (grid0.coords t) ↔ t.val % 65 = 0 :=
  (fun t => by
    have ht : t.val < 130 := Nat.lt_of_lt_of_eq t.isLt N_0
    have e1 : (grid0.coords t 1).val = t.val / 1 % 65 := Pipeline.Grid.coords_val t 1 (by decide) rfl
    simp only [cond0, e1]
    word_cmp
   : ∀ t : Fin grid0.N, cond0 (grid0.coords t) ↔ t.val % 65 = 0)

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, cfg0.idle 5 (grid0.coords t) = false := fun _ => rfl
theorem live6 : ∀ t : Fin cfg0.N, cfg0.idle 6 (grid0.coords t) = false := fun _ => rfl
theorem live7 : ∀ t : Fin cfg0.N, cfg0.idle 7 (grid0.coords t) = false := fun _ => rfl
theorem live8 : ∀ t : Fin cfg0.N, cfg0.idle 8 (grid0.coords t) = false := fun _ => rfl
theorem live9 : ∀ t : Fin cfg0.N, cfg0.idle 9 (grid0.coords t) = false := fun _ => rfl
theorem live10 : ∀ t : Fin cfg0.N, cfg0.idle 10 (grid0.coords t) = false := fun _ => rfl
theorem live11 : ∀ t : Fin cfg0.N, cfg0.idle 11 (grid0.coords t) = false := fun _ => rfl
theorem live12 : ∀ t : Fin cfg0.N, cfg0.idle 12 (grid0.coords t) = false := fun _ => rfl
abbrev ms0 (t : Fin cfg0.N) : Memref sig .tc .vmem S1x4x8x64x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x8x64x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x4x8x64x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x4x8x64x64 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x4x8x64x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x4x8x128x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S256x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x4x8x64x128 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x4x8x64x128 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1x4x8x64x128 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x4x8x64x128 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x4x8x1x128 .f32 := win0_12.stage (cfg0.slots t 12)
abbrev hs12 (t : Fin cfg0.N) : (ms12 t).IsWhole := hstage0_12 ((cfg0.slots t 12).cast nbuf0_12)

/-- The carried gradient's buffer. -/
abbrev scM : Memref sig .tc .vmem S8x128x128 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## The gradient carried from visit to visit -/

/-- What the four steps of the visit at point `t` read. -/
def SL (c : Dev nD) (t : Fin cfg0.N) : Fin 4 → Slabs F :=
  slabs (grid0.coords t) (iblk m c 0 t) (iblk m c 1 t) (iblk m c 2 t) (iblk m c 3 t) (iblk m c 4 t) (iblk m c 5 t) (iblk m c 6 t) (iblk m c 7 t)

/-- The carried gradient after the first `n` points. -/
def carry (c : Dev nD) : ℕ → Vec F S8x128x128 .f32
  | 0 => k0_pay2
  | n + 1 => if h : n < cfg0.N then dsq (grid0.coords ⟨n, h⟩) (if n % 65 = 0 then k0_pay2 else carry c n) (SL m c ⟨n, h⟩) 4 else k0_pay2

/-- What a visit starts from: zero at a direction's first, else what the visit before left. -/
def start (c : Dev nD) (t : Fin cfg0.N) : Vec F S8x128x128 .f32 := if t.val % 65 = 0 then k0_pay2 else carry m c t.val

theorem carry_succ (c : Dev nD) (t : Fin cfg0.N) : carry m c (t.val + 1) = dsq (grid0.coords t) (start m c t) (SL m c t) 4 := by
  rw [carry, dif_pos t.isLt]; rfl

theorem start_first (c : Dev nD) (t : Fin cfg0.N) (h : t.val % 65 = 0) : start m c t = k0_pay2 := if_pos h
theorem start_later (c : Dev nD) (t : Fin cfg0.N) (h : ¬ t.val % 65 = 0) : start m c t = carry m c t.val := if_neg h

/-- What output 0 of the visit at `t` holds. -/
def res8 (c : Dev nD) (t : Fin cfg0.N) : Vec F S1x4x8x64x128 .bf16 :=
  blA (grid0.coords t) (fun r => o8 (grid0.coords t) (dsq (grid0.coords t) (start m c t) (SL m c t) r.val) (SL m c t r))
/-- What output 1 of the visit at `t` holds. -/
def res9 (c : Dev nD) (t : Fin cfg0.N) : Vec F S1x4x8x64x128 .bf16 :=
  blA (grid0.coords t) (fun r => o9 (grid0.coords t) (dsq (grid0.coords t) (start m c t) (SL m c t) r.val) (SL m c t r))
/-- What output 2 of the visit at `t` holds. -/
def res10 (c : Dev nD) (t : Fin cfg0.N) : Vec F S1x4x8x64x128 .bf16 :=
  blA (grid0.coords t) (fun r => o10 (grid0.coords t) (dsq (grid0.coords t) (start m c t) (SL m c t) r.val) (SL m c t r))
/-- What output 3 of the visit at `t` holds. -/
def res11 (c : Dev nD) (t : Fin cfg0.N) : Vec F S1x4x8x64x128 .bf16 :=
  blA (grid0.coords t) (fun r => o11 (grid0.coords t) (dsq (grid0.coords t) (start m c t) (SL m c t) r.val) (SL m c t r))
/-- What output 4 of the visit at `t` holds. -/
def res12 (c : Dev nD) (t : Fin cfg0.N) : Vec F S1x4x8x1x128 .f32 :=
  blB (grid0.coords t) (fun r => o12 (grid0.coords t) (dsq (grid0.coords t) (start m c t) (SL m c t) r.val) (SL m c t r))

/-- The invariant before point `n`: before the first nothing is known of the carried buffer, later it holds the carried gradient. -/
def PhiS (c : Dev nD) : (n : ℕ) → n ≤ cfg0.N → sProp 𝕄
  | 0, _ => Pipeline.ΦA spec0 c
  | n + 1, hn => iprop(iprop(owns (c : Thread nD τ) scM fullShare (carry m c (n + 1))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (carry m c (n + 1))) ∗ (∃ r, prngReg c r)) := rfl
theorem PhiS_pos (c : Dev nD) (n : ℕ) (h : n ≤ cfg0.N) (hz : n ≠ 0) :
    PhiS m c n h = iprop(iprop(owns (c : Thread nD τ) scM fullShare (carry m c n)) ∗ (∃ r, prngReg c r)) := by
  cases n with
  | zero => exact absurd rfl hz
  | succ n => rfl

/-- The proof data: the inputs' buffers keep their blocks, the outputs' hold the visit's results. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => res8 m c t
    | ⟨9, _⟩ => res9 m c t
    | ⟨10, _⟩ => res10 m c t
    | ⟨11, _⟩ => res11 m c t
    | ⟨12, _⟩ => res12 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = res8 m c t := by dsimp only [dats]
theorem after9 (c : Dev nD) (t : Fin cfg0.N) : (dats m 0 c).after 9 t = res9 m c t := by dsimp only [dats]
theorem after10 (c : Dev nD) (t : Fin cfg0.N) : (dats m 0 c).after 10 t = res10 m c t := by dsimp only [dats]
theorem after11 (c : Dev nD) (t : Fin cfg0.N) : (dats m 0 c).after 11 t = res11 m c t := by dsimp only [dats]
theorem after12 (c : Dev nD) (t : Fin cfg0.N) : (dats m 0 c).after 12 t = res12 m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 8000000 in
/-- The body at any point: the run of its case applies to the blocks and the carried gradient, and its pieces are the
    visit's results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl, PhiS_succ, carry_succ]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  rw [show (dats m 0 c).leavesExact 5 t = owns (c : Thread nD τ) (ms5 t) fullShare ((dats m 0 c).after 5 t) from by
    unfold Dat.leavesExact; rw [live5 t], after5]
  rw [show (dats m 0 c).leavesExact 6 t = owns (c : Thread nD τ) (ms6 t) fullShare ((dats m 0 c).after 6 t) from by
    unfold Dat.leavesExact; rw [live6 t], after6]
  rw [show (dats m 0 c).leavesExact 7 t = owns (c : Thread nD τ) (ms7 t) fullShare ((dats m 0 c).after 7 t) from by
    unfold Dat.leavesExact; rw [live7 t], after7]
  rw [show (dats m 0 c).leavesExact 8 t = owns (c : Thread nD τ) (ms8 t) fullShare ((dats m 0 c).after 8 t) from by
    unfold Dat.leavesExact; rw [live8 t], after8]
  rw [show (dats m 0 c).leavesExact 9 t = owns (c : Thread nD τ) (ms9 t) fullShare ((dats m 0 c).after 9 t) from by
    unfold Dat.leavesExact; rw [live9 t], after9]
  rw [show (dats m 0 c).leavesExact 10 t = owns (c : Thread nD τ) (ms10 t) fullShare ((dats m 0 c).after 10 t) from by
    unfold Dat.leavesExact; rw [live10 t], after10]
  rw [show (dats m 0 c).leavesExact 11 t = owns (c : Thread nD τ) (ms11 t) fullShare ((dats m 0 c).after 11 t) from by
    unfold Dat.leavesExact; rw [live11 t], after11]
  rw [show (dats m 0 c).leavesExact 12 t = owns (c : Thread nD τ) (ms12 t) fullShare ((dats m 0 c).after 12 t) from by
    unfold Dat.leavesExact; rw [live12 t], after12]
  by_cases h0 : t.val % 65 = 0
  · by_cases hz : t.val = 0
    · rw [PhiS_castSucc m c t, PhiS_zero m c _ _ hz, PhiA_eq]
      unfold res8 res9 res10 res11 res12
      rw [start_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA c (grid0.coords t) _ _ _ _ _ _ _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro
          obtain ⟨L, hL⟩ := piecesS_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t)
          exact (congrArg (fun L => scM.view.read (Elt F) (scM.view.writes (Elt F) es0 L)) hL).trans (View.read_writes_full _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (congrArg (fun L => (ms8 t).view.read (Elt F) ((ms8 t).view.writes (Elt F) e8 L)) (pieces8_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      isplitl [H9]
      · unfold owns; iexists _; isplitr
        swap; · iexact H9
        ipureintro
        exact (congrArg (fun L => (ms9 t).view.read (Elt F) ((ms9 t).view.writes (Elt F) e9 L)) (pieces9_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      isplitl [H10]
      · unfold owns; iexists _; isplitr
        swap; · iexact H10
        ipureintro
        exact (congrArg (fun L => (ms10 t).view.read (Elt F) ((ms10 t).view.writes (Elt F) e10 L)) (pieces10_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      isplitl [H11]
      · unfold owns; iexists _; isplitr
        swap; · iexact H11
        ipureintro
        exact (congrArg (fun L => (ms11 t).view.read (Elt F) ((ms11 t).view.writes (Elt F) e11 L)) (pieces11_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      unfold owns; iexists _; isplitr
      swap; · iexact H12
      ipureintro
      exact (congrArg (fun L => (ms12 t).view.read (Elt F) ((ms12 t).view.writes (Elt F) e12 L)) (pieces12_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcB _ _ _ _)
    · rw [PhiS_castSucc m c t, PhiS_pos m c _ _ hz]
      unfold res8 res9 res10 res11 res12
      rw [start_first m c t h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((runA c (grid0.coords t) _ _ _ _ _ _ _ _ _ _ _ _ _ _ _ _ _ _ _ _ _ _ _ _ _ _ _ _ ((hcond0 t).mpr h0) (iblk m c 0 t) (iblk m c 1 t) (iblk m c 2 t) (iblk m c 3 t) (iblk m c 4 t) (iblk m c 5 t) (iblk m c 6 t) (iblk m c 7 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexists _; iexact HS0
      iintro ⟨H0, H1, H2, H3, H4, H5, H6, H7, ⟨%e8, H8⟩, ⟨%e9, H9⟩, ⟨%e10, H10⟩, ⟨%e11, H11⟩, ⟨%e12, H12⟩, ⟨%es0, HS0⟩⟩
      isplitl [HS0 Hg]
      · isplitl [HS0]
        · unfold owns; iexists _; isplitr
          swap; · iexact HS0
          ipureintro
          obtain ⟨L, hL⟩ := piecesS_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t)
          exact (congrArg (fun L => scM.view.read (Elt F) (scM.view.writes (Elt F) es0 L)) hL).trans (View.read_writes_full _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro
        exact (congrArg (fun L => (ms8 t).view.read (Elt F) ((ms8 t).view.writes (Elt F) e8 L)) (pieces8_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      isplitl [H9]
      · unfold owns; iexists _; isplitr
        swap; · iexact H9
        ipureintro
        exact (congrArg (fun L => (ms9 t).view.read (Elt F) ((ms9 t).view.writes (Elt F) e9 L)) (pieces9_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      isplitl [H10]
      · unfold owns; iexists _; isplitr
        swap; · iexact H10
        ipureintro
        exact (congrArg (fun L => (ms10 t).view.read (Elt F) ((ms10 t).view.writes (Elt F) e10 L)) (pieces10_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      isplitl [H11]
      · unfold owns; iexists _; isplitr
        swap; · iexact H11
        ipureintro
        exact (congrArg (fun L => (ms11 t).view.read (Elt F) ((ms11 t).view.writes (Elt F) e11 L)) (pieces11_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcA _ _ _ _)
      unfold owns; iexists _; isplitr
      swap; · iexact H12
      ipureintro
      exact (congrArg (fun L => (ms12 t).view.read (Elt F) ((ms12 t).view.writes (Elt F) e12 L)) (pieces12_A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) ((hcond0 t).mpr h0) (iblk m c 0 t) (iblk m c 1 t) (iblk m c 2 t) (iblk m c 3 t) (iblk m c 4 t) (iblk m c 5 t) (iblk m c 6 t) (iblk m c 7 t))).trans (read_pcB _ _ _ _)
  · have hz : t.val ≠ 0 := fun h => h0 (by rw [h])
    rw [PhiS_castSucc m c t, PhiS_pos m c _ _ hz]
    unfold res8 res9 res10 res11 res12
    rw [start_later m c t h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runB c (grid0.coords t) _ _ _ _ _ _ _ _ _ _ _ _ _ _ _ _ _ _ _ _ _ _ _ _ _ _ _ _ (fun h => h0 ((hcond0 t).mp h)) (iblk m c 0 t) (iblk m c 1 t) (iblk m c 2 t) (iblk m c 3 t) (iblk m c 4 t) (iblk m c 5 t) (iblk m c 6 t) (iblk m c 7 t) (carry m c t.val)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%es0, HS0⟩⟩
    isplitl [HS0 Hg]
    · isplitl [HS0]
      · unfold owns; iexists _; isplitr
        swap; · iexact HS0
        ipureintro
        obtain ⟨L, hL⟩ := piecesS_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (carry m c t.val)
        exact (congrArg (fun L => scM.view.read (Elt F) (scM.view.writes (Elt F) es0 L)) hL).trans (View.read_writes_full _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      exact (congrArg (fun L => (ms8 t).view.read (Elt F) ((ms8 t).view.writes (Elt F) e8 L)) (pieces8_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (carry m c t.val))).trans (read_pcA _ _ _ _)
    isplitl [H9]
    · unfold owns; iexists _; isplitr
      swap; · iexact H9
      ipureintro
      exact (congrArg (fun L => (ms9 t).view.read (Elt F) ((ms9 t).view.writes (Elt F) e9 L)) (pieces9_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (carry m c t.val))).trans (read_pcA _ _ _ _)
    isplitl [H10]
    · unfold owns; iexists _; isplitr
      swap; · iexact H10
      ipureintro
      exact (congrArg (fun L => (ms10 t).view.read (Elt F) ((ms10 t).view.writes (Elt F) e10 L)) (pieces10_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (carry m c t.val))).trans (read_pcA _ _ _ _)
    isplitl [H11]
    · unfold owns; iexists _; isplitr
      swap; · iexact H11
      ipureintro
      exact (congrArg (fun L => (ms11 t).view.read (Elt F) ((ms11 t).view.writes (Elt F) e11 L)) (pieces11_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (carry m c t.val))).trans (read_pcA _ _ _ _)
    unfold owns; iexists _; isplitr
    swap; · iexact H12
    ipureintro
    exact (congrArg (fun L => (ms12 t).view.read (Elt F) ((ms12 t).view.writes (Elt F) e12 L)) (pieces12_B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) scM (Memref.isWhole_whole _) (fun h => h0 ((hcond0 t).mp h)) (iblk m c 0 t) (iblk m c 1 t) (iblk m c 2 t) (iblk m c 3 t) (iblk m c 4 t) (iblk m c 5 t) (iblk m c 6 t) (iblk m c 7 t) (carry m c t.val))).trans (read_pcB _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 130 := N_0; omega), PhiA_eq]
  iintro ⟨HS0, Hg⟩
  isplitl [HS0]
  · iexists _; iexact HS0
  iexact Hg

/-! ## The run and the frame -/

set_option backward.isDefEq.respectTransparency.types false in
/-- The launch: every array of the pipeline ends at what the proof data says, and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.SeqBwdIdeal.Body

end
-- ==== Proof.SeqPoint.lean ====
/- What the steps of the recurrence's backward kernel compute, at an index, over the reals. -/
module

public import proofs.«01_k».proof.Proof.SeqVals
public import Idealize.ShloMosaic.Lib.Pipeline.ValueKit

@[expose] public section

set_option maxRecDepth 16384

noncomputable section

namespace Cert.SeqBwdIdeal.Body

open Cert.SeqBwdIdeal Cert.SeqBwdIdeal.Gen
open Idealize.ShloMosaic Idealize.ShloMosaic.TcCoe
open Idealize.ShloMosaic.Pointwise

/-- The word that says whether a visit is of context chunks. -/
def maskW (arg0 arg1 : BitVec 32) : BitVec 1 :=
  let v36 : BitVec 32 := Scalar.muli 4#32 arg1
  let v37 : BitVec 32 := Scalar.subi 259#32 v36
  let v38 : BitVec 1 := Scalar.cmpi .slt v37 4#32
  let v39 : BitVec 32 := Scalar.subi 3#32 v37
  let v40 : BitVec 32 := Scalar.subi 263#32 v37
  let v41 : BitVec 32 := Scalar.select v38 v39 v40
  let v42 : BitVec 1 := Scalar.cmpi .eq arg0 0#32
  let v43 : BitVec 32 := Scalar.select v42 v37 v41
  let v44 : BitVec 32 := Scalar.divsi v43 4#32
  let v45 : BitVec 1 := Scalar.cmpi .sgt v43 0#32
  let v46 : BitVec 32 := Scalar.extui v45
  let v47 : BitVec 1 := Scalar.cmpi .slt v43 0#32
  let v48 : BitVec 32 := Scalar.extui v47
  let v49 : BitVec 32 := Scalar.subi v46 v48
  let v50 : BitVec 1 := Scalar.cmpi .sgt 4#32 0#32
  let v51 : BitVec 32 := Scalar.extui v50
  let v52 : BitVec 1 := Scalar.cmpi .slt 4#32 0#32
  let v53 : BitVec 32 := Scalar.extui v52
  let v54 : BitVec 32 := Scalar.subi v51 v53
  let v55 : BitVec 1 := Scalar.cmpi .ne v49 v54
  let v56 : BitVec 32 := Scalar.remsi v43 4#32
  let v57 : BitVec 1 := Scalar.cmpi .ne v56 0#32
  let v58 : BitVec 1 := Scalar.andi v55 v57
  let v59 : BitVec 32 := Scalar.subi v44 1#32
  let v60 : BitVec 32 := Scalar.select v58 v59 v44
  Scalar.cmpi .slt v60 1#32

theorem maskW_eq : ∀ (d : Fin 2) (i : Fin 65),
    maskW (BitVec.ofNat 32 d.val) (BitVec.ofNat 32 i.val) = if i.val = 64 then 1#1 else 0#1 := by decide +kernel

theorem pay5_eq (a b : BitVec 32) (st : FVec Ideal S8x64x128 .f32) :
    k0_pay5 (F := Ideal) a b st = Scalar.select (maskW a b) (broadcast S8x64x128 (Scalar.ofBits (F := Ideal) .f32 0x00000000#32)) st := rfl

/-- The gradient of the outputs: none at the context chunks. -/
theorem gdo_at (i : grid0.Coords) (L : Slabs Ideal) (j : S8x64x128.Idx) :
    gdo i L j = if (i 1).val = 64 then 0 else L.st j := by
  unfold gdo
  rw [pay5_eq, maskW_eq (i 0) (i 1)]
  split
  · pointwise []
  · rfl

theorem gdv_at (i : grid0.Coords) (ds : Vec Ideal S8x128x128 .f32) (L : Slabs Ideal) (h : Fin 8) (c : Fin 64) (v : Fin 128) :
    gdv i ds L (ix3 h c v) = (∑ k : Fin 64, L.pm (ix5 0 0 h k c) * gdo i L (ix3 h k v)) + ∑ k : Fin 128, L.kd (ix5 0 0 h c k) * ds (ix3 h k v) := by
  unfold gdv gdo
  pointwise [k0_pay8, k0_pay6, k0_pay7]

/-- The chunk's decay of a head: the exponential of the sum of its logarithms. -/
def eg (L : Slabs Ideal) (h : Fin 8) : EReal := Ideal.exp (∑ c : Fin 64, L.g (ix3 0 c ⟨8 + h.val, by omega⟩))

theorem gds_at (i : grid0.Coords) (ds : Vec Ideal S8x128x128 .f32) (L : Slabs Ideal) (h : Fin 8) (a v : Fin 128) :
    gds i ds L (ix3 h a v) = ((∑ c : Fin 64, L.qg (ix5 0 0 h c a) * gdo i L (ix3 h c v)) + eg L h * ds (ix3 h a v))
      - ∑ c : Fin 64, L.w (ix5 0 0 h c a) * gdv i ds L (ix3 h c v) := by
  unfold gds
  have e : k0_pay8 ds (k0_pay6 (BitVec.ofNat 32 (i 0).val) (BitVec.ofNat 32 (i 1).val) L.st L.pm) (k0_pay7 L.kd) = gdv i ds L := rfl
  unfold k0_pay9
  rw [e]
  unfold eg
  fin_cases h <;> pointwise []

theorem o8_at (i : grid0.Coords) (ds : Vec Ideal S8x128x128 .f32) (L : Slabs Ideal) (h : Fin 8) (c : Fin 64) (v : Fin 128) :
    o8 i ds L (ix5 0 0 h c v) = gdv i ds L (ix3 h c v) := by
  unfold o8
  pointwise [k0_pay10]

theorem o9_at (i : grid0.Coords) (ds : Vec Ideal S8x128x128 .f32) (L : Slabs Ideal) (h : Fin 8) (c : Fin 64) (a : Fin 128) :
    o9 i ds L (ix5 0 0 h c a) = 0 - ∑ v : Fin 128, gdv i ds L (ix3 h c v) * L.s (ix5 0 0 h a v) := by
  unfold o9
  pointwise [k0_pay11, k0_pay3]

theorem o10_at (i : grid0.Coords) (ds : Vec Ideal S8x128x128 .f32) (L : Slabs Ideal) (h : Fin 8) (c : Fin 64) (a : Fin 128) :
    o10 i ds L (ix5 0 0 h c a) = ∑ v : Fin 128, gdo i L (ix3 h c v) * L.s (ix5 0 0 h a v) := by
  unfold o10
  pointwise [k0_pay12, k0_pay3]

theorem o11_at (i : grid0.Coords) (ds : Vec Ideal S8x128x128 .f32) (L : Slabs Ideal) (h : Fin 8) (c : Fin 64) (a : Fin 128) :
    o11 i ds L (ix5 0 0 h c a) = ∑ v : Fin 128, L.vn (ix5 0 0 h c v) * ds (ix3 h a v) := by
  unfold o11
  pointwise [k0_pay13]

theorem o12_at (i : grid0.Coords) (ds : Vec Ideal S8x128x128 .f32) (L : Slabs Ideal) (h : Fin 8) (l : Fin 128) :
    o12 i ds L (ix5 0 0 h 0 l) = ∑ a : Fin 128, ∑ v : Fin 128, L.s (ix5 0 0 h a v) * ds (ix3 h a v) := by
  unfold o12
  pointwise [k0_pay14, k0_pay3]

end Cert.SeqBwdIdeal.Body

end
-- ==== Proof.SeqCore.lean ====
/- The backward recurrence over the reals, written out: one head of one direction, chunk by chunk. -/
module

public import Idealize.ShloMosaic.Lib.Pipeline.ValueKit

@[expose] public section

noncomputable section

namespace Cert.Seq

open Idealize.ShloMosaic

/-- The arguments, as entries. -/
structure Args where
  U : Fin 2 → Fin 260 → Fin 8 → Fin 64 → Fin 128 → EReal
  W : Fin 2 → Fin 260 → Fin 8 → Fin 64 → Fin 128 → EReal
  QG : Fin 2 → Fin 260 → Fin 8 → Fin 64 → Fin 128 → EReal
  KD : Fin 2 → Fin 260 → Fin 8 → Fin 64 → Fin 128 → EReal
  PM : Fin 2 → Fin 260 → Fin 8 → Fin 64 → Fin 64 → EReal
  S : Fin 2 → Fin 260 → Fin 8 → Fin 128 → Fin 128 → EReal
  G : Fin 2 → Fin 16640 → Fin 128 → EReal
  DO : Fin 16384 → Fin 1024 → EReal

variable (A : Args)

/-- The chunk a direction handles `k` steps before its last. -/
def ch (d : Fin 2) (k : ℕ) : Fin 260 := Fin.ofNat 260 (if d.val = 0 then 259 - k else if 256 ≤ k then k - 256 else k + 4)
/-- How many steps before its last a direction handles a chunk. -/
def tr (d : Fin 2) (n : Fin 260) : ℕ := if d.val = 0 then 259 - n.val else if n.val < 4 then n.val + 256 else n.val - 4

theorem tr_lt : ∀ (d : Fin 2) (n : Fin 260), tr d n < 260 := by decide +kernel
theorem ch_tr : ∀ (d : Fin 2) (n : Fin 260), ch d (tr d n) = n := by decide +kernel

/-- The gradient of a chunk's outputs: none at the context chunks. -/
def dov (n : Fin 260) (h : Fin 8) (c : Fin 64) (v : Fin 128) : EReal :=
  if n.val < 4 then 0 else A.DO (Fin.ofNat 16384 (64 * (n.val - 4) + c.val)) (Fin.ofNat 1024 (128 * h.val + v.val))
/-- A chunk's decay. -/
def dec (d : Fin 2) (n : Fin 260) (h : Fin 8) : EReal :=
  Ideal.exp (∑ c : Fin 64, A.G d (Fin.ofNat 16640 (64 * n.val + c.val)) (Fin.ofNat 128 (8 + h.val)))
/-- A chunk's corrected values. -/
def vnw (d : Fin 2) (n : Fin 260) (h : Fin 8) (c : Fin 64) (v : Fin 128) : EReal :=
  A.U d n h c v - ∑ k : Fin 128, A.W d n h c k * A.S d n h k v
/-- The gradient of a chunk's corrected values, given the gradient of the state after it. -/
def dvn (d : Fin 2) (n : Fin 260) (h : Fin 8) (ds : Fin 128 → Fin 128 → EReal) (c : Fin 64) (v : Fin 128) : EReal :=
  (∑ k : Fin 64, A.PM d n h k c * dov A n h k v) + ∑ k : Fin 128, A.KD d n h c k * ds k v
/-- The gradient of the state before a chunk, given that of the state after it. -/
def dst (d : Fin 2) (n : Fin 260) (h : Fin 8) (ds : Fin 128 → Fin 128 → EReal) (a v : Fin 128) : EReal :=
  ((∑ c : Fin 64, A.QG d n h c a * dov A n h c v) + dec A d n h * ds a v) - ∑ c : Fin 64, A.W d n h c a * dvn A d n h ds c v
/-- The gradient of the state `k` steps before the last. -/
def DS (d : Fin 2) (h : Fin 8) : ℕ → Fin 128 → Fin 128 → EReal
  | 0 => fun _ _ => 0
  | k + 1 => dst A d (ch d k) h (DS d h k)

/-- The gradients a chunk's step leaves. -/
def outU (d : Fin 2) (n : Fin 260) (h : Fin 8) (c : Fin 64) (v : Fin 128) : EReal := dvn A d n h (DS A d h (tr d n)) c v
def outW (d : Fin 2) (n : Fin 260) (h : Fin 8) (c : Fin 64) (a : Fin 128) : EReal := 0 - ∑ v : Fin 128, dvn A d n h (DS A d h (tr d n)) c v * A.S d n h a v
def outQ (d : Fin 2) (n : Fin 260) (h : Fin 8) (c : Fin 64) (a : Fin 128) : EReal := ∑ v : Fin 128, dov A n h c v * A.S d n h a v
def outK (d : Fin 2) (n : Fin 260) (h : Fin 8) (c : Fin 64) (a : Fin 128) : EReal := ∑ v : Fin 128, vnw A d n h c v * DS A d h (tr d n) a v
def outE (d : Fin 2) (n : Fin 260) (h : Fin 8) : EReal := ∑ a : Fin 128, ∑ v : Fin 128, A.S d n h a v * DS A d h (tr d n) a v

end Cert.Seq

end
-- ==== Proof.SeqRead.lean ====
/- What the steps of the recurrence's backward kernel read, as entries of the arguments. -/
module

public import proofs.«01_k».proof.Proof.SeqFrame
public import proofs.«01_k».proof.Proof.SeqPoint
public import proofs.«01_k».proof.Proof.SeqCore
public import Idealize.ShloMosaic.Lib.StableHlo.RunRead

@[expose] public section

set_option maxRecDepth 16384

noncomputable section

namespace Cert.SeqBwdIdeal.Body

open Cert.SeqBwdIdeal Cert.SeqBwdIdeal.Gen
open Idealize.ShloMosaic Idealize.ShloMosaic.TcCoe
open Idealize.ShloMosaic.Pointwise

variable (m : (ℓ : Loc nD τ sig) → Buf (Elt Ideal) ℓ)

/-- The arguments of the run, as entries. -/
def AK (c : Dev nD) : Cert.Seq.Args where
  U d n h a b := m ((c : Thread nD τ).loc main_arg0) (ix5 d n h a b)
  W d n h a b := m ((c : Thread nD τ).loc main_arg1) (ix5 d n h a b)
  QG d n h a b := m ((c : Thread nD τ).loc main_arg2) (ix5 d n h a b)
  KD d n h a b := m ((c : Thread nD τ).loc main_arg3) (ix5 d n h a b)
  PM d n h a b := m ((c : Thread nD τ).loc main_arg4) (ix5 d n h a b)
  S d n h a b := m ((c : Thread nD τ).loc main_arg5) (ix5 d n h a b)
  G d n b := m ((c : Thread nD τ).loc main_arg6) (ix3 d n b)
  DO n b := m ((c : Thread nD τ).loc main_arg7) (ix2 n b)

/-- The block of four chunks a visit sees. -/
def blkOf (t : ℕ) : ℕ := if t % 65 = 64 then 0 else if t / 65 = 0 then 64 - t % 65 else t % 65 + 1

theorem idxA : ∀ t : Fin cfg0.N, win0_0.index t = ![t.val / 65, blkOf t.val, 0, 0, 0] ∧ win0_1.index t = ![t.val / 65, blkOf t.val, 0, 0, 0]
    ∧ win0_2.index t = ![t.val / 65, blkOf t.val, 0, 0, 0] ∧ win0_3.index t = ![t.val / 65, blkOf t.val, 0, 0, 0]
    ∧ win0_4.index t = ![t.val / 65, blkOf t.val, 0, 0, 0] ∧ win0_5.index t = ![t.val / 65, blkOf t.val, 0, 0, 0]
    ∧ win0_6.index t = ![t.val / 65, blkOf t.val, 0] ∧ win0_7.index t = ![blkOf t.val - 1, 0] :=
  (by decide +kernel : ∀ t : Fin grid0.N, _)

theorem idxB : ∀ t : Fin cfg0.N, win0_8.index t = ![t.val / 65, blkOf t.val, 0, 0, 0] ∧ win0_9.index t = ![t.val / 65, blkOf t.val, 0, 0, 0]
    ∧ win0_10.index t = ![t.val / 65, blkOf t.val, 0, 0, 0] ∧ win0_11.index t = ![t.val / 65, blkOf t.val, 0, 0, 0]
    ∧ win0_12.index t = ![t.val / 65, blkOf t.val, 0, 0, 0] :=
  (by decide +kernel : ∀ t : Fin grid0.N, _)

theorem blkOf_le : ∀ t : Fin cfg0.N, t.val / 65 < 2 ∧ blkOf t.val ≤ 64 := (by decide +kernel : ∀ t : Fin grid0.N, _)

/-- The direction a visit is of, -/
def dT (t : Fin cfg0.N) : Fin 2 := ⟨t.val / 65, (blkOf_le t).1⟩
/-- and the chunk its step `r` handles. -/
def nT (t : Fin cfg0.N) (r : Fin 4) : Fin 260 := ⟨4 * blkOf t.val + (stepOf (grid0.coords t) r).val, by have := (blkOf_le t).2; omega⟩

theorem iblk0 (c : Dev nD) (t : Fin cfg0.N) (k : Fin 4) (h : Fin 8) (a : Fin 64) (b : Fin 128) (n : Fin 260) (hn : n.val = 4 * blkOf t.val + k.val) :
    iblk m c 0 t (ix5 0 k h a b) = m ((c : Thread nD τ).loc main_arg1) (ix5 (dT t) n h a b) := by
  rw [← V_main_arg1 m c]
  unfold dT
  blk_point [iblk, (idxA t).1]

theorem iblk1 (c : Dev nD) (t : Fin cfg0.N) (k : Fin 4) (h : Fin 8) (a : Fin 64) (b : Fin 128) (n : Fin 260) (hn : n.val = 4 * blkOf t.val + k.val) :
    iblk m c 1 t (ix5 0 k h a b) = m ((c : Thread nD τ).loc main_arg2) (ix5 (dT t) n h a b) := by
  rw [← V_main_arg2 m c]
  unfold dT
  blk_point [iblk, (idxA t).2.1]

theorem iblk2 (c : Dev nD) (t : Fin cfg0.N) (k : Fin 4) (h : Fin 8) (a : Fin 64) (b : Fin 128) (n : Fin 260) (hn : n.val = 4 * blkOf t.val + k.val) :
    iblk m c 2 t (ix5 0 k h a b) = m ((c : Thread nD τ).loc main_arg3) (ix5 (dT t) n h a b) := by
  rw [← V_main_arg3 m c]
  unfold dT
  blk_point [iblk, (idxA t).2.2.1]

theorem iblk3 (c : Dev nD) (t : Fin cfg0.N) (k : Fin 4) (h : Fin 8) (a : Fin 64) (b : Fin 64) (n : Fin 260) (hn : n.val = 4 * blkOf t.val + k.val) :
    iblk m c 3 t (ix5 0 k h a b) = m ((c : Thread nD τ).loc main_arg4) (ix5 (dT t) n h a b) := by
  rw [← V_main_arg4 m c]
  unfold dT
  blk_point [iblk, (idxA t).2.2.2.1]

theorem iblk5 (c : Dev nD) (t : Fin cfg0.N) (k : Fin 4) (h : Fin 8) (a : Fin 128) (b : Fin 128) (n : Fin 260) (hn : n.val = 4 * blkOf t.val + k.val) :
    iblk m c 5 t (ix5 0 k h a b) = m ((c : Thread nD τ).loc main_arg5) (ix5 (dT t) n h a b) := by
  rw [← V_main_arg5 m c]
  unfold dT
  blk_point [iblk, (idxA t).2.2.2.2.2.1]

theorem iblk4 (c : Dev nD) (t : Fin cfg0.N) (k : Fin 4) (h : Fin 8) (a : Fin 64) (b : Fin 128) (n : Fin 260) (hn : n.val = 4 * blkOf t.val + k.val) :
    iblk m c 4 t (ix5 0 k h a b) = V m c main_v5 (ix5 (dT t) n h a b) := by
  unfold dT
  blk_point [iblk, (idxA t).2.2.2.2.1]

theorem iblk6 (c : Dev nD) (t : Fin cfg0.N) (k : Fin 4) (a : Fin 64) (b : Fin 128) (n : Fin 16640) (hn : n.val = 64 * (4 * blkOf t.val + k.val) + a.val) :
    iblk m c 6 t (ix3 0 ⟨64 * k.val + a.val, by omega⟩ b) = m ((c : Thread nD τ).loc main_arg6) (ix3 (dT t) n b) := by
  rw [← V_main_arg6 m c]
  unfold dT
  blk_point [iblk, (idxA t).2.2.2.2.2.2.1]

theorem iblk7 (c : Dev nD) (t : Fin cfg0.N) (k : Fin 4) (a : Fin 64) (b : Fin 1024) (n : Fin 16384) (hn : n.val = 64 * (4 * (blkOf t.val - 1) + k.val) + a.val) :
    iblk m c 7 t (ix2 ⟨64 * k.val + a.val, by omega⟩ b) = m ((c : Thread nD τ).loc main_arg7) (ix2 n b) := by
  rw [← V_main_arg7 m c]
  blk_point [iblk, (idxA t).2.2.2.2.2.2.2]

/-- The corrected values the host prepares. -/
theorem vnew (c : Dev nD) (d : Fin 2) (n : Fin 260) (h : Fin 8) (a : Fin 64) (b : Fin 128) :
    V m c main_v5 (ix5 d n h a b) = Cert.Seq.vnw (AK m c) d n h a b := by
  have e : V m c main_v5 = truncf (F := Ideal) .bf16 (subf (extf .f32 (m ((c : Thread nD τ).loc main_arg0)) bitsLt_bf16_f32)
      (Host.dotGeneral dot_S2x260x8x64x128_S2x260x8x128x128_S2x260x8x64x128_4_3_3_4_012_012 none
        (extf .f32 (m ((c : Thread nD τ).loc main_arg1)) bitsLt_bf16_f32) (extf .f32 (m ((c : Thread nD τ).loc main_arg5)) bitsLt_bf16_f32))) bitsLt_bf16_f32 := by
    simp only [V, hostOps0]
    after_reads_simp
  rw [e]
  unfold Cert.Seq.vnw AK
  pointwise []

theorem off1_eq (i : grid0.Coords) (r : Fin 4) : k0_off1 i (k0_off1_at r).1 (k0_off1_at r).2 = ![0, (stepOf i r).val, 0, 0, 0] := by
  have h := slot_word (i 0) r
  unfold stepOf
  rw [← h]; rfl

theorem off10_eq (i : grid0.Coords) (r : Fin 4) : k0_off10 i (k0_off10_at r).1 (k0_off10_at r).2 = ![0, (stepOf i r).val, 0, 0, 0] := by
  have h := slot_word (i 0) r
  unfold stepOf
  rw [← h]; rfl

/-- The first row a step handles, as the offsets' word. -/
theorem row_word : ∀ (d : Fin 2) (r : Fin 4),
    (Scalar.indexCast (Scalar.muli (Scalar.select (Scalar.cmpi .eq (BitVec.ofNat 32 d.val) 1#32) (k0_off2_at r).1 (k0_off2_at r).2) 64#32)).toNat
      = 64 * (if d.val = 1 then r else 3 - r : Fin 4).val := by decide

theorem off12_eq (i : grid0.Coords) (r : Fin 4) : k0_off12 i (k0_off12_at r).1 (k0_off12_at r).2 = ![0, 64 * (stepOf i r).val, 0] := by
  have h := row_word (i 0) r
  unfold stepOf
  rw [← h]; rfl

theorem off2_eq (i : grid0.Coords) (r : Fin 4) : k0_off2 i (k0_off2_at r).1 (k0_off2_at r).2 = ![64 * (stepOf i r).val, 0] := by
  have h := row_word (i 0) r
  unfold stepOf
  rw [← h]; rfl

theorem off3_eq (i : grid0.Coords) (r : Fin 4) : k0_off3 i (k0_off3_at r).1 (k0_off3_at r).2 = ![64 * (stepOf i r).val, 128] := by
  have h := row_word (i 0) r
  unfold stepOf
  rw [← h]; rfl

theorem off4_eq (i : grid0.Coords) (r : Fin 4) : k0_off4 i (k0_off4_at r).1 (k0_off4_at r).2 = ![64 * (stepOf i r).val, 256] := by
  have h := row_word (i 0) r
  unfold stepOf
  rw [← h]; rfl

theorem off5_eq (i : grid0.Coords) (r : Fin 4) : k0_off5 i (k0_off5_at r).1 (k0_off5_at r).2 = ![64 * (stepOf i r).val, 384] := by
  have h := row_word (i 0) r
  unfold stepOf
  rw [← h]; rfl

theorem off6_eq (i : grid0.Coords) (r : Fin 4) : k0_off6 i (k0_off6_at r).1 (k0_off6_at r).2 = ![64 * (stepOf i r).val, 512] := by
  have h := row_word (i 0) r
  unfold stepOf
  rw [← h]; rfl

theorem off7_eq (i : grid0.Coords) (r : Fin 4) : k0_off7 i (k0_off7_at r).1 (k0_off7_at r).2 = ![64 * (stepOf i r).val, 640] := by
  have h := row_word (i 0) r
  unfold stepOf
  rw [← h]; rfl

theorem off8_eq (i : grid0.Coords) (r : Fin 4) : k0_off8 i (k0_off8_at r).1 (k0_off8_at r).2 = ![64 * (stepOf i r).val, 768] := by
  have h := row_word (i 0) r
  unfold stepOf
  rw [← h]; rfl

theorem off9_eq (i : grid0.Coords) (r : Fin 4) : k0_off9 i (k0_off9_at r).1 (k0_off9_at r).2 = ![64 * (stepOf i r).val, 896] := by
  have h := row_word (i 0) r
  unfold stepOf
  rw [← h]; rfl

theorem SL_w (c : Dev nD) (t : Fin cfg0.N) (r : Fin 4) (h : Fin 8) (a : Fin 64) (b : Fin 128) :
    (SL m c t r).w (ix5 0 0 h a b) = m ((c : Thread nD τ).loc main_arg1) (ix5 (dT t) (nT t r) h a b) := by
  rw [← iblk0 m c t (stepOf (grid0.coords t) r) h a b (nT t r) rfl]
  show ldR (iblk m c 0 t) (R11 (grid0.coords t) r) (ix5 0 0 h a b) = _
  refine congrArg (iblk m c 0 t) ?_
  have ho := off11_eq (grid0.coords t) r
  funext x
  apply Fin.ext
  refine (congrArg (fun z => z x + 1 * ((ix5 0 0 h a b : (⟨5, ![1, 1, 8, 64, 128]⟩ : Shape).Idx) x).val) ho : _ = _).trans ?_
  fin_cases x
  · rfl
  · exact Nat.add_zero _
  · exact (Nat.zero_add _).trans (Nat.one_mul _)
  · exact (Nat.zero_add _).trans (Nat.one_mul _)
  · exact (Nat.zero_add _).trans (Nat.one_mul _)

theorem SL_qg (c : Dev nD) (t : Fin cfg0.N) (r : Fin 4) (h : Fin 8) (a : Fin 64) (b : Fin 128) :
    (SL m c t r).qg (ix5 0 0 h a b) = m ((c : Thread nD τ).loc main_arg2) (ix5 (dT t) (nT t r) h a b) := by
  rw [← iblk1 m c t (stepOf (grid0.coords t) r) h a b (nT t r) rfl]
  show ldR (iblk m c 1 t) (R11 (grid0.coords t) r) (ix5 0 0 h a b) = _
  refine congrArg (iblk m c 1 t) ?_
  have ho := off11_eq (grid0.coords t) r
  funext x
  apply Fin.ext
  refine (congrArg (fun z => z x + 1 * ((ix5 0 0 h a b : (⟨5, ![1, 1, 8, 64, 128]⟩ : Shape).Idx) x).val) ho : _ = _).trans ?_
  fin_cases x
  · rfl
  · exact Nat.add_zero _
  · exact (Nat.zero_add _).trans (Nat.one_mul _)
  · exact (Nat.zero_add _).trans (Nat.one_mul _)
  · exact (Nat.zero_add _).trans (Nat.one_mul _)

theorem SL_kd (c : Dev nD) (t : Fin cfg0.N) (r : Fin 4) (h : Fin 8) (a : Fin 64) (b : Fin 128) :
    (SL m c t r).kd (ix5 0 0 h a b) = m ((c : Thread nD τ).loc main_arg3) (ix5 (dT t) (nT t r) h a b) := by
  rw [← iblk2 m c t (stepOf (grid0.coords t) r) h a b (nT t r) rfl]
  show ldR (iblk m c 2 t) (R11 (grid0.coords t) r) (ix5 0 0 h a b) = _
  refine congrArg (iblk m c 2 t) ?_
  have ho := off11_eq (grid0.coords t) r
  funext x
  apply Fin.ext
  refine (congrArg (fun z => z x + 1 * ((ix5 0 0 h a b : (⟨5, ![1, 1, 8, 64, 128]⟩ : Shape).Idx) x).val) ho : _ = _).trans ?_
  fin_cases x
  · rfl
  · exact Nat.add_zero _
  · exact (Nat.zero_add _).trans (Nat.one_mul _)
  · exact (Nat.zero_add _).trans (Nat.one_mul _)
  · exact (Nat.zero_add _).trans (Nat.one_mul _)

theorem SL_pm (c : Dev nD) (t : Fin cfg0.N) (r : Fin 4) (h : Fin 8) (a : Fin 64) (b : Fin 64) :
    (SL m c t r).pm (ix5 0 0 h a b) = m ((c : Thread nD τ).loc main_arg4) (ix5 (dT t) (nT t r) h a b) := by
  rw [← iblk3 m c t (stepOf (grid0.coords t) r) h a b (nT t r) rfl]
  show ldR (iblk m c 3 t) (R10 (grid0.coords t) r) (ix5 0 0 h a b) = _
  refine congrArg (iblk m c 3 t) ?_
  have ho := off10_eq (grid0.coords t) r
  funext x
  apply Fin.ext
  refine (congrArg (fun z => z x + 1 * ((ix5 0 0 h a b : (⟨5, ![1, 1, 8, 64, 64]⟩ : Shape).Idx) x).val) ho : _ = _).trans ?_
  fin_cases x
  · rfl
  · exact Nat.add_zero _
  · exact (Nat.zero_add _).trans (Nat.one_mul _)
  · exact (Nat.zero_add _).trans (Nat.one_mul _)
  · exact (Nat.zero_add _).trans (Nat.one_mul _)

theorem SL_s (c : Dev nD) (t : Fin cfg0.N) (r : Fin 4) (h : Fin 8) (a : Fin 128) (b : Fin 128) :
    (SL m c t r).s (ix5 0 0 h a b) = m ((c : Thread nD τ).loc main_arg5) (ix5 (dT t) (nT t r) h a b) := by
  rw [← iblk5 m c t (stepOf (grid0.coords t) r) h a b (nT t r) rfl]
  show ldR (iblk m c 5 t) (R1 (grid0.coords t) r) (ix5 0 0 h a b) = _
  refine congrArg (iblk m c 5 t) ?_
  have ho := off1_eq (grid0.coords t) r
  funext x
  apply Fin.ext
  refine (congrArg (fun z => z x + 1 * ((ix5 0 0 h a b : (⟨5, ![1, 1, 8, 128, 128]⟩ : Shape).Idx) x).val) ho : _ = _).trans ?_
  fin_cases x
  · rfl
  · exact Nat.add_zero _
  · exact (Nat.zero_add _).trans (Nat.one_mul _)
  · exact (Nat.zero_add _).trans (Nat.one_mul _)
  · exact (Nat.zero_add _).trans (Nat.one_mul _)

theorem SL_vn (c : Dev nD) (t : Fin cfg0.N) (r : Fin 4) (h : Fin 8) (a : Fin 64) (b : Fin 128) :
    (SL m c t r).vn (ix5 0 0 h a b) = V m c main_v5 (ix5 (dT t) (nT t r) h a b) := by
  rw [← iblk4 m c t (stepOf (grid0.coords t) r) h a b (nT t r) rfl]
  show ldR (iblk m c 4 t) (R11 (grid0.coords t) r) (ix5 0 0 h a b) = _
  refine congrArg (iblk m c 4 t) ?_
  have ho := off11_eq (grid0.coords t) r
  funext x
  apply Fin.ext
  refine (congrArg (fun z => z x + 1 * ((ix5 0 0 h a b : (⟨5, ![1, 1, 8, 64, 128]⟩ : Shape).Idx) x).val) ho : _ = _).trans ?_
  fin_cases x
  · rfl
  · exact Nat.add_zero _
  · exact (Nat.zero_add _).trans (Nat.one_mul _)
  · exact (Nat.zero_add _).trans (Nat.one_mul _)
  · exact (Nat.zero_add _).trans (Nat.one_mul _)

theorem SL_g (c : Dev nD) (t : Fin cfg0.N) (r : Fin 4) (a : Fin 64) (b : Fin 128) :
    (SL m c t r).g (ix3 0 a b) = (AK m c).G (dT t) (Fin.ofNat 16640 (64 * (nT t r).val + a.val)) b := by
  have hn : (64 * (nT t r).val + a.val) % 16640 = 64 * (nT t r).val + a.val := Nat.mod_eq_of_lt (by omega)
  unfold AK
  simp only
  rw [← iblk6 m c t (stepOf (grid0.coords t) r) a b (Fin.ofNat 16640 (64 * (nT t r).val + a.val)) hn]
  show ldR (iblk m c 6 t) (R12 (grid0.coords t) r) (ix3 0 a b) = _
  refine congrArg (iblk m c 6 t) ?_
  have ho := off12_eq (grid0.coords t) r
  funext x
  apply Fin.ext
  refine (congrArg (fun z => z x + 1 * ((ix3 0 a b : (⟨3, ![1, 64, 128]⟩ : Shape).Idx) x).val) ho : _ = _).trans ?_
  fin_cases x
  · rfl
  · exact congrArg _ (Nat.one_mul _)
  · exact (Nat.zero_add _).trans (Nat.one_mul _)

/-- One head of the stacked gradients. -/
theorem st_row (c : Dev nD) (t : Fin cfg0.N) (r : Fin 4) (a : Fin 64) (b : Fin 128) (o : ℕ) (ho : o + b.val < 1024)
    (x : S256x1024.Idx) (hx0 : (x 0).val = 64 * (stepOf (grid0.coords t) r).val + a.val) (hx1 : (x 1).val = o + b.val)
    (hB : 1 ≤ blkOf t.val) :
    iblk m c 7 t x = (AK m c).DO (Fin.ofNat 16384 (64 * ((nT t r).val - 4) + a.val)) (Fin.ofNat 1024 (o + b.val)) := by
  have hn : (64 * ((nT t r).val - 4) + a.val) % 16384 = 64 * (4 * (blkOf t.val - 1) + (stepOf (grid0.coords t) r).val) + a.val := by
    rw [Nat.mod_eq_of_lt (by omega)]
    simp only [nT]
    omega
  unfold AK
  simp only
  rw [← iblk7 m c t (stepOf (grid0.coords t) r) a (Fin.ofNat 1024 (o + b.val)) (Fin.ofNat 16384 (64 * ((nT t r).val - 4) + a.val)) hn]
  refine congrArg (iblk m c 7 t) ?_
  funext y
  apply Fin.ext
  fin_cases y
  · exact hx0
  · exact hx1.trans (Nat.mod_eq_of_lt ho).symm

end Cert.SeqBwdIdeal.Body

end
-- ==== Proof.SeqSteps.lean ====
/- The steps of the recurrence's backward kernel, as the recurrence over the reals. -/
module

public import proofs.«01_k».proof.Proof.SeqRead

@[expose] public section

set_option maxRecDepth 16384

noncomputable section

namespace Cert.SeqBwdIdeal.Body

open Cert.SeqBwdIdeal Cert.SeqBwdIdeal.Gen
open Idealize.ShloMosaic Idealize.ShloMosaic.TcCoe
open Idealize.ShloMosaic.Pointwise

variable (m : (ℓ : Loc nD τ sig) → Buf (Elt Ideal) ℓ)

theorem pay4_at (x0 x1 x2 x3 x4 x5 x6 x7 : Vec Ideal S64x128 .f32) (h : Fin 8) (a : Fin 64) (b : Fin 128) :
    k0_pay4 (F := Ideal) x0 x1 x2 x3 x4 x5 x6 x7 (ix3 h a b) = (![x0, x1, x2, x3, x4, x5, x6, x7] : Fin 8 → Vec Ideal S64x128 .f32) h (ix2 a b) := by
  fin_cases h <;> pointwise [k0_pay4]

/-- The stacked gradients a step reads, where the visit is not of context chunks. -/
theorem SL_st (c : Dev nD) (t : Fin cfg0.N) (r : Fin 4) (h : Fin 8) (a : Fin 64) (b : Fin 128) (hB : 1 ≤ blkOf t.val) :
    (SL m c t r).st (ix3 h a b) = (AK m c).DO (Fin.ofNat 16384 (64 * ((nT t r).val - 4) + a.val)) (Fin.ofNat 1024 (128 * h.val + b.val)) := by
  have e0 : ∀ (off : Fin 2 → ℕ) {q : ℕ} (ho : off = ![64 * (stepOf (grid0.coords t) r).val, q]) (a' : Fin 64), off 0 + 1 * a'.val = 64 * (stepOf (grid0.coords t) r).val + a'.val := by
    intro off q ho a'; rw [ho]; exact congrArg _ (Nat.one_mul _)
  have e1 : ∀ (off : Fin 2 → ℕ) (q : ℕ) (ho : off = ![64 * (stepOf (grid0.coords t) r).val, q]) (b' : Fin 128), off 1 + 1 * b'.val = q + b'.val := by
    intro off q ho b'; rw [ho]; exact congrArg _ (Nat.one_mul _)
  refine (pay4_at (ldR (iblk m c 7 t) (R2 (grid0.coords t) r)) (ldR (iblk m c 7 t) (R3 (grid0.coords t) r)) (ldR (iblk m c 7 t) (R4 (grid0.coords t) r)) (ldR (iblk m c 7 t) (R5 (grid0.coords t) r)) (ldR (iblk m c 7 t) (R6 (grid0.coords t) r)) (ldR (iblk m c 7 t) (R7 (grid0.coords t) r)) (ldR (iblk m c 7 t) (R8 (grid0.coords t) r)) (ldR (iblk m c 7 t) (R9 (grid0.coords t) r)) h a b).trans ?_
  fin_cases h
  · exact st_row m c t r a b 0 (by omega) ((R2 (grid0.coords t) r).toLoadRect.idx (ix2 a b)) (e0 _ (off2_eq (grid0.coords t) r) a) (e1 _ 0 (off2_eq (grid0.coords t) r) b) hB
  · exact st_row m c t r a b 128 (by omega) ((R3 (grid0.coords t) r).toLoadRect.idx (ix2 a b)) (e0 _ (off3_eq (grid0.coords t) r) a) (e1 _ 128 (off3_eq (grid0.coords t) r) b) hB
  · exact st_row m c t r a b 256 (by omega) ((R4 (grid0.coords t) r).toLoadRect.idx (ix2 a b)) (e0 _ (off4_eq (grid0.coords t) r) a) (e1 _ 256 (off4_eq (grid0.coords t) r) b) hB
  · exact st_row m c t r a b 384 (by omega) ((R5 (grid0.coords t) r).toLoadRect.idx (ix2 a b)) (e0 _ (off5_eq (grid0.coords t) r) a) (e1 _ 384 (off5_eq (grid0.coords t) r) b) hB
  · exact st_row m c t r a b 512 (by omega) ((R6 (grid0.coords t) r).toLoadRect.idx (ix2 a b)) (e0 _ (off6_eq (grid0.coords t) r) a) (e1 _ 512 (off6_eq (grid0.coords t) r) b) hB
  · exact st_row m c t r a b 640 (by omega) ((R7 (grid0.coords t) r).toLoadRect.idx (ix2 a b)) (e0 _ (off7_eq (grid0.coords t) r) a) (e1 _ 640 (off7_eq (grid0.coords t) r) b) hB
  · exact st_row m c t r a b 768 (by omega) ((R8 (grid0.coords t) r).toLoadRect.idx (ix2 a b)) (e0 _ (off8_eq (grid0.coords t) r) a) (e1 _ 768 (off8_eq (grid0.coords t) r) b) hB
  · exact st_row m c t r a b 896 (by omega) ((R9 (grid0.coords t) r).toLoadRect.idx (ix2 a b)) (e0 _ (off9_eq (grid0.coords t) r) a) (e1 _ 896 (off9_eq (grid0.coords t) r) b) hB

theorem blk_mask : ∀ t : Fin cfg0.N, ((grid0.coords t) 1).val = t.val % 65 ∧ (t.val % 65 = 64 ↔ blkOf t.val = 0) := by
  intro t
  have ht : t.val < 130 := Nat.lt_of_lt_of_eq t.isLt N_0
  refine ⟨(Pipeline.Grid.coords_val t 1 (by decide) rfl : (grid0.coords t 1).val = t.val / 1 % 65).trans (by rw [Nat.div_one]), ?_⟩
  unfold blkOf
  split
  · simp [*]
  · split <;> omega

theorem nT_ch : ∀ (t : Fin cfg0.N) (r : Fin 4), nT t r = Cert.Seq.ch (dT t) (4 * (t.val % 65) + r.val) :=
  (by decide +kernel : ∀ (t : Fin grid0.N) (r : Fin 4), _)

/-- A step's masked gradient of the outputs. -/
theorem gdo_eq (c : Dev nD) (t : Fin cfg0.N) (r : Fin 4) (h : Fin 8) (a : Fin 64) (b : Fin 128) :
    gdo (grid0.coords t) (SL m c t r) (ix3 h a b) = Cert.Seq.dov (AK m c) (nT t r) h a b := by
  have hb := blk_mask t
  rw [gdo_at, hb.1]
  unfold Cert.Seq.dov
  by_cases h0 : blkOf t.val = 0
  · rw [if_pos (hb.2.mpr h0), if_pos (by simp only [nT]; omega)]
  · rw [if_neg (fun e => h0 (hb.2.mp e)), if_neg (by simp only [nT]; omega)]
    exact SL_st m c t r h a b (by omega)

theorem eg_eq (c : Dev nD) (t : Fin cfg0.N) (r : Fin 4) (h : Fin 8) :
    eg (SL m c t r) h = Cert.Seq.dec (AK m c) (dT t) (nT t r) h := by
  unfold eg Cert.Seq.dec
  refine congrArg Ideal.exp (Finset.sum_congr rfl fun k _ => ?_)
  rw [SL_g]
  refine congrArg _ (Fin.ext ?_)
  exact (Nat.mod_eq_of_lt (by omega)).symm

/-- A state gradient's entries, head by head. -/
abbrev ent (ds : Vec Ideal S8x128x128 .f32) (h : Fin 8) (a v : Fin 128) : EReal := ds (ix3 h a v)

theorem gdv_eq (c : Dev nD) (t : Fin cfg0.N) (r : Fin 4) (ds : Vec Ideal S8x128x128 .f32) (h : Fin 8) (a : Fin 64) (b : Fin 128) :
    gdv (grid0.coords t) ds (SL m c t r) (ix3 h a b) = Cert.Seq.dvn (AK m c) (dT t) (nT t r) h (ent ds h) a b := by
  rw [gdv_at]
  unfold Cert.Seq.dvn
  simp only [gdo_eq, SL_pm, SL_kd]
  rfl

theorem gds_eq (c : Dev nD) (t : Fin cfg0.N) (r : Fin 4) (ds : Vec Ideal S8x128x128 .f32) (h : Fin 8) :
    ent (gds (grid0.coords t) ds (SL m c t r)) h = Cert.Seq.dst (AK m c) (dT t) (nT t r) h (ent ds h) := by
  funext a v
  refine (gds_at _ _ _ _ _ _).trans ?_
  unfold Cert.Seq.dst
  simp only [gdo_eq, gdv_eq, eg_eq, SL_qg, SL_w]
  rfl

/-- A visit's steps follow the recurrence. -/
theorem dsq_eq (c : Dev nD) (t : Fin cfg0.N) (d0 : Vec Ideal S8x128x128 .f32) (h : Fin 8)
    (h0 : ent d0 h = Cert.Seq.DS (AK m c) (dT t) h (4 * (t.val % 65))) :
    ∀ k : ℕ, k ≤ 4 → ent (dsq (grid0.coords t) d0 (SL m c t) k) h = Cert.Seq.DS (AK m c) (dT t) h (4 * (t.val % 65) + k)
  | 0, _ => h0
  | k + 1, hk => by
    have hk4 : (Fin.ofNat 4 k).val = k := Nat.mod_eq_of_lt (by omega)
    show ent (gds (grid0.coords t) (dsq (grid0.coords t) d0 (SL m c t) k) (SL m c t (Fin.ofNat 4 k))) h = _
    rw [gds_eq, dsq_eq c t d0 h h0 k (by omega), nT_ch, hk4]
    rfl

theorem carry_eq (c : Dev nD) (h : Fin 8) : ∀ (n : ℕ) (hn : n < cfg0.N),
    ent (start m c ⟨n, hn⟩) h = Cert.Seq.DS (AK m c) (dT ⟨n, hn⟩) h (4 * (n % 65))
  | 0, hn => by
    rw [start_first m c _ rfl]
    funext a v
    show k0_pay2 (F := Ideal) (ix3 h a v) = 0
    pointwise [k0_pay2]
  | n + 1, hn => by
    by_cases hz : (n + 1) % 65 = 0
    · rw [start_first m c _ hz, hz]
      funext a v
      show k0_pay2 (F := Ideal) (ix3 h a v) = 0
      pointwise [k0_pay2]
    · rw [start_later m c _ hz]
      have ih := carry_eq c h n (Nat.lt_of_succ_lt hn)
      refine (congrArg (ent · h) (carry_succ m c ⟨n, Nat.lt_of_succ_lt hn⟩)).trans ?_
      refine (dsq_eq m c ⟨n, Nat.lt_of_succ_lt hn⟩ _ h ih 4 le_rfl).trans ?_
      have hd : dT (⟨n, Nat.lt_of_succ_lt hn⟩ : Fin cfg0.N) = dT ⟨n + 1, hn⟩ := Fin.ext (show n / 65 = (n + 1) / 65 by omega)
      rw [hd, show 4 * (n % 65) + 4 = 4 * ((n + 1) % 65) by omega]

/-- The carried gradient before step `r` of the visit at `t`. -/
theorem ds_eq (c : Dev nD) (t : Fin cfg0.N) (r : Fin 4) (h : Fin 8) :
    ent (dsq (grid0.coords t) (start m c t) (SL m c t) r.val) h = Cert.Seq.DS (AK m c) (dT t) h (Cert.Seq.tr (dT t) (nT t r)) := by
  rw [dsq_eq m c t _ h (carry_eq m c h t.val t.isLt) r.val (by omega)]
  congr 1
  exact (by decide +kernel : ∀ (t : Fin grid0.N) (r : Fin 4), 4 * (t.val % 65) + r.val = Cert.Seq.tr (dT t) (nT t r)) t r

end Cert.SeqBwdIdeal.Body

end
-- ==== Proof.SeqArr.lean ====
/- The arrays the recurrence's backward kernel leaves. -/
module

public import proofs.«01_k».proof.Proof.SeqSteps

@[expose] public section

set_option maxRecDepth 16384

noncomputable section

namespace Cert.SeqBwdIdeal.Body

open Cert.SeqBwdIdeal Cert.SeqBwdIdeal.Gen
open Idealize.ShloMosaic Idealize.ShloMosaic.TcCoe Idealize.SL.Sem
open Idealize.ShloMosaic.Pointwise
open Idealize.ShloMosaic.Pipeline (Dat)

variable (m : (ℓ : Loc nD τ sig) → Buf (Elt Ideal) ℓ)

/-- The chunk of a block's place, and the step that handles it. -/
theorem nT_step (t : Fin cfg0.N) (k : Fin 4) : (nT t (stepOf (grid0.coords t) k)).val = 4 * blkOf t.val + k.val := by
  simp only [nT, stepOf_stepOf]

theorem pt8 (c : Dev nD) (t : Fin cfg0.N) (r : Fin 4) (h : Fin 8) (a : Fin 64) (b : Fin 128) :
    o8 (grid0.coords t) (dsq (grid0.coords t) (start m c t) (SL m c t) r.val) (SL m c t r) (ix5 0 0 h a b) = Cert.Seq.outU (AK m c) (dT t) (nT t r) h a b := by
  refine (o8_at _ _ _ _ _ _).trans ?_
  rw [gdv_eq, ds_eq]
  rfl

theorem final8 (c : Dev nD) : (dats m 0 c).arrAt 8 (cfgs 0).N
    = fun j : S2x260x8x64x128.Idx => Cert.Seq.outU (AK m c) (j 0) (j 1) (j 2) (j 3) (j 4) := by
  refine (dats m 0 c).arrAt_eq_of_covers 8 _ (by decide +kernel) fun t hf y => ?_
  blk_simp
  rw [after8]
  idx_vars y
  generalize he : ((View.whole main_v6_0).slice (win0_8.rect t)).emb (ix5 y0 y1 y2 y3 y4) = z
  have hn := nT_step t y1
  have hz : z = ix5 (dT t) (nT t (stepOf (grid0.coords t) y1)) y2 y3 y4 := by
    rw [← he]
    blk_ext [(idxB t).1, dT, hn]
  subst hz
  clear he
  exact pt8 m c t (stepOf (grid0.coords t) y1) y2 y3 y4

theorem pt9 (c : Dev nD) (t : Fin cfg0.N) (r : Fin 4) (h : Fin 8) (a : Fin 64) (b : Fin 128) :
    o9 (grid0.coords t) (dsq (grid0.coords t) (start m c t) (SL m c t) r.val) (SL m c t r) (ix5 0 0 h a b) = Cert.Seq.outW (AK m c) (dT t) (nT t r) h a b := by
  refine (o9_at _ _ _ _ _ _).trans ?_
  simp only [gdv_eq, ds_eq, SL_s]
  rfl

theorem final9 (c : Dev nD) : (dats m 0 c).arrAt 9 (cfgs 0).N
    = fun j : S2x260x8x64x128.Idx => Cert.Seq.outW (AK m c) (j 0) (j 1) (j 2) (j 3) (j 4) := by
  refine (dats m 0 c).arrAt_eq_of_covers 9 _ (by decide +kernel) fun t hf y => ?_
  blk_simp
  rw [after9]
  idx_vars y
  generalize he : ((View.whole main_v6_1).slice (win0_9.rect t)).emb (ix5 y0 y1 y2 y3 y4) = z
  have hn := nT_step t y1
  have hz : z = ix5 (dT t) (nT t (stepOf (grid0.coords t) y1)) y2 y3 y4 := by
    rw [← he]
    blk_ext [(idxB t).2.1, dT, hn]
  subst hz
  clear he
  exact pt9 m c t (stepOf (grid0.coords t) y1) y2 y3 y4

theorem pt10 (c : Dev nD) (t : Fin cfg0.N) (r : Fin 4) (h : Fin 8) (a : Fin 64) (b : Fin 128) :
    o10 (grid0.coords t) (dsq (grid0.coords t) (start m c t) (SL m c t) r.val) (SL m c t r) (ix5 0 0 h a b) = Cert.Seq.outQ (AK m c) (dT t) (nT t r) h a b := by
  refine (o10_at _ _ _ _ _ _).trans ?_
  simp only [gdo_eq, SL_s]
  rfl

theorem final10 (c : Dev nD) : (dats m 0 c).arrAt 10 (cfgs 0).N
    = fun j : S2x260x8x64x128.Idx => Cert.Seq.outQ (AK m c) (j 0) (j 1) (j 2) (j 3) (j 4) := by
  refine (dats m 0 c).arrAt_eq_of_covers 10 _ (by decide +kernel) fun t hf y => ?_
  blk_simp
  rw [after10]
  idx_vars y
  generalize he : ((View.whole main_v6_2).slice (win0_10.rect t)).emb (ix5 y0 y1 y2 y3 y4) = z
  have hn := nT_step t y1
  have hz : z = ix5 (dT t) (nT t (stepOf (grid0.coords t) y1)) y2 y3 y4 := by
    rw [← he]
    blk_ext [(idxB t).2.2.1, dT, hn]
  subst hz
  clear he
  exact pt10 m c t (stepOf (grid0.coords t) y1) y2 y3 y4

theorem pt11 (c : Dev nD) (t : Fin cfg0.N) (r : Fin 4) (h : Fin 8) (a : Fin 64) (b : Fin 128) :
    o11 (grid0.coords t) (dsq (grid0.coords t) (start m c t) (SL m c t) r.val) (SL m c t r) (ix5 0 0 h a b) = Cert.Seq.outK (AK m c) (dT t) (nT t r) h a b := by
  refine (o11_at _ _ _ _ _ _).trans ?_
  unfold Cert.Seq.outK
  refine Finset.sum_congr rfl fun v _ => ?_
  rw [SL_vn, vnew, ← ds_eq]

theorem final11 (c : Dev nD) : (dats m 0 c).arrAt 11 (cfgs 0).N
    = fun j : S2x260x8x64x128.Idx => Cert.Seq.outK (AK m c) (j 0) (j 1) (j 2) (j 3) (j 4) := by
  refine (dats m 0 c).arrAt_eq_of_covers 11 _ (by decide +kernel) fun t hf y => ?_
  blk_simp
  rw [after11]
  idx_vars y
  generalize he : ((View.whole main_v6_3).slice (win0_11.rect t)).emb (ix5 y0 y1 y2 y3 y4) = z
  have hn := nT_step t y1
  have hz : z = ix5 (dT t) (nT t (stepOf (grid0.coords t) y1)) y2 y3 y4 := by
    rw [← he]
    blk_ext [(idxB t).2.2.2.1, dT, hn]
  subst hz
  clear he
  exact pt11 m c t (stepOf (grid0.coords t) y1) y2 y3 y4

theorem pt12 (c : Dev nD) (t : Fin cfg0.N) (r : Fin 4) (h : Fin 8) (b : Fin 128) :
    o12 (grid0.coords t) (dsq (grid0.coords t) (start m c t) (SL m c t) r.val) (SL m c t r) (ix5 0 0 h 0 b) = Cert.Seq.outE (AK m c) (dT t) (nT t r) h := by
  refine (o12_at _ _ _ _ _).trans ?_
  unfold Cert.Seq.outE
  refine Finset.sum_congr rfl fun a _ => Finset.sum_congr rfl fun v _ => ?_
  rw [SL_s, ← ds_eq]
  rfl

theorem final12 (c : Dev nD) : (dats m 0 c).arrAt 12 (cfgs 0).N
    = fun j : S2x260x8x1x128.Idx => Cert.Seq.outE (AK m c) (j 0) (j 1) (j 2) := by
  refine (dats m 0 c).arrAt_eq_of_covers 12 _ (by decide +kernel) fun t hf y => ?_
  blk_simp
  rw [after12]
  idx_vars y
  generalize he : ((View.whole main_v6_4).slice (win0_12.rect t)).emb (ix5 y0 y1 y2 y3 y4) = z
  have hn := nT_step t y1
  have hz : z = ix5 (dT t) (nT t (stepOf (grid0.coords t) y1)) y2 y3 y4 := by
    rw [← he]
    blk_ext [(idxB t).2.2.2.2, dT, hn]
  subst hz
  clear he
  have hy3 : y3 = 0 := Subsingleton.elim _ _
  subst hy3
  exact pt12 m c t (stepOf (grid0.coords t) y1) y2 y4

/-- The run leaves the recurrence's gradients, and the arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6_0) = (fun j : S2x260x8x64x128.Idx => Cert.Seq.outU (AK m c) (j 0) (j 1) (j 2) (j 3) (j 4))
      ∧ r.2.mem ((c.tc : Thread nD τ).loc main_v6_1) = (fun j : S2x260x8x64x128.Idx => Cert.Seq.outW (AK m c) (j 0) (j 1) (j 2) (j 3) (j 4))
      ∧ r.2.mem ((c.tc : Thread nD τ).loc main_v6_2) = (fun j : S2x260x8x64x128.Idx => Cert.Seq.outQ (AK m c) (j 0) (j 1) (j 2) (j 3) (j 4))
      ∧ r.2.mem ((c.tc : Thread nD τ).loc main_v6_3) = (fun j : S2x260x8x64x128.Idx => Cert.Seq.outK (AK m c) (j 0) (j 1) (j 2) (j 3) (j 4))
      ∧ r.2.mem ((c.tc : Thread nD τ).loc main_v6_4) = (fun j : S2x260x8x1x128.Idx => Cert.Seq.outE (AK m c) (j 0) (j 1) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1.1 c).1 8).trans (final8 m c), ((h.1.1 c).1 9).trans (final9 m c), ((h.1.1 c).1 10).trans (final10 m c),
      ((h.1.1 c).1 11).trans (final11 m c), ((h.1.1 c).1 12).trans (final12 m c), h.2.1 c⟩) (θ_run_and (run_main_quiescent m ρ) (frame_all m ρ))

end Cert.SeqBwdIdeal.Body

end
-- ==== Proof.SeqRefScan.lean ====
/- The order in which the recurrence meets the chunks, at an entry. -/
module

public import proofs.«01_k».proof.Proof.Gen.SeqBwdRefIdeal
public import proofs.«01_k».proof.Proof.SeqCore
public import Idealize.ShloMosaic.Lib.Pointwise

@[expose] public section

set_option maxRecDepth 8192

noncomputable section

namespace Cert.SeqBwdRefIdeal.Ref

open Idealize.ShloMosaic Idealize.ShloMosaic.TcCoe Idealize.ShloMosaic.Pointwise
open Cert.SeqBwdRefIdeal Cert.SeqBwdRefIdeal.Gen

/-- The chunk at a place of the order. -/
def sc (d : Fin 2) (r : Fin 260) : Fin 260 := Cert.Seq.ch d (259 - r.val)
/-- The place of a chunk in the order. -/
def pl (d : Fin 2) (n : Fin 260) : Fin 260 := Fin.ofNat 260 (259 - Cert.Seq.tr d n)

theorem sc_pl : ∀ (d : Fin 2) (n : Fin 260), sc d (pl d n) = n := by decide +kernel
theorem tr_sc : ∀ (d : Fin 2) (r : Fin 260), Cert.Seq.tr d (sc d r) = 259 - r.val := by decide +kernel
theorem sc0 : ∀ r : Fin 260, (sc 0 r).val = r.val := by decide +kernel
theorem sc1 : ∀ r : Fin 260, (sc 1 r).val = if r.val < 4 then 3 - r.val else 263 - r.val := by decide +kernel
theorem pl0 : ∀ r : Fin 260, (pl 0 r).val = r.val := by decide +kernel
theorem pl1 : ∀ r : Fin 260, (pl 1 r).val = if r.val < 4 then 3 - r.val else 263 - r.val := by decide +kernel

def scanA (x : FVec Ideal S2x260x8x128x128 .f32) : FVec Ideal S260x2x8x128x128 .f32 :=
  concatenate S260x2x8x128x128 1
    [⟨S260x1x8x128x128, broadcastInDim S260x1x8x128x128 ![0, 2, 3, 4] bcast_S260x8x128x128_S260x1x8x128x128_0_2_3_4
        (shapeCast S260x8x128x128 (extractStridedSlice S1x260x8x128x128 ![0, 0, 0, 0, 0] x slices_S2x260x8x128x128_S1x260x8x128x128_0_0_0_0_0) shapeCasts_S1x260x8x128x128_S260x8x128x128)⟩,
     ⟨S260x1x8x128x128, broadcastInDim S260x1x8x128x128 ![0, 2, 3, 4] bcast_S260x8x128x128_S260x1x8x128x128_0_2_3_4
        (concatenate S260x8x128x128 0
          [⟨S4x8x128x128, Host.reverse [0] (shapeCast S4x8x128x128 (extractStridedSlice S1x4x8x128x128 ![1, 0, 0, 0, 0] x slices_S2x260x8x128x128_S1x4x8x128x128_1_0_0_0_0) shapeCasts_S1x4x8x128x128_S4x8x128x128)⟩,
           ⟨S256x8x128x128, Host.reverse [0] (shapeCast S256x8x128x128 (extractStridedSlice S1x256x8x128x128 ![1, 4, 0, 0, 0] x slices_S2x260x8x128x128_S1x256x8x128x128_1_4_0_0_0) shapeCasts_S1x256x8x128x128_S256x8x128x128)⟩]
          concatenates_S4x8x128x128_S256x8x128x128_S260x8x128x128_d0)⟩]
    concatenates_S260x1x8x128x128_S260x1x8x128x128_S260x2x8x128x128_d1

theorem scanA_at (x : FVec Ideal S2x260x8x128x128 .f32) (r : Fin 260) (d : Fin 2) (h : Fin 8) (a b : Fin 128) :
    scanA x (ix5 r d h a b) = x (ix5 d (sc d r) h a b) := by
  unfold scanA
  fin_cases d
  · pointwise []
    have := sc0 r
    blk_point [this]
  · have hs := sc1 r
    by_cases hr : r.val < 4
    · rw [if_pos hr] at hs
      pointwise [hr]
      blk_point [hs] <;> simp [Fin.rev] <;> omega
    · rw [if_neg hr] at hs
      pointwise [hr]
      blk_point [hs] <;> simp [Fin.rev] <;> omega

def scanB (x : FVec Ideal S2x260x8x64x128 .f32) : FVec Ideal S260x2x8x64x128 .f32 :=
  concatenate S260x2x8x64x128 1
    [⟨S260x1x8x64x128, broadcastInDim S260x1x8x64x128 ![0, 2, 3, 4] bcast_S260x8x64x128_S260x1x8x64x128_0_2_3_4
        (shapeCast S260x8x64x128 (extractStridedSlice S1x260x8x64x128 ![0, 0, 0, 0, 0] x slices_S2x260x8x64x128_S1x260x8x64x128_0_0_0_0_0) shapeCasts_S1x260x8x64x128_S260x8x64x128)⟩,
     ⟨S260x1x8x64x128, broadcastInDim S260x1x8x64x128 ![0, 2, 3, 4] bcast_S260x8x64x128_S260x1x8x64x128_0_2_3_4
        (concatenate S260x8x64x128 0
          [⟨S4x8x64x128, Host.reverse [0] (shapeCast S4x8x64x128 (extractStridedSlice S1x4x8x64x128 ![1, 0, 0, 0, 0] x slices_S2x260x8x64x128_S1x4x8x64x128_1_0_0_0_0) shapeCasts_S1x4x8x64x128_S4x8x64x128)⟩,
           ⟨S256x8x64x128, Host.reverse [0] (shapeCast S256x8x64x128 (extractStridedSlice S1x256x8x64x128 ![1, 4, 0, 0, 0] x slices_S2x260x8x64x128_S1x256x8x64x128_1_4_0_0_0) shapeCasts_S1x256x8x64x128_S256x8x64x128)⟩]
          concatenates_S4x8x64x128_S256x8x64x128_S260x8x64x128_d0)⟩]
    concatenates_S260x1x8x64x128_S260x1x8x64x128_S260x2x8x64x128_d1

theorem scanB_at (x : FVec Ideal S2x260x8x64x128 .f32) (r : Fin 260) (d : Fin 2) (h : Fin 8) (a : Fin 64) (b : Fin 128) :
    scanB x (ix5 r d h a b) = x (ix5 d (sc d r) h a b) := by
  unfold scanB
  fin_cases d
  · pointwise []
    have := sc0 r
    blk_point [this]
  · have hs := sc1 r
    by_cases hr : r.val < 4
    · rw [if_pos hr] at hs
      pointwise [hr]
      blk_point [hs] <;> simp [Fin.rev] <;> omega
    · rw [if_neg hr] at hs
      pointwise [hr]
      blk_point [hs] <;> simp [Fin.rev] <;> omega

def orderB (x : FVec Ideal S260x2x8x64x128 .f32) : FVec Ideal S2x260x8x64x128 .f32 :=
  concatenate S2x260x8x64x128 0
    [⟨S1x260x8x64x128, broadcastInDim S1x260x8x64x128 ![1, 2, 3, 4] bcast_S260x8x64x128_S1x260x8x64x128_1_2_3_4
        (shapeCast S260x8x64x128 (extractStridedSlice S260x1x8x64x128 ![0, 0, 0, 0, 0] x slices_S260x2x8x64x128_S260x1x8x64x128_0_0_0_0_0) shapeCasts_S260x1x8x64x128_S260x8x64x128)⟩,
     ⟨S1x260x8x64x128, broadcastInDim S1x260x8x64x128 ![1, 2, 3, 4] bcast_S260x8x64x128_S1x260x8x64x128_1_2_3_4
        (concatenate S260x8x64x128 0
          [⟨S4x8x64x128, Host.reverse [0] (shapeCast S4x8x64x128 (extractStridedSlice S4x1x8x64x128 ![0, 1, 0, 0, 0] x slices_S260x2x8x64x128_S4x1x8x64x128_0_1_0_0_0) shapeCasts_S4x1x8x64x128_S4x8x64x128)⟩,
           ⟨S256x8x64x128, Host.reverse [0] (shapeCast S256x8x64x128 (extractStridedSlice S256x1x8x64x128 ![4, 1, 0, 0, 0] x slices_S260x2x8x64x128_S256x1x8x64x128_4_1_0_0_0) shapeCasts_S256x1x8x64x128_S256x8x64x128)⟩]
          concatenates_S4x8x64x128_S256x8x64x128_S260x8x64x128_d0)⟩]
    concatenates_S1x260x8x64x128_S1x260x8x64x128_S2x260x8x64x128_d0

theorem orderB_at (x : FVec Ideal S260x2x8x64x128 .f32) (d : Fin 2) (r : Fin 260) (h : Fin 8) (a : Fin 64) (b : Fin 128) :
    orderB x (ix5 d r h a b) = x (ix5 (pl d r) d h a b) := by
  unfold orderB
  fin_cases d
  · pointwise []
    have := pl0 r
    blk_point [this]
  · have hs := pl1 r
    by_cases hr : r.val < 4
    · rw [if_pos hr] at hs
      pointwise [hr]
      blk_point [hs] <;> simp [Fin.rev] <;> omega
    · rw [if_neg hr] at hs
      pointwise [hr]
      blk_point [hs] <;> simp [Fin.rev] <;> omega

def scanC (x : FVec Ideal S2x260x8x64x64 .f32) : FVec Ideal S260x2x8x64x64 .f32 :=
  concatenate S260x2x8x64x64 1
    [⟨S260x1x8x64x64, broadcastInDim S260x1x8x64x64 ![0, 2, 3, 4] bcast_S260x8x64x64_S260x1x8x64x64_0_2_3_4
        (shapeCast S260x8x64x64 (extractStridedSlice S1x260x8x64x64 ![0, 0, 0, 0, 0] x slices_S2x260x8x64x64_S1x260x8x64x64_0_0_0_0_0) shapeCasts_S1x260x8x64x64_S260x8x64x64)⟩,
     ⟨S260x1x8x64x64, broadcastInDim S260x1x8x64x64 ![0, 2, 3, 4] bcast_S260x8x64x64_S260x1x8x64x64_0_2_3_4
        (concatenate S260x8x64x64 0
          [⟨S4x8x64x64, Host.reverse [0] (shapeCast S4x8x64x64 (extractStridedSlice S1x4x8x64x64 ![1, 0, 0, 0, 0] x slices_S2x260x8x64x64_S1x4x8x64x64_1_0_0_0_0) shapeCasts_S1x4x8x64x64_S4x8x64x64)⟩,
           ⟨S256x8x64x64, Host.reverse [0] (shapeCast S256x8x64x64 (extractStridedSlice S1x256x8x64x64 ![1, 4, 0, 0, 0] x slices_S2x260x8x64x64_S1x256x8x64x64_1_4_0_0_0) shapeCasts_S1x256x8x64x64_S256x8x64x64)⟩]
          concatenates_S4x8x64x64_S256x8x64x64_S260x8x64x64_d0)⟩]
    concatenates_S260x1x8x64x64_S260x1x8x64x64_S260x2x8x64x64_d1

theorem scanC_at (x : FVec Ideal S2x260x8x64x64 .f32) (r : Fin 260) (d : Fin 2) (h : Fin 8) (a b : Fin 64) :
    scanC x (ix5 r d h a b) = x (ix5 d (sc d r) h a b) := by
  unfold scanC
  fin_cases d
  · pointwise []
    have := sc0 r
    blk_point [this]
  · have hs := sc1 r
    by_cases hr : r.val < 4
    · rw [if_pos hr] at hs
      pointwise [hr]
      blk_point [hs] <;> simp [Fin.rev] <;> omega
    · rw [if_neg hr] at hs
      pointwise [hr]
      blk_point [hs] <;> simp [Fin.rev] <;> omega

def scanD (x : FVec Ideal S2x260x8 .f32) : FVec Ideal S260x2x8 .f32 :=
  concatenate S260x2x8 1
    [⟨S260x1x8, broadcastInDim S260x1x8 ![0, 2] bcast_S260x8_S260x1x8_0_2
        (shapeCast S260x8 (extractStridedSlice S1x260x8 ![0, 0, 0] x slices_S2x260x8_S1x260x8_0_0_0) shapeCasts_S1x260x8_S260x8)⟩,
     ⟨S260x1x8, broadcastInDim S260x1x8 ![0, 2] bcast_S260x8_S260x1x8_0_2
        (concatenate S260x8 0
          [⟨S4x8, Host.reverse [0] (shapeCast S4x8 (extractStridedSlice S1x4x8 ![1, 0, 0] x slices_S2x260x8_S1x4x8_1_0_0) shapeCasts_S1x4x8_S4x8)⟩,
           ⟨S256x8, Host.reverse [0] (shapeCast S256x8 (extractStridedSlice S1x256x8 ![1, 4, 0] x slices_S2x260x8_S1x256x8_1_4_0) shapeCasts_S1x256x8_S256x8)⟩]
          concatenates_S4x8_S256x8_S260x8_d0)⟩]
    concatenates_S260x1x8_S260x1x8_S260x2x8_d1

theorem scanD_at (x : FVec Ideal S2x260x8 .f32) (r : Fin 260) (d : Fin 2) (h : Fin 8) :
    scanD x (ix3 r d h) = x (ix3 d (sc d r) h) := by
  unfold scanD
  fin_cases d
  · pointwise []
    have := sc0 r
    blk_point [this]
  · have hs := sc1 r
    by_cases hr : r.val < 4
    · rw [if_pos hr] at hs
      pointwise [hr]
      blk_point [hs] <;> simp [Fin.rev] <;> omega
    · rw [if_neg hr] at hs
      pointwise [hr]
      blk_point [hs] <;> simp [Fin.rev] <;> omega

def orderD (x : FVec Ideal S260x2x8 .f32) : FVec Ideal S2x260x8 .f32 :=
  concatenate S2x260x8 0
    [⟨S1x260x8, broadcastInDim S1x260x8 ![1, 2] bcast_S260x8_S1x260x8_1_2
        (shapeCast S260x8 (extractStridedSlice S260x1x8 ![0, 0, 0] x slices_S260x2x8_S260x1x8_0_0_0) shapeCasts_S260x1x8_S260x8)⟩,
     ⟨S1x260x8, broadcastInDim S1x260x8 ![1, 2] bcast_S260x8_S1x260x8_1_2
        (concatenate S260x8 0
          [⟨S4x8, Host.reverse [0] (shapeCast S4x8 (extractStridedSlice S4x1x8 ![0, 1, 0] x slices_S260x2x8_S4x1x8_0_1_0) shapeCasts_S4x1x8_S4x8)⟩,
           ⟨S256x8, Host.reverse [0] (shapeCast S256x8 (extractStridedSlice S256x1x8 ![4, 1, 0] x slices_S260x2x8_S256x1x8_4_1_0) shapeCasts_S256x1x8_S256x8)⟩]
          concatenates_S4x8_S256x8_S260x8_d0)⟩]
    concatenates_S1x260x8_S1x260x8_S2x260x8_d0

theorem orderD_at (x : FVec Ideal S260x2x8 .f32) (d : Fin 2) (r : Fin 260) (h : Fin 8) :
    orderD x (ix3 d r h) = x (ix3 (pl d r) d h) := by
  unfold orderD
  fin_cases d
  · pointwise []
    have := pl0 r
    blk_point [this]
  · have hs := pl1 r
    by_cases hr : r.val < 4
    · rw [if_pos hr] at hs
      pointwise [hr]
      blk_point [hs] <;> simp [Fin.rev] <;> omega
    · rw [if_neg hr] at hs
      pointwise [hr]
      blk_point [hs] <;> simp [Fin.rev] <;> omega

end Cert.SeqBwdRefIdeal.Ref

end
-- ==== Proof.SeqRefArgs.lean ====
/- The decays and the gradient of the outputs, as the reference makes them, at an entry. -/
module

public import proofs.«01_k».proof.Proof.SeqRefScan

@[expose] public section

set_option maxRecDepth 8192

noncomputable section

namespace Cert.SeqBwdRefIdeal.Ref

open Idealize.ShloMosaic Idealize.ShloMosaic.TcCoe Idealize.ShloMosaic.Pointwise
open Cert.SeqBwdRefIdeal Cert.SeqBwdRefIdeal.Gen

/-- The gradient of the outputs, by chunks, for both directions. -/
def ctR (x : FVec Ideal S16384x1024 .f32) : FVec Ideal S2x260x8x64x128 .f32 :=
  let t : FVec Ideal S260x8x64x128 .f32 := transpose S260x8x64x128 [0, 2, 1, 3] (shapeCast S260x64x8x128 (pad S16640x1024 ![256, 0] ![0, 0] ![0, 0] x (sitofp (F := Ideal) .f32 (constantI S_ 32 0#32)) pads_S16384x1024_S16640x1024_25600_000 h_S_) shapeCasts_S16640x1024_S260x64x8x128) transposes_S260x64x8x128_S260x8x64x128_0_2_1_3
  concatenate S2x260x8x64x128 0 [⟨S1x260x8x64x128, broadcastInDim S1x260x8x64x128 ![1, 2, 3, 4] bcast_S260x8x64x128_S1x260x8x64x128_1_2_3_4 t⟩,
    ⟨S1x260x8x64x128, broadcastInDim S1x260x8x64x128 ![1, 2, 3, 4] bcast_S260x8x64x128_S1x260x8x64x128_1_2_3_4 t⟩] concatenates_S1x260x8x64x128_S1x260x8x64x128_S2x260x8x64x128_d0
/-- The decays of the chunks. -/
def glR (x : FVec Ideal S2x16640x128 .f32) : FVec Ideal S2x260x8 .f32 :=
  Host.exp (Host.reduceAdd (shapeCast S2x260x64x8 (extractStridedSlice S2x16640x8 ![0, 0, 8] x slices_S2x16640x128_S2x16640x8_0_0_8) shapeCasts_S2x16640x8_S2x260x64x8) (constant (F := Ideal) S_ .f32 0x00000000#32) reducesTo_S2x260x64x8_S2x260x8_d2 h_S_)

theorem ctR_at (x : FVec Ideal S16384x1024 .f32) (d : Fin 2) (n : Fin 260) (h : Fin 8) (a : Fin 64) (b : Fin 128) :
    ctR x (ix5 d n h a b) = if n.val < 4 then (0 : EReal) else x (ix2 (Fin.ofNat 16384 (64 * (n.val - 4) + a.val)) (Fin.ofNat 1024 (128 * h.val + b.val))) := by
  unfold ctR
  have hz : (FloatOps.sitofp FTy.f32 0#32 : Ideal .f32) = (0 : EReal) := by
    show (((0#32 : BitVec 32).toInt : ℝ) : EReal) = 0
    simp
  have key : (if _ : (256 ≤ n.val * 64 + a.val ∧ n.val * 64 + a.val - 256 < 16384) ∧ h.val * 128 + b.val < 1024 then
      (x (ix2 ⟨n.val * 64 + a.val - 256, by omega⟩ ⟨h.val * 128 + b.val, by omega⟩) : EReal) else (FloatOps.sitofp FTy.f32 0#32 : Ideal .f32))
      = if n.val < 4 then (0 : EReal) else x (ix2 (Fin.ofNat 16384 (64 * (n.val - 4) + a.val)) (Fin.ofNat 1024 (128 * h.val + b.val))) := by
    by_cases hn : n.val < 4
    · rw [dif_neg (by omega), if_pos hn, hz]
    · rw [dif_pos (by omega), if_neg hn]
      refine congrArg₂ (fun p q => (x (ix2 p q) : EReal)) (Fin.ext ?_) (Fin.ext ?_)
      · show _ = (64 * (n.val - 4) + a.val) % 16384
        rw [Nat.mod_eq_of_lt (by omega)]
        show n.val * 64 + a.val - 256 = _
        omega
      · show _ = (128 * h.val + b.val) % 1024
        rw [Nat.mod_eq_of_lt (by omega)]
        show h.val * 128 + b.val = _
        omega
  fin_cases d
  · pointwise []
    exact key
  · pointwise []
    exact key
theorem glR_at (x : FVec Ideal S2x16640x128 .f32) (d : Fin 2) (n : Fin 260) (h : Fin 8) :
    glR x (ix3 d n h) = Ideal.exp (∑ c : Fin 64, x (ix3 d (Fin.ofNat 16640 (64 * n.val + c.val)) (Fin.ofNat 128 (8 + h.val)))) := by
  unfold glR
  pointwise []
  refine congrArg Ideal.exp (Finset.sum_congr rfl fun c _ => congrArg₂ (fun p q => (x (ix3 d p q) : EReal)) (Fin.ext ?_) (Fin.ext ?_))
  · show _ = (64 * n.val + c.val) % 16640
    rw [Nat.mod_eq_of_lt (by omega)]
    show n.val * 64 + c.val = _
    omega
  · show _ = (8 + h.val) % 128
    rw [Nat.mod_eq_of_lt (by omega)]

end Cert.SeqBwdRefIdeal.Ref

end
-- ==== Proof.SeqRefEntry.lean ====
/- The reference's loop at its entry, as entries of the arguments. -/
module

public import proofs.«01_k».proof.Proof.Gen.SeqBwdRefIdeal.Run
public import proofs.«01_k».proof.Proof.SeqRefScan
public import proofs.«01_k».proof.Proof.SeqRefArgs

@[expose] public section

set_option maxRecDepth 8192

noncomputable section

namespace Cert.SeqBwdRefIdeal.Ref

open Idealize.ShloMosaic Idealize.ShloMosaic.TcCoe Idealize.ShloMosaic.Pointwise
open Cert.SeqBwdRefIdeal Cert.SeqBwdRefIdeal.Gen Cert.SeqBwdRefIdeal.Value Idealize.ShloMosaic.Tactic Idealize.ShloMosaic.StableHlo
open Idealize.SL Idealize.SL.Sem Idealize.SL.RA Idealize.SL.BI Idealize.SL.BI.BIBase Idealize.SL.BI.Laws Idealize.SL.ProofMode
open scoped Idealize.SL.BI

variable (m : (ℓ : Loc nD τ sig) → Buf (Elt Ideal) ℓ) (c : Dev nD)

theorem cat2 {s1 s2 t : Shape} {α : Type} {d : Fin t.rank} {a a' : s1.Idx → α} {b b' : s2.Idx → α} {h : Shape.Concatenates [s1, s2] t d} (ha : a = a') (hb : b = b') :
    concatenate t d [⟨s1, a⟩, ⟨s2, b⟩] h = concatenate t d [⟨s1, a'⟩, ⟨s2, b'⟩] h := by
  subst ha hb; rfl

theorem e0 : entryContents preI m c (Proc.devRef .tc main_v118_0) = scanA (extf .f32 (m ((c.tc : Thread nD τ).loc main_arg5) : FVec Ideal S2x260x8x128x128 .bf16) bitsLt_bf16_f32) := by
  unfold scanA
  simp only [entryContents, afterL_cons, afterL_nil]
  after_reads_simp
  refine cat2 ?_ ?_
  · after_reads_simp
    rfl
  · after_reads_simp
    refine congrArg (broadcastInDim _ _ _) (cat2 ?_ ?_)
    · after_reads_simp
      rfl
    · after_reads_simp
      rfl

theorem e2 : entryContents preI m c (Proc.devRef .tc main_v118_2) = scanB (extf .f32 (m ((c.tc : Thread nD τ).loc main_arg0) : FVec Ideal S2x260x8x64x128 .bf16) bitsLt_bf16_f32) := by
  unfold scanB
  simp only [entryContents, afterL_cons, afterL_nil]
  after_reads_simp
  refine cat2 ?_ ?_
  · after_reads_simp
    rfl
  · after_reads_simp
    refine congrArg (broadcastInDim _ _ _) (cat2 ?_ ?_)
    · after_reads_simp
      rfl
    · after_reads_simp
      rfl

theorem e3 : entryContents preI m c (Proc.devRef .tc main_v118_3) = scanB (extf .f32 (m ((c.tc : Thread nD τ).loc main_arg1) : FVec Ideal S2x260x8x64x128 .bf16) bitsLt_bf16_f32) := by
  unfold scanB
  simp only [entryContents, afterL_cons, afterL_nil]
  after_reads_simp
  refine cat2 ?_ ?_
  · after_reads_simp
    rfl
  · after_reads_simp
    refine congrArg (broadcastInDim _ _ _) (cat2 ?_ ?_)
    · after_reads_simp
      rfl
    · after_reads_simp
      rfl

theorem e4 : entryContents preI m c (Proc.devRef .tc main_v118_4) = scanB (extf .f32 (m ((c.tc : Thread nD τ).loc main_arg2) : FVec Ideal S2x260x8x64x128 .bf16) bitsLt_bf16_f32) := by
  unfold scanB
  simp only [entryContents, afterL_cons, afterL_nil]
  after_reads_simp
  refine cat2 ?_ ?_
  · after_reads_simp
    rfl
  · after_reads_simp
    refine congrArg (broadcastInDim _ _ _) (cat2 ?_ ?_)
    · after_reads_simp
      rfl
    · after_reads_simp
      rfl

theorem e5 : entryContents preI m c (Proc.devRef .tc main_v118_5) = scanB (extf .f32 (m ((c.tc : Thread nD τ).loc main_arg3) : FVec Ideal S2x260x8x64x128 .bf16) bitsLt_bf16_f32) := by
  unfold scanB
  simp only [entryContents, afterL_cons, afterL_nil]
  after_reads_simp
  refine cat2 ?_ ?_
  · after_reads_simp
    rfl
  · after_reads_simp
    refine congrArg (broadcastInDim _ _ _) (cat2 ?_ ?_)
    · after_reads_simp
      rfl
    · after_reads_simp
      rfl

theorem e6 : entryContents preI m c (Proc.devRef .tc main_v118_6) = scanC (extf .f32 (m ((c.tc : Thread nD τ).loc main_arg4) : FVec Ideal S2x260x8x64x64 .bf16) bitsLt_bf16_f32) := by
  unfold scanC
  simp only [entryContents, afterL_cons, afterL_nil]
  after_reads_simp
  refine cat2 ?_ ?_
  · after_reads_simp
    rfl
  · after_reads_simp
    refine congrArg (broadcastInDim _ _ _) (cat2 ?_ ?_)
    · after_reads_simp
      rfl
    · after_reads_simp
      rfl

theorem e7 : entryContents preI m c (Proc.devRef .tc main_v118_7) = scanD (glR (m ((c.tc : Thread nD τ).loc main_arg6))) := by
  unfold scanD glR
  simp only [entryContents, afterL_cons, afterL_nil]
  after_reads_simp
  refine cat2 ?_ ?_
  · after_reads_simp
    rfl
  · after_reads_simp
    refine congrArg (broadcastInDim _ _ _) (cat2 ?_ ?_)
    · after_reads_simp
      rfl
    · after_reads_simp
      rfl

theorem e1 : entryContents preI m c (Proc.devRef .tc main_v118_1) = scanB (ctR (m ((c.tc : Thread nD τ).loc main_arg7))) := by
  unfold scanB ctR
  simp only [entryContents, afterL_cons, afterL_nil]
  after_reads_simp
  refine cat2 ?_ ?_
  · after_reads_simp
    refine congrArg (fun z : FVec Ideal S2x260x8x64x128 .f32 => broadcastInDim S260x1x8x64x128 ![0, 2, 3, 4] bcast_S260x8x64x128_S260x1x8x64x128_0_2_3_4 (shapeCast S260x8x64x128 (extractStridedSlice S1x260x8x64x128 ![0, 0, 0, 0, 0] z slices_S2x260x8x64x128_S1x260x8x64x128_0_0_0_0_0) shapeCasts_S1x260x8x64x128_S260x8x64x128)) (cat2 ?_ ?_) <;> (after_reads_simp; rfl)
  · after_reads_simp
    refine congrArg (broadcastInDim _ _ _) (cat2 ?_ ?_)
    · after_reads_simp
      refine congrArg (fun z : FVec Ideal S2x260x8x64x128 .f32 => Host.reverse [0] (shapeCast S4x8x64x128 (extractStridedSlice S1x4x8x64x128 ![1, 0, 0, 0, 0] z slices_S2x260x8x64x128_S1x4x8x64x128_1_0_0_0_0) shapeCasts_S1x4x8x64x128_S4x8x64x128)) (cat2 ?_ ?_) <;> (after_reads_simp; rfl)
    · after_reads_simp
      refine congrArg (fun z : FVec Ideal S2x260x8x64x128 .f32 => Host.reverse [0] (shapeCast S256x8x64x128 (extractStridedSlice S1x256x8x64x128 ![1, 4, 0, 0, 0] z slices_S2x260x8x64x128_S1x256x8x64x128_1_4_0_0_0) shapeCasts_S1x256x8x64x128_S256x8x64x128)) (cat2 ?_ ?_) <;> (after_reads_simp; rfl)

theorem e9 (j : S2x8x128x128.Idx) : entryContents preI m c (Proc.devRef .tc main_v118_9) j = (0 : EReal) := by
  simp only [entryContents, afterL_cons, afterL_nil]
  after_reads_simp
  exact Ideal.ofBits_zero .f32

end Cert.SeqBwdRefIdeal.Ref

end
-- ==== Proof.SeqRefStep.lean ====
/- One trip of the reference's loop, at an entry. -/
module

public import proofs.«01_k».proof.Proof.Gen.SeqBwdRefIdeal.Run
public import proofs.«01_k».proof.Proof.SeqRefScan
public import Idealize.ShloMosaic.Lib.DynamicIndex
public import Idealize.ShloMosaic.Lib.WordCmp

@[expose] public section

set_option maxRecDepth 8192

noncomputable section

namespace Cert.SeqBwdRefIdeal.Ref

open Idealize.ShloMosaic Idealize.ShloMosaic.TcCoe Idealize.ShloMosaic.Pointwise
open Cert.SeqBwdRefIdeal Cert.SeqBwdRefIdeal.Gen Cert.SeqBwdRefIdeal.Value

/-- The starts of a trip's slices. -/
def st5 (w : IVec S_ 32) : Fin 5 → Int :=
  fun k => (((![w, constantI S_ 32 0#32, constantI S_ 32 0#32, constantI S_ 32 0#32, constantI S_ 32 0#32] : Fin 5 → IVec S_ 32)) k (Shape.Idx.first h_S_)).toInt
def st3 (w : IVec S_ 32) : Fin 3 → Int :=
  fun k => (((![w, constantI S_ 32 0#32, constantI S_ 32 0#32] : Fin 3 → IVec S_ 32)) k (Shape.Idx.first h_S_)).toInt

theorem st5_eq (r : Fin 260) : ∀ a, st5 (fun _ => BitVec.ofNat 32 r.val) a = ((![r.val, 0, 0, 0, 0] : Fin 5 → ℕ) a : Int) := by
  have := toInt_ofNat_of_lt (k := r.val) (by omega)
  intro a; fin_cases a
  · exact this
  all_goals rfl
theorem st3_eq (r : Fin 260) : ∀ a, st3 (fun _ => BitVec.ofNat 32 r.val) a = ((![r.val, 0, 0] : Fin 3 → ℕ) a : Int) := by
  have := toInt_ofNat_of_lt (k := r.val) (by omega)
  intro a; fin_cases a
  · exact this
  all_goals rfl

theorem slA (x : FVec Ideal S260x2x8x128x128 .f32) (r : Fin 260) (d : Fin 2) (h : Fin 8) (a b : Fin 128) :
    shapeCast S2x8x128x128 (Host.dynamicSlice S1x2x8x128x128 x (st5 fun _ => BitVec.ofNat 32 r.val) sliceFits_S260x2x8x128x128_S1x2x8x128x128) shapeCasts_S1x2x8x128x128_S2x8x128x128 (ix4 d h a b) = x (ix5 r d h a b) := by
  rw [Host.dynamicSlice_eq_extractStridedSlice S1x2x8x128x128 x _ ![r.val, 0, 0, 0, 0] _ ⟨rfl, by intro a; fin_cases a <;> simp <;> omega⟩ (st5_eq r)]
  pointwise []
theorem slB (x : FVec Ideal S260x2x8x64x128 .f32) (r : Fin 260) (d : Fin 2) (h : Fin 8) (a : Fin 64) (b : Fin 128) :
    shapeCast S2x8x64x128 (Host.dynamicSlice S1x2x8x64x128 x (st5 fun _ => BitVec.ofNat 32 r.val) sliceFits_S260x2x8x64x128_S1x2x8x64x128) shapeCasts_S1x2x8x64x128_S2x8x64x128 (ix4 d h a b) = x (ix5 r d h a b) := by
  rw [Host.dynamicSlice_eq_extractStridedSlice S1x2x8x64x128 x _ ![r.val, 0, 0, 0, 0] _ ⟨rfl, by intro a; fin_cases a <;> simp <;> omega⟩ (st5_eq r)]
  pointwise []
theorem slC (x : FVec Ideal S260x2x8x64x64 .f32) (r : Fin 260) (d : Fin 2) (h : Fin 8) (a b : Fin 64) :
    shapeCast S2x8x64x64 (Host.dynamicSlice S1x2x8x64x64 x (st5 fun _ => BitVec.ofNat 32 r.val) sliceFits_S260x2x8x64x64_S1x2x8x64x64) shapeCasts_S1x2x8x64x64_S2x8x64x64 (ix4 d h a b) = x (ix5 r d h a b) := by
  rw [Host.dynamicSlice_eq_extractStridedSlice S1x2x8x64x64 x _ ![r.val, 0, 0, 0, 0] _ ⟨rfl, by intro a; fin_cases a <;> simp <;> omega⟩ (st5_eq r)]
  pointwise []
theorem slD (x : FVec Ideal S260x2x8 .f32) (r : Fin 260) (d : Fin 2) (h : Fin 8) :
    shapeCast S2x8 (Host.dynamicSlice S1x2x8 x (st3 fun _ => BitVec.ofNat 32 r.val) sliceFits_S260x2x8_S1x2x8) shapeCasts_S1x2x8_S2x8 (ix2 d h) = x (ix3 r d h) := by
  rw [Host.dynamicSlice_eq_extractStridedSlice S1x2x8 x _ ![r.val, 0, 0] _ ⟨rfl, by intro a; fin_cases a <;> simp <;> omega⟩ (st3_eq r)]
  pointwise []

theorem upB (x : FVec Ideal S260x2x8x64x128 .f32) (y : FVec Ideal S2x8x64x128 .f32) (r r' : Fin 260) (d : Fin 2) (h : Fin 8) (a : Fin 64) (b : Fin 128) :
    Host.dynamicUpdateSlice x (broadcastInDim S1x2x8x64x128 ![1, 2, 3, 4] bcast_S2x8x64x128_S1x2x8x64x128_1_2_3_4 y) (st5 fun _ => BitVec.ofNat 32 r.val) updateFits_S260x2x8x64x128_S1x2x8x64x128 (ix5 r' d h a b)
      = if r' = r then y (ix4 d h a b) else x (ix5 r' d h a b) := by
  rw [WordCmp.dynamicUpdateSlice_eq_update (u := S1x2x8x64x128) x _ _ _ ![r.val, 0, 0, 0, 0] ⟨rfl, by intro a; fin_cases a <;> simp <;> omega⟩ (st5_eq r)]
  by_cases hr : r' = r
  · subst hr
    pointwise []
    exact dif_pos ⟨le_refl _, by omega⟩
  · pointwise []
    rw [dif_neg (by omega), if_neg hr]
theorem upD (x : FVec Ideal S260x2x8 .f32) (y : FVec Ideal S2x8 .f32) (r r' : Fin 260) (d : Fin 2) (h : Fin 8) :
    Host.dynamicUpdateSlice x (broadcastInDim S1x2x8 ![1, 2] bcast_S2x8_S1x2x8_1_2 y) (st3 fun _ => BitVec.ofNat 32 r.val) updateFits_S260x2x8_S1x2x8 (ix3 r' d h)
      = if r' = r then y (ix2 d h) else x (ix3 r' d h) := by
  rw [WordCmp.dynamicUpdateSlice_eq_update (u := S1x2x8) x _ _ _ ![r.val, 0, 0] ⟨rfl, by intro a; fin_cases a <;> simp <;> omega⟩ (st3_eq r)]
  by_cases hr : r' = r
  · subst hr
    pointwise []
    exact dif_pos ⟨le_refl _, by omega⟩
  · pointwise []
    rw [dif_neg (by omega), if_neg hr]

variable (V : Valuation τ sig (Elt Ideal)) (r : Fin 260) (hw : res_main_while0b_v186 V = fun _ => BitVec.ofNat 32 r.val)

/-- The carried arrays, as vectors. -/
def cS : FVec Ideal S260x2x8x128x128 .f32 := V (Proc.devRef .tc main_v118_0)
def cDO : FVec Ideal S260x2x8x64x128 .f32 := V (Proc.devRef .tc main_v118_1)
def cU : FVec Ideal S260x2x8x64x128 .f32 := V (Proc.devRef .tc main_v118_2)
def cW : FVec Ideal S260x2x8x64x128 .f32 := V (Proc.devRef .tc main_v118_3)
def cQ : FVec Ideal S260x2x8x64x128 .f32 := V (Proc.devRef .tc main_v118_4)
def cK : FVec Ideal S260x2x8x64x128 .f32 := V (Proc.devRef .tc main_v118_5)
def cP : FVec Ideal S260x2x8x64x64 .f32 := V (Proc.devRef .tc main_v118_6)
def cG : FVec Ideal S260x2x8 .f32 := V (Proc.devRef .tc main_v118_7)
def cD : FVec Ideal S2x8x128x128 .f32 := V (Proc.devRef .tc main_v118_9)

include hw in
theorem v187_at (d : Fin 2) (h : Fin 8) (a b : Fin 128) : res_main_while0b_v187 V (ix4 d h a b) = cS V (ix5 r d h a b) := by
  unfold res_main_while0b_v187; rw [hw]; exact slA _ r d h a b
include hw in
theorem v188_at (d : Fin 2) (h : Fin 8) (a : Fin 64) (b : Fin 128) : res_main_while0b_v188 V (ix4 d h a b) = cDO V (ix5 r d h a b) := by
  unfold res_main_while0b_v188; rw [hw]; exact slB _ r d h a b
include hw in
theorem v190_at (d : Fin 2) (h : Fin 8) (a : Fin 64) (b : Fin 128) : res_main_while0b_v190 V (ix4 d h a b) = cW V (ix5 r d h a b) := by
  unfold res_main_while0b_v190; rw [hw]; exact slB _ r d h a b
include hw in
theorem v191_at (d : Fin 2) (h : Fin 8) (a : Fin 64) (b : Fin 128) : res_main_while0b_v191 V (ix4 d h a b) = cQ V (ix5 r d h a b) := by
  unfold res_main_while0b_v191; rw [hw]; exact slB _ r d h a b
include hw in
theorem v192_at (d : Fin 2) (h : Fin 8) (a : Fin 64) (b : Fin 128) : res_main_while0b_v192 V (ix4 d h a b) = cK V (ix5 r d h a b) := by
  unfold res_main_while0b_v192; rw [hw]; exact slB _ r d h a b
include hw in
theorem v193_at (d : Fin 2) (h : Fin 8) (a b : Fin 64) : res_main_while0b_v193 V (ix4 d h a b) = cP V (ix5 r d h a b) := by
  unfold res_main_while0b_v193; rw [hw]; exact slC _ r d h a b
include hw in
theorem v200_at (d : Fin 2) (h : Fin 8) (a b : Fin 1) : res_main_while0b_v200 V (ix4 d h a b) = cG V (ix3 r d h) := by
  unfold res_main_while0b_v200; rw [hw]
  refine Eq.trans ?_ (slD (cG V) r d h)
  pointwise []
  rfl
include hw in
theorem v196_at (d : Fin 2) (h : Fin 8) (a : Fin 64) (b : Fin 128) :
    res_main_while0b_v196 V (ix4 d h a b) = cU V (ix5 r d h a b) - ∑ k : Fin 128, cW V (ix5 r d h a k) * cS V (ix5 r d h k b) := by
  unfold res_main_while0b_v196; rw [hw]
  refine congrArg₂ (fun x y : EReal => x - y) (slB (cU V) r d h a b) ?_
  pointwise []
  simp only [v190_at V r hw, v187_at V r hw]
include hw in
theorem v217_at (d : Fin 2) (h : Fin 8) (a : Fin 64) (b : Fin 128) :
    res_main_while0b_v217 V (ix4 d h a b) = (∑ k : Fin 128, cD V (ix4 d h k b) * cK V (ix5 r d h a k)) + ∑ k : Fin 64, cDO V (ix5 r d h k b) * cP V (ix5 r d h k a) := by
  unfold res_main_while0b_v217
  pointwise []
  simp only [v192_at V r hw, v188_at V r hw, v193_at V r hw]
  rfl
/-- The gradient of a trip's corrected values. -/
def gv (d : Fin 2) (h : Fin 8) (a : Fin 64) (b : Fin 128) : EReal := res_main_while0b_v217 V (ix4 d h a b)
theorem v223_at (d : Fin 2) (h : Fin 8) (a : Fin 64) (b : Fin 128) :
    res_main_while0b_v223 V (ix4 d h a b) = - gv V d h a b := by
  unfold res_main_while0b_v223 gv
  pointwise []
include hw in
theorem s9_at (d : Fin 2) (h : Fin 8) (a b : Fin 128) :
    step_main_v118_9 V (ix4 d h a b) = (cD V (ix4 d h a b) * cG V (ix3 r d h) + ∑ k : Fin 64, cDO V (ix5 r d h k b) * cQ V (ix5 r d h k a))
      + ∑ k : Fin 64, - gv V d h k b * cW V (ix5 r d h k a) := by
  unfold step_main_v118_9 id
  pointwise []
  simp only [v200_at V r hw, v188_at V r hw, v191_at V r hw, v223_at, v190_at V r hw]
  rfl
include hw in
theorem s10_at (r' : Fin 260) (d : Fin 2) (h : Fin 8) (a : Fin 64) (b : Fin 128) :
    step_main_v118_10 V (ix5 r' d h a b) = if r' = r then res_main_while0b_v217 V (ix4 d h a b) else (V (Proc.devRef .tc main_v118_10) : FVec Ideal S260x2x8x64x128 .f32) (ix5 r' d h a b) := by
  unfold step_main_v118_10 id; rw [hw]; exact upB _ _ r r' d h a b
include hw in
theorem s11_at (r' : Fin 260) (d : Fin 2) (h : Fin 8) (a : Fin 64) (b : Fin 128) :
    step_main_v118_11 V (ix5 r' d h a b) = if r' = r then (∑ k : Fin 128, - gv V d h a k * cS V (ix5 r d h b k) : EReal) else (V (Proc.devRef .tc main_v118_11) : FVec Ideal S260x2x8x64x128 .f32) (ix5 r' d h a b) := by
  unfold step_main_v118_11 id; rw [hw]
  refine (upB _ _ r r' d h a b).trans (if_congr Iff.rfl ?_ rfl)
  pointwise []
  simp only [v223_at, v187_at V r hw]
include hw in
theorem s12_at (r' : Fin 260) (d : Fin 2) (h : Fin 8) (a : Fin 64) (b : Fin 128) :
    step_main_v118_12 V (ix5 r' d h a b) = if r' = r then (∑ k : Fin 128, cDO V (ix5 r d h a k) * cS V (ix5 r d h b k) : EReal) else (V (Proc.devRef .tc main_v118_12) : FVec Ideal S260x2x8x64x128 .f32) (ix5 r' d h a b) := by
  unfold step_main_v118_12 id; rw [hw]
  refine (upB _ _ r r' d h a b).trans (if_congr Iff.rfl ?_ rfl)
  pointwise []
  simp only [v188_at V r hw, v187_at V r hw]
include hw in
theorem s13_at (r' : Fin 260) (d : Fin 2) (h : Fin 8) (a : Fin 64) (b : Fin 128) :
    step_main_v118_13 V (ix5 r' d h a b) = if r' = r then (∑ k : Fin 128, cD V (ix4 d h b k) * (cU V (ix5 r d h a k) - ∑ l : Fin 128, cW V (ix5 r d h a l) * cS V (ix5 r d h l k)) : EReal) else (V (Proc.devRef .tc main_v118_13) : FVec Ideal S260x2x8x64x128 .f32) (ix5 r' d h a b) := by
  unfold step_main_v118_13 id; rw [hw]
  refine (upB _ _ r r' d h a b).trans (if_congr Iff.rfl ?_ rfl)
  pointwise []
  simp only [v196_at V r hw]
  rfl
include hw in
theorem s14_at (r' : Fin 260) (d : Fin 2) (h : Fin 8) :
    step_main_v118_14 V (ix3 r' d h) = if r' = r then (∑ a : Fin 128, ∑ b : Fin 128, cS V (ix5 r d h a b) * cD V (ix4 d h a b) : EReal) else (V (Proc.devRef .tc main_v118_14) : FVec Ideal S260x2x8 .f32) (ix3 r' d h) := by
  unfold step_main_v118_14 id; rw [hw]
  refine (upD _ _ r r' d h).trans (if_congr Iff.rfl ?_ rfl)
  pointwise []
  simp only [v187_at V r hw, Finset.univ_unique, Finset.sum_singleton]
  rfl

end Cert.SeqBwdRefIdeal.Ref

end
-- ==== Proof.SeqReal.lean ====
/- Finite entries: sums of negations, and the recurrence's gradients are finite where its arguments are. -/
module

public import proofs.«01_k».proof.Proof.SeqCore

@[expose] public section

noncomputable section

namespace Cert.Seq

open Idealize.ShloMosaic

/-- An extended real that is a real number. -/
def IsReal (x : EReal) : Prop := ∃ r : ℝ, x = (r : EReal)

theorem IsReal.zero : IsReal 0 := ⟨0, rfl⟩
theorem IsReal.add {x y : EReal} : IsReal x → IsReal y → IsReal (x + y)
  | ⟨a, ha⟩, ⟨b, hb⟩ => ⟨a + b, by rw [ha, hb]; rfl⟩
theorem IsReal.neg {x : EReal} : IsReal x → IsReal (-x)
  | ⟨a, ha⟩ => ⟨-a, by rw [ha]; rfl⟩
theorem IsReal.sub {x y : EReal} (hx : IsReal x) (hy : IsReal y) : IsReal (x - y) := by
  rw [sub_eq_add_neg]; exact hx.add hy.neg
theorem IsReal.mul {x y : EReal} : IsReal x → IsReal y → IsReal (x * y)
  | ⟨a, ha⟩, ⟨b, hb⟩ => ⟨a * b, by rw [ha, hb]; rfl⟩
theorem IsReal.sum {ι : Type} [Fintype ι] {f : ι → EReal} (hf : ∀ i, IsReal (f i)) : IsReal (∑ i, f i) :=
  Finset.sum_induction f IsReal (fun _ _ => IsReal.add) IsReal.zero (fun i _ => hf i)
theorem IsReal.exp {x : EReal} : IsReal x → IsReal (Ideal.exp x)
  | ⟨a, ha⟩ => ⟨Real.exp a, by rw [ha]; rfl⟩

theorem coe_sum {ι : Type} (s : Finset ι) (g : ι → ℝ) : ((∑ i ∈ s, g i : ℝ) : EReal) = ∑ i ∈ s, (g i : EReal) := by
  classical
  induction s using Finset.induction_on with
  | empty => rfl
  | insert a s ha ih => rw [Finset.sum_insert ha, Finset.sum_insert ha, EReal.coe_add, ih]

/-- A sum of negations of finite terms is the negation of the sum. -/
theorem sum_neg {ι : Type} [Fintype ι] {f : ι → EReal} (hf : ∀ i, IsReal (f i)) : ∑ i, - f i = - ∑ i, f i := by
  choose g hg using hf
  have e1 : ∑ i, - f i = ((∑ i, - g i : ℝ) : EReal) := by
    rw [coe_sum]; exact Finset.sum_congr rfl fun i _ => by rw [hg i]; rfl
  have e2 : ∑ i, f i = ((∑ i, g i : ℝ) : EReal) := by
    rw [coe_sum]; exact Finset.sum_congr rfl fun i _ => hg i
  rw [e1, e2, Finset.sum_neg_distrib]; rfl

/-- The arguments the gradients of the state depend on are finite. -/
structure Args.Finite (A : Args) : Prop where
  W : ∀ d n h a b, IsReal (A.W d n h a b)
  QG : ∀ d n h a b, IsReal (A.QG d n h a b)
  KD : ∀ d n h a b, IsReal (A.KD d n h a b)
  PM : ∀ d n h a b, IsReal (A.PM d n h a b)
  S : ∀ d n h a b, IsReal (A.S d n h a b)
  G : ∀ d n a, IsReal (A.G d n a)
  DO : ∀ n a, IsReal (A.DO n a)

variable {A : Args} (hA : A.Finite)

include hA in
theorem dov_real (n : Fin 260) (h : Fin 8) (c : Fin 64) (v : Fin 128) : IsReal (dov A n h c v) := by
  unfold dov; split
  · exact IsReal.zero
  · exact hA.DO _ _
include hA in
theorem dec_real (d : Fin 2) (n : Fin 260) (h : Fin 8) : IsReal (dec A d n h) := (IsReal.sum fun _ => hA.G _ _ _).exp
include hA in
theorem dvn_real (d : Fin 2) (n : Fin 260) (h : Fin 8) (ds : Fin 128 → Fin 128 → EReal) (hds : ∀ a v, IsReal (ds a v)) (c : Fin 64) (v : Fin 128) :
    IsReal (dvn A d n h ds c v) :=
  (IsReal.sum fun _ => (hA.PM _ _ _ _ _).mul (dov_real hA _ _ _ _)).add (IsReal.sum fun _ => (hA.KD _ _ _ _ _).mul (hds _ _))
include hA in
theorem DS_real (d : Fin 2) (h : Fin 8) : ∀ k a v, IsReal (DS A d h k a v)
  | 0, _, _ => IsReal.zero
  | k + 1, _, _ => ((IsReal.sum fun _ => (hA.QG _ _ _ _ _).mul (dov_real hA _ _ _ _)).add ((dec_real hA _ _ _).mul (DS_real d h k _ _))).sub
      (IsReal.sum fun _ => (hA.W _ _ _ _ _).mul (dvn_real hA _ _ _ _ (DS_real d h k) _ _))

end Cert.Seq

end
-- ==== Proof.SeqRefLoop.lean ====
/- The reference's loop, trip by trip, is the backward recurrence. -/
module

public import proofs.«01_k».proof.Proof.SeqRefStep
public import proofs.«01_k».proof.Proof.SeqReal

@[expose] public section

set_option maxRecDepth 8192

noncomputable section

namespace Cert.SeqBwdRefIdeal.Ref

open Idealize.ShloMosaic Idealize.ShloMosaic.TcCoe Idealize.ShloMosaic.Pointwise
open Cert.SeqBwdRefIdeal Cert.SeqBwdRefIdeal.Gen Cert.SeqBwdRefIdeal.Value
open Cert.Seq

variable (A : Args) (V : Valuation τ sig (Elt Ideal))

def c10 : FVec Ideal S260x2x8x64x128 .f32 := V (Proc.devRef .tc main_v118_10)
def c11 : FVec Ideal S260x2x8x64x128 .f32 := V (Proc.devRef .tc main_v118_11)
def c12 : FVec Ideal S260x2x8x64x128 .f32 := V (Proc.devRef .tc main_v118_12)
def c13 : FVec Ideal S260x2x8x64x128 .f32 := V (Proc.devRef .tc main_v118_13)
def c14 : FVec Ideal S260x2x8 .f32 := V (Proc.devRef .tc main_v118_14)

/-- The arrays a trip reads are the arguments in the order of the recurrence. -/
structure Reads : Prop where
  S : ∀ r d h a b, cS V (ix5 r d h a b) = A.S d (sc d r) h a b
  DO : ∀ r d h a b, cDO V (ix5 r d h a b) = dov A (sc d r) h a b
  U : ∀ r d h a b, cU V (ix5 r d h a b) = A.U d (sc d r) h a b
  W : ∀ r d h a b, cW V (ix5 r d h a b) = A.W d (sc d r) h a b
  Q : ∀ r d h a b, cQ V (ix5 r d h a b) = A.QG d (sc d r) h a b
  K : ∀ r d h a b, cK V (ix5 r d h a b) = A.KD d (sc d r) h a b
  P : ∀ r d h a b, cP V (ix5 r d h a b) = A.PM d (sc d r) h a b
  G : ∀ r d h, cG V (ix3 r d h) = dec A d (sc d r) h

/-- What the loop carries before trip `k`. -/
structure Inv (k : ℕ) : Prop where
  ctr : V (Proc.devRef .tc main_v118_8) = fun _ => Scf.iv 0#32 1#32 k
  reads : Reads A V
  D : ∀ d h a b, cD V (ix4 d h a b) = DS A d h k a b
  o10 : ∀ (r : Fin 260) d h a b, 260 ≤ k + r.val → c10 V (ix5 r d h a b) = outU A d (sc d r) h a b
  o11 : ∀ (r : Fin 260) d h a b, 260 ≤ k + r.val → c11 V (ix5 r d h a b) = outW A d (sc d r) h a b
  o12 : ∀ (r : Fin 260) d h a b, 260 ≤ k + r.val → c12 V (ix5 r d h a b) = outQ A d (sc d r) h a b
  o13 : ∀ (r : Fin 260) d h a b, 260 ≤ k + r.val → c13 V (ix5 r d h a b) = outK A d (sc d r) h a b
  o14 : ∀ (r : Fin 260) d h, 260 ≤ k + r.val → c14 V (ix3 r d h) = outE A d (sc d r) h

theorem ctr_word : ∀ k : Fin 260, (260#32 - Scf.iv 0#32 1#32 k.val) - 1#32 = BitVec.ofNat 32 (259 - k.val) := by decide +kernel

variable {A V} (hA : A.Finite)

theorem gv_eq {k : ℕ} (hk : k < 260) (I : Inv A V k) (r : Fin 260) (hr : r.val = 259 - k)
    (hw : res_main_while0b_v186 V = fun _ => BitVec.ofNat 32 r.val) (d : Fin 2) (h : Fin 8) (a : Fin 64) (b : Fin 128) :
    gv V d h a b = dvn A d (sc d r) h (DS A d h k) a b := by
  unfold gv dvn
  rw [v217_at V r hw, add_comm]
  refine congrArg₂ (· + ·) (Finset.sum_congr rfl fun x _ => ?_) (Finset.sum_congr rfl fun x _ => ?_)
  · rw [I.reads.DO, I.reads.P, mul_comm]
  · rw [I.D, I.reads.K, mul_comm]

include hA in
theorem inv_step {k : ℕ} (hk : k < 260) (I : Inv A V k) : Inv A (STEP V) (k + 1) := by
  obtain ⟨r, hr⟩ : ∃ r : Fin 260, r.val = 259 - k := ⟨⟨259 - k, by omega⟩, rfl⟩
  have hw : res_main_while0b_v186 V = fun _ => BitVec.ofNat 32 r.val := by
    unfold res_main_while0b_v186
    rw [I.ctr, hr]
    exact funext fun _ => ctr_word ⟨k, hk⟩
  have hsc : ∀ d, sc d r = ch d k := fun d => by unfold sc; rw [show 259 - r.val = k by omega]
  have htr : ∀ d, tr d (sc d r) = k := fun d => by rw [tr_sc]; omega
  have hg := gv_eq hk I r hr hw
  have hD := DS_real hA
  have hgr := fun d h a b => dvn_real hA d (sc d r) h (DS A d h k) (hD d h k) a b
  have hrow : ∀ r' : Fin 260, 260 ≤ k + 1 + r'.val → r' ≠ r → 260 ≤ k + r'.val := fun r' h1 h2 => by
    have : r'.val ≠ r.val := fun h => h2 (Fin.ext h)
    omega
  refine ⟨?_, ?_, ?_, ?_, ?_, ?_, ?_, ?_⟩
  · rw [STEP_main_v118_8]
    unfold step_main_v118_8 id
    rw [I.ctr, Scf.iv_succ]
    rfl
  · exact ⟨fun r d h a b => (congrFun (STEP_main_v118_0 V) _).trans (I.reads.S r d h a b),
      fun r d h a b => (congrFun (STEP_main_v118_1 V) _).trans (I.reads.DO r d h a b),
      fun r d h a b => (congrFun (STEP_main_v118_2 V) _).trans (I.reads.U r d h a b),
      fun r d h a b => (congrFun (STEP_main_v118_3 V) _).trans (I.reads.W r d h a b),
      fun r d h a b => (congrFun (STEP_main_v118_4 V) _).trans (I.reads.Q r d h a b),
      fun r d h a b => (congrFun (STEP_main_v118_5 V) _).trans (I.reads.K r d h a b),
      fun r d h a b => (congrFun (STEP_main_v118_6 V) _).trans (I.reads.P r d h a b),
      fun r d h => (congrFun (STEP_main_v118_7 V) _).trans (I.reads.G r d h)⟩
  · intro d h a b
    refine (congrFun (STEP_main_v118_9 V) _).trans ((s9_at V r hw d h a b).trans ?_)
    simp only [hg, I.D, I.reads.G, I.reads.DO, I.reads.Q, I.reads.W, EReal.neg_mul]
    rw [sum_neg fun x => (hgr d h x b).mul (hA.W _ _ _ _ _)]
    show _ = dst A d (ch d k) h (DS A d h k) a b
    rw [← hsc]
    unfold dst
    rw [sub_eq_add_neg, add_comm (DS A d h k a b * _)]
    refine congrArg₂ (· + ·) (congrArg₂ (· + ·) (Finset.sum_congr rfl fun x _ => mul_comm _ _) (mul_comm _ _)) (congrArg (fun x : EReal => -x) (Finset.sum_congr rfl fun x _ => mul_comm _ _))
  · intro r' d h a b hr'
    refine (congrFun (STEP_main_v118_10 V) _).trans ((s10_at V r hw r' d h a b).trans ?_)
    by_cases e : r' = r
    · subst e
      rw [if_pos rfl]
      refine (hg d h a b).trans ?_
      unfold outU; rw [htr]
    · rw [if_neg e]; exact I.o10 r' d h a b (hrow r' hr' e)
  · intro r' d h a b hr'
    refine (congrFun (STEP_main_v118_11 V) _).trans ((s11_at V r hw r' d h a b).trans ?_)
    by_cases e : r' = r
    · subst e
      rw [if_pos rfl]
      simp only [hg, I.reads.S, EReal.neg_mul]
      rw [sum_neg fun x => (hgr d h a x).mul (hA.S _ _ _ _ _)]
      unfold outW; rw [htr, zero_sub]
    · rw [if_neg e]; exact I.o11 r' d h a b (hrow r' hr' e)
  · intro r' d h a b hr'
    refine (congrFun (STEP_main_v118_12 V) _).trans ((s12_at V r hw r' d h a b).trans ?_)
    by_cases e : r' = r
    · subst e
      rw [if_pos rfl]
      simp only [I.reads.S, I.reads.DO]
      rfl
    · rw [if_neg e]; exact I.o12 r' d h a b (hrow r' hr' e)
  · intro r' d h a b hr'
    refine (congrFun (STEP_main_v118_13 V) _).trans ((s13_at V r hw r' d h a b).trans ?_)
    by_cases e : r' = r
    · subst e
      rw [if_pos rfl]
      simp only [I.reads.S, I.reads.U, I.reads.W, I.D]
      unfold outK; rw [htr]
      exact (Finset.sum_congr rfl fun x _ => mul_comm (DS A d h k b x) (vnw A d (sc d r') h a x) :
        (∑ x : Fin 128, DS A d h k b x * vnw A d (sc d r') h a x : EReal) = ∑ x : Fin 128, vnw A d (sc d r') h a x * DS A d h k b x)
    · rw [if_neg e]; exact I.o13 r' d h a b (hrow r' hr' e)
  · intro r' d h hr'
    refine (congrFun (STEP_main_v118_14 V) _).trans ((s14_at V r hw r' d h).trans ?_)
    by_cases e : r' = r
    · subst e
      rw [if_pos rfl]
      simp only [I.reads.S, I.D]
      unfold outE; rw [htr]
    · rw [if_neg e]; exact I.o14 r' d h (hrow r' hr' e)

include hA in
theorem inv_iter (I : Inv A V 0) : ∀ k, k ≤ 260 → Inv A (STEP^[k] V) k
  | 0, _ => I
  | k + 1, h => by
    rw [Function.iterate_succ_apply']
    exact inv_step hA (by omega) (inv_iter I k (by omega))

end Cert.SeqBwdRefIdeal.Ref

end
-- ==== Proof.SeqPre.lean ====
/- The precondition: the arguments the gradients of the state depend on are finite. -/
module

public import proofs.«01_k».proof.Proof.Gen.Pre_finite
public import proofs.«01_k».proof.Proof.SeqReal
public import Idealize.ShloMosaic.Lib.ReduceAll
public import Idealize.ShloMosaic.Lib.Pointwise

@[expose] public section

set_option maxRecDepth 8192

noncomputable section

namespace Cert.Seq

open Idealize.ShloMosaic Idealize.ShloMosaic.Pointwise
open Cert.Pre_finite Cert.Pre_finite.Facts

instance : Subsingleton S_.Idx := ⟨fun a b => funext fun i => i.elim0⟩

/-- The arguments of the recurrence, from the arrays. -/
def argsOf (a0 a1 a2 a3 : FVec Ideal S2x260x8x64x128 .bf16) (a4 : FVec Ideal S2x260x8x64x64 .bf16)
    (a5 : FVec Ideal S2x260x8x128x128 .bf16) (a6 : FVec Ideal S2x16640x128 .f32) (a7 : FVec Ideal S16384x1024 .f32) : Args where
  U d n h a b := a0 (ix5 d n h a b)
  W d n h a b := a1 (ix5 d n h a b)
  QG d n h a b := a2 (ix5 d n h a b)
  KD d n h a b := a3 (ix5 d n h a b)
  PM d n h a b := a4 (ix5 d n h a b)
  S d n h a b := a5 (ix5 d n h a b)
  G d n b := a6 (ix3 d n b)
  DO n b := a7 (ix2 n b)

theorem top_word : (FloatOps.ofBits (F := Ideal) .f32 0x7F800000#32 : EReal) = ⊤ := by
  show Ideal.ofBits .f32 0x7F800000#32 = ⊤
  simp [Ideal.ofBits, Ideal.ieee]

theorem real_of_lt {x : EReal} (h : max x (-x) < ⊤) : IsReal x := by
  induction x using EReal.rec with
  | bot => simp at h
  | coe r => exact ⟨r, rfl⟩
  | top => simp at h

theorem all_real {s : Shape} {axes : List (Fin s.rank)} (x : FVec Ideal s .f32) (hb : S_.BroadcastsInDim s ![]) (hr : s.ReducesTo axes S_) (j : S_.Idx)
    (h : Host.reduce IntOp.andi (cmpf .olt (Host.absf x) (broadcastInDim s ![] hb (constant (F := Ideal) S_ .f32 0x7F800000#32))) (constantI S_ 1 1#1) hr h_S_ j = 1#1)
    (i : s.Idx) : IsReal (x i) := by
  have h1 := Host.reduce_andi_all _ _ _ _ j h i
  have h2 : BitVec.ofBool (decide (max (x i : EReal) (-(x i : EReal)) < FloatOps.ofBits (F := Ideal) .f32 0x7F800000#32)) = 1#1 := h1
  rw [top_word] at h2
  refine real_of_lt ?_
  by_contra hc
  rw [decide_eq_false hc] at h2
  exact absurd h2 (by decide)

theorem finite_of {a0 a1 a2 a3 : FVec Ideal S2x260x8x64x128 .bf16} {a4 : FVec Ideal S2x260x8x64x64 .bf16}
    {a5 : FVec Ideal S2x260x8x128x128 .bf16} {a6 : FVec Ideal S2x16640x128 .f32} {a7 : FVec Ideal S16384x1024 .f32}
    (h : Cert.Pre_finite.fn (F := Ideal) a0 a1 a2 a3 a4 a5 a6 a7 = fun _ => 1#1) : (argsOf a0 a1 a2 a3 a4 a5 a6 a7).Finite := by
  have h0 := congrFun h ix0
  unfold fn fn_part1 fn_part2 at h0
  dsimp only at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨fun d n h a b => all_real _ _ _ _ h1 (ix5 d n h a b), fun d n h a b => all_real _ _ _ _ h2 (ix5 d n h a b),
    fun d n h a b => all_real _ _ _ _ h3 (ix5 d n h a b), fun d n h a b => all_real _ _ _ _ h4 (ix5 d n h a b),
    fun d n h a b => all_real _ _ _ _ h5 (ix5 d n h a b), fun d n a => all_real _ _ _ _ h6 (ix3 d n a),
    fun n a => all_real _ _ _ _ h7 (ix2 n a)⟩

end Cert.Seq

end
-- ==== Proof.SeqRef.lean ====
/- The reference's results are the backward recurrence's. -/
module

public import proofs.«01_k».proof.Proof.Gen.SeqBwdRefIdeal.Run
public import proofs.«01_k».proof.Proof.SeqRefEntry
public import proofs.«01_k».proof.Proof.SeqRefLoop
public import proofs.«01_k».proof.Proof.SeqPre

@[expose] public section

set_option maxRecDepth 8192

noncomputable section

namespace Cert.SeqBwdRefIdeal.Ref

open Idealize.ShloMosaic Idealize.ShloMosaic.TcCoe Idealize.ShloMosaic.Pointwise
open Cert.SeqBwdRefIdeal Cert.SeqBwdRefIdeal.Gen Cert.SeqBwdRefIdeal.Value Idealize.ShloMosaic.Tactic Idealize.ShloMosaic.StableHlo
open Idealize.SL Idealize.SL.Sem Idealize.SL.RA Idealize.SL.BI Idealize.SL.BI.BIBase Idealize.SL.BI.Laws Idealize.SL.ProofMode
open scoped Idealize.SL.BI

variable (m : (ℓ : Loc nD τ sig) → Buf (Elt Ideal) ℓ) (c : Dev nD)

/-- The arguments of the recurrence, over the reference's memory. -/
def AR : Cert.Seq.Args :=
  Cert.Seq.argsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

theorem inv0 : Inv (AR m c) (entryContents preI m c) 0 := by
  refine ⟨?_, ⟨?_, ?_, ?_, ?_, ?_, ?_, ?_, ?_⟩, ?_, ?_, ?_, ?_, ?_, ?_⟩
  · rw [ctr_entry, Scf.iv_zero]
  · intro r d h a b
    exact (congrFun (e0 m c) _).trans (scanA_at _ r d h a b)
  · intro r d h a b
    exact (congrFun (e1 m c) _).trans ((scanB_at _ r d h a b).trans (ctR_at _ d (sc d r) h a b))
  · intro r d h a b
    exact (congrFun (e2 m c) _).trans (scanB_at _ r d h a b)
  · intro r d h a b
    exact (congrFun (e3 m c) _).trans (scanB_at _ r d h a b)
  · intro r d h a b
    exact (congrFun (e4 m c) _).trans (scanB_at _ r d h a b)
  · intro r d h a b
    exact (congrFun (e5 m c) _).trans (scanB_at _ r d h a b)
  · intro r d h a b
    exact (congrFun (e6 m c) _).trans (scanC_at _ r d h a b)
  · intro r d h
    exact (congrFun (e7 m c) _).trans ((scanD_at _ r d h).trans (glR_at _ d (sc d r) h))
  · intro d h a b
    exact e9 m c _
  all_goals
    intro r
    intros
    have := r.isLt
    omega

variable {m c} (hA : (AR m c).Finite)

include hA in
theorem fin : Inv (AR m c) (STEP^[260] (entryContents preI m c)) 260 := inv_iter hA (inv0 m c) 260 le_rfl

theorem ix5_eta {n0 n1 n2 n3 n4 : ℕ} (j : (⟨5, ![n0, n1, n2, n3, n4]⟩ : Shape).Idx) : j = ix5 (j 0) (j 1) (j 2) (j 3) (j 4) := by
  funext i; fin_cases i <;> rfl

include hA in
theorem r131 : out_main_v131 (STEP^[260] (entryContents preI m c)) = fun j : S2x260x8x64x128.Idx => Cert.Seq.outU (AR m c) (j 0) (j 1) (j 2) (j 3) (j 4) := by
  show orderB (c10 (STEP^[260] (entryContents preI m c))) = _
  funext j
  rw [ix5_eta j]
  refine (orderB_at _ _ _ _ _ _).trans (((fin hA).o10 _ _ _ _ _ (by omega)).trans ?_)
  exact congrArg (fun n => Cert.Seq.outU (AR m c) (j 0) n (j 2) (j 3) (j 4)) (sc_pl (j 0) (j 1))
include hA in
theorem r144 : out_main_v144 (STEP^[260] (entryContents preI m c)) = fun j : S2x260x8x64x128.Idx => Cert.Seq.outW (AR m c) (j 0) (j 1) (j 2) (j 3) (j 4) := by
  show orderB (c11 (STEP^[260] (entryContents preI m c))) = _
  funext j
  rw [ix5_eta j]
  refine (orderB_at _ _ _ _ _ _).trans (((fin hA).o11 _ _ _ _ _ (by omega)).trans ?_)
  exact congrArg (fun n => Cert.Seq.outW (AR m c) (j 0) n (j 2) (j 3) (j 4)) (sc_pl (j 0) (j 1))
include hA in
theorem r157 : out_main_v157 (STEP^[260] (entryContents preI m c)) = fun j : S2x260x8x64x128.Idx => Cert.Seq.outQ (AR m c) (j 0) (j 1) (j 2) (j 3) (j 4) := by
  show orderB (c12 (STEP^[260] (entryContents preI m c))) = _
  funext j
  rw [ix5_eta j]
  refine (orderB_at _ _ _ _ _ _).trans (((fin hA).o12 _ _ _ _ _ (by omega)).trans ?_)
  exact congrArg (fun n => Cert.Seq.outQ (AR m c) (j 0) n (j 2) (j 3) (j 4)) (sc_pl (j 0) (j 1))
include hA in
theorem r170 : out_main_v170 (STEP^[260] (entryContents preI m c)) = fun j : S2x260x8x64x128.Idx => Cert.Seq.outK (AR m c) (j 0) (j 1) (j 2) (j 3) (j 4) := by
  show orderB (c13 (STEP^[260] (entryContents preI m c))) = _
  funext j
  rw [ix5_eta j]
  refine (orderB_at _ _ _ _ _ _).trans (((fin hA).o13 _ _ _ _ _ (by omega)).trans ?_)
  exact congrArg (fun n => Cert.Seq.outK (AR m c) (j 0) n (j 2) (j 3) (j 4)) (sc_pl (j 0) (j 1))

theorem spread_at (x : FVec Ideal S2x260x8 .f32) (d : Fin 2) (n : Fin 260) (h : Fin 8) (a : Fin 1) (b : Fin 128) :
    broadcastInDim S2x260x8x1x128 ![0, 1, 2, 3, 4] bcast_S2x260x8x1x1_S2x260x8x1x128_0_1_2_3_4 (broadcastInDim S2x260x8x1x1 ![0, 1, 2] bcast_S2x260x8_S2x260x8x1x1_0_1_2 x) (ix5 d n h a b)
      = x (ix3 d n h) := by
  pointwise []

include hA in
theorem r184 : out_main_v184 (STEP^[260] (entryContents preI m c)) = fun j : S2x260x8x1x128.Idx => Cert.Seq.outE (AR m c) (j 0) (j 1) (j 2) := by
  show broadcastInDim S2x260x8x1x128 ![0, 1, 2, 3, 4] bcast_S2x260x8x1x1_S2x260x8x1x128_0_1_2_3_4 (broadcastInDim S2x260x8x1x1 ![0, 1, 2] bcast_S2x260x8_S2x260x8x1x1_0_1_2 (orderD (c14 (STEP^[260] (entryContents preI m c))))) = _
  funext j
  rw [ix5_eta j]
  refine (spread_at _ _ _ _ _ _).trans ((orderD_at _ _ _ _).trans (((fin hA).o14 _ _ _ (by omega)).trans ?_))
  exact congrArg (fun n => Cert.Seq.outE (AR m c) (j 0) n (j 2)) (sc_pl (j 0) (j 1))

end Cert.SeqBwdRefIdeal.Ref

end
-- ==== Proof.SeqAlg.lean ====
/- The claims about the recurrence's gradient. -/
module

public import proofs.«01_k».proof.Defs
public import proofs.«01_k».proof.Proof.Gen.SeqBwd
public import proofs.«01_k».proof.Proof.Gen.Pre_finite
public import proofs.«01_k».proof.Proof.SeqArr
public import proofs.«01_k».proof.Proof.SeqRef
public import Idealize.ShloMosaic.Lib.Quiescent

@[expose] public section

set_option maxRecDepth 16384

noncomputable section

namespace Cert.Proof

open Idealize.ShloMosaic Idealize.SL.Sem

section
variable (F : FTy → Type) [FloatOps F]

theorem bodies_eq : Cert.SeqBwd.defs₀ (F := F) = (Cert.SeqBwdIdeal.defs₀ (F := F) : Defs Cert.SeqBwd.nD Cert.SeqBwd.τ Cert.SeqBwd.sig (Elt F) Cert.SeqBwd.Λ₀) := by
  unfold Cert.SeqBwd.defs₀ Cert.SeqBwdIdeal.defs₀
  refine congrArg Defs.onTc (funext fun l => funext fun x => ?_)
  match l, x with
  | 0, (t, s) => rfl

/-- The two programs have the same bodies. -/
theorem defs_eq : Cert.SeqBwd.defs (F := F) = (Cert.SeqBwdIdeal.defs (F := F) : Defs Cert.SeqBwd.nD Cert.SeqBwd.τ Cert.SeqBwd.sig (Elt F)
    (Pipeline.Sig Cert.SeqBwd.Λ₀ (Fin 1) fun p => (Cert.SeqBwd.pcfgs (F := F) p).Adm)) :=
  congrArg (Pipeline.defs Cert.SeqBwd.pcfgs) (bodies_eq F)
end

theorem quiescent_SeqBwd : quiescent_SeqBwd := fun m ρ _ => by
  rw [defs_eq]
  exact Cert.SeqBwdIdeal.Body.frame_all (F := Bits) m ρ

theorem quiescent_SeqBwdIdeal : quiescent_SeqBwdIdeal := fun m ρ _ => Cert.SeqBwdIdeal.Body.frame_all (F := Ideal) m ρ

theorem quiescent_SeqBwdIdeal_pre_finite : quiescent_SeqBwdIdeal_pre_finite := fun m ρ _ => Cert.SeqBwdIdeal.Body.frame_all (F := Ideal) m ρ

theorem quiescent_SeqBwdRefIdeal : quiescent_SeqBwdRefIdeal := fun m ρ _ =>
  (θ_run Cert.SeqBwdRefIdeal.defs _ _).mono (fun r h => ⟨fun c => (h c).2.2.2.2.2, sem_eq_zero_of_no_sems (by decide) r.2⟩)
    (Cert.SeqBwdRefIdeal.Value.run (F := Ideal) m ρ)

theorem quiescent_SeqBwdRefIdeal_pre_finite : quiescent_SeqBwdRefIdeal_pre_finite := fun m ρ _ =>
  (θ_run Cert.SeqBwdRefIdeal.defs _ _).mono (fun r h => ⟨fun c => (h c).2.2.2.2.2, sem_eq_zero_of_no_sems (by decide) r.2⟩)
    (Cert.SeqBwdRefIdeal.Value.run (F := Ideal) m ρ)

theorem algebraic_SeqBwdIdeal_SeqBwdRefIdeal_pre_finite : algebraic_SeqBwdIdeal_SeqBwdRefIdeal_pre_finite := by
  intro m ρ m' ρ' hpre hagree
  have hA : ∀ c, Cert.SeqBwdRefIdeal.Ref.AR m' c = Cert.SeqBwdIdeal.Body.AK m c := fun c => by
    obtain ⟨h0, h1, h2, h3, h4, h5, h6, h7⟩ := hagree c
    unfold Cert.SeqBwdRefIdeal.Ref.AR
    rw [h0, h1, h2, h3, h4, h5, h6, h7]
    rfl
  have hF : ∀ c, (Cert.SeqBwdRefIdeal.Ref.AR m' c).Finite := fun c => (hA c).symm ▸ Cert.Seq.finite_of (hpre c)
  refine ⟨_, _, _, _, _, Cert.SeqBwdIdeal.Body.run_value m ρ, ?_⟩
  refine (θ_run Cert.SeqBwdRefIdeal.defs _ _).mono (fun _ h c => ?_) (Cert.SeqBwdRefIdeal.Value.run (F := Ideal) m' ρ')
  obtain ⟨h0, h1, h2, h3, h4, hargs⟩ := h c
  have e0 := h0.trans (Cert.SeqBwdRefIdeal.Ref.r131 (hF c))
  have e1 := h1.trans (Cert.SeqBwdRefIdeal.Ref.r144 (hF c))
  have e2 := h2.trans (Cert.SeqBwdRefIdeal.Ref.r157 (hF c))
  have e3 := h3.trans (Cert.SeqBwdRefIdeal.Ref.r170 (hF c))
  have e4 := h4.trans (Cert.SeqBwdRefIdeal.Ref.r184 (hF c))
  rw [hA c] at e0 e1 e2 e3 e4
  exact ⟨e0, e1, e2, e3, e4, hargs⟩

end Cert.Proof

end
-- ==== Proof.lean ====
/- The certificate: every program's frame by its run, each value claim by the module of its call. -/
module

public import proofs.«01_k».proof.Defs
public import proofs.«01_k».proof.Proof.Gen.InDw.Frame
public import proofs.«01_k».proof.Proof.Gen.InDwIdeal.Value
public import proofs.«01_k».proof.Proof.InDw
public import proofs.«01_k».proof.Proof.Gen.InDwRefIdeal.Run
public import proofs.«01_k».proof.Proof.Gen.InDx.Frame
public import proofs.«01_k».proof.Proof.Gen.InDxIdeal.Value
public import proofs.«01_k».proof.Proof.InDx
public import proofs.«01_k».proof.Proof.Gen.InDxRefIdeal.Run
public import proofs.«01_k».proof.Proof.Gen.InFwd.Frame
public import proofs.«01_k».proof.Proof.Gen.InFwdIdeal.Value
public import proofs.«01_k».proof.Proof.InFwd
public import proofs.«01_k».proof.Proof.Gen.InFwdRefIdeal.Run
public import proofs.«01_k».proof.Proof.Gen.UpFwd.Frame
public import proofs.«01_k».proof.Proof.Gen.UpFwdIdeal.Value
public import proofs.«01_k».proof.Proof.UpFwd
public import proofs.«01_k».proof.Proof.Gen.UpFwdRefIdeal.Run
public import proofs.«01_k».proof.Proof.Gen.UpDw.Frame
public import proofs.«01_k».proof.Proof.Gen.UpDwIdeal.Value
public import proofs.«01_k».proof.Proof.UpDw
public import proofs.«01_k».proof.Proof.Gen.UpDwRefIdeal.Run
public import proofs.«01_k».proof.Proof.Gen.DownDx.Frame
public import proofs.«01_k».proof.Proof.Gen.DownDxIdeal.Value
public import proofs.«01_k».proof.Proof.DownDx
public import proofs.«01_k».proof.Proof.Gen.DownDxRefIdeal.Run
public import proofs.«01_k».proof.Proof.Gen.DownDw.Frame
public import proofs.«01_k».proof.Proof.Gen.DownDwIdeal.Value
public import proofs.«01_k».proof.Proof.DownDw
public import proofs.«01_k».proof.Proof.Gen.DownDwRefIdeal.Run
public import proofs.«01_k».proof.Proof.Gen.SqDw.Frame
public import proofs.«01_k».proof.Proof.Gen.SqDwIdeal.Value
public import proofs.«01_k».proof.Proof.SqDw
public import proofs.«01_k».proof.Proof.Gen.SqDwRefIdeal.Run
public import proofs.«01_k».proof.Proof.Gen.UpDxNorm.Frame
public import proofs.«01_k».proof.Proof.Gen.UpDxNormIdeal.Value
public import proofs.«01_k».proof.Proof.UpDxNorm
public import proofs.«01_k».proof.Proof.Gen.UpDxNormRefIdeal.Run
public import proofs.«01_k».proof.Proof.Gen.BatDw.Frame
public import proofs.«01_k».proof.Proof.Gen.BatDwIdeal.Value
public import proofs.«01_k».proof.Proof.BatDw
public import proofs.«01_k».proof.Proof.Gen.BatDwRefIdeal.Run
public import proofs.«01_k».proof.Proof.Gen.DownLoss.Frame
public import proofs.«01_k».proof.Proof.Gen.DownLossIdeal.Value
public import proofs.«01_k».proof.Proof.DownLoss
public import proofs.«01_k».proof.Proof.Gen.DownLossRefIdeal.Run
public import proofs.«01_k».proof.Proof.Gen.BatMerge.Frame
public import proofs.«01_k».proof.Proof.Gen.BatMergeIdeal.Value
public import proofs.«01_k».proof.Proof.BatMerge
public import proofs.«01_k».proof.Proof.Gen.BatMergeRefIdeal.Run
public import proofs.«01_k».proof.Proof.SeqAlg
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

theorem quiescent_InDwRefIdeal : quiescent_InDwRefIdeal := fun m ρ _ =>
  (θ_run Cert.InDwRefIdeal.defs _ _).mono (fun r h => ⟨fun c => (h c).2, sem_eq_zero_of_no_sems (by decide) r.2⟩)
    (Cert.InDwRefIdeal.Value.run (F := Ideal) m ρ)

theorem algebraic_InDwIdeal_InDwRefIdeal : algebraic_InDwIdeal_InDwRefIdeal := by
  intro m ρ m' ρ' _ hagree
  refine ⟨_, Cert.InDwIdeal.Value.run_blocks (F := Ideal) m ρ, ?_⟩
  refine (θ_run Cert.InDwRefIdeal.defs _ _).mono (fun _ h c => ⟨?_, (h c).2⟩) (Cert.InDwRefIdeal.Value.run (F := Ideal) m' ρ')
  rw [(h c).1]
  simp only [hagree c]
  exact (Cert.InDwIdeal.Value.final m c).symm

theorem quiescent_InDxRefIdeal : quiescent_InDxRefIdeal := fun m ρ _ =>
  (θ_run Cert.InDxRefIdeal.defs _ _).mono (fun r h => ⟨fun c => (h c).2, sem_eq_zero_of_no_sems (by decide) r.2⟩)
    (Cert.InDxRefIdeal.Value.run (F := Ideal) m ρ)

theorem algebraic_InDxIdeal_InDxRefIdeal : algebraic_InDxIdeal_InDxRefIdeal := by
  intro m ρ m' ρ' _ hagree
  refine ⟨_, Cert.InDxIdeal.Value.run_blocks (F := Ideal) m ρ, ?_⟩
  refine (θ_run Cert.InDxRefIdeal.defs _ _).mono (fun _ h c => ⟨?_, (h c).2⟩) (Cert.InDxRefIdeal.Value.run (F := Ideal) m' ρ')
  rw [(h c).1]
  simp only [hagree c]
  exact (Cert.InDxIdeal.Value.final m c).symm

theorem quiescent_InFwdRefIdeal : quiescent_InFwdRefIdeal := fun m ρ _ =>
  (θ_run Cert.InFwdRefIdeal.defs _ _).mono (fun r h => ⟨fun c => (h c).2, sem_eq_zero_of_no_sems (by decide) r.2⟩)
    (Cert.InFwdRefIdeal.Value.run (F := Ideal) m ρ)

theorem algebraic_InFwdIdeal_InFwdRefIdeal : algebraic_InFwdIdeal_InFwdRefIdeal := by
  intro m ρ m' ρ' _ hagree
  refine ⟨_, Cert.InFwdIdeal.Value.run_blocks (F := Ideal) m ρ, ?_⟩
  refine (θ_run Cert.InFwdRefIdeal.defs _ _).mono (fun _ h c => ⟨?_, (h c).2⟩) (Cert.InFwdRefIdeal.Value.run (F := Ideal) m' ρ')
  rw [(h c).1]
  simp only [hagree c]
  exact (Cert.InFwdIdeal.Value.final m c).symm

theorem quiescent_UpFwdRefIdeal : quiescent_UpFwdRefIdeal := fun m ρ _ =>
  (θ_run Cert.UpFwdRefIdeal.defs _ _).mono (fun r h => ⟨fun c => (h c).2, sem_eq_zero_of_no_sems (by decide) r.2⟩)
    (Cert.UpFwdRefIdeal.Value.run (F := Ideal) m ρ)

theorem algebraic_UpFwdIdeal_UpFwdRefIdeal : algebraic_UpFwdIdeal_UpFwdRefIdeal := by
  intro m ρ m' ρ' _ hagree
  refine ⟨_, Cert.UpFwdIdeal.Value.run_blocks (F := Ideal) m ρ, ?_⟩
  refine (θ_run Cert.UpFwdRefIdeal.defs _ _).mono (fun _ h c => ⟨?_, (h c).2⟩) (Cert.UpFwdRefIdeal.Value.run (F := Ideal) m' ρ')
  rw [(h c).1]
  simp only [hagree c]
  exact (Cert.UpFwdIdeal.Value.final m c).symm

theorem quiescent_UpDwRefIdeal : quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem algebraic_UpDwIdeal_UpDwRefIdeal : algebraic_UpDwIdeal_UpDwRefIdeal := by
  intro m ρ m' ρ' _ hagree
  refine ⟨_, Cert.UpDwIdeal.Value.run_blocks (F := Ideal) m ρ, ?_⟩
  refine (θ_run Cert.UpDwRefIdeal.defs _ _).mono (fun _ h c => ⟨?_, (h c).2⟩) (Cert.UpDwRefIdeal.Value.run (F := Ideal) m' ρ')
  exact (h c).1.trans ((congrArg₂ Cert.UpDwIdeal.Value.REF (hagree c).1 (hagree c).2).trans (Cert.UpDwIdeal.Value.final m c).symm)

theorem quiescent_DownDxRefIdeal : quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem algebraic_DownDxIdeal_DownDxRefIdeal : algebraic_DownDxIdeal_DownDxRefIdeal := by
  intro m ρ m' ρ' _ hagree
  refine ⟨_, Cert.DownDxIdeal.Value.run_blocks (F := Ideal) m ρ, ?_⟩
  refine (θ_run Cert.DownDxRefIdeal.defs _ _).mono (fun _ h c => ⟨?_, (h c).2⟩) (Cert.DownDxRefIdeal.Value.run (F := Ideal) m' ρ')
  rw [(h c).1]
  simp only [hagree c]
  exact (Cert.DownDxIdeal.Value.final m c).symm

theorem quiescent_DownDwRefIdeal : quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem algebraic_DownDwIdeal_DownDwRefIdeal : algebraic_DownDwIdeal_DownDwRefIdeal := by
  intro m ρ m' ρ' _ hagree
  refine ⟨_, Cert.DownDwIdeal.Value.run_blocks (F := Ideal) m ρ, ?_⟩
  refine (θ_run Cert.DownDwRefIdeal.defs _ _).mono (fun _ h c => ⟨?_, (h c).2⟩) (Cert.DownDwRefIdeal.Value.run (F := Ideal) m' ρ')
  rw [(h c).1]
  simp only [hagree c]
  exact (Cert.DownDwIdeal.Value.final m c).symm

theorem quiescent_SqDwRefIdeal : quiescent_SqDwRefIdeal := fun m ρ _ =>
  (θ_run Cert.SqDwRefIdeal.defs _ _).mono (fun r h => ⟨fun c => (h c).2, sem_eq_zero_of_no_sems (by decide) r.2⟩)
    (Cert.SqDwRefIdeal.Value.run (F := Ideal) m ρ)

theorem algebraic_SqDwIdeal_SqDwRefIdeal : algebraic_SqDwIdeal_SqDwRefIdeal := by
  intro m ρ m' ρ' _ hagree
  refine ⟨_, Cert.SqDwIdeal.Value.run_blocks (F := Ideal) m ρ, ?_⟩
  refine (θ_run Cert.SqDwRefIdeal.defs _ _).mono (fun _ h c => ⟨?_, (h c).2⟩) (Cert.SqDwRefIdeal.Value.run (F := Ideal) m' ρ')
  rw [(h c).1]
  simp only [hagree c]
  exact (Cert.SqDwIdeal.Value.final m c).symm

theorem quiescent_UpDxNormRefIdeal : quiescent_UpDxNormRefIdeal := fun m ρ _ =>
  (θ_run Cert.UpDxNormRefIdeal.defs _ _).mono (fun r h => ⟨fun c => (h c).2.2.2.2.2.2, sem_eq_zero_of_no_sems (by decide) r.2⟩)
    (Cert.UpDxNormRefIdeal.Value.run (F := Ideal) m ρ)

theorem algebraic_UpDxNormIdeal_UpDxNormRefIdeal : algebraic_UpDxNormIdeal_UpDxNormRefIdeal := by
  intro m ρ m' ρ' _ hagree
  refine ⟨_, _, _, _, _, _, Cert.UpDxNormIdeal.Value.run_blocks (F := Ideal) m ρ, ?_⟩
  refine (θ_run Cert.UpDxNormRefIdeal.defs _ _).mono (fun _ h c => ?_) (Cert.UpDxNormRefIdeal.Value.run (F := Ideal) m' ρ')
  obtain ⟨a0, a1, a2, a3, a4, a5, a6, a7⟩ := hagree c
  have hD : Cert.UpDxNormRefIdeal.Value.res_main_v58 m' c = Cert.UpDxNormIdeal.Value.D m c :=
    (Cert.UpDxNormRefIdeal.Value.out0_eq m' c).trans (by rw [a0, a1, a2, a3, a6, a7])
  refine ⟨(h c).1.trans (hD.trans (Cert.UpDxNormIdeal.Value.fin8 m c).symm), ?_, ?_, ?_, ?_, ?_, (h c).2.2.2.2.2.2⟩
  · exact (h c).2.1.trans ((Cert.UpDxNormRefIdeal.Value.out1_eq m' c).trans
      ((congrArg₂ Cert.UpDxNormRefIdeal.Value.DMO a5 hD).trans (Cert.UpDxNormIdeal.Value.fin9 m c).symm))
  · have e : ∀ {x x' : FVec Ideal Cert.UpDxNormRefIdeal.S16384x1024 .f32} {u u' w w' s s'}, u = u' → w = w' → x = x' → s = s' →
        Cert.UpDxNormRefIdeal.Value.DNF x (Cert.UpDxNormRefIdeal.Value.DH u w) s
          = Cert.UpDxNormRefIdeal.Value.DNF x' (Cert.UpDxNormRefIdeal.Value.DH u' w') s' := by
      rintro _ _ _ _ _ _ _ _ rfl rfl rfl rfl; rfl
    exact (h c).2.2.1.trans ((e a0 a1 a3 a7).trans (Cert.UpDxNormIdeal.Value.fin10 m c).symm)
  · have e : ∀ {u u' w w'}, u = u' → w = w' →
        Cert.UpDxNormRefIdeal.Value.CS (Cert.UpDxNormRefIdeal.Value.DH u w)
          = Cert.UpDxNormRefIdeal.Value.CS (Cert.UpDxNormRefIdeal.Value.DH u' w') := by
      rintro _ _ _ _ rfl rfl; rfl
    exact (h c).2.2.2.1.trans ((e a0 a1).trans (Cert.UpDxNormIdeal.Value.fin11 m c).symm)
  · have e : ∀ {x x' : FVec Ideal Cert.UpDxNormRefIdeal.S16384x1024 .f32} {u u' w w' s s'}, u = u' → w = w' → x = x' → s = s' →
        Cert.UpDxNormRefIdeal.Value.DSC x (Cert.UpDxNormRefIdeal.Value.DH u w) s
          = Cert.UpDxNormRefIdeal.Value.DSC x' (Cert.UpDxNormRefIdeal.Value.DH u' w') s' := by
      rintro _ _ _ _ _ _ _ _ rfl rfl rfl rfl; rfl
    exact (h c).2.2.2.2.1.trans ((e a0 a1 a3 a6).trans (Cert.UpDxNormIdeal.Value.fin12 m c).symm)
  · exact (h c).2.2.2.2.2.1.trans ((Cert.UpDxNormRefIdeal.Value.out5_eq m' c).trans
      ((congrArg₂ Cert.UpDxNormRefIdeal.Value.DGA hD a4).trans (Cert.UpDxNormIdeal.Value.fin13 m c).symm))

theorem quiescent_BatDwRefIdeal : quiescent_BatDwRefIdeal := fun m ρ _ =>
  (θ_run Cert.BatDwRefIdeal.defs _ _).mono (fun r h => ⟨fun c => (h c).2, sem_eq_zero_of_no_sems (by decide) r.2⟩)
    (Cert.BatDwRefIdeal.Value.run (F := Ideal) m ρ)

theorem algebraic_BatDwIdeal_BatDwRefIdeal : algebraic_BatDwIdeal_BatDwRefIdeal := by
  intro m ρ m' ρ' _ hagree
  refine ⟨_, Cert.BatDwIdeal.Value.run_blocks (F := Ideal) m ρ, ?_⟩
  refine (θ_run Cert.BatDwRefIdeal.defs _ _).mono (fun _ h c => ⟨?_, (h c).2⟩) (Cert.BatDwRefIdeal.Value.run (F := Ideal) m' ρ')
  rw [(h c).1]
  simp only [hagree c]
  exact (Cert.BatDwIdeal.Value.final m c).symm

theorem quiescent_DownLossRefIdeal : quiescent_DownLossRefIdeal := fun m ρ _ =>
  (θ_run Cert.DownLossRefIdeal.defs _ _).mono (fun r h => ⟨fun c => (h c).2.2.2.2, sem_eq_zero_of_no_sems (by decide) r.2⟩)
    (Cert.DownLossRefIdeal.Value.run (F := Ideal) m ρ)

theorem algebraic_DownLossIdeal_DownLossRefIdeal : algebraic_DownLossIdeal_DownLossRefIdeal := by
  intro m ρ m' ρ' _ hagree
  refine ⟨_, _, _, _, Cert.DownLossIdeal.Value.run_blocks (F := Ideal) m ρ, ?_⟩
  refine (θ_run Cert.DownLossRefIdeal.defs _ _).mono (fun _ h c => ?_) (Cert.DownLossRefIdeal.Value.run (F := Ideal) m' ρ')
  obtain ⟨a0, a1, a2, a3, a4⟩ := hagree c
  have hF : Cert.DownLossRefIdeal.Value.FF (m' ((c.tc : Thread Cert.DownLossRefIdeal.nD Cert.DownLossRefIdeal.τ).loc Cert.DownLossRefIdeal.main_arg0)) (m' ((c.tc : Thread Cert.DownLossRefIdeal.nD Cert.DownLossRefIdeal.τ).loc Cert.DownLossRefIdeal.main_arg1))
      = Cert.DownLossIdeal.Value.RF m c := by rw [a0, a1]; rfl
  have hE : Cert.DownLossRefIdeal.Value.ER (Cert.DownLossRefIdeal.Value.FF (m' ((c.tc : Thread Cert.DownLossRefIdeal.nD Cert.DownLossRefIdeal.τ).loc Cert.DownLossRefIdeal.main_arg0)) (m' ((c.tc : Thread Cert.DownLossRefIdeal.nD Cert.DownLossRefIdeal.τ).loc Cert.DownLossRefIdeal.main_arg1)))
      (m' ((c.tc : Thread Cert.DownLossRefIdeal.nD Cert.DownLossRefIdeal.τ).loc Cert.DownLossRefIdeal.main_arg2)) (m' ((c.tc : Thread Cert.DownLossRefIdeal.nD Cert.DownLossRefIdeal.τ).loc Cert.DownLossRefIdeal.main_arg3))
      (m' ((c.tc : Thread Cert.DownLossRefIdeal.nD Cert.DownLossRefIdeal.τ).loc Cert.DownLossRefIdeal.main_arg4))
      = Cert.DownLossIdeal.Value.RE m c := by rw [hF, a2, a3, a4]; rfl
  refine ⟨?_, ?_, ?_, ?_, (h c).2.2.2.2⟩
  · exact (h c).1.trans ((congrArg Cert.DownLossRefIdeal.Value.DY hE).trans (Cert.DownLossIdeal.Value.fin5 m c).symm)
  · exact (h c).2.1.trans ((congrArg₂ Cert.DownLossRefIdeal.Value.DF a4 (congrArg Cert.DownLossRefIdeal.Value.DY hE)).trans (Cert.DownLossIdeal.Value.fin6 m c).symm)
  · exact (h c).2.2.1.trans ((congrArg₂ Cert.DownLossRefIdeal.Value.DG (congrArg Cert.DownLossRefIdeal.Value.DY hE) hF).trans (Cert.DownLossIdeal.Value.fin7 m c).symm)
  · exact (h c).2.2.2.1.trans ((congrArg Cert.DownLossRefIdeal.Value.LS hE).trans (Cert.DownLossIdeal.Value.fin8 m c).symm)

theorem quiescent_BatMergeRefIdeal : quiescent_BatMergeRefIdeal := fun m ρ _ =>
  (θ_run Cert.BatMergeRefIdeal.defs _ _).mono (fun r h => ⟨fun c => (h c).2.2, sem_eq_zero_of_no_sems (by decide) r.2⟩)
    (Cert.BatMergeRefIdeal.Value.run (F := Ideal) m ρ)

theorem algebraic_BatMergeIdeal_BatMergeRefIdeal : algebraic_BatMergeIdeal_BatMergeRefIdeal := by
  intro m ρ m' ρ' _ hagree
  refine ⟨_, _, Cert.BatMergeIdeal.Value.run_blocks (F := Ideal) m ρ, ?_⟩
  refine (θ_run Cert.BatMergeRefIdeal.defs _ _).mono (fun _ h c => ?_) (Cert.BatMergeRefIdeal.Value.run (F := Ideal) m' ρ')
  obtain ⟨a0, a1, a2, a3⟩ := hagree c
  have hZ : Cert.BatMergeRefIdeal.Value.ZA (m' ((c.tc : Thread Cert.BatMergeRefIdeal.nD Cert.BatMergeRefIdeal.τ).loc Cert.BatMergeRefIdeal.main_arg0)) (m' ((c.tc : Thread Cert.BatMergeRefIdeal.nD Cert.BatMergeRefIdeal.τ).loc Cert.BatMergeRefIdeal.main_arg1))
      = Cert.BatMergeIdeal.Value.RZ m c := by rw [a0, a1]; rfl
  have hM : Cert.BatMergeRefIdeal.Value.MG (Cert.BatMergeRefIdeal.Value.ZA (m' ((c.tc : Thread Cert.BatMergeRefIdeal.nD Cert.BatMergeRefIdeal.τ).loc Cert.BatMergeRefIdeal.main_arg0)) (m' ((c.tc : Thread Cert.BatMergeRefIdeal.nD Cert.BatMergeRefIdeal.τ).loc Cert.BatMergeRefIdeal.main_arg1)))
      (m' ((c.tc : Thread Cert.BatMergeRefIdeal.nD Cert.BatMergeRefIdeal.τ).loc Cert.BatMergeRefIdeal.main_arg2)) (m' ((c.tc : Thread Cert.BatMergeRefIdeal.nD Cert.BatMergeRefIdeal.τ).loc Cert.BatMergeRefIdeal.main_arg3))
      = Cert.BatMergeIdeal.Value.RM m c := by rw [hZ, a2, a3]; rfl
  refine ⟨(h c).1.trans (hZ.trans (Cert.BatMergeIdeal.Value.fin5 m c).symm), ?_, (h c).2.2⟩
  exact (h c).2.1.trans (hM.trans (Cert.BatMergeIdeal.Value.fin6 m c).symm)

theorem claim : Cert.Claim := ⟨Cert.InDw.Gen.facts, Cert.InDwIdeal.Gen.facts, Cert.InDwRefIdeal.Gen.facts,
  Cert.InDx.Gen.facts, Cert.InDxIdeal.Gen.facts, Cert.InDxRefIdeal.Gen.facts,
  Cert.SeqBwd.Gen.facts, Cert.SeqBwdIdeal.Gen.facts, Cert.SeqBwdRefIdeal.Gen.facts,
  Cert.InFwd.Gen.facts, Cert.InFwdIdeal.Gen.facts, Cert.InFwdRefIdeal.Gen.facts,
  Cert.UpFwd.Gen.facts, Cert.UpFwdIdeal.Gen.facts, Cert.UpFwdRefIdeal.Gen.facts,
  Cert.UpDw.Gen.facts, Cert.UpDwIdeal.Gen.facts, Cert.UpDwRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.SqDw.Gen.facts, Cert.SqDwIdeal.Gen.facts, Cert.SqDwRefIdeal.Gen.facts,
  Cert.UpDxNorm.Gen.facts, Cert.UpDxNormIdeal.Gen.facts, Cert.UpDxNormRefIdeal.Gen.facts,
  Cert.BatDw.Gen.facts, Cert.BatDwIdeal.Gen.facts, Cert.BatDwRefIdeal.Gen.facts,
  Cert.DownLoss.Gen.facts, Cert.DownLossIdeal.Gen.facts, Cert.DownLossRefIdeal.Gen.facts,
  Cert.BatMerge.Gen.facts, Cert.BatMergeIdeal.Gen.facts, Cert.BatMergeRefIdeal.Gen.facts,
  Cert.Pre_finite.Gen.facts,
  fun m ρ _ => Cert.InDw.Gen.frame m ρ, fun m ρ _ => Cert.InDwIdeal.Gen.frame m ρ, quiescent_InDwRefIdeal,
  fun m ρ _ => Cert.InDx.Gen.frame m ρ, fun m ρ _ => Cert.InDxIdeal.Gen.frame m ρ, quiescent_InDxRefIdeal,
  quiescent_SeqBwd, quiescent_SeqBwdIdeal, quiescent_SeqBwdIdeal_pre_finite, quiescent_SeqBwdRefIdeal, quiescent_SeqBwdRefIdeal_pre_finite,
  fun m ρ _ => Cert.InFwd.Gen.frame m ρ, fun m ρ _ => Cert.InFwdIdeal.Gen.frame m ρ, quiescent_InFwdRefIdeal,
  fun m ρ _ => Cert.UpFwd.Gen.frame m ρ, fun m ρ _ => Cert.UpFwdIdeal.Gen.frame m ρ, quiescent_UpFwdRefIdeal,
  fun m ρ _ => Cert.UpDw.Gen.frame m ρ, fun m ρ _ => Cert.UpDwIdeal.Gen.frame m ρ, quiescent_UpDwRefIdeal,
  fun m ρ _ => Cert.DownDx.Gen.frame m ρ, fun m ρ _ => Cert.DownDxIdeal.Gen.frame m ρ, quiescent_DownDxRefIdeal,
  fun m ρ _ => Cert.DownDw.Gen.frame m ρ, fun m ρ _ => Cert.DownDwIdeal.Gen.frame m ρ, quiescent_DownDwRefIdeal,
  fun m ρ _ => Cert.SqDw.Gen.frame m ρ, fun m ρ _ => Cert.SqDwIdeal.Gen.frame m ρ, quiescent_SqDwRefIdeal,
  fun m ρ _ => Cert.UpDxNorm.Gen.frame m ρ, fun m ρ _ => Cert.UpDxNormIdeal.Gen.frame m ρ, quiescent_UpDxNormRefIdeal,
  fun m ρ _ => Cert.BatDw.Gen.frame m ρ, fun m ρ _ => Cert.BatDwIdeal.Gen.frame m ρ, quiescent_BatDwRefIdeal,
  fun m ρ _ => Cert.DownLoss.Gen.frame m ρ, fun m ρ _ => Cert.DownLossIdeal.Gen.frame m ρ, quiescent_DownLossRefIdeal,
  fun m ρ _ => Cert.BatMerge.Gen.frame m ρ, fun m ρ _ => Cert.BatMergeIdeal.Gen.frame m ρ, quiescent_BatMergeRefIdeal,
  (trivial : preserves_InDw_InDwIdeal), algebraic_InDwIdeal_InDwRefIdeal,
  (trivial : preserves_InDx_InDxIdeal), algebraic_InDxIdeal_InDxRefIdeal,
  (trivial : preserves_SeqBwd_SeqBwdIdeal), algebraic_SeqBwdIdeal_SeqBwdRefIdeal_pre_finite,
  (trivial : preserves_InFwd_InFwdIdeal), algebraic_InFwdIdeal_InFwdRefIdeal,
  (trivial : preserves_UpFwd_UpFwdIdeal), algebraic_UpFwdIdeal_UpFwdRefIdeal,
  (trivial : preserves_UpDw_UpDwIdeal), algebraic_UpDwIdeal_UpDwRefIdeal,
  (trivial : preserves_DownDx_DownDxIdeal), algebraic_DownDxIdeal_DownDxRefIdeal,
  (trivial : preserves_DownDw_DownDwIdeal), algebraic_DownDwIdeal_DownDwRefIdeal,
  (trivial : preserves_SqDw_SqDwIdeal), algebraic_SqDwIdeal_SqDwRefIdeal,
  (trivial : preserves_UpDxNorm_UpDxNormIdeal), algebraic_UpDxNormIdeal_UpDxNormRefIdeal,
  (trivial : preserves_BatDw_BatDwIdeal), algebraic_BatDwIdeal_BatDwRefIdeal,
  (trivial : preserves_DownLoss_DownLossIdeal), algebraic_DownLossIdeal_DownLossRefIdeal,
  (trivial : preserves_BatMerge_BatMergeIdeal), algebraic_BatMergeIdeal_BatMergeRefIdeal⟩

end Cert.Proof

end
